-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1536x32x96 : Shape := ⟨4, ![12, 1536, 32, 96]⟩
abbrev S12x1536x32 : Shape := ⟨3, ![12, 1536, 32]⟩
abbrev S16384x8x96 : Shape := ⟨3, ![16384, 8, 96]⟩
abbrev S16384x8 : Shape := ⟨2, ![16384, 8]⟩
abbrev S12x1536x8x96 : Shape := ⟨4, ![12, 1536, 8, 96]⟩
abbrev S12x1536x8 : Shape := ⟨3, ![12, 1536, 8]⟩
abbrev S18432x8x384 : Shape := ⟨3, ![18432, 8, 384]⟩
abbrev S8x384x18432 : Shape := ⟨3, ![8, 384, 18432]⟩
abbrev S18432x8x4 : Shape := ⟨3, ![18432, 8, 4]⟩
abbrev S8x4x18432 : Shape := ⟨3, ![8, 4, 18432]⟩
abbrev S_ : Shape := ⟨0, ![]⟩
abbrev S16384x8x32 : Shape := ⟨3, ![16384, 8, 32]⟩
abbrev S16384x8x128 : Shape := ⟨3, ![16384, 8, 128]⟩
abbrev S8x16384x128 : Shape := ⟨3, ![8, 16384, 128]⟩
abbrev S8x96x16384 : Shape := ⟨3, ![8, 96, 16384]⟩
abbrev S8x16384 : Shape := ⟨2, ![8, 16384]⟩
abbrev S8x1x16384 : Shape := ⟨3, ![8, 1, 16384]⟩
abbrev S12x1536x8x32 : Shape := ⟨4, ![12, 1536, 8, 32]⟩
abbrev S12x1536x8x128 : Shape := ⟨4, ![12, 1536, 8, 128]⟩
abbrev S8x12x1536x128 : Shape := ⟨4, ![8, 12, 1536, 128]⟩
abbrev S8x12x96x1536 : Shape := ⟨4, ![8, 12, 96, 1536]⟩
abbrev S8x12x1536 : Shape := ⟨3, ![8, 12, 1536]⟩
abbrev S8x12x1x1536 : Shape := ⟨4, ![8, 12, 1, 1536]⟩
abbrev S18432x3072 : Shape := ⟨2, ![18432, 3072]⟩
abbrev S1x384x512 : Shape := ⟨3, ![1, 384, 512]⟩
abbrev S1x4x512 : Shape := ⟨3, ![1, 4, 512]⟩
abbrev S1x16384x128 : Shape := ⟨3, ![1, 16384, 128]⟩
abbrev S1x96x16384 : Shape := ⟨3, ![1, 96, 16384]⟩
abbrev S1x1x16384 : Shape := ⟨3, ![1, 1, 16384]⟩
abbrev S1x1x1536x128 : Shape := ⟨4, ![1, 1, 1536, 128]⟩
abbrev S1x1x96x1536 : Shape := ⟨4, ![1, 1, 96, 1536]⟩
abbrev S1x1x1x1536 : Shape := ⟨4, ![1, 1, 1, 1536]⟩
abbrev S512x384 : Shape := ⟨2, ![512, 384]⟩
abbrev S16384x128 : Shape := ⟨2, ![16384, 128]⟩
abbrev S96x16384 : Shape := ⟨2, ![96, 16384]⟩
abbrev S1536x128 : Shape := ⟨2, ![1536, 128]⟩
abbrev S96x1536 : Shape := ⟨2, ![96, 1536]⟩
abbrev S96x512 : Shape := ⟨2, ![96, 512]⟩
abbrev S384x512 : Shape := ⟨2, ![384, 512]⟩
abbrev S1x1x128 : Shape := ⟨3, ![1, 1, 128]⟩
abbrev S1x128 : Shape := ⟨2, ![1, 128]⟩
abbrev S128x128 : Shape := ⟨2, ![128, 128]⟩
abbrev S1x96x256 : Shape := ⟨3, ![1, 96, 256]⟩
abbrev S96x256 : Shape := ⟨2, ![96, 256]⟩
abbrev S1x1x256 : Shape := ⟨3, ![1, 1, 256]⟩
abbrev S1x256 : Shape := ⟨2, ![1, 256]⟩
abbrev S1x1x1x128 : Shape := ⟨4, ![1, 1, 1, 128]⟩
abbrev S1x1x96x256 : Shape := ⟨4, ![1, 1, 96, 256]⟩
abbrev S1x1x1x256 : Shape := ⟨4, ![1, 1, 1, 256]⟩
abbrev S1x96x512 : Shape := ⟨3, ![1, 96, 512]⟩
abbrev S1x1x512 : Shape := ⟨3, ![1, 1, 512]⟩
abbrev S1x512 : Shape := ⟨2, ![1, 512]⟩
abbrev S1x256x96 : Shape := ⟨3, ![1, 256, 96]⟩
abbrev S256x96 : Shape := ⟨2, ![256, 96]⟩
abbrev S256x512 : Shape := ⟨2, ![256, 512]⟩
abbrev S256x128 : Shape := ⟨2, ![256, 128]⟩
abbrev S512 : Shape := ⟨1, ![512]⟩
abbrev S1x1x256x96 : Shape := ⟨4, ![1, 1, 256, 96]⟩
abbrev S12x1536x3072 : Shape := ⟨3, ![12, 1536, 3072]⟩

abbrev nBuf : Space → Nat
  | .hbm => 42
  | .vmem => 32
  | .smem => 0
  | _ => 0

abbrev bufTy : (tb : Table) → Fin (tcTables nBuf tb) → BufTy
  | .hbm, ⟨0, _⟩ => ⟨S12x1536x32x96, .fp8e4m3⟩
  | .hbm, ⟨1, _⟩ => ⟨S12x1536x32, .f32⟩
  | .hbm, ⟨2, _⟩ => ⟨S16384x8x96, .fp8e4m3⟩
  | .hbm, ⟨3, _⟩ => ⟨S16384x8x96, .fp8e4m3⟩
  | .hbm, ⟨4, _⟩ => ⟨S16384x8, .f32⟩
  | .hbm, ⟨5, _⟩ => ⟨S16384x8, .f32⟩
  | .hbm, ⟨6, _⟩ => ⟨S12x1536x8x96, .fp8e4m3⟩
  | .hbm, ⟨7, _⟩ => ⟨S12x1536x8x96, .fp8e4m3⟩
  | .hbm, ⟨8, _⟩ => ⟨S12x1536x8, .f32⟩
  | .hbm, ⟨9, _⟩ => ⟨S12x1536x8, .f32⟩
  | .hbm, ⟨10, _⟩ => ⟨S18432x8x384, .fp8e4m3⟩
  | .hbm, ⟨11, _⟩ => ⟨S8x384x18432, .fp8e4m3⟩
  | .hbm, ⟨12, _⟩ => ⟨S18432x8x4, .f32⟩
  | .hbm, ⟨13, _⟩ => ⟨S8x4x18432, .f32⟩
  | .hbm, ⟨14, _⟩ => ⟨S_, .f32⟩
  | .hbm, ⟨15, _⟩ => ⟨S16384x8x32, .f32⟩
  | .hbm, ⟨16, _⟩ => ⟨S16384x8x32, .fp8e4m3⟩
  | .hbm, ⟨17, _⟩ => ⟨S16384x8x128, .fp8e4m3⟩
  | .hbm, ⟨18, _⟩ => ⟨S8x16384x128, .fp8e4m3⟩
  | .hbm, ⟨19, _⟩ => ⟨S8x96x16384, .fp8e4m3⟩
  | .hbm, ⟨20, _⟩ => ⟨S8x16384, .f32⟩
  | .hbm, ⟨21, _⟩ => ⟨S8x1x16384, .f32⟩
  | .hbm, ⟨22, _⟩ => ⟨S8x16384, .f32⟩
  | .hbm, ⟨23, _⟩ => ⟨S8x1x16384, .f32⟩
  | .hbm, ⟨24, _⟩ => ⟨S_, .f32⟩
  | .hbm, ⟨25, _⟩ => ⟨S12x1536x8x32, .f32⟩
  | .hbm, ⟨26, _⟩ => ⟨S12x1536x8x32, .fp8e4m3⟩
  | .hbm, ⟨27, _⟩ => ⟨S12x1536x8x128, .fp8e4m3⟩
  | .hbm, ⟨28, _⟩ => ⟨S8x12x1536x128, .fp8e4m3⟩
  | .hbm, ⟨29, _⟩ => ⟨S8x12x96x1536, .fp8e4m3⟩
  | .hbm, ⟨30, _⟩ => ⟨S8x12x1536, .f32⟩
  | .hbm, ⟨31, _⟩ => ⟨S8x12x1x1536, .f32⟩
  | .hbm, ⟨32, _⟩ => ⟨S8x12x1536, .f32⟩
  | .hbm, ⟨33, _⟩ => ⟨S8x12x1x1536, .f32⟩
  | .hbm, ⟨34, _⟩ => ⟨S18432x3072, .bf16⟩
  | .hbm, ⟨35, _⟩ => ⟨S8x4x18432, .f32⟩
  | .hbm, ⟨36, _⟩ => ⟨S8x4x18432, .f32⟩
  | .hbm, ⟨37, _⟩ => ⟨S12x1536x3072, .bf16⟩
  | .hbm, ⟨38, _⟩ => ⟨S18432x8x4, .f32⟩
  | .hbm, ⟨39, _⟩ => ⟨S12x1536x32, .f32⟩
  | .hbm, ⟨40, _⟩ => ⟨S18432x8x4, .f32⟩
  | .hbm, ⟨41, _⟩ => ⟨S12x1536x32, .f32⟩
  | .local _ .vmem, ⟨0, _⟩ => ⟨S1x384x512, .fp8e4m3⟩
  | .local _ .vmem, ⟨1, _⟩ => ⟨S1x384x512, .fp8e4m3⟩
  | .local _ .vmem, ⟨2, _⟩ => ⟨S1x4x512, .f32⟩
  | .local _ .vmem, ⟨3, _⟩ => ⟨S1x4x512, .f32⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x96x16384, .fp8e4m3⟩
  | .local _ .vmem, ⟨7, _⟩ => ⟨S1x96x16384, .fp8e4m3⟩
  | .local _ .vmem, ⟨8, _⟩ => ⟨S1x1x16384, .f32⟩
  | .local _ .vmem, ⟨9, _⟩ => ⟨S1x1x16384, .f32⟩
  | .local _ .vmem, ⟨10, _⟩ => ⟨S1x1x16384, .f32⟩
  | .local _ .vmem, ⟨11, _⟩ => ⟨S1x1x16384, .f32⟩
  | .local _ .vmem, ⟨12, _⟩ => ⟨S1x1x1536x128, .fp8e4m3⟩
  | .local _ .vmem, ⟨13, _⟩ => ⟨S1x1x1536x128, .fp8e4m3⟩
  | .local _ .vmem, ⟨14, _⟩ => ⟨S1x1x96x1536, .fp8e4m3⟩
  | .local _ .vmem, ⟨15, _⟩ => ⟨S1x1x96x1536, .fp8e4m3⟩
  | .local _ .vmem, ⟨16, _⟩ => ⟨S1x1x1x1536, .f32⟩
  | .local _ .vmem, ⟨17, _⟩ => ⟨S1x1x1x1536, .f32⟩
  | .local _ .vmem, ⟨18, _⟩ => ⟨S1x1x1x1536, .f32⟩
  | .local _ .vmem, ⟨19, _⟩ => ⟨S1x1x1x1536, .f32⟩
  | .local _ .vmem, ⟨20, _⟩ => ⟨S512x384, .bf16⟩
  | .local _ .vmem, ⟨21, _⟩ => ⟨S512x384, .bf16⟩
  | .local _ .vmem, ⟨22, _⟩ => ⟨S1x4x512, .f32⟩
  | .local _ .vmem, ⟨23, _⟩ => ⟨S1x4x512, .f32⟩
  | .local _ .vmem, ⟨24, _⟩ => ⟨S1x4x512, .f32⟩
  | .local _ .vmem, ⟨25, _⟩ => ⟨S1x4x512, .f32⟩
  | .local _ .vmem, ⟨26, _⟩ => ⟨S16384x128, .f32⟩
  | .local _ .vmem, ⟨27, _⟩ => ⟨S96x16384, .bf16⟩
  | .local _ .vmem, ⟨28, _⟩ => ⟨S1536x128, .f32⟩
  | .local _ .vmem, ⟨29, _⟩ => ⟨S96x1536, .bf16⟩
  | .local _ .vmem, ⟨30, _⟩ => ⟨S96x512, .f32⟩
  | .local _ .vmem, ⟨31, _⟩ => ⟨S384x512, .f32⟩
  | _, _ => ⟨S12x1536x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 12, 3], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_269 : BitVec 32 := 0#32
  let c128_i32 : BitVec 32 := 128#32
  let v565 : BitVec 32 := Scalar.addi c0_i32_269 c128_i32
  let c1_i32_270 : BitVec 32 := 1#32
  ⟨c0_i32_269, v565, c1_i32_270⟩
def k0_off1 (k0_t1 : Fin k0_t1_loop.trips) : Fin 3 → Nat :=
  let c0_277 : Index := 0#32
  let c0_278 : Index := 0#32
  let c0_i32_269 : BitVec 32 := 0#32
  let c1_i32_270 : BitVec 32 := 1#32
  let arg22 : BitVec 32 := Scf.iv c0_i32_269 c1_i32_270 k0_t1
  let c128_i32_276 : BitVec 32 := 128#32
  let v567 : BitVec 32 := Scalar.muli arg22 c128_i32_276
  let v568 : Index := Scalar.indexCast v567
  ![0, 0, v568.toNat]
def k0_off2 (k0_t1 : Fin k0_t1_loop.trips) : Fin 2 → Nat :=
  let c0_i32_269 : BitVec 32 := 0#32
  let c1_i32_270 : BitVec 32 := 1#32
  let arg22 : BitVec 32 := Scf.iv c0_i32_269 c1_i32_270 k0_t1
  let c128_i32_279 : BitVec 32 := 128#32
  let v574 : BitVec 32 := Scalar.muli arg22 c128_i32_279
  let v575 : Index := Scalar.indexCast v574
  let c0_280 : Index := 0#32
  ![v575.toNat, 0]
@[reducible] def k0_t2_loop : Scf.Loop 32 :=
  let c0_i32_272 : BitVec 32 := 0#32
  let c64_i32_273 : BitVec 32 := 64#32
  let v566 : BitVec 32 := Scalar.addi c0_i32_272 c64_i32_273
  let c1_i32_274 : BitVec 32 := 1#32
  ⟨c0_i32_272, v566, c1_i32_274⟩
def k0_off3 (k0_t2 : Fin k0_t2_loop.trips) : Fin 3 → Nat :=
  let c0_277 : Index := 0#32
  let c0_278 : Index := 0#32
  let c0_i32_272 : BitVec 32 := 0#32
  let c1_i32_274 : BitVec 32 := 1#32
  let arg22 : BitVec 32 := Scf.iv c0_i32_272 c1_i32_274 k0_t2
  let c256_i32_276 : BitVec 32 := 256#32
  let v567 : BitVec 32 := Scalar.muli arg22 c256_i32_276
  let v568 : Index := Scalar.indexCast v567
  ![0, 0, v568.toNat]
def k0_off4 (k0_t2 : Fin k0_t2_loop.trips) : Fin 3 → Nat :=
  let c0_279 : Index := 0#32
  let c0_280 : Index := 0#32
  let c0_i32_272 : BitVec 32 := 0#32
  let c1_i32_274 : BitVec 32 := 1#32
  let arg22 : BitVec 32 := Scf.iv c0_i32_272 c1_i32_274 k0_t2
  let c256_i32_276 : BitVec 32 := 256#32
  let v567 : BitVec 32 := Scalar.muli arg22 c256_i32_276
  let v572 : Index := Scalar.indexCast v567
  ![0, 0, v572.toNat]
def k0_off5 (k0_t2 : Fin k0_t2_loop.trips) : Fin 2 → Nat :=
  let c0_281 : Index := 0#32
  let c0_i32_272 : BitVec 32 := 0#32
  let c1_i32_274 : BitVec 32 := 1#32
  let arg22 : BitVec 32 := Scf.iv c0_i32_272 c1_i32_274 k0_t2
  let c256_i32_276 : BitVec 32 := 256#32
  let v567 : BitVec 32 := Scalar.muli arg22 c256_i32_276
  let v578 : Index := Scalar.indexCast v567
  ![0, v578.toNat]
def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

@[reducible] def k0_t3_loop : Scf.Loop 32 :=
  let c0_i32_269 : BitVec 32 := 0#32
  let c12_i32 : BitVec 32 := 12#32
  let v565 : BitVec 32 := Scalar.addi c0_i32_269 c12_i32
  let c1_i32_270 : BitVec 32 := 1#32
  ⟨c0_i32_269, v565, c1_i32_270⟩
def k0_off6 (k0_t3 : Fin k0_t3_loop.trips) : Fin 4 → Nat :=
  let c0_275 : Index := 0#32
  let c0_276 : Index := 0#32
  let c0_277 : Index := 0#32
  let c0_i32_269 : BitVec 32 := 0#32
  let c1_i32_270 : BitVec 32 := 1#32
  let arg22 : BitVec 32 := Scf.iv c0_i32_269 c1_i32_270 k0_t3
  let c128_i32 : BitVec 32 := 128#32
  let v567 : BitVec 32 := Scalar.muli arg22 c128_i32
  let v568 : Index := Scalar.indexCast v567
  ![0, 0, 0, v568.toNat]
def k0_off7 (k0_t3 : Fin k0_t3_loop.trips) : Fin 2 → Nat :=
  let c0_i32_269 : BitVec 32 := 0#32
  let c1_i32_270 : BitVec 32 := 1#32
  let arg22 : BitVec 32 := Scf.iv c0_i32_269 c1_i32_270 k0_t3
  let c128_i32_278 : BitVec 32 := 128#32
  let v574 : BitVec 32 := Scalar.muli arg22 c128_i32_278
  let v575 : Index := Scalar.indexCast v574
  let c0_279 : Index := 0#32
  ![v575.toNat, 0]
@[reducible] def k0_t4_loop : Scf.Loop 32 :=
  let c0_i32_272 : BitVec 32 := 0#32
  let c6_i32 : BitVec 32 := 6#32
  let v566 : BitVec 32 := Scalar.addi c0_i32_272 c6_i32
  let c1_i32_273 : BitVec 32 := 1#32
  ⟨c0_i32_272, v566, c1_i32_273⟩
def k0_off8 (k0_t4 : Fin k0_t4_loop.trips) : Fin 4 → Nat :=
  let c0_276 : Index := 0#32
  let c0_277 : Index := 0#32
  let c0_278 : Index := 0#32
  let c0_i32_272 : BitVec 32 := 0#32
  let c1_i32_273 : BitVec 32 := 1#32
  let arg22 : BitVec 32 := Scf.iv c0_i32_272 c1_i32_273 k0_t4
  let c256_i32_275 : BitVec 32 := 256#32
  let v567 : BitVec 32 := Scalar.muli arg22 c256_i32_275
  let v568 : Index := Scalar.indexCast v567
  ![0, 0, 0, v568.toNat]
def k0_off9 (k0_t4 : Fin k0_t4_loop.trips) : Fin 4 → Nat :=
  let c0_279 : Index := 0#32
  let c0_280 : Index := 0#32
  let c0_281 : Index := 0#32
  let c0_i32_272 : BitVec 32 := 0#32
  let c1_i32_273 : BitVec 32 := 1#32
  let arg22 : BitVec 32 := Scf.iv c0_i32_272 c1_i32_273 k0_t4
  let c256_i32_275 : BitVec 32 := 256#32
  let v567 : BitVec 32 := Scalar.muli arg22 c256_i32_275
  let v572 : Index := Scalar.indexCast v567
  ![0, 0, 0, v572.toNat]
def k0_off10 (k0_t4 : Fin k0_t4_loop.trips) : Fin 2 → Nat :=
  let c0_282 : Index := 0#32
  let c0_i32_272 : BitVec 32 := 0#32
  let c1_i32_273 : BitVec 32 := 1#32
  let arg22 : BitVec 32 := Scf.iv c0_i32_272 c1_i32_273 k0_t4
  let c256_i32_275 : BitVec 32 := 256#32
  let v567 : BitVec 32 := Scalar.muli arg22 c256_i32_275
  let v578 : Index := Scalar.indexCast v567
  ![0, v578.toNat]
@[reducible] def k0_t5_loop : Scf.Loop 32 :=
  let c0_i32_14 : BitVec 32 := 0#32
  let c64_i32 : BitVec 32 := 64#32
  let v21 : BitVec 32 := Scalar.addi c0_i32_14 c64_i32
  let c1_i32 : BitVec 32 := 1#32
  ⟨c0_i32_14, v21, c1_i32⟩
def k0_mult1 (k0_t5 : Fin k0_t5_loop.trips) : BitVec 32 :=
  let c0_i32_14 : BitVec 32 := 0#32
  let c1_i32 : BitVec 32 := 1#32
  let arg22 : BitVec 32 := Scf.iv c0_i32_14 c1_i32 k0_t5
  let c256_i32_269 : BitVec 32 := 256#32
  let v565 : BitVec 32 := Scalar.muli arg22 c256_i32_269
  v565
def k0_off11 (k0_t5 : Fin k0_t5_loop.trips) : Fin 3 → Nat :=
  let c0_270 : Index := 0#32
  let c0_i32_14 : BitVec 32 := 0#32
  let c1_i32 : BitVec 32 := 1#32
  let arg22 : BitVec 32 := Scf.iv c0_i32_14 c1_i32 k0_t5
  let c256_i32_269 : BitVec 32 := 256#32
  let v565 : BitVec 32 := Scalar.muli arg22 c256_i32_269
  let v566 : BitVec 32 := v565
  let v567 : Index := Scalar.indexCast v566
  let c0_271 : Index := 0#32
  ![0, v567.toNat, 0]
def k0_off12 (k0_t5 : Fin k0_t5_loop.trips) : Fin 2 → Nat :=
  let c0_i32_14 : BitVec 32 := 0#32
  let c1_i32 : BitVec 32 := 1#32
  let arg22 : BitVec 32 := Scf.iv c0_i32_14 c1_i32 k0_t5
  let c256_i32_269 : BitVec 32 := 256#32
  let v565 : BitVec 32 := Scalar.muli arg22 c256_i32_269
  let v566 : BitVec 32 := v565
  let v571 : Index := Scalar.indexCast v566
  let c0_273 : Index := 0#32
  ![v571.toNat, 0]
def k0_off13 (k0_t5 : Fin k0_t5_loop.trips) : Fin 2 → Nat :=
  let c0_278 : Index := 0#32
  let c0_i32_14 : BitVec 32 := 0#32
  let c1_i32 : BitVec 32 := 1#32
  let arg22 : BitVec 32 := Scf.iv c0_i32_14 c1_i32 k0_t5
  let c256_i32_269 : BitVec 32 := 256#32
  let v565 : BitVec 32 := Scalar.muli arg22 c256_i32_269
  let v566 : BitVec 32 := v565
  let v592 : Index := Scalar.indexCast v566
  ![0, v592.toNat]
@[reducible] def k0_t6_loop (i : grid0.Coords) : Scf.Loop 32 :=
  let c0_i32_29 : BitVec 32 := 0#32
  let arg2 : BitVec 32 := BitVec.ofNat 32 (i 2).val
  let c512_i32 : BitVec 32 := 512#32
  let v8 : BitVec 32 := Scalar.muli arg2 c512_i32
  let c0_i32_23 : BitVec 32 := 0#32
  let v34 : BitVec 1 := Scalar.cmpi .sgt v8 c0_i32_23
  let v35 : BitVec 32 := Scalar.extui v34
  let c0_i32_24 : BitVec 32 := 0#32
  let v36 : BitVec 1 := Scalar.cmpi .slt v8 c0_i32_24
  let v37 : BitVec 32 := Scalar.extui v36
  let v38 : BitVec 32 := Scalar.subi v35 v37
  let c256_i32 : BitVec 32 := 256#32
  let c0_i32_25 : BitVec 32 := 0#32
  let v39 : BitVec 1 := Scalar.cmpi .sgt c256_i32 c0_i32_25
  let v40 : BitVec 32 := Scalar.extui v39
  let c0_i32_26 : BitVec 32 := 0#32
  let v41 : BitVec 1 := Scalar.cmpi .slt c256_i32 c0_i32_26
  let v42 : BitVec 32 := Scalar.extui v41
  let v43 : BitVec 32 := Scalar.subi v40 v42
  let v44 : BitVec 1 := Scalar.cmpi .ne v38 v43
  let v45 : BitVec 32 := Scalar.remsi v8 c256_i32
  let c0_i32_27 : BitVec 32 := 0#32
  let v46 : BitVec 1 := Scalar.cmpi .ne v45 c0_i32_27
  let v47 : BitVec 1 := Scalar.andi v44 v46
  let v33 : BitVec 32 := Scalar.divsi v8 c256_i32
  let c1_i32_28 : BitVec 32 := 1#32
  let v48 : BitVec 32 := Scalar.subi v33 c1_i32_28
  let v49 : BitVec 32 := Scalar.select v47 v48 v33
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let c1_i32_31 : BitVec 32 := 1#32
  ⟨c0_i32_29, v54, c1_i32_31⟩
def k0_mult2 (i : grid0.Coords) (k0_t6 : Fin (k0_t6_loop i).trips) : BitVec 32 :=
  let c0_i32_29 : BitVec 32 := 0#32
  let c1_i32_31 : BitVec 32 := 1#32
  let arg22 : BitVec 32 := Scf.iv c0_i32_29 c1_i32_31 k0_t6
  let c256_i32_269 : BitVec 32 := 256#32
  let v565 : BitVec 32 := Scalar.muli arg22 c256_i32_269
  v565
def k0_off14 (i : grid0.Coords) (k0_t6 : Fin (k0_t6_loop i).trips) : Fin 4 → Nat :=
  let c0_270 : Index := 0#32
  let c0_271 : Index := 0#32
  let c0_i32_29 : BitVec 32 := 0#32
  let c1_i32_31 : BitVec 32 := 1#32
  let arg22 : BitVec 32 := Scf.iv c0_i32_29 c1_i32_31 k0_t6
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off15 (i : grid0.Coords) (k0_t6 : Fin (k0_t6_loop i).trips) : Fin 2 → Nat :=
  let c0_i32_29 : BitVec 32 := 0#32
  let c1_i32_31 : BitVec 32 := 1#32
  let arg22 : BitVec 32 := Scf.iv c0_i32_29 c1_i32_31 k0_t6
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off16 (i : grid0.Coords) (k0_t6 : Fin (k0_t6_loop i).trips) : Fin 2 → Nat :=
  let c0_279 : Index := 0#32
  let c0_i32_29 : BitVec 32 := 0#32
  let c1_i32_31 : BitVec 32 := 1#32
  let arg22 : BitVec 32 := Scf.iv c0_i32_29 c1_i32_31 k0_t6
  let c256_i32_269 : BitVec 32 := 256#32
  let v565 : BitVec 32 := Scalar.muli arg22 c256_i32_269
  let v566 : BitVec 32 := v565
  let v592 : Index := Scalar.indexCast v566
  ![0, v592.toNat]
@[reducible] def k0_t7_loop (i : grid0.Coords) : Scf.Loop 32 :=
  let c0_i32_29 : BitVec 32 := 0#32
  let arg2 : BitVec 32 := BitVec.ofNat 32 (i 2).val
  let c512_i32 : BitVec 32 := 512#32
  let v8 : BitVec 32 := Scalar.muli arg2 c512_i32
  let c0_i32_23 : BitVec 32 := 0#32
  let v34 : BitVec 1 := Scalar.cmpi .sgt v8 c0_i32_23
  let v35 : BitVec 32 := Scalar.extui v34
  let c0_i32_24 : BitVec 32 := 0#32
  let v36 : BitVec 1 := Scalar.cmpi .slt v8 c0_i32_24
  let v37 : BitVec 32 := Scalar.extui v36
  let v38 : BitVec 32 := Scalar.subi v35 v37
  let c256_i32 : BitVec 32 := 256#32
  let c0_i32_25 : BitVec 32 := 0#32
  let v39 : BitVec 1 := Scalar.cmpi .sgt c256_i32 c0_i32_25
  let v40 : BitVec 32 := Scalar.extui v39
  let c0_i32_26 : BitVec 32 := 0#32
  let v41 : BitVec 1 := Scalar.cmpi .slt c256_i32 c0_i32_26
  let v42 : BitVec 32 := Scalar.extui v41
  let v43 : BitVec 32 := Scalar.subi v40 v42
  let v44 : BitVec 1 := Scalar.cmpi .ne v38 v43
  let v45 : BitVec 32 := Scalar.remsi v8 c256_i32
  let c0_i32_27 : BitVec 32 := 0#32
  let v46 : BitVec 1 := Scalar.cmpi .ne v45 c0_i32_27
  let v47 : BitVec 1 := Scalar.andi v44 v46
  let v33 : BitVec 32 := Scalar.divsi v8 c256_i32
  let c1_i32_28 : BitVec 32 := 1#32
  let v48 : BitVec 32 := Scalar.subi v33 c1_i32_28
  let v49 : BitVec 32 := Scalar.select v47 v48 v33
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let v51 : BitVec 32 := Scalar.addi c0_i32_29 v50
  let c1_i32_32 : BitVec 32 := 1#32
  ⟨v54, v51, c1_i32_32⟩
def k0_mult3 (i : grid0.Coords) (k0_t7 : Fin (k0_t7_loop i).trips) : BitVec 32 :=
  let c0_i32_29 : BitVec 32 := 0#32
  let arg2 : BitVec 32 := BitVec.ofNat 32 (i 2).val
  let c512_i32 : BitVec 32 := 512#32
  let v8 : BitVec 32 := Scalar.muli arg2 c512_i32
  let c0_i32_23 : BitVec 32 := 0#32
  let v34 : BitVec 1 := Scalar.cmpi .sgt v8 c0_i32_23
  let v35 : BitVec 32 := Scalar.extui v34
  let c0_i32_24 : BitVec 32 := 0#32
  let v36 : BitVec 1 := Scalar.cmpi .slt v8 c0_i32_24
  let v37 : BitVec 32 := Scalar.extui v36
  let v38 : BitVec 32 := Scalar.subi v35 v37
  let c256_i32 : BitVec 32 := 256#32
  let c0_i32_25 : BitVec 32 := 0#32
  let v39 : BitVec 1 := Scalar.cmpi .sgt c256_i32 c0_i32_25
  let v40 : BitVec 32 := Scalar.extui v39
  let c0_i32_26 : BitVec 32 := 0#32
  let v41 : BitVec 1 := Scalar.cmpi .slt c256_i32 c0_i32_26
  let v42 : BitVec 32 := Scalar.extui v41
  let v43 : BitVec 32 := Scalar.subi v40 v42
  let v44 : BitVec 1 := Scalar.cmpi .ne v38 v43
  let v45 : BitVec 32 := Scalar.remsi v8 c256_i32
  let c0_i32_27 : BitVec 32 := 0#32
  let v46 : BitVec 1 := Scalar.cmpi .ne v45 c0_i32_27
  let v47 : BitVec 1 := Scalar.andi v44 v46
  let v33 : BitVec 32 := Scalar.divsi v8 c256_i32
  let c1_i32_28 : BitVec 32 := 1#32
  let v48 : BitVec 32 := Scalar.subi v33 c1_i32_28
  let v49 : BitVec 32 := Scalar.select v47 v48 v33
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let c1_i32_32 : BitVec 32 := 1#32
  let arg22 : BitVec 32 := Scf.iv v54 c1_i32_32 k0_t7
  let c256_i32_269 : BitVec 32 := 256#32
  let v565 : BitVec 32 := Scalar.muli arg22 c256_i32_269
  v565
def k0_off17 (i : grid0.Coords) (k0_t7 : Fin (k0_t7_loop i).trips) : Fin 4 → Nat :=
  let c0_270 : Index := 0#32
  let c0_271 : Index := 0#32
  let c0_i32_29 : BitVec 32 := 0#32
  let arg2 : BitVec 32 := BitVec.ofNat 32 (i 2).val
  let c512_i32 : BitVec 32 := 512#32
  let v8 : BitVec 32 := Scalar.muli arg2 c512_i32
  let c0_i32_23 : BitVec 32 := 0#32
  let v34 : BitVec 1 := Scalar.cmpi .sgt v8 c0_i32_23
  let v35 : BitVec 32 := Scalar.extui v34
  let c0_i32_24 : BitVec 32 := 0#32
  let v36 : BitVec 1 := Scalar.cmpi .slt v8 c0_i32_24
  let v37 : BitVec 32 := Scalar.extui v36
  let v38 : BitVec 32 := Scalar.subi v35 v37
  let c256_i32 : BitVec 32 := 256#32
  let c0_i32_25 : BitVec 32 := 0#32
  let v39 : BitVec 1 := Scalar.cmpi .sgt c256_i32 c0_i32_25
  let v40 : BitVec 32 := Scalar.extui v39
  let c0_i32_26 : BitVec 32 := 0#32
  let v41 : BitVec 1 := Scalar.cmpi .slt c256_i32 c0_i32_26
  let v42 : BitVec 32 := Scalar.extui v41
  let v43 : BitVec 32 := Scalar.subi v40 v42
  let v44 : BitVec 1 := Scalar.cmpi .ne v38 v43
  let v45 : BitVec 32 := Scalar.remsi v8 c256_i32
  let c0_i32_27 : BitVec 32 := 0#32
  let v46 : BitVec 1 := Scalar.cmpi .ne v45 c0_i32_27
  let v47 : BitVec 1 := Scalar.andi v44 v46
  let v33 : BitVec 32 := Scalar.divsi v8 c256_i32
  let c1_i32_28 : BitVec 32 := 1#32
  let v48 : BitVec 32 := Scalar.subi v33 c1_i32_28
  let v49 : BitVec 32 := Scalar.select v47 v48 v33
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let c1_i32_32 : BitVec 32 := 1#32
  let arg22 : BitVec 32 := Scf.iv v54 c1_i32_32 k0_t7
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off18 (i : grid0.Coords) (k0_t7 : Fin (k0_t7_loop i).trips) : Fin 2 → Nat :=
  let c0_i32_29 : BitVec 32 := 0#32
  let arg2 : BitVec 32 := BitVec.ofNat 32 (i 2).val
  let c512_i32 : BitVec 32 := 512#32
  let v8 : BitVec 32 := Scalar.muli arg2 c512_i32
  let c0_i32_23 : BitVec 32 := 0#32
  let v34 : BitVec 1 := Scalar.cmpi .sgt v8 c0_i32_23
  let v35 : BitVec 32 := Scalar.extui v34
  let c0_i32_24 : BitVec 32 := 0#32
  let v36 : BitVec 1 := Scalar.cmpi .slt v8 c0_i32_24
  let v37 : BitVec 32 := Scalar.extui v36
  let v38 : BitVec 32 := Scalar.subi v35 v37
  let c256_i32 : BitVec 32 := 256#32
  let c0_i32_25 : BitVec 32 := 0#32
  let v39 : BitVec 1 := Scalar.cmpi .sgt c256_i32 c0_i32_25
  let v40 : BitVec 32 := Scalar.extui v39
  let c0_i32_26 : BitVec 32 := 0#32
  let v41 : BitVec 1 := Scalar.cmpi .slt c256_i32 c0_i32_26
  let v42 : BitVec 32 := Scalar.extui v41
  let v43 : BitVec 32 := Scalar.subi v40 v42
  let v44 : BitVec 1 := Scalar.cmpi .ne v38 v43
  let v45 : BitVec 32 := Scalar.remsi v8 c256_i32
  let c0_i32_27 : BitVec 32 := 0#32
  let v46 : BitVec 1 := Scalar.cmpi .ne v45 c0_i32_27
  let v47 : BitVec 1 := Scalar.andi v44 v46
  let v33 : BitVec 32 := Scalar.divsi v8 c256_i32
  let c1_i32_28 : BitVec 32 := 1#32
  let v48 : BitVec 32 := Scalar.subi v33 c1_i32_28
  let v49 : BitVec 32 := Scalar.select v47 v48 v33
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let c1_i32_32 : BitVec 32 := 1#32
  let arg22 : BitVec 32 := Scf.iv v54 c1_i32_32 k0_t7
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off19 (i : grid0.Coords) (k0_t7 : Fin (k0_t7_loop i).trips) : Fin 2 → Nat :=
  let c0_279 : Index := 0#32
  let c0_i32_29 : BitVec 32 := 0#32
  let arg2 : BitVec 32 := BitVec.ofNat 32 (i 2).val
  let c512_i32 : BitVec 32 := 512#32
  let v8 : BitVec 32 := Scalar.muli arg2 c512_i32
  let c0_i32_23 : BitVec 32 := 0#32
  let v34 : BitVec 1 := Scalar.cmpi .sgt v8 c0_i32_23
  let v35 : BitVec 32 := Scalar.extui v34
  let c0_i32_24 : BitVec 32 := 0#32
  let v36 : BitVec 1 := Scalar.cmpi .slt v8 c0_i32_24
  let v37 : BitVec 32 := Scalar.extui v36
  let v38 : BitVec 32 := Scalar.subi v35 v37
  let c256_i32 : BitVec 32 := 256#32
  let c0_i32_25 : BitVec 32 := 0#32
  let v39 : BitVec 1 := Scalar.cmpi .sgt c256_i32 c0_i32_25
  let v40 : BitVec 32 := Scalar.extui v39
  let c0_i32_26 : BitVec 32 := 0#32
  let v41 : BitVec 1 := Scalar.cmpi .slt c256_i32 c0_i32_26
  let v42 : BitVec 32 := Scalar.extui v41
  let v43 : BitVec 32 := Scalar.subi v40 v42
  let v44 : BitVec 1 := Scalar.cmpi .ne v38 v43
  let v45 : BitVec 32 := Scalar.remsi v8 c256_i32
  let c0_i32_27 : BitVec 32 := 0#32
  let v46 : BitVec 1 := Scalar.cmpi .ne v45 c0_i32_27
  let v47 : BitVec 1 := Scalar.andi v44 v46
  let v33 : BitVec 32 := Scalar.divsi v8 c256_i32
  let c1_i32_28 : BitVec 32 := 1#32
  let v48 : BitVec 32 := Scalar.subi v33 c1_i32_28
  let v49 : BitVec 32 := Scalar.select v47 v48 v33
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let c1_i32_32 : BitVec 32 := 1#32
  let arg22 : BitVec 32 := Scf.iv v54 c1_i32_32 k0_t7
  let c256_i32_269 : BitVec 32 := 256#32
  let v565 : BitVec 32 := Scalar.muli arg22 c256_i32_269
  let v566 : BitVec 32 := v565
  let v592 : Index := Scalar.indexCast v566
  ![0, v592.toNat]
@[reducible] def k0_t8_loop (i : grid0.Coords) : Scf.Loop 32 :=
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c512_i32_40 : BitVec 32 := 512#32
  let v74 : BitVec 32 := Scalar.addi v8 c512_i32_40
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c256_i32_41 : BitVec 32 := 256#32
  let c0_i32_44 : BitVec 32 := 0#32
  let v81 : BitVec 1 := Scalar.cmpi .sgt c256_i32_41 c0_i32_44
  let v82 : BitVec 32 := Scalar.extui v81
  let c0_i32_45 : BitVec 32 := 0#32
  let v83 : BitVec 1 := Scalar.cmpi .slt c256_i32_41 c0_i32_45
  let v84 : BitVec 32 := Scalar.extui v83
  let v85 : BitVec 32 := Scalar.subi v82 v84
  let v86 : BitVec 1 := Scalar.cmpi .ne v80 v85
  let v87 : BitVec 32 := Scalar.remsi v74 c256_i32_41
  let c0_i32_46 : BitVec 32 := 0#32
  let v88 : BitVec 1 := Scalar.cmpi .ne v87 c0_i32_46
  let v89 : BitVec 1 := Scalar.andi v86 v88
  let v75 : BitVec 32 := Scalar.divsi v74 c256_i32_41
  let c1_i32_47 : BitVec 32 := 1#32
  let v90 : BitVec 32 := Scalar.subi v75 c1_i32_47
  let v91 : BitVec 32 := Scalar.select v89 v90 v75
  let v92 : BitVec 32 := Scalar.subi v91 v73
  let c1_i32_48 : BitVec 32 := 1#32
  let v94 : BitVec 32 := Scalar.divsi v92 c1_i32_48
  let v95 : BitVec 32 := Scalar.muli v94 c1_i32_48
  let v96 : BitVec 32 := Scalar.addi v73 v95
  let c1_i32_49 : BitVec 32 := 1#32
  ⟨v73, v96, c1_i32_49⟩
def k0_mult4 (i : grid0.Coords) (k0_t8 : Fin (k0_t8_loop i).trips) : BitVec 32 :=
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c1_i32_49 : BitVec 32 := 1#32
  let arg22 : BitVec 32 := Scf.iv v73 c1_i32_49 k0_t8
  let c256_i32_269 : BitVec 32 := 256#32
  let v565 : BitVec 32 := Scalar.muli arg22 c256_i32_269
  v565
def k0_off20 (i : grid0.Coords) (k0_t8 : Fin (k0_t8_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c1_i32_49 : BitVec 32 := 1#32
  let arg22 : BitVec 32 := Scf.iv v73 c1_i32_49 k0_t8
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off21 (i : grid0.Coords) (k0_t8 : Fin (k0_t8_loop i).trips) : Fin 2 → Nat :=
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c1_i32_49 : BitVec 32 := 1#32
  let arg22 : BitVec 32 := Scf.iv v73 c1_i32_49 k0_t8
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off22 (i : grid0.Coords) (k0_t8 : Fin (k0_t8_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c1_i32_49 : BitVec 32 := 1#32
  let arg22 : BitVec 32 := Scf.iv v73 c1_i32_49 k0_t8
  let c256_i32_269 : BitVec 32 := 256#32
  let v565 : BitVec 32 := Scalar.muli arg22 c256_i32_269
  let v566 : BitVec 32 := v565
  let v602 : Index := Scalar.indexCast v566
  ![0, v602.toNat]
@[reducible] def k0_t9_loop (i : grid0.Coords) : Scf.Loop 32 :=
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c512_i32_40 : BitVec 32 := 512#32
  let v74 : BitVec 32 := Scalar.addi v8 c512_i32_40
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c256_i32_41 : BitVec 32 := 256#32
  let c0_i32_44 : BitVec 32 := 0#32
  let v81 : BitVec 1 := Scalar.cmpi .sgt c256_i32_41 c0_i32_44
  let v82 : BitVec 32 := Scalar.extui v81
  let c0_i32_45 : BitVec 32 := 0#32
  let v83 : BitVec 1 := Scalar.cmpi .slt c256_i32_41 c0_i32_45
  let v84 : BitVec 32 := Scalar.extui v83
  let v85 : BitVec 32 := Scalar.subi v82 v84
  let v86 : BitVec 1 := Scalar.cmpi .ne v80 v85
  let v87 : BitVec 32 := Scalar.remsi v74 c256_i32_41
  let c0_i32_46 : BitVec 32 := 0#32
  let v88 : BitVec 1 := Scalar.cmpi .ne v87 c0_i32_46
  let v89 : BitVec 1 := Scalar.andi v86 v88
  let v75 : BitVec 32 := Scalar.divsi v74 c256_i32_41
  let c1_i32_47 : BitVec 32 := 1#32
  let v90 : BitVec 32 := Scalar.subi v75 c1_i32_47
  let v91 : BitVec 32 := Scalar.select v89 v90 v75
  let v92 : BitVec 32 := Scalar.subi v91 v73
  let c1_i32_48 : BitVec 32 := 1#32
  let v94 : BitVec 32 := Scalar.divsi v92 c1_i32_48
  let v95 : BitVec 32 := Scalar.muli v94 c1_i32_48
  let v96 : BitVec 32 := Scalar.addi v73 v95
  let v93 : BitVec 32 := Scalar.addi v73 v92
  let c1_i32_50 : BitVec 32 := 1#32
  ⟨v96, v93, c1_i32_50⟩
def k0_mult5 (i : grid0.Coords) (k0_t9 : Fin (k0_t9_loop i).trips) : BitVec 32 :=
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c512_i32_40 : BitVec 32 := 512#32
  let v74 : BitVec 32 := Scalar.addi v8 c512_i32_40
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c256_i32_41 : BitVec 32 := 256#32
  let c0_i32_44 : BitVec 32 := 0#32
  let v81 : BitVec 1 := Scalar.cmpi .sgt c256_i32_41 c0_i32_44
  let v82 : BitVec 32 := Scalar.extui v81
  let c0_i32_45 : BitVec 32 := 0#32
  let v83 : BitVec 1 := Scalar.cmpi .slt c256_i32_41 c0_i32_45
  let v84 : BitVec 32 := Scalar.extui v83
  let v85 : BitVec 32 := Scalar.subi v82 v84
  let v86 : BitVec 1 := Scalar.cmpi .ne v80 v85
  let v87 : BitVec 32 := Scalar.remsi v74 c256_i32_41
  let c0_i32_46 : BitVec 32 := 0#32
  let v88 : BitVec 1 := Scalar.cmpi .ne v87 c0_i32_46
  let v89 : BitVec 1 := Scalar.andi v86 v88
  let v75 : BitVec 32 := Scalar.divsi v74 c256_i32_41
  let c1_i32_47 : BitVec 32 := 1#32
  let v90 : BitVec 32 := Scalar.subi v75 c1_i32_47
  let v91 : BitVec 32 := Scalar.select v89 v90 v75
  let v92 : BitVec 32 := Scalar.subi v91 v73
  let c1_i32_48 : BitVec 32 := 1#32
  let v94 : BitVec 32 := Scalar.divsi v92 c1_i32_48
  let v95 : BitVec 32 := Scalar.muli v94 c1_i32_48
  let v96 : BitVec 32 := Scalar.addi v73 v95
  let c1_i32_50 : BitVec 32 := 1#32
  let arg22 : BitVec 32 := Scf.iv v96 c1_i32_50 k0_t9
  let c256_i32_269 : BitVec 32 := 256#32
  let v565 : BitVec 32 := Scalar.muli arg22 c256_i32_269
  v565
def k0_off23 (i : grid0.Coords) (k0_t9 : Fin (k0_t9_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c512_i32_40 : BitVec 32 := 512#32
  let v74 : BitVec 32 := Scalar.addi v8 c512_i32_40
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c256_i32_41 : BitVec 32 := 256#32
  let c0_i32_44 : BitVec 32 := 0#32
  let v81 : BitVec 1 := Scalar.cmpi .sgt c256_i32_41 c0_i32_44
  let v82 : BitVec 32 := Scalar.extui v81
  let c0_i32_45 : BitVec 32 := 0#32
  let v83 : BitVec 1 := Scalar.cmpi .slt c256_i32_41 c0_i32_45
  let v84 : BitVec 32 := Scalar.extui v83
  let v85 : BitVec 32 := Scalar.subi v82 v84
  let v86 : BitVec 1 := Scalar.cmpi .ne v80 v85
  let v87 : BitVec 32 := Scalar.remsi v74 c256_i32_41
  let c0_i32_46 : BitVec 32 := 0#32
  let v88 : BitVec 1 := Scalar.cmpi .ne v87 c0_i32_46
  let v89 : BitVec 1 := Scalar.andi v86 v88
  let v75 : BitVec 32 := Scalar.divsi v74 c256_i32_41
  let c1_i32_47 : BitVec 32 := 1#32
  let v90 : BitVec 32 := Scalar.subi v75 c1_i32_47
  let v91 : BitVec 32 := Scalar.select v89 v90 v75
  let v92 : BitVec 32 := Scalar.subi v91 v73
  let c1_i32_48 : BitVec 32 := 1#32
  let v94 : BitVec 32 := Scalar.divsi v92 c1_i32_48
  let v95 : BitVec 32 := Scalar.muli v94 c1_i32_48
  let v96 : BitVec 32 := Scalar.addi v73 v95
  let c1_i32_50 : BitVec 32 := 1#32
  let arg22 : BitVec 32 := Scf.iv v96 c1_i32_50 k0_t9
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off24 (i : grid0.Coords) (k0_t9 : Fin (k0_t9_loop i).trips) : Fin 2 → Nat :=
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c512_i32_40 : BitVec 32 := 512#32
  let v74 : BitVec 32 := Scalar.addi v8 c512_i32_40
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c256_i32_41 : BitVec 32 := 256#32
  let c0_i32_44 : BitVec 32 := 0#32
  let v81 : BitVec 1 := Scalar.cmpi .sgt c256_i32_41 c0_i32_44
  let v82 : BitVec 32 := Scalar.extui v81
  let c0_i32_45 : BitVec 32 := 0#32
  let v83 : BitVec 1 := Scalar.cmpi .slt c256_i32_41 c0_i32_45
  let v84 : BitVec 32 := Scalar.extui v83
  let v85 : BitVec 32 := Scalar.subi v82 v84
  let v86 : BitVec 1 := Scalar.cmpi .ne v80 v85
  let v87 : BitVec 32 := Scalar.remsi v74 c256_i32_41
  let c0_i32_46 : BitVec 32 := 0#32
  let v88 : BitVec 1 := Scalar.cmpi .ne v87 c0_i32_46
  let v89 : BitVec 1 := Scalar.andi v86 v88
  let v75 : BitVec 32 := Scalar.divsi v74 c256_i32_41
  let c1_i32_47 : BitVec 32 := 1#32
  let v90 : BitVec 32 := Scalar.subi v75 c1_i32_47
  let v91 : BitVec 32 := Scalar.select v89 v90 v75
  let v92 : BitVec 32 := Scalar.subi v91 v73
  let c1_i32_48 : BitVec 32 := 1#32
  let v94 : BitVec 32 := Scalar.divsi v92 c1_i32_48
  let v95 : BitVec 32 := Scalar.muli v94 c1_i32_48
  let v96 : BitVec 32 := Scalar.addi v73 v95
  let c1_i32_50 : BitVec 32 := 1#32
  let arg22 : BitVec 32 := Scf.iv v96 c1_i32_50 k0_t9
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off25 (i : grid0.Coords) (k0_t9 : Fin (k0_t9_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_34 : BitVec 32 := 0#32
  let v58 : BitVec 1 := Scalar.cmpi .sgt v8 c0_i32_34
  let v59 : BitVec 32 := Scalar.extui v58
  let c0_i32_35 : BitVec 32 := 0#32
  let v60 : BitVec 1 := Scalar.cmpi .slt v8 c0_i32_35
  let v61 : BitVec 32 := Scalar.extui v60
  let v62 : BitVec 32 := Scalar.subi v59 v61
  let c256_i32_33 : BitVec 32 := 256#32
  let c0_i32_36 : BitVec 32 := 0#32
  let v63 : BitVec 1 := Scalar.cmpi .sgt c256_i32_33 c0_i32_36
  let v64 : BitVec 32 := Scalar.extui v63
  let c0_i32_37 : BitVec 32 := 0#32
  let v65 : BitVec 1 := Scalar.cmpi .slt c256_i32_33 c0_i32_37
  let v66 : BitVec 32 := Scalar.extui v65
  let v67 : BitVec 32 := Scalar.subi v64 v66
  let v68 : BitVec 1 := Scalar.cmpi .ne v62 v67
  let v69 : BitVec 32 := Scalar.remsi v8 c256_i32_33
  let c0_i32_38 : BitVec 32 := 0#32
  let v70 : BitVec 1 := Scalar.cmpi .ne v69 c0_i32_38
  let v71 : BitVec 1 := Scalar.andi v68 v70
  let v57 : BitVec 32 := Scalar.divsi v8 c256_i32_33
  let c1_i32_39 : BitVec 32 := 1#32
  let v72 : BitVec 32 := Scalar.subi v57 c1_i32_39
  let v73 : BitVec 32 := Scalar.select v71 v72 v57
  let c512_i32_40 : BitVec 32 := 512#32
  let v74 : BitVec 32 := Scalar.addi v8 c512_i32_40
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c256_i32_41 : BitVec 32 := 256#32
  let c0_i32_44 : BitVec 32 := 0#32
  let v81 : BitVec 1 := Scalar.cmpi .sgt c256_i32_41 c0_i32_44
  let v82 : BitVec 32 := Scalar.extui v81
  let c0_i32_45 : BitVec 32 := 0#32
  let v83 : BitVec 1 := Scalar.cmpi .slt c256_i32_41 c0_i32_45
  let v84 : BitVec 32 := Scalar.extui v83
  let v85 : BitVec 32 := Scalar.subi v82 v84
  let v86 : BitVec 1 := Scalar.cmpi .ne v80 v85
  let v87 : BitVec 32 := Scalar.remsi v74 c256_i32_41
  let c0_i32_46 : BitVec 32 := 0#32
  let v88 : BitVec 1 := Scalar.cmpi .ne v87 c0_i32_46
  let v89 : BitVec 1 := Scalar.andi v86 v88
  let v75 : BitVec 32 := Scalar.divsi v74 c256_i32_41
  let c1_i32_47 : BitVec 32 := 1#32
  let v90 : BitVec 32 := Scalar.subi v75 c1_i32_47
  let v91 : BitVec 32 := Scalar.select v89 v90 v75
  let v92 : BitVec 32 := Scalar.subi v91 v73
  let c1_i32_48 : BitVec 32 := 1#32
  let v94 : BitVec 32 := Scalar.divsi v92 c1_i32_48
  let v95 : BitVec 32 := Scalar.muli v94 c1_i32_48
  let v96 : BitVec 32 := Scalar.addi v73 v95
  let c1_i32_50 : BitVec 32 := 1#32
  let arg22 : BitVec 32 := Scf.iv v96 c1_i32_50 k0_t9
  let c256_i32_269 : BitVec 32 := 256#32
  let v565 : BitVec 32 := Scalar.muli arg22 c256_i32_269
  let v566 : BitVec 32 := v565
  let v602 : Index := Scalar.indexCast v566
  ![0, v602.toNat]
@[reducible] def k0_t10_loop : Scf.Loop 32 :=
  let c0_i32_77 : BitVec 32 := 0#32
  let c64_i32_78 : BitVec 32 := 64#32
  let v159 : BitVec 32 := Scalar.addi c0_i32_77 c64_i32_78
  let c1_i32_79 : BitVec 32 := 1#32
  ⟨c0_i32_77, v159, c1_i32_79⟩
def k0_mult6 (k0_t10 : Fin k0_t10_loop.trips) : BitVec 32 :=
  let c0_i32_77 : BitVec 32 := 0#32
  let c1_i32_79 : BitVec 32 := 1#32
  let arg22 : BitVec 32 := Scf.iv c0_i32_77 c1_i32_79 k0_t10
  let c256_i32_269 : BitVec 32 := 256#32
  let v565 : BitVec 32 := Scalar.muli arg22 c256_i32_269
  v565
def k0_off26 (k0_t10 : Fin k0_t10_loop.trips) : Fin 3 → Nat :=
  let c0_270 : Index := 0#32
  let c0_i32_77 : BitVec 32 := 0#32
  let c1_i32_79 : BitVec 32 := 1#32
  let arg22 : BitVec 32 := Scf.iv c0_i32_77 c1_i32_79 k0_t10
  let c256_i32_269 : BitVec 32 := 256#32
  let v565 : BitVec 32 := Scalar.muli arg22 c256_i32_269
  let v566 : BitVec 32 := v565
  let v567 : Index := Scalar.indexCast v566
  let c0_271 : Index := 0#32
  ![0, v567.toNat, 0]
def k0_off27 (k0_t10 : Fin k0_t10_loop.trips) : Fin 2 → Nat :=
  let c0_i32_77 : BitVec 32 := 0#32
  let c1_i32_79 : BitVec 32 := 1#32
  let arg22 : BitVec 32 := Scf.iv c0_i32_77 c1_i32_79 k0_t10
  let c256_i32_269 : BitVec 32 := 256#32
  let v565 : BitVec 32 := Scalar.muli arg22 c256_i32_269
  let v566 : BitVec 32 := v565
  let v571 : Index := Scalar.indexCast v566
  let c0_273 : Index := 0#32
  ![v571.toNat, 0]
def k0_off28 (k0_t10 : Fin k0_t10_loop.trips) : Fin 2 → Nat :=
  let c0_278 : Index := 0#32
  let c0_i32_77 : BitVec 32 := 0#32
  let c1_i32_79 : BitVec 32 := 1#32
  let arg22 : BitVec 32 := Scf.iv c0_i32_77 c1_i32_79 k0_t10
  let c256_i32_269 : BitVec 32 := 256#32
  let v565 : BitVec 32 := Scalar.muli arg22 c256_i32_269
  let v566 : BitVec 32 := v565
  let v592 : Index := Scalar.indexCast v566
  ![0, v592.toNat]
@[reducible] def k0_t11_loop (i : grid0.Coords) : Scf.Loop 32 :=
  let c0_i32_95 : BitVec 32 := 0#32
  let arg2 : BitVec 32 := BitVec.ofNat 32 (i 2).val
  let c512_i32 : BitVec 32 := 512#32
  let v8 : BitVec 32 := Scalar.muli arg2 c512_i32
  let c0_i32_89 : BitVec 32 := 0#32
  let v172 : BitVec 1 := Scalar.cmpi .sgt v8 c0_i32_89
  let v173 : BitVec 32 := Scalar.extui v172
  let c0_i32_90 : BitVec 32 := 0#32
  let v174 : BitVec 1 := Scalar.cmpi .slt v8 c0_i32_90
  let v175 : BitVec 32 := Scalar.extui v174
  let v176 : BitVec 32 := Scalar.subi v173 v175
  let c256_i32_88 : BitVec 32 := 256#32
  let c0_i32_91 : BitVec 32 := 0#32
  let v177 : BitVec 1 := Scalar.cmpi .sgt c256_i32_88 c0_i32_91
  let v178 : BitVec 32 := Scalar.extui v177
  let c0_i32_92 : BitVec 32 := 0#32
  let v179 : BitVec 1 := Scalar.cmpi .slt c256_i32_88 c0_i32_92
  let v180 : BitVec 32 := Scalar.extui v179
  let v181 : BitVec 32 := Scalar.subi v178 v180
  let v182 : BitVec 1 := Scalar.cmpi .ne v176 v181
  let v183 : BitVec 32 := Scalar.remsi v8 c256_i32_88
  let c0_i32_93 : BitVec 32 := 0#32
  let v184 : BitVec 1 := Scalar.cmpi .ne v183 c0_i32_93
  let v185 : BitVec 1 := Scalar.andi v182 v184
  let v171 : BitVec 32 := Scalar.divsi v8 c256_i32_88
  let c1_i32_94 : BitVec 32 := 1#32
  let v186 : BitVec 32 := Scalar.subi v171 c1_i32_94
  let v187 : BitVec 32 := Scalar.select v185 v186 v171
  let v188 : BitVec 32 := Scalar.subi v187 c0_i32_95
  let c1_i32_96 : BitVec 32 := 1#32
  let v190 : BitVec 32 := Scalar.divsi v188 c1_i32_96
  let v191 : BitVec 32 := Scalar.muli v190 c1_i32_96
  let v192 : BitVec 32 := Scalar.addi c0_i32_95 v191
  let c1_i32_97 : BitVec 32 := 1#32
  ⟨c0_i32_95, v192, c1_i32_97⟩
def k0_mult7 (i : grid0.Coords) (k0_t11 : Fin (k0_t11_loop i).trips) : BitVec 32 :=
  let c0_i32_95 : BitVec 32 := 0#32
  let c1_i32_97 : BitVec 32 := 1#32
  let arg22 : BitVec 32 := Scf.iv c0_i32_95 c1_i32_97 k0_t11
  let c256_i32_269 : BitVec 32 := 256#32
  let v565 : BitVec 32 := Scalar.muli arg22 c256_i32_269
  v565
def k0_off29 (i : grid0.Coords) (k0_t11 : Fin (k0_t11_loop i).trips) : Fin 4 → Nat :=
  let c0_270 : Index := 0#32
  let c0_271 : Index := 0#32
  let c0_i32_95 : BitVec 32 := 0#32
  let c1_i32_97 : BitVec 32 := 1#32
  let arg22 : BitVec 32 := Scf.iv c0_i32_95 c1_i32_97 k0_t11
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off30 (i : grid0.Coords) (k0_t11 : Fin (k0_t11_loop i).trips) : Fin 2 → Nat :=
  let c0_i32_95 : BitVec 32 := 0#32
  let c1_i32_97 : BitVec 32 := 1#32
  let arg22 : BitVec 32 := Scf.iv c0_i32_95 c1_i32_97 k0_t11
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off31 (i : grid0.Coords) (k0_t11 : Fin (k0_t11_loop i).trips) : Fin 2 → Nat :=
  let c0_279 : Index := 0#32
  let c0_i32_95 : BitVec 32 := 0#32
  let c1_i32_97 : BitVec 32 := 1#32
  let arg22 : BitVec 32 := Scf.iv c0_i32_95 c1_i32_97 k0_t11
  let c256_i32_269 : BitVec 32 := 256#32
  let v565 : BitVec 32 := Scalar.muli arg22 c256_i32_269
  let v566 : BitVec 32 := v565
  let v592 : Index := Scalar.indexCast v566
  ![0, v592.toNat]
@[reducible] def k0_t12_loop (i : grid0.Coords) : Scf.Loop 32 :=
  let c0_i32_95 : BitVec 32 := 0#32
  let arg2 : BitVec 32 := BitVec.ofNat 32 (i 2).val
  let c512_i32 : BitVec 32 := 512#32
  let v8 : BitVec 32 := Scalar.muli arg2 c512_i32
  let c0_i32_89 : BitVec 32 := 0#32
  let v172 : BitVec 1 := Scalar.cmpi .sgt v8 c0_i32_89
  let v173 : BitVec 32 := Scalar.extui v172
  let c0_i32_90 : BitVec 32 := 0#32
  let v174 : BitVec 1 := Scalar.cmpi .slt v8 c0_i32_90
  let v175 : BitVec 32 := Scalar.extui v174
  let v176 : BitVec 32 := Scalar.subi v173 v175
  let c256_i32_88 : BitVec 32 := 256#32
  let c0_i32_91 : BitVec 32 := 0#32
  let v177 : BitVec 1 := Scalar.cmpi .sgt c256_i32_88 c0_i32_91
  let v178 : BitVec 32 := Scalar.extui v177
  let c0_i32_92 : BitVec 32 := 0#32
  let v179 : BitVec 1 := Scalar.cmpi .slt c256_i32_88 c0_i32_92
  let v180 : BitVec 32 := Scalar.extui v179
  let v181 : BitVec 32 := Scalar.subi v178 v180
  let v182 : BitVec 1 := Scalar.cmpi .ne v176 v181
  let v183 : BitVec 32 := Scalar.remsi v8 c256_i32_88
  let c0_i32_93 : BitVec 32 := 0#32
  let v184 : BitVec 1 := Scalar.cmpi .ne v183 c0_i32_93
  let v185 : BitVec 1 := Scalar.andi v182 v184
  let v171 : BitVec 32 := Scalar.divsi v8 c256_i32_88
  let c1_i32_94 : BitVec 32 := 1#32
  let v186 : BitVec 32 := Scalar.subi v171 c1_i32_94
  let v187 : BitVec 32 := Scalar.select v185 v186 v171
  let v188 : BitVec 32 := Scalar.subi v187 c0_i32_95
  let c1_i32_96 : BitVec 32 := 1#32
  let v190 : BitVec 32 := Scalar.divsi v188 c1_i32_96
  let v191 : BitVec 32 := Scalar.muli v190 c1_i32_96
  let v192 : BitVec 32 := Scalar.addi c0_i32_95 v191
  let v189 : BitVec 32 := Scalar.addi c0_i32_95 v188
  let c1_i32_98 : BitVec 32 := 1#32
  ⟨v192, v189, c1_i32_98⟩
def k0_mult8 (i : grid0.Coords) (k0_t12 : Fin (k0_t12_loop i).trips) : BitVec 32 :=
  let c0_i32_95 : BitVec 32 := 0#32
  let arg2 : BitVec 32 := BitVec.ofNat 32 (i 2).val
  let c512_i32 : BitVec 32 := 512#32
  let v8 : BitVec 32 := Scalar.muli arg2 c512_i32
  let c0_i32_89 : BitVec 32 := 0#32
  let v172 : BitVec 1 := Scalar.cmpi .sgt v8 c0_i32_89
  let v173 : BitVec 32 := Scalar.extui v172
  let c0_i32_90 : BitVec 32 := 0#32
  let v174 : BitVec 1 := Scalar.cmpi .slt v8 c0_i32_90
  let v175 : BitVec 32 := Scalar.extui v174
  let v176 : BitVec 32 := Scalar.subi v173 v175
  let c256_i32_88 : BitVec 32 := 256#32
  let c0_i32_91 : BitVec 32 := 0#32
  let v177 : BitVec 1 := Scalar.cmpi .sgt c256_i32_88 c0_i32_91
  let v178 : BitVec 32 := Scalar.extui v177
  let c0_i32_92 : BitVec 32 := 0#32
  let v179 : BitVec 1 := Scalar.cmpi .slt c256_i32_88 c0_i32_92
  let v180 : BitVec 32 := Scalar.extui v179
  let v181 : BitVec 32 := Scalar.subi v178 v180
  let v182 : BitVec 1 := Scalar.cmpi .ne v176 v181
  let v183 : BitVec 32 := Scalar.remsi v8 c256_i32_88
  let c0_i32_93 : BitVec 32 := 0#32
  let v184 : BitVec 1 := Scalar.cmpi .ne v183 c0_i32_93
  let v185 : BitVec 1 := Scalar.andi v182 v184
  let v171 : BitVec 32 := Scalar.divsi v8 c256_i32_88
  let c1_i32_94 : BitVec 32 := 1#32
  let v186 : BitVec 32 := Scalar.subi v171 c1_i32_94
  let v187 : BitVec 32 := Scalar.select v185 v186 v171
  let v188 : BitVec 32 := Scalar.subi v187 c0_i32_95
  let c1_i32_96 : BitVec 32 := 1#32
  let v190 : BitVec 32 := Scalar.divsi v188 c1_i32_96
  let v191 : BitVec 32 := Scalar.muli v190 c1_i32_96
  let v192 : BitVec 32 := Scalar.addi c0_i32_95 v191
  let c1_i32_98 : BitVec 32 := 1#32
  let arg22 : BitVec 32 := Scf.iv v192 c1_i32_98 k0_t12
  let c256_i32_269 : BitVec 32 := 256#32
  let v565 : BitVec 32 := Scalar.muli arg22 c256_i32_269
  v565
def k0_off32 (i : grid0.Coords) (k0_t12 : Fin (k0_t12_loop i).trips) : Fin 4 → Nat :=
  let c0_270 : Index := 0#32
  let c0_271 : Index := 0#32
  let c0_i32_95 : BitVec 32 := 0#32
  let arg2 : BitVec 32 := BitVec.ofNat 32 (i 2).val
  let c512_i32 : BitVec 32 := 512#32
  let v8 : BitVec 32 := Scalar.muli arg2 c512_i32
  let c0_i32_89 : BitVec 32 := 0#32
  let v172 : BitVec 1 := Scalar.cmpi .sgt v8 c0_i32_89
  let v173 : BitVec 32 := Scalar.extui v172
  let c0_i32_90 : BitVec 32 := 0#32
  let v174 : BitVec 1 := Scalar.cmpi .slt v8 c0_i32_90
  let v175 : BitVec 32 := Scalar.extui v174
  let v176 : BitVec 32 := Scalar.subi v173 v175
  let c256_i32_88 : BitVec 32 := 256#32
  let c0_i32_91 : BitVec 32 := 0#32
  let v177 : BitVec 1 := Scalar.cmpi .sgt c256_i32_88 c0_i32_91
  let v178 : BitVec 32 := Scalar.extui v177
  let c0_i32_92 : BitVec 32 := 0#32
  let v179 : BitVec 1 := Scalar.cmpi .slt c256_i32_88 c0_i32_92
  let v180 : BitVec 32 := Scalar.extui v179
  let v181 : BitVec 32 := Scalar.subi v178 v180
  let v182 : BitVec 1 := Scalar.cmpi .ne v176 v181
  let v183 : BitVec 32 := Scalar.remsi v8 c256_i32_88
  let c0_i32_93 : BitVec 32 := 0#32
  let v184 : BitVec 1 := Scalar.cmpi .ne v183 c0_i32_93
  let v185 : BitVec 1 := Scalar.andi v182 v184
  let v171 : BitVec 32 := Scalar.divsi v8 c256_i32_88
  let c1_i32_94 : BitVec 32 := 1#32
  let v186 : BitVec 32 := Scalar.subi v171 c1_i32_94
  let v187 : BitVec 32 := Scalar.select v185 v186 v171
  let v188 : BitVec 32 := Scalar.subi v187 c0_i32_95
  let c1_i32_96 : BitVec 32 := 1#32
  let v190 : BitVec 32 := Scalar.divsi v188 c1_i32_96
  let v191 : BitVec 32 := Scalar.muli v190 c1_i32_96
  let v192 : BitVec 32 := Scalar.addi c0_i32_95 v191
  let c1_i32_98 : BitVec 32 := 1#32
  let arg22 : BitVec 32 := Scf.iv v192 c1_i32_98 k0_t12
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off33 (i : grid0.Coords) (k0_t12 : Fin (k0_t12_loop i).trips) : Fin 2 → Nat :=
  let c0_i32_95 : BitVec 32 := 0#32
  let arg2 : BitVec 32 := BitVec.ofNat 32 (i 2).val
  let c512_i32 : BitVec 32 := 512#32
  let v8 : BitVec 32 := Scalar.muli arg2 c512_i32
  let c0_i32_89 : BitVec 32 := 0#32
  let v172 : BitVec 1 := Scalar.cmpi .sgt v8 c0_i32_89
  let v173 : BitVec 32 := Scalar.extui v172
  let c0_i32_90 : BitVec 32 := 0#32
  let v174 : BitVec 1 := Scalar.cmpi .slt v8 c0_i32_90
  let v175 : BitVec 32 := Scalar.extui v174
  let v176 : BitVec 32 := Scalar.subi v173 v175
  let c256_i32_88 : BitVec 32 := 256#32
  let c0_i32_91 : BitVec 32 := 0#32
  let v177 : BitVec 1 := Scalar.cmpi .sgt c256_i32_88 c0_i32_91
  let v178 : BitVec 32 := Scalar.extui v177
  let c0_i32_92 : BitVec 32 := 0#32
  let v179 : BitVec 1 := Scalar.cmpi .slt c256_i32_88 c0_i32_92
  let v180 : BitVec 32 := Scalar.extui v179
  let v181 : BitVec 32 := Scalar.subi v178 v180
  let v182 : BitVec 1 := Scalar.cmpi .ne v176 v181
  let v183 : BitVec 32 := Scalar.remsi v8 c256_i32_88
  let c0_i32_93 : BitVec 32 := 0#32
  let v184 : BitVec 1 := Scalar.cmpi .ne v183 c0_i32_93
  let v185 : BitVec 1 := Scalar.andi v182 v184
  let v171 : BitVec 32 := Scalar.divsi v8 c256_i32_88
  let c1_i32_94 : BitVec 32 := 1#32
  let v186 : BitVec 32 := Scalar.subi v171 c1_i32_94
  let v187 : BitVec 32 := Scalar.select v185 v186 v171
  let v188 : BitVec 32 := Scalar.subi v187 c0_i32_95
  let c1_i32_96 : BitVec 32 := 1#32
  let v190 : BitVec 32 := Scalar.divsi v188 c1_i32_96
  let v191 : BitVec 32 := Scalar.muli v190 c1_i32_96
  let v192 : BitVec 32 := Scalar.addi c0_i32_95 v191
  let c1_i32_98 : BitVec 32 := 1#32
  let arg22 : BitVec 32 := Scf.iv v192 c1_i32_98 k0_t12
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off34 (i : grid0.Coords) (k0_t12 : Fin (k0_t12_loop i).trips) : Fin 2 → Nat :=
  let c0_279 : Index := 0#32
  let c0_i32_95 : BitVec 32 := 0#32
  let arg2 : BitVec 32 := BitVec.ofNat 32 (i 2).val
  let c512_i32 : BitVec 32 := 512#32
  let v8 : BitVec 32 := Scalar.muli arg2 c512_i32
  let c0_i32_89 : BitVec 32 := 0#32
  let v172 : BitVec 1 := Scalar.cmpi .sgt v8 c0_i32_89
  let v173 : BitVec 32 := Scalar.extui v172
  let c0_i32_90 : BitVec 32 := 0#32
  let v174 : BitVec 1 := Scalar.cmpi .slt v8 c0_i32_90
  let v175 : BitVec 32 := Scalar.extui v174
  let v176 : BitVec 32 := Scalar.subi v173 v175
  let c256_i32_88 : BitVec 32 := 256#32
  let c0_i32_91 : BitVec 32 := 0#32
  let v177 : BitVec 1 := Scalar.cmpi .sgt c256_i32_88 c0_i32_91
  let v178 : BitVec 32 := Scalar.extui v177
  let c0_i32_92 : BitVec 32 := 0#32
  let v179 : BitVec 1 := Scalar.cmpi .slt c256_i32_88 c0_i32_92
  let v180 : BitVec 32 := Scalar.extui v179
  let v181 : BitVec 32 := Scalar.subi v178 v180
  let v182 : BitVec 1 := Scalar.cmpi .ne v176 v181
  let v183 : BitVec 32 := Scalar.remsi v8 c256_i32_88
  let c0_i32_93 : BitVec 32 := 0#32
  let v184 : BitVec 1 := Scalar.cmpi .ne v183 c0_i32_93
  let v185 : BitVec 1 := Scalar.andi v182 v184
  let v171 : BitVec 32 := Scalar.divsi v8 c256_i32_88
  let c1_i32_94 : BitVec 32 := 1#32
  let v186 : BitVec 32 := Scalar.subi v171 c1_i32_94
  let v187 : BitVec 32 := Scalar.select v185 v186 v171
  let v188 : BitVec 32 := Scalar.subi v187 c0_i32_95
  let c1_i32_96 : BitVec 32 := 1#32
  let v190 : BitVec 32 := Scalar.divsi v188 c1_i32_96
  let v191 : BitVec 32 := Scalar.muli v190 c1_i32_96
  let v192 : BitVec 32 := Scalar.addi c0_i32_95 v191
  let c1_i32_98 : BitVec 32 := 1#32
  let arg22 : BitVec 32 := Scf.iv v192 c1_i32_98 k0_t12
  let c256_i32_269 : BitVec 32 := 256#32
  let v565 : BitVec 32 := Scalar.muli arg22 c256_i32_269
  let v566 : BitVec 32 := v565
  let v592 : Index := Scalar.indexCast v566
  ![0, v592.toNat]
@[reducible] def k0_t13_loop (i : grid0.Coords) : Scf.Loop 32 :=
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c512_i32_106 : BitVec 32 := 512#32
  let v212 : BitVec 32 := Scalar.addi v8 c512_i32_106
  let c0_i32_108 : BitVec 32 := 0#32
  let v214 : BitVec 1 := Scalar.cmpi .sgt v212 c0_i32_108
  let v215 : BitVec 32 := Scalar.extui v214
  let c0_i32_109 : BitVec 32 := 0#32
  let v216 : BitVec 1 := Scalar.cmpi .slt v212 c0_i32_109
  let v217 : BitVec 32 := Scalar.extui v216
  let v218 : BitVec 32 := Scalar.subi v215 v217
  let c256_i32_107 : BitVec 32 := 256#32
  let c0_i32_110 : BitVec 32 := 0#32
  let v219 : BitVec 1 := Scalar.cmpi .sgt c256_i32_107 c0_i32_110
  let v220 : BitVec 32 := Scalar.extui v219
  let c0_i32_111 : BitVec 32 := 0#32
  let v221 : BitVec 1 := Scalar.cmpi .slt c256_i32_107 c0_i32_111
  let v222 : BitVec 32 := Scalar.extui v221
  let v223 : BitVec 32 := Scalar.subi v220 v222
  let v224 : BitVec 1 := Scalar.cmpi .ne v218 v223
  let v225 : BitVec 32 := Scalar.remsi v212 c256_i32_107
  let c0_i32_112 : BitVec 32 := 0#32
  let v226 : BitVec 1 := Scalar.cmpi .ne v225 c0_i32_112
  let v227 : BitVec 1 := Scalar.andi v224 v226
  let v213 : BitVec 32 := Scalar.divsi v212 c256_i32_107
  let c1_i32_113 : BitVec 32 := 1#32
  let v228 : BitVec 32 := Scalar.subi v213 c1_i32_113
  let v229 : BitVec 32 := Scalar.select v227 v228 v213
  let v230 : BitVec 32 := Scalar.subi v229 v211
  let c1_i32_114 : BitVec 32 := 1#32
  let v232 : BitVec 32 := Scalar.divsi v230 c1_i32_114
  let v233 : BitVec 32 := Scalar.muli v232 c1_i32_114
  let v234 : BitVec 32 := Scalar.addi v211 v233
  let c1_i32_115 : BitVec 32 := 1#32
  ⟨v211, v234, c1_i32_115⟩
def k0_mult9 (i : grid0.Coords) (k0_t13 : Fin (k0_t13_loop i).trips) : BitVec 32 :=
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c1_i32_115 : BitVec 32 := 1#32
  let arg22 : BitVec 32 := Scf.iv v211 c1_i32_115 k0_t13
  let c256_i32_269 : BitVec 32 := 256#32
  let v565 : BitVec 32 := Scalar.muli arg22 c256_i32_269
  v565
def k0_off35 (i : grid0.Coords) (k0_t13 : Fin (k0_t13_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c1_i32_115 : BitVec 32 := 1#32
  let arg22 : BitVec 32 := Scf.iv v211 c1_i32_115 k0_t13
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off36 (i : grid0.Coords) (k0_t13 : Fin (k0_t13_loop i).trips) : Fin 2 → Nat :=
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c1_i32_115 : BitVec 32 := 1#32
  let arg22 : BitVec 32 := Scf.iv v211 c1_i32_115 k0_t13
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off37 (i : grid0.Coords) (k0_t13 : Fin (k0_t13_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c1_i32_115 : BitVec 32 := 1#32
  let arg22 : BitVec 32 := Scf.iv v211 c1_i32_115 k0_t13
  let c256_i32_269 : BitVec 32 := 256#32
  let v565 : BitVec 32 := Scalar.muli arg22 c256_i32_269
  let v566 : BitVec 32 := v565
  let v602 : Index := Scalar.indexCast v566
  ![0, v602.toNat]
@[reducible] def k0_t14_loop (i : grid0.Coords) : Scf.Loop 32 :=
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c512_i32_106 : BitVec 32 := 512#32
  let v212 : BitVec 32 := Scalar.addi v8 c512_i32_106
  let c0_i32_108 : BitVec 32 := 0#32
  let v214 : BitVec 1 := Scalar.cmpi .sgt v212 c0_i32_108
  let v215 : BitVec 32 := Scalar.extui v214
  let c0_i32_109 : BitVec 32 := 0#32
  let v216 : BitVec 1 := Scalar.cmpi .slt v212 c0_i32_109
  let v217 : BitVec 32 := Scalar.extui v216
  let v218 : BitVec 32 := Scalar.subi v215 v217
  let c256_i32_107 : BitVec 32 := 256#32
  let c0_i32_110 : BitVec 32 := 0#32
  let v219 : BitVec 1 := Scalar.cmpi .sgt c256_i32_107 c0_i32_110
  let v220 : BitVec 32 := Scalar.extui v219
  let c0_i32_111 : BitVec 32 := 0#32
  let v221 : BitVec 1 := Scalar.cmpi .slt c256_i32_107 c0_i32_111
  let v222 : BitVec 32 := Scalar.extui v221
  let v223 : BitVec 32 := Scalar.subi v220 v222
  let v224 : BitVec 1 := Scalar.cmpi .ne v218 v223
  let v225 : BitVec 32 := Scalar.remsi v212 c256_i32_107
  let c0_i32_112 : BitVec 32 := 0#32
  let v226 : BitVec 1 := Scalar.cmpi .ne v225 c0_i32_112
  let v227 : BitVec 1 := Scalar.andi v224 v226
  let v213 : BitVec 32 := Scalar.divsi v212 c256_i32_107
  let c1_i32_113 : BitVec 32 := 1#32
  let v228 : BitVec 32 := Scalar.subi v213 c1_i32_113
  let v229 : BitVec 32 := Scalar.select v227 v228 v213
  let v230 : BitVec 32 := Scalar.subi v229 v211
  let c1_i32_114 : BitVec 32 := 1#32
  let v232 : BitVec 32 := Scalar.divsi v230 c1_i32_114
  let v233 : BitVec 32 := Scalar.muli v232 c1_i32_114
  let v234 : BitVec 32 := Scalar.addi v211 v233
  let v231 : BitVec 32 := Scalar.addi v211 v230
  let c1_i32_116 : BitVec 32 := 1#32
  ⟨v234, v231, c1_i32_116⟩
def k0_mult10 (i : grid0.Coords) (k0_t14 : Fin (k0_t14_loop i).trips) : BitVec 32 :=
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c512_i32_106 : BitVec 32 := 512#32
  let v212 : BitVec 32 := Scalar.addi v8 c512_i32_106
  let c0_i32_108 : BitVec 32 := 0#32
  let v214 : BitVec 1 := Scalar.cmpi .sgt v212 c0_i32_108
  let v215 : BitVec 32 := Scalar.extui v214
  let c0_i32_109 : BitVec 32 := 0#32
  let v216 : BitVec 1 := Scalar.cmpi .slt v212 c0_i32_109
  let v217 : BitVec 32 := Scalar.extui v216
  let v218 : BitVec 32 := Scalar.subi v215 v217
  let c256_i32_107 : BitVec 32 := 256#32
  let c0_i32_110 : BitVec 32 := 0#32
  let v219 : BitVec 1 := Scalar.cmpi .sgt c256_i32_107 c0_i32_110
  let v220 : BitVec 32 := Scalar.extui v219
  let c0_i32_111 : BitVec 32 := 0#32
  let v221 : BitVec 1 := Scalar.cmpi .slt c256_i32_107 c0_i32_111
  let v222 : BitVec 32 := Scalar.extui v221
  let v223 : BitVec 32 := Scalar.subi v220 v222
  let v224 : BitVec 1 := Scalar.cmpi .ne v218 v223
  let v225 : BitVec 32 := Scalar.remsi v212 c256_i32_107
  let c0_i32_112 : BitVec 32 := 0#32
  let v226 : BitVec 1 := Scalar.cmpi .ne v225 c0_i32_112
  let v227 : BitVec 1 := Scalar.andi v224 v226
  let v213 : BitVec 32 := Scalar.divsi v212 c256_i32_107
  let c1_i32_113 : BitVec 32 := 1#32
  let v228 : BitVec 32 := Scalar.subi v213 c1_i32_113
  let v229 : BitVec 32 := Scalar.select v227 v228 v213
  let v230 : BitVec 32 := Scalar.subi v229 v211
  let c1_i32_114 : BitVec 32 := 1#32
  let v232 : BitVec 32 := Scalar.divsi v230 c1_i32_114
  let v233 : BitVec 32 := Scalar.muli v232 c1_i32_114
  let v234 : BitVec 32 := Scalar.addi v211 v233
  let c1_i32_116 : BitVec 32 := 1#32
  let arg22 : BitVec 32 := Scf.iv v234 c1_i32_116 k0_t14
  let c256_i32_269 : BitVec 32 := 256#32
  let v565 : BitVec 32 := Scalar.muli arg22 c256_i32_269
  v565
def k0_off38 (i : grid0.Coords) (k0_t14 : Fin (k0_t14_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c512_i32_106 : BitVec 32 := 512#32
  let v212 : BitVec 32 := Scalar.addi v8 c512_i32_106
  let c0_i32_108 : BitVec 32 := 0#32
  let v214 : BitVec 1 := Scalar.cmpi .sgt v212 c0_i32_108
  let v215 : BitVec 32 := Scalar.extui v214
  let c0_i32_109 : BitVec 32 := 0#32
  let v216 : BitVec 1 := Scalar.cmpi .slt v212 c0_i32_109
  let v217 : BitVec 32 := Scalar.extui v216
  let v218 : BitVec 32 := Scalar.subi v215 v217
  let c256_i32_107 : BitVec 32 := 256#32
  let c0_i32_110 : BitVec 32 := 0#32
  let v219 : BitVec 1 := Scalar.cmpi .sgt c256_i32_107 c0_i32_110
  let v220 : BitVec 32 := Scalar.extui v219
  let c0_i32_111 : BitVec 32 := 0#32
  let v221 : BitVec 1 := Scalar.cmpi .slt c256_i32_107 c0_i32_111
  let v222 : BitVec 32 := Scalar.extui v221
  let v223 : BitVec 32 := Scalar.subi v220 v222
  let v224 : BitVec 1 := Scalar.cmpi .ne v218 v223
  let v225 : BitVec 32 := Scalar.remsi v212 c256_i32_107
  let c0_i32_112 : BitVec 32 := 0#32
  let v226 : BitVec 1 := Scalar.cmpi .ne v225 c0_i32_112
  let v227 : BitVec 1 := Scalar.andi v224 v226
  let v213 : BitVec 32 := Scalar.divsi v212 c256_i32_107
  let c1_i32_113 : BitVec 32 := 1#32
  let v228 : BitVec 32 := Scalar.subi v213 c1_i32_113
  let v229 : BitVec 32 := Scalar.select v227 v228 v213
  let v230 : BitVec 32 := Scalar.subi v229 v211
  let c1_i32_114 : BitVec 32 := 1#32
  let v232 : BitVec 32 := Scalar.divsi v230 c1_i32_114
  let v233 : BitVec 32 := Scalar.muli v232 c1_i32_114
  let v234 : BitVec 32 := Scalar.addi v211 v233
  let c1_i32_116 : BitVec 32 := 1#32
  let arg22 : BitVec 32 := Scf.iv v234 c1_i32_116 k0_t14
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off39 (i : grid0.Coords) (k0_t14 : Fin (k0_t14_loop i).trips) : Fin 2 → Nat :=
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c512_i32_106 : BitVec 32 := 512#32
  let v212 : BitVec 32 := Scalar.addi v8 c512_i32_106
  let c0_i32_108 : BitVec 32 := 0#32
  let v214 : BitVec 1 := Scalar.cmpi .sgt v212 c0_i32_108
  let v215 : BitVec 32 := Scalar.extui v214
  let c0_i32_109 : BitVec 32 := 0#32
  let v216 : BitVec 1 := Scalar.cmpi .slt v212 c0_i32_109
  let v217 : BitVec 32 := Scalar.extui v216
  let v218 : BitVec 32 := Scalar.subi v215 v217
  let c256_i32_107 : BitVec 32 := 256#32
  let c0_i32_110 : BitVec 32 := 0#32
  let v219 : BitVec 1 := Scalar.cmpi .sgt c256_i32_107 c0_i32_110
  let v220 : BitVec 32 := Scalar.extui v219
  let c0_i32_111 : BitVec 32 := 0#32
  let v221 : BitVec 1 := Scalar.cmpi .slt c256_i32_107 c0_i32_111
  let v222 : BitVec 32 := Scalar.extui v221
  let v223 : BitVec 32 := Scalar.subi v220 v222
  let v224 : BitVec 1 := Scalar.cmpi .ne v218 v223
  let v225 : BitVec 32 := Scalar.remsi v212 c256_i32_107
  let c0_i32_112 : BitVec 32 := 0#32
  let v226 : BitVec 1 := Scalar.cmpi .ne v225 c0_i32_112
  let v227 : BitVec 1 := Scalar.andi v224 v226
  let v213 : BitVec 32 := Scalar.divsi v212 c256_i32_107
  let c1_i32_113 : BitVec 32 := 1#32
  let v228 : BitVec 32 := Scalar.subi v213 c1_i32_113
  let v229 : BitVec 32 := Scalar.select v227 v228 v213
  let v230 : BitVec 32 := Scalar.subi v229 v211
  let c1_i32_114 : BitVec 32 := 1#32
  let v232 : BitVec 32 := Scalar.divsi v230 c1_i32_114
  let v233 : BitVec 32 := Scalar.muli v232 c1_i32_114
  let v234 : BitVec 32 := Scalar.addi v211 v233
  let c1_i32_116 : BitVec 32 := 1#32
  let arg22 : BitVec 32 := Scf.iv v234 c1_i32_116 k0_t14
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off40 (i : grid0.Coords) (k0_t14 : Fin (k0_t14_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_100 : BitVec 32 := 0#32
  let v196 : BitVec 1 := Scalar.cmpi .sgt v8 c0_i32_100
  let v197 : BitVec 32 := Scalar.extui v196
  let c0_i32_101 : BitVec 32 := 0#32
  let v198 : BitVec 1 := Scalar.cmpi .slt v8 c0_i32_101
  let v199 : BitVec 32 := Scalar.extui v198
  let v200 : BitVec 32 := Scalar.subi v197 v199
  let c256_i32_99 : BitVec 32 := 256#32
  let c0_i32_102 : BitVec 32 := 0#32
  let v201 : BitVec 1 := Scalar.cmpi .sgt c256_i32_99 c0_i32_102
  let v202 : BitVec 32 := Scalar.extui v201
  let c0_i32_103 : BitVec 32 := 0#32
  let v203 : BitVec 1 := Scalar.cmpi .slt c256_i32_99 c0_i32_103
  let v204 : BitVec 32 := Scalar.extui v203
  let v205 : BitVec 32 := Scalar.subi v202 v204
  let v206 : BitVec 1 := Scalar.cmpi .ne v200 v205
  let v207 : BitVec 32 := Scalar.remsi v8 c256_i32_99
  let c0_i32_104 : BitVec 32 := 0#32
  let v208 : BitVec 1 := Scalar.cmpi .ne v207 c0_i32_104
  let v209 : BitVec 1 := Scalar.andi v206 v208
  let v195 : BitVec 32 := Scalar.divsi v8 c256_i32_99
  let c1_i32_105 : BitVec 32 := 1#32
  let v210 : BitVec 32 := Scalar.subi v195 c1_i32_105
  let v211 : BitVec 32 := Scalar.select v209 v210 v195
  let c512_i32_106 : BitVec 32 := 512#32
  let v212 : BitVec 32 := Scalar.addi v8 c512_i32_106
  let c0_i32_108 : BitVec 32 := 0#32
  let v214 : BitVec 1 := Scalar.cmpi .sgt v212 c0_i32_108
  let v215 : BitVec 32 := Scalar.extui v214
  let c0_i32_109 : BitVec 32 := 0#32
  let v216 : BitVec 1 := Scalar.cmpi .slt v212 c0_i32_109
  let v217 : BitVec 32 := Scalar.extui v216
  let v218 : BitVec 32 := Scalar.subi v215 v217
  let c256_i32_107 : BitVec 32 := 256#32
  let c0_i32_110 : BitVec 32 := 0#32
  let v219 : BitVec 1 := Scalar.cmpi .sgt c256_i32_107 c0_i32_110
  let v220 : BitVec 32 := Scalar.extui v219
  let c0_i32_111 : BitVec 32 := 0#32
  let v221 : BitVec 1 := Scalar.cmpi .slt c256_i32_107 c0_i32_111
  let v222 : BitVec 32 := Scalar.extui v221
  let v223 : BitVec 32 := Scalar.subi v220 v222
  let v224 : BitVec 1 := Scalar.cmpi .ne v218 v223
  let v225 : BitVec 32 := Scalar.remsi v212 c256_i32_107
  let c0_i32_112 : BitVec 32 := 0#32
  let v226 : BitVec 1 := Scalar.cmpi .ne v225 c0_i32_112
  let v227 : BitVec 1 := Scalar.andi v224 v226
  let v213 : BitVec 32 := Scalar.divsi v212 c256_i32_107
  let c1_i32_113 : BitVec 32 := 1#32
  let v228 : BitVec 32 := Scalar.subi v213 c1_i32_113
  let v229 : BitVec 32 := Scalar.select v227 v228 v213
  let v230 : BitVec 32 := Scalar.subi v229 v211
  let c1_i32_114 : BitVec 32 := 1#32
  let v232 : BitVec 32 := Scalar.divsi v230 c1_i32_114
  let v233 : BitVec 32 := Scalar.muli v232 c1_i32_114
  let v234 : BitVec 32 := Scalar.addi v211 v233
  let c1_i32_116 : BitVec 32 := 1#32
  let arg22 : BitVec 32 := Scf.iv v234 c1_i32_116 k0_t14
  let c256_i32_269 : BitVec 32 := 256#32
  let v565 : BitVec 32 := Scalar.muli arg22 c256_i32_269
  let v566 : BitVec 32 := v565
  let v602 : Index := Scalar.indexCast v566
  ![0, v602.toNat]
@[reducible] def k0_t15_loop : Scf.Loop 32 :=
  let c0_i32_143 : BitVec 32 := 0#32
  let c64_i32_144 : BitVec 32 := 64#32
  let v297 : BitVec 32 := Scalar.addi c0_i32_143 c64_i32_144
  let c1_i32_145 : BitVec 32 := 1#32
  ⟨c0_i32_143, v297, c1_i32_145⟩
def k0_mult11 (k0_t15 : Fin k0_t15_loop.trips) : BitVec 32 :=
  let c0_i32_143 : BitVec 32 := 0#32
  let c1_i32_145 : BitVec 32 := 1#32
  let arg22 : BitVec 32 := Scf.iv c0_i32_143 c1_i32_145 k0_t15
  let c256_i32_269 : BitVec 32 := 256#32
  let v565 : BitVec 32 := Scalar.muli arg22 c256_i32_269
  v565
def k0_off41 (k0_t15 : Fin k0_t15_loop.trips) : Fin 3 → Nat :=
  let c0_270 : Index := 0#32
  let c0_i32_143 : BitVec 32 := 0#32
  let c1_i32_145 : BitVec 32 := 1#32
  let arg22 : BitVec 32 := Scf.iv c0_i32_143 c1_i32_145 k0_t15
  let c256_i32_269 : BitVec 32 := 256#32
  let v565 : BitVec 32 := Scalar.muli arg22 c256_i32_269
  let v566 : BitVec 32 := v565
  let v567 : Index := Scalar.indexCast v566
  let c0_271 : Index := 0#32
  ![0, v567.toNat, 0]
def k0_off42 (k0_t15 : Fin k0_t15_loop.trips) : Fin 2 → Nat :=
  let c0_i32_143 : BitVec 32 := 0#32
  let c1_i32_145 : BitVec 32 := 1#32
  let arg22 : BitVec 32 := Scf.iv c0_i32_143 c1_i32_145 k0_t15
  let c256_i32_269 : BitVec 32 := 256#32
  let v565 : BitVec 32 := Scalar.muli arg22 c256_i32_269
  let v566 : BitVec 32 := v565
  let v571 : Index := Scalar.indexCast v566
  let c0_273 : Index := 0#32
  ![v571.toNat, 0]
def k0_off43 (k0_t15 : Fin k0_t15_loop.trips) : Fin 2 → Nat :=
  let c0_278 : Index := 0#32
  let c0_i32_143 : BitVec 32 := 0#32
  let c1_i32_145 : BitVec 32 := 1#32
  let arg22 : BitVec 32 := Scf.iv c0_i32_143 c1_i32_145 k0_t15
  let c256_i32_269 : BitVec 32 := 256#32
  let v565 : BitVec 32 := Scalar.muli arg22 c256_i32_269
  let v566 : BitVec 32 := v565
  let v592 : Index := Scalar.indexCast v566
  ![0, v592.toNat]
@[reducible] def k0_t16_loop (i : grid0.Coords) : Scf.Loop 32 :=
  let c0_i32_161 : BitVec 32 := 0#32
  let arg2 : BitVec 32 := BitVec.ofNat 32 (i 2).val
  let c512_i32 : BitVec 32 := 512#32
  let v8 : BitVec 32 := Scalar.muli arg2 c512_i32
  let c0_i32_155 : BitVec 32 := 0#32
  let v310 : BitVec 1 := Scalar.cmpi .sgt v8 c0_i32_155
  let v311 : BitVec 32 := Scalar.extui v310
  let c0_i32_156 : BitVec 32 := 0#32
  let v312 : BitVec 1 := Scalar.cmpi .slt v8 c0_i32_156
  let v313 : BitVec 32 := Scalar.extui v312
  let v314 : BitVec 32 := Scalar.subi v311 v313
  let c256_i32_154 : BitVec 32 := 256#32
  let c0_i32_157 : BitVec 32 := 0#32
  let v315 : BitVec 1 := Scalar.cmpi .sgt c256_i32_154 c0_i32_157
  let v316 : BitVec 32 := Scalar.extui v315
  let c0_i32_158 : BitVec 32 := 0#32
  let v317 : BitVec 1 := Scalar.cmpi .slt c256_i32_154 c0_i32_158
  let v318 : BitVec 32 := Scalar.extui v317
  let v319 : BitVec 32 := Scalar.subi v316 v318
  let v320 : BitVec 1 := Scalar.cmpi .ne v314 v319
  let v321 : BitVec 32 := Scalar.remsi v8 c256_i32_154
  let c0_i32_159 : BitVec 32 := 0#32
  let v322 : BitVec 1 := Scalar.cmpi .ne v321 c0_i32_159
  let v323 : BitVec 1 := Scalar.andi v320 v322
  let v309 : BitVec 32 := Scalar.divsi v8 c256_i32_154
  let c1_i32_160 : BitVec 32 := 1#32
  let v324 : BitVec 32 := Scalar.subi v309 c1_i32_160
  let v325 : BitVec 32 := Scalar.select v323 v324 v309
  let v326 : BitVec 32 := Scalar.subi v325 c0_i32_161
  let c1_i32_162 : BitVec 32 := 1#32
  let v328 : BitVec 32 := Scalar.divsi v326 c1_i32_162
  let v329 : BitVec 32 := Scalar.muli v328 c1_i32_162
  let v330 : BitVec 32 := Scalar.addi c0_i32_161 v329
  let c1_i32_163 : BitVec 32 := 1#32
  ⟨c0_i32_161, v330, c1_i32_163⟩
def k0_mult12 (i : grid0.Coords) (k0_t16 : Fin (k0_t16_loop i).trips) : BitVec 32 :=
  let c0_i32_161 : BitVec 32 := 0#32
  let c1_i32_163 : BitVec 32 := 1#32
  let arg22 : BitVec 32 := Scf.iv c0_i32_161 c1_i32_163 k0_t16
  let c256_i32_269 : BitVec 32 := 256#32
  let v565 : BitVec 32 := Scalar.muli arg22 c256_i32_269
  v565
def k0_off44 (i : grid0.Coords) (k0_t16 : Fin (k0_t16_loop i).trips) : Fin 4 → Nat :=
  let c0_270 : Index := 0#32
  let c0_271 : Index := 0#32
  let c0_i32_161 : BitVec 32 := 0#32
  let c1_i32_163 : BitVec 32 := 1#32
  let arg22 : BitVec 32 := Scf.iv c0_i32_161 c1_i32_163 k0_t16
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off45 (i : grid0.Coords) (k0_t16 : Fin (k0_t16_loop i).trips) : Fin 2 → Nat :=
  let c0_i32_161 : BitVec 32 := 0#32
  let c1_i32_163 : BitVec 32 := 1#32
  let arg22 : BitVec 32 := Scf.iv c0_i32_161 c1_i32_163 k0_t16
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off46 (i : grid0.Coords) (k0_t16 : Fin (k0_t16_loop i).trips) : Fin 2 → Nat :=
  let c0_279 : Index := 0#32
  let c0_i32_161 : BitVec 32 := 0#32
  let c1_i32_163 : BitVec 32 := 1#32
  let arg22 : BitVec 32 := Scf.iv c0_i32_161 c1_i32_163 k0_t16
  let c256_i32_269 : BitVec 32 := 256#32
  let v565 : BitVec 32 := Scalar.muli arg22 c256_i32_269
  let v566 : BitVec 32 := v565
  let v592 : Index := Scalar.indexCast v566
  ![0, v592.toNat]
@[reducible] def k0_t17_loop (i : grid0.Coords) : Scf.Loop 32 :=
  let c0_i32_161 : BitVec 32 := 0#32
  let arg2 : BitVec 32 := BitVec.ofNat 32 (i 2).val
  let c512_i32 : BitVec 32 := 512#32
  let v8 : BitVec 32 := Scalar.muli arg2 c512_i32
  let c0_i32_155 : BitVec 32 := 0#32
  let v310 : BitVec 1 := Scalar.cmpi .sgt v8 c0_i32_155
  let v311 : BitVec 32 := Scalar.extui v310
  let c0_i32_156 : BitVec 32 := 0#32
  let v312 : BitVec 1 := Scalar.cmpi .slt v8 c0_i32_156
  let v313 : BitVec 32 := Scalar.extui v312
  let v314 : BitVec 32 := Scalar.subi v311 v313
  let c256_i32_154 : BitVec 32 := 256#32
  let c0_i32_157 : BitVec 32 := 0#32
  let v315 : BitVec 1 := Scalar.cmpi .sgt c256_i32_154 c0_i32_157
  let v316 : BitVec 32 := Scalar.extui v315
  let c0_i32_158 : BitVec 32 := 0#32
  let v317 : BitVec 1 := Scalar.cmpi .slt c256_i32_154 c0_i32_158
  let v318 : BitVec 32 := Scalar.extui v317
  let v319 : BitVec 32 := Scalar.subi v316 v318
  let v320 : BitVec 1 := Scalar.cmpi .ne v314 v319
  let v321 : BitVec 32 := Scalar.remsi v8 c256_i32_154
  let c0_i32_159 : BitVec 32 := 0#32
  let v322 : BitVec 1 := Scalar.cmpi .ne v321 c0_i32_159
  let v323 : BitVec 1 := Scalar.andi v320 v322
  let v309 : BitVec 32 := Scalar.divsi v8 c256_i32_154
  let c1_i32_160 : BitVec 32 := 1#32
  let v324 : BitVec 32 := Scalar.subi v309 c1_i32_160
  let v325 : BitVec 32 := Scalar.select v323 v324 v309
  let v326 : BitVec 32 := Scalar.subi v325 c0_i32_161
  let c1_i32_162 : BitVec 32 := 1#32
  let v328 : BitVec 32 := Scalar.divsi v326 c1_i32_162
  let v329 : BitVec 32 := Scalar.muli v328 c1_i32_162
  let v330 : BitVec 32 := Scalar.addi c0_i32_161 v329
  let v327 : BitVec 32 := Scalar.addi c0_i32_161 v326
  let c1_i32_164 : BitVec 32 := 1#32
  ⟨v330, v327, c1_i32_164⟩
def k0_mult13 (i : grid0.Coords) (k0_t17 : Fin (k0_t17_loop i).trips) : BitVec 32 :=
  let c0_i32_161 : BitVec 32 := 0#32
  let arg2 : BitVec 32 := BitVec.ofNat 32 (i 2).val
  let c512_i32 : BitVec 32 := 512#32
  let v8 : BitVec 32 := Scalar.muli arg2 c512_i32
  let c0_i32_155 : BitVec 32 := 0#32
  let v310 : BitVec 1 := Scalar.cmpi .sgt v8 c0_i32_155
  let v311 : BitVec 32 := Scalar.extui v310
  let c0_i32_156 : BitVec 32 := 0#32
  let v312 : BitVec 1 := Scalar.cmpi .slt v8 c0_i32_156
  let v313 : BitVec 32 := Scalar.extui v312
  let v314 : BitVec 32 := Scalar.subi v311 v313
  let c256_i32_154 : BitVec 32 := 256#32
  let c0_i32_157 : BitVec 32 := 0#32
  let v315 : BitVec 1 := Scalar.cmpi .sgt c256_i32_154 c0_i32_157
  let v316 : BitVec 32 := Scalar.extui v315
  let c0_i32_158 : BitVec 32 := 0#32
  let v317 : BitVec 1 := Scalar.cmpi .slt c256_i32_154 c0_i32_158
  let v318 : BitVec 32 := Scalar.extui v317
  let v319 : BitVec 32 := Scalar.subi v316 v318
  let v320 : BitVec 1 := Scalar.cmpi .ne v314 v319
  let v321 : BitVec 32 := Scalar.remsi v8 c256_i32_154
  let c0_i32_159 : BitVec 32 := 0#32
  let v322 : BitVec 1 := Scalar.cmpi .ne v321 c0_i32_159
  let v323 : BitVec 1 := Scalar.andi v320 v322
  let v309 : BitVec 32 := Scalar.divsi v8 c256_i32_154
  let c1_i32_160 : BitVec 32 := 1#32
  let v324 : BitVec 32 := Scalar.subi v309 c1_i32_160
  let v325 : BitVec 32 := Scalar.select v323 v324 v309
  let v326 : BitVec 32 := Scalar.subi v325 c0_i32_161
  let c1_i32_162 : BitVec 32 := 1#32
  let v328 : BitVec 32 := Scalar.divsi v326 c1_i32_162
  let v329 : BitVec 32 := Scalar.muli v328 c1_i32_162
  let v330 : BitVec 32 := Scalar.addi c0_i32_161 v329
  let c1_i32_164 : BitVec 32 := 1#32
  let arg22 : BitVec 32 := Scf.iv v330 c1_i32_164 k0_t17
  let c256_i32_269 : BitVec 32 := 256#32
  let v565 : BitVec 32 := Scalar.muli arg22 c256_i32_269
  v565
def k0_off47 (i : grid0.Coords) (k0_t17 : Fin (k0_t17_loop i).trips) : Fin 4 → Nat :=
  let c0_270 : Index := 0#32
  let c0_271 : Index := 0#32
  let c0_i32_161 : BitVec 32 := 0#32
  let arg2 : BitVec 32 := BitVec.ofNat 32 (i 2).val
  let c512_i32 : BitVec 32 := 512#32
  let v8 : BitVec 32 := Scalar.muli arg2 c512_i32
  let c0_i32_155 : BitVec 32 := 0#32
  let v310 : BitVec 1 := Scalar.cmpi .sgt v8 c0_i32_155
  let v311 : BitVec 32 := Scalar.extui v310
  let c0_i32_156 : BitVec 32 := 0#32
  let v312 : BitVec 1 := Scalar.cmpi .slt v8 c0_i32_156
  let v313 : BitVec 32 := Scalar.extui v312
  let v314 : BitVec 32 := Scalar.subi v311 v313
  let c256_i32_154 : BitVec 32 := 256#32
  let c0_i32_157 : BitVec 32 := 0#32
  let v315 : BitVec 1 := Scalar.cmpi .sgt c256_i32_154 c0_i32_157
  let v316 : BitVec 32 := Scalar.extui v315
  let c0_i32_158 : BitVec 32 := 0#32
  let v317 : BitVec 1 := Scalar.cmpi .slt c256_i32_154 c0_i32_158
  let v318 : BitVec 32 := Scalar.extui v317
  let v319 : BitVec 32 := Scalar.subi v316 v318
  let v320 : BitVec 1 := Scalar.cmpi .ne v314 v319
  let v321 : BitVec 32 := Scalar.remsi v8 c256_i32_154
  let c0_i32_159 : BitVec 32 := 0#32
  let v322 : BitVec 1 := Scalar.cmpi .ne v321 c0_i32_159
  let v323 : BitVec 1 := Scalar.andi v320 v322
  let v309 : BitVec 32 := Scalar.divsi v8 c256_i32_154
  let c1_i32_160 : BitVec 32 := 1#32
  let v324 : BitVec 32 := Scalar.subi v309 c1_i32_160
  let v325 : BitVec 32 := Scalar.select v323 v324 v309
  let v326 : BitVec 32 := Scalar.subi v325 c0_i32_161
  let c1_i32_162 : BitVec 32 := 1#32
  let v328 : BitVec 32 := Scalar.divsi v326 c1_i32_162
  let v329 : BitVec 32 := Scalar.muli v328 c1_i32_162
  let v330 : BitVec 32 := Scalar.addi c0_i32_161 v329
  let c1_i32_164 : BitVec 32 := 1#32
  let arg22 : BitVec 32 := Scf.iv v330 c1_i32_164 k0_t17
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off48 (i : grid0.Coords) (k0_t17 : Fin (k0_t17_loop i).trips) : Fin 2 → Nat :=
  let c0_i32_161 : BitVec 32 := 0#32
  let arg2 : BitVec 32 := BitVec.ofNat 32 (i 2).val
  let c512_i32 : BitVec 32 := 512#32
  let v8 : BitVec 32 := Scalar.muli arg2 c512_i32
  let c0_i32_155 : BitVec 32 := 0#32
  let v310 : BitVec 1 := Scalar.cmpi .sgt v8 c0_i32_155
  let v311 : BitVec 32 := Scalar.extui v310
  let c0_i32_156 : BitVec 32 := 0#32
  let v312 : BitVec 1 := Scalar.cmpi .slt v8 c0_i32_156
  let v313 : BitVec 32 := Scalar.extui v312
  let v314 : BitVec 32 := Scalar.subi v311 v313
  let c256_i32_154 : BitVec 32 := 256#32
  let c0_i32_157 : BitVec 32 := 0#32
  let v315 : BitVec 1 := Scalar.cmpi .sgt c256_i32_154 c0_i32_157
  let v316 : BitVec 32 := Scalar.extui v315
  let c0_i32_158 : BitVec 32 := 0#32
  let v317 : BitVec 1 := Scalar.cmpi .slt c256_i32_154 c0_i32_158
  let v318 : BitVec 32 := Scalar.extui v317
  let v319 : BitVec 32 := Scalar.subi v316 v318
  let v320 : BitVec 1 := Scalar.cmpi .ne v314 v319
  let v321 : BitVec 32 := Scalar.remsi v8 c256_i32_154
  let c0_i32_159 : BitVec 32 := 0#32
  let v322 : BitVec 1 := Scalar.cmpi .ne v321 c0_i32_159
  let v323 : BitVec 1 := Scalar.andi v320 v322
  let v309 : BitVec 32 := Scalar.divsi v8 c256_i32_154
  let c1_i32_160 : BitVec 32 := 1#32
  let v324 : BitVec 32 := Scalar.subi v309 c1_i32_160
  let v325 : BitVec 32 := Scalar.select v323 v324 v309
  let v326 : BitVec 32 := Scalar.subi v325 c0_i32_161
  let c1_i32_162 : BitVec 32 := 1#32
  let v328 : BitVec 32 := Scalar.divsi v326 c1_i32_162
  let v329 : BitVec 32 := Scalar.muli v328 c1_i32_162
  let v330 : BitVec 32 := Scalar.addi c0_i32_161 v329
  let c1_i32_164 : BitVec 32 := 1#32
  let arg22 : BitVec 32 := Scf.iv v330 c1_i32_164 k0_t17
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off49 (i : grid0.Coords) (k0_t17 : Fin (k0_t17_loop i).trips) : Fin 2 → Nat :=
  let c0_279 : Index := 0#32
  let c0_i32_161 : BitVec 32 := 0#32
  let arg2 : BitVec 32 := BitVec.ofNat 32 (i 2).val
  let c512_i32 : BitVec 32 := 512#32
  let v8 : BitVec 32 := Scalar.muli arg2 c512_i32
  let c0_i32_155 : BitVec 32 := 0#32
  let v310 : BitVec 1 := Scalar.cmpi .sgt v8 c0_i32_155
  let v311 : BitVec 32 := Scalar.extui v310
  let c0_i32_156 : BitVec 32 := 0#32
  let v312 : BitVec 1 := Scalar.cmpi .slt v8 c0_i32_156
  let v313 : BitVec 32 := Scalar.extui v312
  let v314 : BitVec 32 := Scalar.subi v311 v313
  let c256_i32_154 : BitVec 32 := 256#32
  let c0_i32_157 : BitVec 32 := 0#32
  let v315 : BitVec 1 := Scalar.cmpi .sgt c256_i32_154 c0_i32_157
  let v316 : BitVec 32 := Scalar.extui v315
  let c0_i32_158 : BitVec 32 := 0#32
  let v317 : BitVec 1 := Scalar.cmpi .slt c256_i32_154 c0_i32_158
  let v318 : BitVec 32 := Scalar.extui v317
  let v319 : BitVec 32 := Scalar.subi v316 v318
  let v320 : BitVec 1 := Scalar.cmpi .ne v314 v319
  let v321 : BitVec 32 := Scalar.remsi v8 c256_i32_154
  let c0_i32_159 : BitVec 32 := 0#32
  let v322 : BitVec 1 := Scalar.cmpi .ne v321 c0_i32_159
  let v323 : BitVec 1 := Scalar.andi v320 v322
  let v309 : BitVec 32 := Scalar.divsi v8 c256_i32_154
  let c1_i32_160 : BitVec 32 := 1#32
  let v324 : BitVec 32 := Scalar.subi v309 c1_i32_160
  let v325 : BitVec 32 := Scalar.select v323 v324 v309
  let v326 : BitVec 32 := Scalar.subi v325 c0_i32_161
  let c1_i32_162 : BitVec 32 := 1#32
  let v328 : BitVec 32 := Scalar.divsi v326 c1_i32_162
  let v329 : BitVec 32 := Scalar.muli v328 c1_i32_162
  let v330 : BitVec 32 := Scalar.addi c0_i32_161 v329
  let c1_i32_164 : BitVec 32 := 1#32
  let arg22 : BitVec 32 := Scf.iv v330 c1_i32_164 k0_t17
  let c256_i32_269 : BitVec 32 := 256#32
  let v565 : BitVec 32 := Scalar.muli arg22 c256_i32_269
  let v566 : BitVec 32 := v565
  let v592 : Index := Scalar.indexCast v566
  ![0, v592.toNat]
@[reducible] def k0_t18_loop (i : grid0.Coords) : Scf.Loop 32 :=
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c512_i32_172 : BitVec 32 := 512#32
  let v350 : BitVec 32 := Scalar.addi v8 c512_i32_172
  let c0_i32_174 : BitVec 32 := 0#32
  let v352 : BitVec 1 := Scalar.cmpi .sgt v350 c0_i32_174
  let v353 : BitVec 32 := Scalar.extui v352
  let c0_i32_175 : BitVec 32 := 0#32
  let v354 : BitVec 1 := Scalar.cmpi .slt v350 c0_i32_175
  let v355 : BitVec 32 := Scalar.extui v354
  let v356 : BitVec 32 := Scalar.subi v353 v355
  let c256_i32_173 : BitVec 32 := 256#32
  let c0_i32_176 : BitVec 32 := 0#32
  let v357 : BitVec 1 := Scalar.cmpi .sgt c256_i32_173 c0_i32_176
  let v358 : BitVec 32 := Scalar.extui v357
  let c0_i32_177 : BitVec 32 := 0#32
  let v359 : BitVec 1 := Scalar.cmpi .slt c256_i32_173 c0_i32_177
  let v360 : BitVec 32 := Scalar.extui v359
  let v361 : BitVec 32 := Scalar.subi v358 v360
  let v362 : BitVec 1 := Scalar.cmpi .ne v356 v361
  let v363 : BitVec 32 := Scalar.remsi v350 c256_i32_173
  let c0_i32_178 : BitVec 32 := 0#32
  let v364 : BitVec 1 := Scalar.cmpi .ne v363 c0_i32_178
  let v365 : BitVec 1 := Scalar.andi v362 v364
  let v351 : BitVec 32 := Scalar.divsi v350 c256_i32_173
  let c1_i32_179 : BitVec 32 := 1#32
  let v366 : BitVec 32 := Scalar.subi v351 c1_i32_179
  let v367 : BitVec 32 := Scalar.select v365 v366 v351
  let v368 : BitVec 32 := Scalar.subi v367 v349
  let c1_i32_180 : BitVec 32 := 1#32
  let v370 : BitVec 32 := Scalar.divsi v368 c1_i32_180
  let v371 : BitVec 32 := Scalar.muli v370 c1_i32_180
  let v372 : BitVec 32 := Scalar.addi v349 v371
  let c1_i32_181 : BitVec 32 := 1#32
  ⟨v349, v372, c1_i32_181⟩
def k0_mult14 (i : grid0.Coords) (k0_t18 : Fin (k0_t18_loop i).trips) : BitVec 32 :=
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c1_i32_181 : BitVec 32 := 1#32
  let arg22 : BitVec 32 := Scf.iv v349 c1_i32_181 k0_t18
  let c256_i32_269 : BitVec 32 := 256#32
  let v565 : BitVec 32 := Scalar.muli arg22 c256_i32_269
  v565
def k0_off50 (i : grid0.Coords) (k0_t18 : Fin (k0_t18_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c1_i32_181 : BitVec 32 := 1#32
  let arg22 : BitVec 32 := Scf.iv v349 c1_i32_181 k0_t18
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off51 (i : grid0.Coords) (k0_t18 : Fin (k0_t18_loop i).trips) : Fin 2 → Nat :=
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c1_i32_181 : BitVec 32 := 1#32
  let arg22 : BitVec 32 := Scf.iv v349 c1_i32_181 k0_t18
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off52 (i : grid0.Coords) (k0_t18 : Fin (k0_t18_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c1_i32_181 : BitVec 32 := 1#32
  let arg22 : BitVec 32 := Scf.iv v349 c1_i32_181 k0_t18
  let c256_i32_269 : BitVec 32 := 256#32
  let v565 : BitVec 32 := Scalar.muli arg22 c256_i32_269
  let v566 : BitVec 32 := v565
  let v602 : Index := Scalar.indexCast v566
  ![0, v602.toNat]
@[reducible] def k0_t19_loop (i : grid0.Coords) : Scf.Loop 32 :=
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c512_i32_172 : BitVec 32 := 512#32
  let v350 : BitVec 32 := Scalar.addi v8 c512_i32_172
  let c0_i32_174 : BitVec 32 := 0#32
  let v352 : BitVec 1 := Scalar.cmpi .sgt v350 c0_i32_174
  let v353 : BitVec 32 := Scalar.extui v352
  let c0_i32_175 : BitVec 32 := 0#32
  let v354 : BitVec 1 := Scalar.cmpi .slt v350 c0_i32_175
  let v355 : BitVec 32 := Scalar.extui v354
  let v356 : BitVec 32 := Scalar.subi v353 v355
  let c256_i32_173 : BitVec 32 := 256#32
  let c0_i32_176 : BitVec 32 := 0#32
  let v357 : BitVec 1 := Scalar.cmpi .sgt c256_i32_173 c0_i32_176
  let v358 : BitVec 32 := Scalar.extui v357
  let c0_i32_177 : BitVec 32 := 0#32
  let v359 : BitVec 1 := Scalar.cmpi .slt c256_i32_173 c0_i32_177
  let v360 : BitVec 32 := Scalar.extui v359
  let v361 : BitVec 32 := Scalar.subi v358 v360
  let v362 : BitVec 1 := Scalar.cmpi .ne v356 v361
  let v363 : BitVec 32 := Scalar.remsi v350 c256_i32_173
  let c0_i32_178 : BitVec 32 := 0#32
  let v364 : BitVec 1 := Scalar.cmpi .ne v363 c0_i32_178
  let v365 : BitVec 1 := Scalar.andi v362 v364
  let v351 : BitVec 32 := Scalar.divsi v350 c256_i32_173
  let c1_i32_179 : BitVec 32 := 1#32
  let v366 : BitVec 32 := Scalar.subi v351 c1_i32_179
  let v367 : BitVec 32 := Scalar.select v365 v366 v351
  let v368 : BitVec 32 := Scalar.subi v367 v349
  let c1_i32_180 : BitVec 32 := 1#32
  let v370 : BitVec 32 := Scalar.divsi v368 c1_i32_180
  let v371 : BitVec 32 := Scalar.muli v370 c1_i32_180
  let v372 : BitVec 32 := Scalar.addi v349 v371
  let v369 : BitVec 32 := Scalar.addi v349 v368
  let c1_i32_182 : BitVec 32 := 1#32
  ⟨v372, v369, c1_i32_182⟩
def k0_mult15 (i : grid0.Coords) (k0_t19 : Fin (k0_t19_loop i).trips) : BitVec 32 :=
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c512_i32_172 : BitVec 32 := 512#32
  let v350 : BitVec 32 := Scalar.addi v8 c512_i32_172
  let c0_i32_174 : BitVec 32 := 0#32
  let v352 : BitVec 1 := Scalar.cmpi .sgt v350 c0_i32_174
  let v353 : BitVec 32 := Scalar.extui v352
  let c0_i32_175 : BitVec 32 := 0#32
  let v354 : BitVec 1 := Scalar.cmpi .slt v350 c0_i32_175
  let v355 : BitVec 32 := Scalar.extui v354
  let v356 : BitVec 32 := Scalar.subi v353 v355
  let c256_i32_173 : BitVec 32 := 256#32
  let c0_i32_176 : BitVec 32 := 0#32
  let v357 : BitVec 1 := Scalar.cmpi .sgt c256_i32_173 c0_i32_176
  let v358 : BitVec 32 := Scalar.extui v357
  let c0_i32_177 : BitVec 32 := 0#32
  let v359 : BitVec 1 := Scalar.cmpi .slt c256_i32_173 c0_i32_177
  let v360 : BitVec 32 := Scalar.extui v359
  let v361 : BitVec 32 := Scalar.subi v358 v360
  let v362 : BitVec 1 := Scalar.cmpi .ne v356 v361
  let v363 : BitVec 32 := Scalar.remsi v350 c256_i32_173
  let c0_i32_178 : BitVec 32 := 0#32
  let v364 : BitVec 1 := Scalar.cmpi .ne v363 c0_i32_178
  let v365 : BitVec 1 := Scalar.andi v362 v364
  let v351 : BitVec 32 := Scalar.divsi v350 c256_i32_173
  let c1_i32_179 : BitVec 32 := 1#32
  let v366 : BitVec 32 := Scalar.subi v351 c1_i32_179
  let v367 : BitVec 32 := Scalar.select v365 v366 v351
  let v368 : BitVec 32 := Scalar.subi v367 v349
  let c1_i32_180 : BitVec 32 := 1#32
  let v370 : BitVec 32 := Scalar.divsi v368 c1_i32_180
  let v371 : BitVec 32 := Scalar.muli v370 c1_i32_180
  let v372 : BitVec 32 := Scalar.addi v349 v371
  let c1_i32_182 : BitVec 32 := 1#32
  let arg22 : BitVec 32 := Scf.iv v372 c1_i32_182 k0_t19
  let c256_i32_269 : BitVec 32 := 256#32
  let v565 : BitVec 32 := Scalar.muli arg22 c256_i32_269
  v565
def k0_off53 (i : grid0.Coords) (k0_t19 : Fin (k0_t19_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c512_i32_172 : BitVec 32 := 512#32
  let v350 : BitVec 32 := Scalar.addi v8 c512_i32_172
  let c0_i32_174 : BitVec 32 := 0#32
  let v352 : BitVec 1 := Scalar.cmpi .sgt v350 c0_i32_174
  let v353 : BitVec 32 := Scalar.extui v352
  let c0_i32_175 : BitVec 32 := 0#32
  let v354 : BitVec 1 := Scalar.cmpi .slt v350 c0_i32_175
  let v355 : BitVec 32 := Scalar.extui v354
  let v356 : BitVec 32 := Scalar.subi v353 v355
  let c256_i32_173 : BitVec 32 := 256#32
  let c0_i32_176 : BitVec 32 := 0#32
  let v357 : BitVec 1 := Scalar.cmpi .sgt c256_i32_173 c0_i32_176
  let v358 : BitVec 32 := Scalar.extui v357
  let c0_i32_177 : BitVec 32 := 0#32
  let v359 : BitVec 1 := Scalar.cmpi .slt c256_i32_173 c0_i32_177
  let v360 : BitVec 32 := Scalar.extui v359
  let v361 : BitVec 32 := Scalar.subi v358 v360
  let v362 : BitVec 1 := Scalar.cmpi .ne v356 v361
  let v363 : BitVec 32 := Scalar.remsi v350 c256_i32_173
  let c0_i32_178 : BitVec 32 := 0#32
  let v364 : BitVec 1 := Scalar.cmpi .ne v363 c0_i32_178
  let v365 : BitVec 1 := Scalar.andi v362 v364
  let v351 : BitVec 32 := Scalar.divsi v350 c256_i32_173
  let c1_i32_179 : BitVec 32 := 1#32
  let v366 : BitVec 32 := Scalar.subi v351 c1_i32_179
  let v367 : BitVec 32 := Scalar.select v365 v366 v351
  let v368 : BitVec 32 := Scalar.subi v367 v349
  let c1_i32_180 : BitVec 32 := 1#32
  let v370 : BitVec 32 := Scalar.divsi v368 c1_i32_180
  let v371 : BitVec 32 := Scalar.muli v370 c1_i32_180
  let v372 : BitVec 32 := Scalar.addi v349 v371
  let c1_i32_182 : BitVec 32 := 1#32
  let arg22 : BitVec 32 := Scf.iv v372 c1_i32_182 k0_t19
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off54 (i : grid0.Coords) (k0_t19 : Fin (k0_t19_loop i).trips) : Fin 2 → Nat :=
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c512_i32_172 : BitVec 32 := 512#32
  let v350 : BitVec 32 := Scalar.addi v8 c512_i32_172
  let c0_i32_174 : BitVec 32 := 0#32
  let v352 : BitVec 1 := Scalar.cmpi .sgt v350 c0_i32_174
  let v353 : BitVec 32 := Scalar.extui v352
  let c0_i32_175 : BitVec 32 := 0#32
  let v354 : BitVec 1 := Scalar.cmpi .slt v350 c0_i32_175
  let v355 : BitVec 32 := Scalar.extui v354
  let v356 : BitVec 32 := Scalar.subi v353 v355
  let c256_i32_173 : BitVec 32 := 256#32
  let c0_i32_176 : BitVec 32 := 0#32
  let v357 : BitVec 1 := Scalar.cmpi .sgt c256_i32_173 c0_i32_176
  let v358 : BitVec 32 := Scalar.extui v357
  let c0_i32_177 : BitVec 32 := 0#32
  let v359 : BitVec 1 := Scalar.cmpi .slt c256_i32_173 c0_i32_177
  let v360 : BitVec 32 := Scalar.extui v359
  let v361 : BitVec 32 := Scalar.subi v358 v360
  let v362 : BitVec 1 := Scalar.cmpi .ne v356 v361
  let v363 : BitVec 32 := Scalar.remsi v350 c256_i32_173
  let c0_i32_178 : BitVec 32 := 0#32
  let v364 : BitVec 1 := Scalar.cmpi .ne v363 c0_i32_178
  let v365 : BitVec 1 := Scalar.andi v362 v364
  let v351 : BitVec 32 := Scalar.divsi v350 c256_i32_173
  let c1_i32_179 : BitVec 32 := 1#32
  let v366 : BitVec 32 := Scalar.subi v351 c1_i32_179
  let v367 : BitVec 32 := Scalar.select v365 v366 v351
  let v368 : BitVec 32 := Scalar.subi v367 v349
  let c1_i32_180 : BitVec 32 := 1#32
  let v370 : BitVec 32 := Scalar.divsi v368 c1_i32_180
  let v371 : BitVec 32 := Scalar.muli v370 c1_i32_180
  let v372 : BitVec 32 := Scalar.addi v349 v371
  let c1_i32_182 : BitVec 32 := 1#32
  let arg22 : BitVec 32 := Scf.iv v372 c1_i32_182 k0_t19
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off55 (i : grid0.Coords) (k0_t19 : Fin (k0_t19_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_166 : BitVec 32 := 0#32
  let v334 : BitVec 1 := Scalar.cmpi .sgt v8 c0_i32_166
  let v335 : BitVec 32 := Scalar.extui v334
  let c0_i32_167 : BitVec 32 := 0#32
  let v336 : BitVec 1 := Scalar.cmpi .slt v8 c0_i32_167
  let v337 : BitVec 32 := Scalar.extui v336
  let v338 : BitVec 32 := Scalar.subi v335 v337
  let c256_i32_165 : BitVec 32 := 256#32
  let c0_i32_168 : BitVec 32 := 0#32
  let v339 : BitVec 1 := Scalar.cmpi .sgt c256_i32_165 c0_i32_168
  let v340 : BitVec 32 := Scalar.extui v339
  let c0_i32_169 : BitVec 32 := 0#32
  let v341 : BitVec 1 := Scalar.cmpi .slt c256_i32_165 c0_i32_169
  let v342 : BitVec 32 := Scalar.extui v341
  let v343 : BitVec 32 := Scalar.subi v340 v342
  let v344 : BitVec 1 := Scalar.cmpi .ne v338 v343
  let v345 : BitVec 32 := Scalar.remsi v8 c256_i32_165
  let c0_i32_170 : BitVec 32 := 0#32
  let v346 : BitVec 1 := Scalar.cmpi .ne v345 c0_i32_170
  let v347 : BitVec 1 := Scalar.andi v344 v346
  let v333 : BitVec 32 := Scalar.divsi v8 c256_i32_165
  let c1_i32_171 : BitVec 32 := 1#32
  let v348 : BitVec 32 := Scalar.subi v333 c1_i32_171
  let v349 : BitVec 32 := Scalar.select v347 v348 v333
  let c512_i32_172 : BitVec 32 := 512#32
  let v350 : BitVec 32 := Scalar.addi v8 c512_i32_172
  let c0_i32_174 : BitVec 32 := 0#32
  let v352 : BitVec 1 := Scalar.cmpi .sgt v350 c0_i32_174
  let v353 : BitVec 32 := Scalar.extui v352
  let c0_i32_175 : BitVec 32 := 0#32
  let v354 : BitVec 1 := Scalar.cmpi .slt v350 c0_i32_175
  let v355 : BitVec 32 := Scalar.extui v354
  let v356 : BitVec 32 := Scalar.subi v353 v355
  let c256_i32_173 : BitVec 32 := 256#32
  let c0_i32_176 : BitVec 32 := 0#32
  let v357 : BitVec 1 := Scalar.cmpi .sgt c256_i32_173 c0_i32_176
  let v358 : BitVec 32 := Scalar.extui v357
  let c0_i32_177 : BitVec 32 := 0#32
  let v359 : BitVec 1 := Scalar.cmpi .slt c256_i32_173 c0_i32_177
  let v360 : BitVec 32 := Scalar.extui v359
  let v361 : BitVec 32 := Scalar.subi v358 v360
  let v362 : BitVec 1 := Scalar.cmpi .ne v356 v361
  let v363 : BitVec 32 := Scalar.remsi v350 c256_i32_173
  let c0_i32_178 : BitVec 32 := 0#32
  let v364 : BitVec 1 := Scalar.cmpi .ne v363 c0_i32_178
  let v365 : BitVec 1 := Scalar.andi v362 v364
  let v351 : BitVec 32 := Scalar.divsi v350 c256_i32_173
  let c1_i32_179 : BitVec 32 := 1#32
  let v366 : BitVec 32 := Scalar.subi v351 c1_i32_179
  let v367 : BitVec 32 := Scalar.select v365 v366 v351
  let v368 : BitVec 32 := Scalar.subi v367 v349
  let c1_i32_180 : BitVec 32 := 1#32
  let v370 : BitVec 32 := Scalar.divsi v368 c1_i32_180
  let v371 : BitVec 32 := Scalar.muli v370 c1_i32_180
  let v372 : BitVec 32 := Scalar.addi v349 v371
  let c1_i32_182 : BitVec 32 := 1#32
  let arg22 : BitVec 32 := Scf.iv v372 c1_i32_182 k0_t19
  let c256_i32_269 : BitVec 32 := 256#32
  let v565 : BitVec 32 := Scalar.muli arg22 c256_i32_269
  let v566 : BitVec 32 := v565
  let v602 : Index := Scalar.indexCast v566
  ![0, v602.toNat]
@[reducible] def k0_t20_loop : Scf.Loop 32 :=
  let c0_i32_209 : BitVec 32 := 0#32
  let c64_i32_210 : BitVec 32 := 64#32
  let v435 : BitVec 32 := Scalar.addi c0_i32_209 c64_i32_210
  let c1_i32_211 : BitVec 32 := 1#32
  ⟨c0_i32_209, v435, c1_i32_211⟩
def k0_mult16 (k0_t20 : Fin k0_t20_loop.trips) : BitVec 32 :=
  let c0_i32_209 : BitVec 32 := 0#32
  let c1_i32_211 : BitVec 32 := 1#32
  let arg22 : BitVec 32 := Scf.iv c0_i32_209 c1_i32_211 k0_t20
  let c256_i32_269 : BitVec 32 := 256#32
  let v565 : BitVec 32 := Scalar.muli arg22 c256_i32_269
  v565
def k0_off56 (k0_t20 : Fin k0_t20_loop.trips) : Fin 3 → Nat :=
  let c0_270 : Index := 0#32
  let c0_i32_209 : BitVec 32 := 0#32
  let c1_i32_211 : BitVec 32 := 1#32
  let arg22 : BitVec 32 := Scf.iv c0_i32_209 c1_i32_211 k0_t20
  let c256_i32_269 : BitVec 32 := 256#32
  let v565 : BitVec 32 := Scalar.muli arg22 c256_i32_269
  let v566 : BitVec 32 := v565
  let v567 : Index := Scalar.indexCast v566
  let c0_271 : Index := 0#32
  ![0, v567.toNat, 0]
def k0_off57 (k0_t20 : Fin k0_t20_loop.trips) : Fin 2 → Nat :=
  let c0_i32_209 : BitVec 32 := 0#32
  let c1_i32_211 : BitVec 32 := 1#32
  let arg22 : BitVec 32 := Scf.iv c0_i32_209 c1_i32_211 k0_t20
  let c256_i32_269 : BitVec 32 := 256#32
  let v565 : BitVec 32 := Scalar.muli arg22 c256_i32_269
  let v566 : BitVec 32 := v565
  let v571 : Index := Scalar.indexCast v566
  let c0_273 : Index := 0#32
  ![v571.toNat, 0]
def k0_off58 (k0_t20 : Fin k0_t20_loop.trips) : Fin 2 → Nat :=
  let c0_278 : Index := 0#32
  let c0_i32_209 : BitVec 32 := 0#32
  let c1_i32_211 : BitVec 32 := 1#32
  let arg22 : BitVec 32 := Scf.iv c0_i32_209 c1_i32_211 k0_t20
  let c256_i32_269 : BitVec 32 := 256#32
  let v565 : BitVec 32 := Scalar.muli arg22 c256_i32_269
  let v566 : BitVec 32 := v565
  let v592 : Index := Scalar.indexCast v566
  ![0, v592.toNat]
@[reducible] def k0_t21_loop (i : grid0.Coords) : Scf.Loop 32 :=
  let c0_i32_227 : BitVec 32 := 0#32
  let arg2 : BitVec 32 := BitVec.ofNat 32 (i 2).val
  let c512_i32 : BitVec 32 := 512#32
  let v8 : BitVec 32 := Scalar.muli arg2 c512_i32
  let c0_i32_221 : BitVec 32 := 0#32
  let v448 : BitVec 1 := Scalar.cmpi .sgt v8 c0_i32_221
  let v449 : BitVec 32 := Scalar.extui v448
  let c0_i32_222 : BitVec 32 := 0#32
  let v450 : BitVec 1 := Scalar.cmpi .slt v8 c0_i32_222
  let v451 : BitVec 32 := Scalar.extui v450
  let v452 : BitVec 32 := Scalar.subi v449 v451
  let c256_i32_220 : BitVec 32 := 256#32
  let c0_i32_223 : BitVec 32 := 0#32
  let v453 : BitVec 1 := Scalar.cmpi .sgt c256_i32_220 c0_i32_223
  let v454 : BitVec 32 := Scalar.extui v453
  let c0_i32_224 : BitVec 32 := 0#32
  let v455 : BitVec 1 := Scalar.cmpi .slt c256_i32_220 c0_i32_224
  let v456 : BitVec 32 := Scalar.extui v455
  let v457 : BitVec 32 := Scalar.subi v454 v456
  let v458 : BitVec 1 := Scalar.cmpi .ne v452 v457
  let v459 : BitVec 32 := Scalar.remsi v8 c256_i32_220
  let c0_i32_225 : BitVec 32 := 0#32
  let v460 : BitVec 1 := Scalar.cmpi .ne v459 c0_i32_225
  let v461 : BitVec 1 := Scalar.andi v458 v460
  let v447 : BitVec 32 := Scalar.divsi v8 c256_i32_220
  let c1_i32_226 : BitVec 32 := 1#32
  let v462 : BitVec 32 := Scalar.subi v447 c1_i32_226
  let v463 : BitVec 32 := Scalar.select v461 v462 v447
  let v464 : BitVec 32 := Scalar.subi v463 c0_i32_227
  let c1_i32_228 : BitVec 32 := 1#32
  let v466 : BitVec 32 := Scalar.divsi v464 c1_i32_228
  let v467 : BitVec 32 := Scalar.muli v466 c1_i32_228
  let v468 : BitVec 32 := Scalar.addi c0_i32_227 v467
  let c1_i32_229 : BitVec 32 := 1#32
  ⟨c0_i32_227, v468, c1_i32_229⟩
def k0_mult17 (i : grid0.Coords) (k0_t21 : Fin (k0_t21_loop i).trips) : BitVec 32 :=
  let c0_i32_227 : BitVec 32 := 0#32
  let c1_i32_229 : BitVec 32 := 1#32
  let arg22 : BitVec 32 := Scf.iv c0_i32_227 c1_i32_229 k0_t21
  let c256_i32_269 : BitVec 32 := 256#32
  let v565 : BitVec 32 := Scalar.muli arg22 c256_i32_269
  v565
def k0_off59 (i : grid0.Coords) (k0_t21 : Fin (k0_t21_loop i).trips) : Fin 4 → Nat :=
  let c0_270 : Index := 0#32
  let c0_271 : Index := 0#32
  let c0_i32_227 : BitVec 32 := 0#32
  let c1_i32_229 : BitVec 32 := 1#32
  let arg22 : BitVec 32 := Scf.iv c0_i32_227 c1_i32_229 k0_t21
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off60 (i : grid0.Coords) (k0_t21 : Fin (k0_t21_loop i).trips) : Fin 2 → Nat :=
  let c0_i32_227 : BitVec 32 := 0#32
  let c1_i32_229 : BitVec 32 := 1#32
  let arg22 : BitVec 32 := Scf.iv c0_i32_227 c1_i32_229 k0_t21
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off61 (i : grid0.Coords) (k0_t21 : Fin (k0_t21_loop i).trips) : Fin 2 → Nat :=
  let c0_279 : Index := 0#32
  let c0_i32_227 : BitVec 32 := 0#32
  let c1_i32_229 : BitVec 32 := 1#32
  let arg22 : BitVec 32 := Scf.iv c0_i32_227 c1_i32_229 k0_t21
  let c256_i32_269 : BitVec 32 := 256#32
  let v565 : BitVec 32 := Scalar.muli arg22 c256_i32_269
  let v566 : BitVec 32 := v565
  let v592 : Index := Scalar.indexCast v566
  ![0, v592.toNat]
@[reducible] def k0_t22_loop (i : grid0.Coords) : Scf.Loop 32 :=
  let c0_i32_227 : BitVec 32 := 0#32
  let arg2 : BitVec 32 := BitVec.ofNat 32 (i 2).val
  let c512_i32 : BitVec 32 := 512#32
  let v8 : BitVec 32 := Scalar.muli arg2 c512_i32
  let c0_i32_221 : BitVec 32 := 0#32
  let v448 : BitVec 1 := Scalar.cmpi .sgt v8 c0_i32_221
  let v449 : BitVec 32 := Scalar.extui v448
  let c0_i32_222 : BitVec 32 := 0#32
  let v450 : BitVec 1 := Scalar.cmpi .slt v8 c0_i32_222
  let v451 : BitVec 32 := Scalar.extui v450
  let v452 : BitVec 32 := Scalar.subi v449 v451
  let c256_i32_220 : BitVec 32 := 256#32
  let c0_i32_223 : BitVec 32 := 0#32
  let v453 : BitVec 1 := Scalar.cmpi .sgt c256_i32_220 c0_i32_223
  let v454 : BitVec 32 := Scalar.extui v453
  let c0_i32_224 : BitVec 32 := 0#32
  let v455 : BitVec 1 := Scalar.cmpi .slt c256_i32_220 c0_i32_224
  let v456 : BitVec 32 := Scalar.extui v455
  let v457 : BitVec 32 := Scalar.subi v454 v456
  let v458 : BitVec 1 := Scalar.cmpi .ne v452 v457
  let v459 : BitVec 32 := Scalar.remsi v8 c256_i32_220
  let c0_i32_225 : BitVec 32 := 0#32
  let v460 : BitVec 1 := Scalar.cmpi .ne v459 c0_i32_225
  let v461 : BitVec 1 := Scalar.andi v458 v460
  let v447 : BitVec 32 := Scalar.divsi v8 c256_i32_220
  let c1_i32_226 : BitVec 32 := 1#32
  let v462 : BitVec 32 := Scalar.subi v447 c1_i32_226
  let v463 : BitVec 32 := Scalar.select v461 v462 v447
  let v464 : BitVec 32 := Scalar.subi v463 c0_i32_227
  let c1_i32_228 : BitVec 32 := 1#32
  let v466 : BitVec 32 := Scalar.divsi v464 c1_i32_228
  let v467 : BitVec 32 := Scalar.muli v466 c1_i32_228
  let v468 : BitVec 32 := Scalar.addi c0_i32_227 v467
  let v465 : BitVec 32 := Scalar.addi c0_i32_227 v464
  let c1_i32_230 : BitVec 32 := 1#32
  ⟨v468, v465, c1_i32_230⟩
def k0_mult18 (i : grid0.Coords) (k0_t22 : Fin (k0_t22_loop i).trips) : BitVec 32 :=
  let c0_i32_227 : BitVec 32 := 0#32
  let arg2 : BitVec 32 := BitVec.ofNat 32 (i 2).val
  let c512_i32 : BitVec 32 := 512#32
  let v8 : BitVec 32 := Scalar.muli arg2 c512_i32
  let c0_i32_221 : BitVec 32 := 0#32
  let v448 : BitVec 1 := Scalar.cmpi .sgt v8 c0_i32_221
  let v449 : BitVec 32 := Scalar.extui v448
  let c0_i32_222 : BitVec 32 := 0#32
  let v450 : BitVec 1 := Scalar.cmpi .slt v8 c0_i32_222
  let v451 : BitVec 32 := Scalar.extui v450
  let v452 : BitVec 32 := Scalar.subi v449 v451
  let c256_i32_220 : BitVec 32 := 256#32
  let c0_i32_223 : BitVec 32 := 0#32
  let v453 : BitVec 1 := Scalar.cmpi .sgt c256_i32_220 c0_i32_223
  let v454 : BitVec 32 := Scalar.extui v453
  let c0_i32_224 : BitVec 32 := 0#32
  let v455 : BitVec 1 := Scalar.cmpi .slt c256_i32_220 c0_i32_224
  let v456 : BitVec 32 := Scalar.extui v455
  let v457 : BitVec 32 := Scalar.subi v454 v456
  let v458 : BitVec 1 := Scalar.cmpi .ne v452 v457
  let v459 : BitVec 32 := Scalar.remsi v8 c256_i32_220
  let c0_i32_225 : BitVec 32 := 0#32
  let v460 : BitVec 1 := Scalar.cmpi .ne v459 c0_i32_225
  let v461 : BitVec 1 := Scalar.andi v458 v460
  let v447 : BitVec 32 := Scalar.divsi v8 c256_i32_220
  let c1_i32_226 : BitVec 32 := 1#32
  let v462 : BitVec 32 := Scalar.subi v447 c1_i32_226
  let v463 : BitVec 32 := Scalar.select v461 v462 v447
  let v464 : BitVec 32 := Scalar.subi v463 c0_i32_227
  let c1_i32_228 : BitVec 32 := 1#32
  let v466 : BitVec 32 := Scalar.divsi v464 c1_i32_228
  let v467 : BitVec 32 := Scalar.muli v466 c1_i32_228
  let v468 : BitVec 32 := Scalar.addi c0_i32_227 v467
  let c1_i32_230 : BitVec 32 := 1#32
  let arg22 : BitVec 32 := Scf.iv v468 c1_i32_230 k0_t22
  let c256_i32_269 : BitVec 32 := 256#32
  let v565 : BitVec 32 := Scalar.muli arg22 c256_i32_269
  v565
def k0_off62 (i : grid0.Coords) (k0_t22 : Fin (k0_t22_loop i).trips) : Fin 4 → Nat :=
  let c0_270 : Index := 0#32
  let c0_271 : Index := 0#32
  let c0_i32_227 : BitVec 32 := 0#32
  let arg2 : BitVec 32 := BitVec.ofNat 32 (i 2).val
  let c512_i32 : BitVec 32 := 512#32
  let v8 : BitVec 32 := Scalar.muli arg2 c512_i32
  let c0_i32_221 : BitVec 32 := 0#32
  let v448 : BitVec 1 := Scalar.cmpi .sgt v8 c0_i32_221
  let v449 : BitVec 32 := Scalar.extui v448
  let c0_i32_222 : BitVec 32 := 0#32
  let v450 : BitVec 1 := Scalar.cmpi .slt v8 c0_i32_222
  let v451 : BitVec 32 := Scalar.extui v450
  let v452 : BitVec 32 := Scalar.subi v449 v451
  let c256_i32_220 : BitVec 32 := 256#32
  let c0_i32_223 : BitVec 32 := 0#32
  let v453 : BitVec 1 := Scalar.cmpi .sgt c256_i32_220 c0_i32_223
  let v454 : BitVec 32 := Scalar.extui v453
  let c0_i32_224 : BitVec 32 := 0#32
  let v455 : BitVec 1 := Scalar.cmpi .slt c256_i32_220 c0_i32_224
  let v456 : BitVec 32 := Scalar.extui v455
  let v457 : BitVec 32 := Scalar.subi v454 v456
  let v458 : BitVec 1 := Scalar.cmpi .ne v452 v457
  let v459 : BitVec 32 := Scalar.remsi v8 c256_i32_220
  let c0_i32_225 : BitVec 32 := 0#32
  let v460 : BitVec 1 := Scalar.cmpi .ne v459 c0_i32_225
  let v461 : BitVec 1 := Scalar.andi v458 v460
  let v447 : BitVec 32 := Scalar.divsi v8 c256_i32_220
  let c1_i32_226 : BitVec 32 := 1#32
  let v462 : BitVec 32 := Scalar.subi v447 c1_i32_226
  let v463 : BitVec 32 := Scalar.select v461 v462 v447
  let v464 : BitVec 32 := Scalar.subi v463 c0_i32_227
  let c1_i32_228 : BitVec 32 := 1#32
  let v466 : BitVec 32 := Scalar.divsi v464 c1_i32_228
  let v467 : BitVec 32 := Scalar.muli v466 c1_i32_228
  let v468 : BitVec 32 := Scalar.addi c0_i32_227 v467
  let c1_i32_230 : BitVec 32 := 1#32
  let arg22 : BitVec 32 := Scf.iv v468 c1_i32_230 k0_t22
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off63 (i : grid0.Coords) (k0_t22 : Fin (k0_t22_loop i).trips) : Fin 2 → Nat :=
  let c0_i32_227 : BitVec 32 := 0#32
  let arg2 : BitVec 32 := BitVec.ofNat 32 (i 2).val
  let c512_i32 : BitVec 32 := 512#32
  let v8 : BitVec 32 := Scalar.muli arg2 c512_i32
  let c0_i32_221 : BitVec 32 := 0#32
  let v448 : BitVec 1 := Scalar.cmpi .sgt v8 c0_i32_221
  let v449 : BitVec 32 := Scalar.extui v448
  let c0_i32_222 : BitVec 32 := 0#32
  let v450 : BitVec 1 := Scalar.cmpi .slt v8 c0_i32_222
  let v451 : BitVec 32 := Scalar.extui v450
  let v452 : BitVec 32 := Scalar.subi v449 v451
  let c256_i32_220 : BitVec 32 := 256#32
  let c0_i32_223 : BitVec 32 := 0#32
  let v453 : BitVec 1 := Scalar.cmpi .sgt c256_i32_220 c0_i32_223
  let v454 : BitVec 32 := Scalar.extui v453
  let c0_i32_224 : BitVec 32 := 0#32
  let v455 : BitVec 1 := Scalar.cmpi .slt c256_i32_220 c0_i32_224
  let v456 : BitVec 32 := Scalar.extui v455
  let v457 : BitVec 32 := Scalar.subi v454 v456
  let v458 : BitVec 1 := Scalar.cmpi .ne v452 v457
  let v459 : BitVec 32 := Scalar.remsi v8 c256_i32_220
  let c0_i32_225 : BitVec 32 := 0#32
  let v460 : BitVec 1 := Scalar.cmpi .ne v459 c0_i32_225
  let v461 : BitVec 1 := Scalar.andi v458 v460
  let v447 : BitVec 32 := Scalar.divsi v8 c256_i32_220
  let c1_i32_226 : BitVec 32 := 1#32
  let v462 : BitVec 32 := Scalar.subi v447 c1_i32_226
  let v463 : BitVec 32 := Scalar.select v461 v462 v447
  let v464 : BitVec 32 := Scalar.subi v463 c0_i32_227
  let c1_i32_228 : BitVec 32 := 1#32
  let v466 : BitVec 32 := Scalar.divsi v464 c1_i32_228
  let v467 : BitVec 32 := Scalar.muli v466 c1_i32_228
  let v468 : BitVec 32 := Scalar.addi c0_i32_227 v467
  let c1_i32_230 : BitVec 32 := 1#32
  let arg22 : BitVec 32 := Scf.iv v468 c1_i32_230 k0_t22
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off64 (i : grid0.Coords) (k0_t22 : Fin (k0_t22_loop i).trips) : Fin 2 → Nat :=
  let c0_279 : Index := 0#32
  let c0_i32_227 : BitVec 32 := 0#32
  let arg2 : BitVec 32 := BitVec.ofNat 32 (i 2).val
  let c512_i32 : BitVec 32 := 512#32
  let v8 : BitVec 32 := Scalar.muli arg2 c512_i32
  let c0_i32_221 : BitVec 32 := 0#32
  let v448 : BitVec 1 := Scalar.cmpi .sgt v8 c0_i32_221
  let v449 : BitVec 32 := Scalar.extui v448
  let c0_i32_222 : BitVec 32 := 0#32
  let v450 : BitVec 1 := Scalar.cmpi .slt v8 c0_i32_222
  let v451 : BitVec 32 := Scalar.extui v450
  let v452 : BitVec 32 := Scalar.subi v449 v451
  let c256_i32_220 : BitVec 32 := 256#32
  let c0_i32_223 : BitVec 32 := 0#32
  let v453 : BitVec 1 := Scalar.cmpi .sgt c256_i32_220 c0_i32_223
  let v454 : BitVec 32 := Scalar.extui v453
  let c0_i32_224 : BitVec 32 := 0#32
  let v455 : BitVec 1 := Scalar.cmpi .slt c256_i32_220 c0_i32_224
  let v456 : BitVec 32 := Scalar.extui v455
  let v457 : BitVec 32 := Scalar.subi v454 v456
  let v458 : BitVec 1 := Scalar.cmpi .ne v452 v457
  let v459 : BitVec 32 := Scalar.remsi v8 c256_i32_220
  let c0_i32_225 : BitVec 32 := 0#32
  let v460 : BitVec 1 := Scalar.cmpi .ne v459 c0_i32_225
  let v461 : BitVec 1 := Scalar.andi v458 v460
  let v447 : BitVec 32 := Scalar.divsi v8 c256_i32_220
  let c1_i32_226 : BitVec 32 := 1#32
  let v462 : BitVec 32 := Scalar.subi v447 c1_i32_226
  let v463 : BitVec 32 := Scalar.select v461 v462 v447
  let v464 : BitVec 32 := Scalar.subi v463 c0_i32_227
  let c1_i32_228 : BitVec 32 := 1#32
  let v466 : BitVec 32 := Scalar.divsi v464 c1_i32_228
  let v467 : BitVec 32 := Scalar.muli v466 c1_i32_228
  let v468 : BitVec 32 := Scalar.addi c0_i32_227 v467
  let c1_i32_230 : BitVec 32 := 1#32
  let arg22 : BitVec 32 := Scf.iv v468 c1_i32_230 k0_t22
  let c256_i32_269 : BitVec 32 := 256#32
  let v565 : BitVec 32 := Scalar.muli arg22 c256_i32_269
  let v566 : BitVec 32 := v565
  let v592 : Index := Scalar.indexCast v566
  ![0, v592.toNat]
@[reducible] def k0_t23_loop (i : grid0.Coords) : Scf.Loop 32 :=
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c512_i32_238 : BitVec 32 := 512#32
  let v488 : BitVec 32 := Scalar.addi v8 c512_i32_238
  let c0_i32_240 : BitVec 32 := 0#32
  let v490 : BitVec 1 := Scalar.cmpi .sgt v488 c0_i32_240
  let v491 : BitVec 32 := Scalar.extui v490
  let c0_i32_241 : BitVec 32 := 0#32
  let v492 : BitVec 1 := Scalar.cmpi .slt v488 c0_i32_241
  let v493 : BitVec 32 := Scalar.extui v492
  let v494 : BitVec 32 := Scalar.subi v491 v493
  let c256_i32_239 : BitVec 32 := 256#32
  let c0_i32_242 : BitVec 32 := 0#32
  let v495 : BitVec 1 := Scalar.cmpi .sgt c256_i32_239 c0_i32_242
  let v496 : BitVec 32 := Scalar.extui v495
  let c0_i32_243 : BitVec 32 := 0#32
  let v497 : BitVec 1 := Scalar.cmpi .slt c256_i32_239 c0_i32_243
  let v498 : BitVec 32 := Scalar.extui v497
  let v499 : BitVec 32 := Scalar.subi v496 v498
  let v500 : BitVec 1 := Scalar.cmpi .ne v494 v499
  let v501 : BitVec 32 := Scalar.remsi v488 c256_i32_239
  let c0_i32_244 : BitVec 32 := 0#32
  let v502 : BitVec 1 := Scalar.cmpi .ne v501 c0_i32_244
  let v503 : BitVec 1 := Scalar.andi v500 v502
  let v489 : BitVec 32 := Scalar.divsi v488 c256_i32_239
  let c1_i32_245 : BitVec 32 := 1#32
  let v504 : BitVec 32 := Scalar.subi v489 c1_i32_245
  let v505 : BitVec 32 := Scalar.select v503 v504 v489
  let v506 : BitVec 32 := Scalar.subi v505 v487
  let c1_i32_246 : BitVec 32 := 1#32
  let v508 : BitVec 32 := Scalar.divsi v506 c1_i32_246
  let v509 : BitVec 32 := Scalar.muli v508 c1_i32_246
  let v510 : BitVec 32 := Scalar.addi v487 v509
  let c1_i32_247 : BitVec 32 := 1#32
  ⟨v487, v510, c1_i32_247⟩
def k0_mult19 (i : grid0.Coords) (k0_t23 : Fin (k0_t23_loop i).trips) : BitVec 32 :=
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c1_i32_247 : BitVec 32 := 1#32
  let arg22 : BitVec 32 := Scf.iv v487 c1_i32_247 k0_t23
  let c256_i32_269 : BitVec 32 := 256#32
  let v565 : BitVec 32 := Scalar.muli arg22 c256_i32_269
  v565
def k0_off65 (i : grid0.Coords) (k0_t23 : Fin (k0_t23_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c1_i32_247 : BitVec 32 := 1#32
  let arg22 : BitVec 32 := Scf.iv v487 c1_i32_247 k0_t23
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off66 (i : grid0.Coords) (k0_t23 : Fin (k0_t23_loop i).trips) : Fin 2 → Nat :=
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c1_i32_247 : BitVec 32 := 1#32
  let arg22 : BitVec 32 := Scf.iv v487 c1_i32_247 k0_t23
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off67 (i : grid0.Coords) (k0_t23 : Fin (k0_t23_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c1_i32_247 : BitVec 32 := 1#32
  let arg22 : BitVec 32 := Scf.iv v487 c1_i32_247 k0_t23
  let c256_i32_269 : BitVec 32 := 256#32
  let v565 : BitVec 32 := Scalar.muli arg22 c256_i32_269
  let v566 : BitVec 32 := v565
  let v602 : Index := Scalar.indexCast v566
  ![0, v602.toNat]
@[reducible] def k0_t24_loop (i : grid0.Coords) : Scf.Loop 32 :=
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c512_i32_238 : BitVec 32 := 512#32
  let v488 : BitVec 32 := Scalar.addi v8 c512_i32_238
  let c0_i32_240 : BitVec 32 := 0#32
  let v490 : BitVec 1 := Scalar.cmpi .sgt v488 c0_i32_240
  let v491 : BitVec 32 := Scalar.extui v490
  let c0_i32_241 : BitVec 32 := 0#32
  let v492 : BitVec 1 := Scalar.cmpi .slt v488 c0_i32_241
  let v493 : BitVec 32 := Scalar.extui v492
  let v494 : BitVec 32 := Scalar.subi v491 v493
  let c256_i32_239 : BitVec 32 := 256#32
  let c0_i32_242 : BitVec 32 := 0#32
  let v495 : BitVec 1 := Scalar.cmpi .sgt c256_i32_239 c0_i32_242
  let v496 : BitVec 32 := Scalar.extui v495
  let c0_i32_243 : BitVec 32 := 0#32
  let v497 : BitVec 1 := Scalar.cmpi .slt c256_i32_239 c0_i32_243
  let v498 : BitVec 32 := Scalar.extui v497
  let v499 : BitVec 32 := Scalar.subi v496 v498
  let v500 : BitVec 1 := Scalar.cmpi .ne v494 v499
  let v501 : BitVec 32 := Scalar.remsi v488 c256_i32_239
  let c0_i32_244 : BitVec 32 := 0#32
  let v502 : BitVec 1 := Scalar.cmpi .ne v501 c0_i32_244
  let v503 : BitVec 1 := Scalar.andi v500 v502
  let v489 : BitVec 32 := Scalar.divsi v488 c256_i32_239
  let c1_i32_245 : BitVec 32 := 1#32
  let v504 : BitVec 32 := Scalar.subi v489 c1_i32_245
  let v505 : BitVec 32 := Scalar.select v503 v504 v489
  let v506 : BitVec 32 := Scalar.subi v505 v487
  let c1_i32_246 : BitVec 32 := 1#32
  let v508 : BitVec 32 := Scalar.divsi v506 c1_i32_246
  let v509 : BitVec 32 := Scalar.muli v508 c1_i32_246
  let v510 : BitVec 32 := Scalar.addi v487 v509
  let v507 : BitVec 32 := Scalar.addi v487 v506
  let c1_i32_248 : BitVec 32 := 1#32
  ⟨v510, v507, c1_i32_248⟩
def k0_mult20 (i : grid0.Coords) (k0_t24 : Fin (k0_t24_loop i).trips) : BitVec 32 :=
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c512_i32_238 : BitVec 32 := 512#32
  let v488 : BitVec 32 := Scalar.addi v8 c512_i32_238
  let c0_i32_240 : BitVec 32 := 0#32
  let v490 : BitVec 1 := Scalar.cmpi .sgt v488 c0_i32_240
  let v491 : BitVec 32 := Scalar.extui v490
  let c0_i32_241 : BitVec 32 := 0#32
  let v492 : BitVec 1 := Scalar.cmpi .slt v488 c0_i32_241
  let v493 : BitVec 32 := Scalar.extui v492
  let v494 : BitVec 32 := Scalar.subi v491 v493
  let c256_i32_239 : BitVec 32 := 256#32
  let c0_i32_242 : BitVec 32 := 0#32
  let v495 : BitVec 1 := Scalar.cmpi .sgt c256_i32_239 c0_i32_242
  let v496 : BitVec 32 := Scalar.extui v495
  let c0_i32_243 : BitVec 32 := 0#32
  let v497 : BitVec 1 := Scalar.cmpi .slt c256_i32_239 c0_i32_243
  let v498 : BitVec 32 := Scalar.extui v497
  let v499 : BitVec 32 := Scalar.subi v496 v498
  let v500 : BitVec 1 := Scalar.cmpi .ne v494 v499
  let v501 : BitVec 32 := Scalar.remsi v488 c256_i32_239
  let c0_i32_244 : BitVec 32 := 0#32
  let v502 : BitVec 1 := Scalar.cmpi .ne v501 c0_i32_244
  let v503 : BitVec 1 := Scalar.andi v500 v502
  let v489 : BitVec 32 := Scalar.divsi v488 c256_i32_239
  let c1_i32_245 : BitVec 32 := 1#32
  let v504 : BitVec 32 := Scalar.subi v489 c1_i32_245
  let v505 : BitVec 32 := Scalar.select v503 v504 v489
  let v506 : BitVec 32 := Scalar.subi v505 v487
  let c1_i32_246 : BitVec 32 := 1#32
  let v508 : BitVec 32 := Scalar.divsi v506 c1_i32_246
  let v509 : BitVec 32 := Scalar.muli v508 c1_i32_246
  let v510 : BitVec 32 := Scalar.addi v487 v509
  let c1_i32_248 : BitVec 32 := 1#32
  let arg22 : BitVec 32 := Scf.iv v510 c1_i32_248 k0_t24
  let c256_i32_269 : BitVec 32 := 256#32
  let v565 : BitVec 32 := Scalar.muli arg22 c256_i32_269
  v565
def k0_off68 (i : grid0.Coords) (k0_t24 : Fin (k0_t24_loop i).trips) : Fin 4 → Nat :=
  let c0_270 : Index := 0#32
  let c0_271 : Index := 0#32
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c512_i32_238 : BitVec 32 := 512#32
  let v488 : BitVec 32 := Scalar.addi v8 c512_i32_238
  let c0_i32_240 : BitVec 32 := 0#32
  let v490 : BitVec 1 := Scalar.cmpi .sgt v488 c0_i32_240
  let v491 : BitVec 32 := Scalar.extui v490
  let c0_i32_241 : BitVec 32 := 0#32
  let v492 : BitVec 1 := Scalar.cmpi .slt v488 c0_i32_241
  let v493 : BitVec 32 := Scalar.extui v492
  let v494 : BitVec 32 := Scalar.subi v491 v493
  let c256_i32_239 : BitVec 32 := 256#32
  let c0_i32_242 : BitVec 32 := 0#32
  let v495 : BitVec 1 := Scalar.cmpi .sgt c256_i32_239 c0_i32_242
  let v496 : BitVec 32 := Scalar.extui v495
  let c0_i32_243 : BitVec 32 := 0#32
  let v497 : BitVec 1 := Scalar.cmpi .slt c256_i32_239 c0_i32_243
  let v498 : BitVec 32 := Scalar.extui v497
  let v499 : BitVec 32 := Scalar.subi v496 v498
  let v500 : BitVec 1 := Scalar.cmpi .ne v494 v499
  let v501 : BitVec 32 := Scalar.remsi v488 c256_i32_239
  let c0_i32_244 : BitVec 32 := 0#32
  let v502 : BitVec 1 := Scalar.cmpi .ne v501 c0_i32_244
  let v503 : BitVec 1 := Scalar.andi v500 v502
  let v489 : BitVec 32 := Scalar.divsi v488 c256_i32_239
  let c1_i32_245 : BitVec 32 := 1#32
  let v504 : BitVec 32 := Scalar.subi v489 c1_i32_245
  let v505 : BitVec 32 := Scalar.select v503 v504 v489
  let v506 : BitVec 32 := Scalar.subi v505 v487
  let c1_i32_246 : BitVec 32 := 1#32
  let v508 : BitVec 32 := Scalar.divsi v506 c1_i32_246
  let v509 : BitVec 32 := Scalar.muli v508 c1_i32_246
  let v510 : BitVec 32 := Scalar.addi v487 v509
  let c1_i32_248 : BitVec 32 := 1#32
  let arg22 : BitVec 32 := Scf.iv v510 c1_i32_248 k0_t24
  let c256_i32_269 : BitVec 32 := 256#32
  let v565 : BitVec 32 := Scalar.muli arg22 c256_i32_269
  let v566 : BitVec 32 := v565
  let v567 : Index := Scalar.indexCast v566
  let c0_272 : Index := 0#32
  ![0, 0, v567.toNat, 0]
def k0_off69 (i : grid0.Coords) (k0_t24 : Fin (k0_t24_loop i).trips) : Fin 2 → Nat :=
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c512_i32_238 : BitVec 32 := 512#32
  let v488 : BitVec 32 := Scalar.addi v8 c512_i32_238
  let c0_i32_240 : BitVec 32 := 0#32
  let v490 : BitVec 1 := Scalar.cmpi .sgt v488 c0_i32_240
  let v491 : BitVec 32 := Scalar.extui v490
  let c0_i32_241 : BitVec 32 := 0#32
  let v492 : BitVec 1 := Scalar.cmpi .slt v488 c0_i32_241
  let v493 : BitVec 32 := Scalar.extui v492
  let v494 : BitVec 32 := Scalar.subi v491 v493
  let c256_i32_239 : BitVec 32 := 256#32
  let c0_i32_242 : BitVec 32 := 0#32
  let v495 : BitVec 1 := Scalar.cmpi .sgt c256_i32_239 c0_i32_242
  let v496 : BitVec 32 := Scalar.extui v495
  let c0_i32_243 : BitVec 32 := 0#32
  let v497 : BitVec 1 := Scalar.cmpi .slt c256_i32_239 c0_i32_243
  let v498 : BitVec 32 := Scalar.extui v497
  let v499 : BitVec 32 := Scalar.subi v496 v498
  let v500 : BitVec 1 := Scalar.cmpi .ne v494 v499
  let v501 : BitVec 32 := Scalar.remsi v488 c256_i32_239
  let c0_i32_244 : BitVec 32 := 0#32
  let v502 : BitVec 1 := Scalar.cmpi .ne v501 c0_i32_244
  let v503 : BitVec 1 := Scalar.andi v500 v502
  let v489 : BitVec 32 := Scalar.divsi v488 c256_i32_239
  let c1_i32_245 : BitVec 32 := 1#32
  let v504 : BitVec 32 := Scalar.subi v489 c1_i32_245
  let v505 : BitVec 32 := Scalar.select v503 v504 v489
  let v506 : BitVec 32 := Scalar.subi v505 v487
  let c1_i32_246 : BitVec 32 := 1#32
  let v508 : BitVec 32 := Scalar.divsi v506 c1_i32_246
  let v509 : BitVec 32 := Scalar.muli v508 c1_i32_246
  let v510 : BitVec 32 := Scalar.addi v487 v509
  let c1_i32_248 : BitVec 32 := 1#32
  let arg22 : BitVec 32 := Scf.iv v510 c1_i32_248 k0_t24
  let c256_i32_269 : BitVec 32 := 256#32
  let v565 : BitVec 32 := Scalar.muli arg22 c256_i32_269
  let v566 : BitVec 32 := v565
  let v571 : Index := Scalar.indexCast v566
  let c0_274 : Index := 0#32
  ![v571.toNat, 0]
def k0_off70 (i : grid0.Coords) (k0_t24 : Fin (k0_t24_loop i).trips) : Fin 2 → Nat :=
  let c0_281 : Index := 0#32
  let arg2 : BitVec 32 := BitVec.ofNat 32 (i 2).val
  let c512_i32 : BitVec 32 := 512#32
  let v8 : BitVec 32 := Scalar.muli arg2 c512_i32
  let c0_i32_232 : BitVec 32 := 0#32
  let v472 : BitVec 1 := Scalar.cmpi .sgt v8 c0_i32_232
  let v473 : BitVec 32 := Scalar.extui v472
  let c0_i32_233 : BitVec 32 := 0#32
  let v474 : BitVec 1 := Scalar.cmpi .slt v8 c0_i32_233
  let v475 : BitVec 32 := Scalar.extui v474
  let v476 : BitVec 32 := Scalar.subi v473 v475
  let c256_i32_231 : BitVec 32 := 256#32
  let c0_i32_234 : BitVec 32 := 0#32
  let v477 : BitVec 1 := Scalar.cmpi .sgt c256_i32_231 c0_i32_234
  let v478 : BitVec 32 := Scalar.extui v477
  let c0_i32_235 : BitVec 32 := 0#32
  let v479 : BitVec 1 := Scalar.cmpi .slt c256_i32_231 c0_i32_235
  let v480 : BitVec 32 := Scalar.extui v479
  let v481 : BitVec 32 := Scalar.subi v478 v480
  let v482 : BitVec 1 := Scalar.cmpi .ne v476 v481
  let v483 : BitVec 32 := Scalar.remsi v8 c256_i32_231
  let c0_i32_236 : BitVec 32 := 0#32
  let v484 : BitVec 1 := Scalar.cmpi .ne v483 c0_i32_236
  let v485 : BitVec 1 := Scalar.andi v482 v484
  let v471 : BitVec 32 := Scalar.divsi v8 c256_i32_231
  let c1_i32_237 : BitVec 32 := 1#32
  let v486 : BitVec 32 := Scalar.subi v471 c1_i32_237
  let v487 : BitVec 32 := Scalar.select v485 v486 v471
  let c512_i32_238 : BitVec 32 := 512#32
  let v488 : BitVec 32 := Scalar.addi v8 c512_i32_238
  let c0_i32_240 : BitVec 32 := 0#32
  let v490 : BitVec 1 := Scalar.cmpi .sgt v488 c0_i32_240
  let v491 : BitVec 32 := Scalar.extui v490
  let c0_i32_241 : BitVec 32 := 0#32
  let v492 : BitVec 1 := Scalar.cmpi .slt v488 c0_i32_241
  let v493 : BitVec 32 := Scalar.extui v492
  let v494 : BitVec 32 := Scalar.subi v491 v493
  let c256_i32_239 : BitVec 32 := 256#32
  let c0_i32_242 : BitVec 32 := 0#32
  let v495 : BitVec 1 := Scalar.cmpi .sgt c256_i32_239 c0_i32_242
  let v496 : BitVec 32 := Scalar.extui v495
  let c0_i32_243 : BitVec 32 := 0#32
  let v497 : BitVec 1 := Scalar.cmpi .slt c256_i32_239 c0_i32_243
  let v498 : BitVec 32 := Scalar.extui v497
  let v499 : BitVec 32 := Scalar.subi v496 v498
  let v500 : BitVec 1 := Scalar.cmpi .ne v494 v499
  let v501 : BitVec 32 := Scalar.remsi v488 c256_i32_239
  let c0_i32_244 : BitVec 32 := 0#32
  let v502 : BitVec 1 := Scalar.cmpi .ne v501 c0_i32_244
  let v503 : BitVec 1 := Scalar.andi v500 v502
  let v489 : BitVec 32 := Scalar.divsi v488 c256_i32_239
  let c1_i32_245 : BitVec 32 := 1#32
  let v504 : BitVec 32 := Scalar.subi v489 c1_i32_245
  let v505 : BitVec 32 := Scalar.select v503 v504 v489
  let v506 : BitVec 32 := Scalar.subi v505 v487
  let c1_i32_246 : BitVec 32 := 1#32
  let v508 : BitVec 32 := Scalar.divsi v506 c1_i32_246
  let v509 : BitVec 32 := Scalar.muli v508 c1_i32_246
  let v510 : BitVec 32 := Scalar.addi v487 v509
  let c1_i32_248 : BitVec 32 := 1#32
  let arg22 : BitVec 32 := Scf.iv v510 c1_i32_248 k0_t24
  let c256_i32_269 : BitVec 32 := 256#32
  let v565 : BitVec 32 := Scalar.muli arg22 c256_i32_269
  let v566 : BitVec 32 := v565
  let v602 : Index := Scalar.indexCast v566
  ![0, v602.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  ![v1.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, c0_i32.toNat, v1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S1x384x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x96x16384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1536x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x96x1536 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "ln2" => some ((Real.log 2 : ℝ) : EReal)
  | "scale_log2e" => some (((Real.sqrt 96)⁻¹ * (Real.log 2)⁻¹ : ℝ) : EReal)
  | _ => none
-- ==== ReferenceIdeal.lean ====
abbrev S12x1536x32x96 : Shape := ⟨4, ![12, 1536, 32, 96]⟩
abbrev S12x1536x32 : Shape := ⟨3, ![12, 1536, 32]⟩
abbrev S16384x8x96 : Shape := ⟨3, ![16384, 8, 96]⟩
abbrev S16384x8 : Shape := ⟨2, ![16384, 8]⟩
abbrev S12x1536x8x96 : Shape := ⟨4, ![12, 1536, 8, 96]⟩
abbrev S12x1536x8 : Shape := ⟨3, ![12, 1536, 8]⟩
abbrev S12x1536x8x4x96 : Shape := ⟨5, ![12, 1536, 8, 4, 96]⟩
abbrev S12x1536x8x4 : Shape := ⟨4, ![12, 1536, 8, 4]⟩
abbrev S8x16384x12x1536x4 : Shape := ⟨5, ![8, 16384, 12, 1536, 4]⟩
abbrev S12x1536x8x4x16384 : Shape := ⟨5, ![12, 1536, 8, 4, 16384]⟩
abbrev S8x16384 : Shape := ⟨2, ![8, 16384]⟩
abbrev S1x1x8x1x16384 : Shape := ⟨5, ![1, 1, 8, 1, 16384]⟩
abbrev S12x1536x8x4x1 : Shape := ⟨5, ![12, 1536, 8, 4, 1]⟩
abbrev S_ : Shape := ⟨0, ![]⟩
abbrev S8x96x12x1536x4 : Shape := ⟨5, ![8, 96, 12, 1536, 4]⟩
abbrev S12x8x1536x1536x4 : Shape := ⟨5, ![12, 8, 1536, 1536, 4]⟩
abbrev S12x1536x8x4x1536 : Shape := ⟨5, ![12, 1536, 8, 4, 1536]⟩
abbrev S1536 : Shape := ⟨1, ![1536]⟩
abbrev S1x1536 : Shape := ⟨2, ![1, 1536]⟩
abbrev S1536x1 : Shape := ⟨2, ![1536, 1]⟩
abbrev S1536x1536 : Shape := ⟨2, ![1536, 1536]⟩
abbrev S12x8x1536 : Shape := ⟨3, ![12, 8, 1536]⟩
abbrev S12x1x8x1x1536 : Shape := ⟨5, ![12, 1, 8, 1, 1536]⟩
abbrev S1x1536x1x1x1536 : Shape := ⟨5, ![1, 1536, 1, 1, 1536]⟩
abbrev S12x8x96x1536x4 : Shape := ⟨5, ![12, 8, 96, 1536, 4]⟩
abbrev S1x1536x1x1 : Shape := ⟨4, ![1, 1536, 1, 1]⟩
abbrev S12x1536x3072 : Shape := ⟨3, ![12, 1536, 3072]⟩

abbrev nBuf : Space → Nat
  | .hbm => 125
  | .vmem => 12
  | .smem => 0
  | _ => 0

abbrev bufTy : (tb : Table) → Fin (tcTables nBuf tb) → BufTy
  | .hbm, ⟨0, _⟩ => ⟨S12x1536x32x96, .fp8e4m3⟩
  | .hbm, ⟨1, _⟩ => ⟨S12x1536x32, .f32⟩
  | .hbm, ⟨2, _⟩ => ⟨S16384x8x96, .fp8e4m3⟩
  | .hbm, ⟨3, _⟩ => ⟨S16384x8x96, .fp8e4m3⟩
  | .hbm, ⟨4, _⟩ => ⟨S16384x8, .f32⟩
  | .hbm, ⟨5, _⟩ => ⟨S16384x8, .f32⟩
  | .hbm, ⟨6, _⟩ => ⟨S12x1536x8x96, .fp8e4m3⟩
  | .hbm, ⟨7, _⟩ => ⟨S12x1536x8x96, .fp8e4m3⟩
  | .hbm, ⟨8, _⟩ => ⟨S12x1536x8, .f32⟩
  | .hbm, ⟨9, _⟩ => ⟨S12x1536x8, .f32⟩
  | .hbm, ⟨10, _⟩ => ⟨S12x1536x32x96, .f32⟩
  | .hbm, ⟨11, _⟩ => ⟨S16384x8x96, .f32⟩
  | .hbm, ⟨12, _⟩ => ⟨S16384x8x96, .bf16⟩
  | .hbm, ⟨13, _⟩ => ⟨S12x1536x8x96, .f32⟩
  | .hbm, ⟨14, _⟩ => ⟨S12x1536x8x96, .bf16⟩
  | .hbm, ⟨15, _⟩ => ⟨S12x1536x32, .f32⟩
  | .hbm, ⟨16, _⟩ => ⟨S12x1536x8x4x96, .f32⟩
  | .hbm, ⟨17, _⟩ => ⟨S12x1536x8x4, .f32⟩
  | .hbm, ⟨18, _⟩ => ⟨S8x16384x12x1536x4, .f32⟩
  | .hbm, ⟨19, _⟩ => ⟨S12x1536x8x4x16384, .f32⟩
  | .hbm, ⟨20, _⟩ => ⟨S8x16384, .f32⟩
  | .hbm, ⟨21, _⟩ => ⟨S1x1x8x1x16384, .f32⟩
  | .hbm, ⟨22, _⟩ => ⟨S8x16384, .f32⟩
  | .hbm, ⟨23, _⟩ => ⟨S1x1x8x1x16384, .f32⟩
  | .hbm, ⟨24, _⟩ => ⟨S12x1536x8x4x1, .f32⟩
  | .hbm, ⟨25, _⟩ => ⟨S12x1536x8x4x16384, .f32⟩
  | .hbm, ⟨26, _⟩ => ⟨S12x1536x8x4x16384, .f32⟩
  | .hbm, ⟨27, _⟩ => ⟨S12x1536x8x4x16384, .f32⟩
  | .hbm, ⟨28, _⟩ => ⟨S12x1536x8x4x16384, .f32⟩
  | .hbm, ⟨29, _⟩ => ⟨S_, .f32⟩
  | .hbm, ⟨30, _⟩ => ⟨S12x1536x8x4, .f32⟩
  | .hbm, ⟨31, _⟩ => ⟨S12x1536x8x4x1, .f32⟩
  | .hbm, ⟨32, _⟩ => ⟨S12x1536x8x4x16384, .f32⟩
  | .hbm, ⟨33, _⟩ => ⟨S12x1536x8x4x16384, .f32⟩
  | .hbm, ⟨34, _⟩ => ⟨S12x1536x8x4x16384, .f32⟩
  | .hbm, ⟨35, _⟩ => ⟨S_, .f32⟩
  | .hbm, ⟨36, _⟩ => ⟨S12x1536x8x4, .f32⟩
  | .hbm, ⟨37, _⟩ => ⟨S12x1536x8x4x16384, .f32⟩
  | .hbm, ⟨38, _⟩ => ⟨S12x1536x8x4x16384, .f32⟩
  | .hbm, ⟨39, _⟩ => ⟨S12x1536x8x4x16384, .bf16⟩
  | .hbm, ⟨40, _⟩ => ⟨S8x96x12x1536x4, .f32⟩
  | .hbm, ⟨41, _⟩ => ⟨S12x1536x8x4x96, .f32⟩
  | .hbm, ⟨42, _⟩ => ⟨S12x1536x8x4x1, .f32⟩
  | .hbm, ⟨43, _⟩ => ⟨S12x1536x8x4x96, .f32⟩
  | .hbm, ⟨44, _⟩ => ⟨S12x1536x8x4x96, .f32⟩
  | .hbm, ⟨45, _⟩ => ⟨S12x1536x8x4, .f32⟩
  | .hbm, ⟨46, _⟩ => ⟨S12x1536x8x4, .f32⟩
  | .hbm, ⟨47, _⟩ => ⟨S12x8x1536x1536x4, .f32⟩
  | .hbm, ⟨48, _⟩ => ⟨S12x1536x8x4x1536, .f32⟩
  | .hbm, ⟨49, _⟩ => ⟨S1536, .i32⟩
  | .hbm, ⟨50, _⟩ => ⟨S1x1536, .i32⟩
  | .hbm, ⟨51, _⟩ => ⟨S1536, .i32⟩
  | .hbm, ⟨52, _⟩ => ⟨S1536x1, .i32⟩
  | .hbm, ⟨53, _⟩ => ⟨S1536x1536, .i32⟩
  | .hbm, ⟨54, _⟩ => ⟨S1536x1536, .i32⟩
  | .hbm, ⟨55, _⟩ => ⟨S1536x1536, .i1⟩
  | .hbm, ⟨56, _⟩ => ⟨S12x8x1536, .f32⟩
  | .hbm, ⟨57, _⟩ => ⟨S12x1x8x1x1536, .f32⟩
  | .hbm, ⟨58, _⟩ => ⟨S12x8x1536, .f32⟩
  | .hbm, ⟨59, _⟩ => ⟨S12x1x8x1x1536, .f32⟩
  | .hbm, ⟨60, _⟩ => ⟨S1x1536x1x1x1536, .i1⟩
  | .hbm, ⟨61, _⟩ => ⟨S12x1536x8x4x1, .f32⟩
  | .hbm, ⟨62, _⟩ => ⟨S12x1536x8x4x1536, .f32⟩
  | .hbm, ⟨63, _⟩ => ⟨S12x1536x8x4x1536, .f32⟩
  | .hbm, ⟨64, _⟩ => ⟨S12x1536x8x4x1536, .f32⟩
  | .hbm, ⟨65, _⟩ => ⟨S12x1536x8x4x1536, .f32⟩
  | .hbm, ⟨66, _⟩ => ⟨S_, .f32⟩
  | .hbm, ⟨67, _⟩ => ⟨S_, .f32⟩
  | .hbm, ⟨68, _⟩ => ⟨S12x1536x8x4x1536, .i1⟩
  | .hbm, ⟨69, _⟩ => ⟨S12x1536x8x4x1536, .f32⟩
  | .hbm, ⟨70, _⟩ => ⟨S12x1536x8x4x1536, .f32⟩
  | .hbm, ⟨71, _⟩ => ⟨S_, .f32⟩
  | .hbm, ⟨72, _⟩ => ⟨S12x1536x8x4, .f32⟩
  | .hbm, ⟨73, _⟩ => ⟨S12x1536x8x4x1, .f32⟩
  | .hbm, ⟨74, _⟩ => ⟨S12x1536x8x4x1536, .f32⟩
  | .hbm, ⟨75, _⟩ => ⟨S12x1536x8x4x1536, .f32⟩
  | .hbm, ⟨76, _⟩ => ⟨S12x1536x8x4x1536, .f32⟩
  | .hbm, ⟨77, _⟩ => ⟨S_, .f32⟩
  | .hbm, ⟨78, _⟩ => ⟨S12x1536x8x4, .f32⟩
  | .hbm, ⟨79, _⟩ => ⟨S12x1536x8x4x1536, .f32⟩
  | .hbm, ⟨80, _⟩ => ⟨S12x1536x8x4x1536, .f32⟩
  | .hbm, ⟨81, _⟩ => ⟨S12x1536x8x4x1536, .bf16⟩
  | .hbm, ⟨82, _⟩ => ⟨S12x8x96x1536x4, .f32⟩
  | .hbm, ⟨83, _⟩ => ⟨S12x1536x8x4x96, .f32⟩
  | .hbm, ⟨84, _⟩ => ⟨S12x1536x8x4x1, .f32⟩
  | .hbm, ⟨85, _⟩ => ⟨S12x1536x8x4x96, .f32⟩
  | .hbm, ⟨86, _⟩ => ⟨S12x1536x8x4x96, .f32⟩
  | .hbm, ⟨87, _⟩ => ⟨S12x1536x8x4, .f32⟩
  | .hbm, ⟨88, _⟩ => ⟨S12x1536x8x4, .f32⟩
  | .hbm, ⟨89, _⟩ => ⟨S12x1536x8x4, .f32⟩
  | .hbm, ⟨90, _⟩ => ⟨S12x1536x8x4, .f32⟩
  | .hbm, ⟨91, _⟩ => ⟨S12x1536x8x4, .i1⟩
  | .hbm, ⟨92, _⟩ => ⟨S12x1536x8x4, .f32⟩
  | .hbm, ⟨93, _⟩ => ⟨S12x1536x8x4, .f32⟩
  | .hbm, ⟨94, _⟩ => ⟨S12x1536x8x4, .f32⟩
  | .hbm, ⟨95, _⟩ => ⟨S12x1536x8x4, .f32⟩
  | .hbm, ⟨96, _⟩ => ⟨S12x1536x8x4, .f32⟩
  | .hbm, ⟨97, _⟩ => ⟨S12x1536x8x4, .f32⟩
  | .hbm, ⟨98, _⟩ => ⟨S12x1536x8x4, .f32⟩
  | .hbm, ⟨99, _⟩ => ⟨S12x1536x8x4, .f32⟩
  | .hbm, ⟨100, _⟩ => ⟨S12x1536x8x4, .f32⟩
  | .hbm, ⟨101, _⟩ => ⟨S12x1536x8x4x1, .f32⟩
  | .hbm, ⟨102, _⟩ => ⟨S12x1536x8x4x96, .f32⟩
  | .hbm, ⟨103, _⟩ => ⟨S12x1536x8x4x96, .f32⟩
  | .hbm, ⟨104, _⟩ => ⟨S12x1536x8x4, .f32⟩
  | .hbm, ⟨105, _⟩ => ⟨S12x1536x8x4, .f32⟩
  | .hbm, ⟨106, _⟩ => ⟨S12x1536x8x4x1, .f32⟩
  | .hbm, ⟨107, _⟩ => ⟨S12x1536x8x4x96, .f32⟩
  | .hbm, ⟨108, _⟩ => ⟨S12x1536x8x4x96, .f32⟩
  | .hbm, ⟨109, _⟩ => ⟨S12x1536x8x4x96, .f32⟩
  | .hbm, ⟨110, _⟩ => ⟨S12x1536x8x4x96, .bf16⟩
  | .hbm, ⟨111, _⟩ => ⟨S_, .f32⟩
  | .hbm, ⟨112, _⟩ => ⟨S12x1536x8x4, .f32⟩
  | .hbm, ⟨113, _⟩ => ⟨S12x1536x8x4, .f32⟩
  | .hbm, ⟨114, _⟩ => ⟨S1536, .f32⟩
  | .hbm, ⟨115, _⟩ => ⟨S_, .f32⟩
  | .hbm, ⟨116, _⟩ => ⟨S1536, .f32⟩
  | .hbm, ⟨117, _⟩ => ⟨S1536, .f32⟩
  | .hbm, ⟨118, _⟩ => ⟨S1536, .f32⟩
  | .hbm, ⟨119, _⟩ => ⟨S1x1536x1x1, .f32⟩
  | .hbm, ⟨120, _⟩ => ⟨S12x1536x8x4, .f32⟩
  | .hbm, ⟨121, _⟩ => ⟨S12x1536x8x4, .f32⟩
  | .hbm, ⟨122, _⟩ => ⟨S12x1536x3072, .bf16⟩
  | .hbm, ⟨123, _⟩ => ⟨S12x1536x32, .f32⟩
  | .hbm, ⟨124, _⟩ => ⟨S12x1536x32, .f32⟩
  | .local _ .vmem, ⟨0, _⟩ => ⟨S12x1536x32x96, .fp8e4m3⟩
  | .local _ .vmem, ⟨1, _⟩ => ⟨S16384x8x96, .fp8e4m3⟩
  | .local _ .vmem, ⟨2, _⟩ => ⟨S16384x8x96, .fp8e4m3⟩
  | .local _ .vmem, ⟨3, _⟩ => ⟨S12x1536x8x96, .fp8e4m3⟩
  | .local _ .vmem, ⟨4, _⟩ => ⟨S12x1536x8x96, .fp8e4m3⟩
  | .local _ .vmem, ⟨5, _⟩ => ⟨S12x1536x32, .f32⟩
  | .local _ .vmem, ⟨6, _⟩ => ⟨S12x1536x32x96, .f32⟩
  | .local _ .vmem, ⟨7, _⟩ => ⟨S16384x8x96, .f32⟩
  | .local _ .vmem, ⟨8, _⟩ => ⟨S16384x8x96, .bf16⟩
  | .local _ .vmem, ⟨9, _⟩ => ⟨S12x1536x8x96, .f32⟩
  | .local _ .vmem, ⟨10, _⟩ => ⟨S12x1536x8x96, .bf16⟩
  | .local _ .vmem, ⟨11, _⟩ => ⟨S12x1536x32, .f32⟩
  | _, _ => ⟨S12x1536x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_1 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v49 : Ref sig .tc := ⟨.hbm, 70, rfl⟩
abbrev main_cst_2 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_4 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_5 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "scale" => some (((Real.sqrt 96)⁻¹ : ℝ) : EReal)
  | _ => none

abbrev grid0 : Pipeline.Grid := .none

abbrev stage0_0 : Fin 1 → Memref sig .tc .vmem S12x1536x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x1536x8x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x1536x8x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1536x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x1536x32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x8x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x8x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x1536x8x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1536x8x96 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x1536x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.HeadProg.lean ====
module

public import proofs.«01_k».proof.Proof.Gen.KernelIdeal.Skeleton

/-!
The kernel's body, rewritten as: the fill of the scratch buffers, then one program per query head of the group (the same
program at four offsets), then the transposed copy to the output block.
-/

@[expose] public section

set_option synthInstance.maxSize 4096

noncomputable section

namespace Cert.KernelIdeal.Gen

open Idealize.ShloMosaic Idealize.SL.Sem

variable {F : FTy → Type} [FloatOps F] [Named F]

theorem inbQ (g : Fin 4) : ∀ a, (![0, 96 * g.val, 0] : Fin 3 → ℕ) a + S1x96x512.size a ≤ S1x384x512.size a := by
  revert g; decide

theorem inbR (g : Fin 4) : ∀ a, (![0, g.val, 0] : Fin 3 → ℕ) a + S1x1x512.size a ≤ S1x4x512.size a := by
  revert g; decide

theorem inbO (g : Fin 4) : ∀ a, (![96 * g.val, 0] : Fin 2 → ℕ) a + S96x512.size a ≤ S384x512.size a := by
  revert g; decide

/-- The fill of the prompt scratch buffers, at the points that ask for it. -/
def prel1 (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) :
    Prog (TpuEff nD τ sig (Elt F) Λ₀ .tc) PUnit := do
  if k0_h1 : k0_cond1 i = 1#1 then do
    Scf.Loop.for k0_t1_loop (k0_t1_ok i k0_h1) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1)
    Scf.Loop.for k0_t2_loop (k0_t2_ok i k0_h1) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1)
    pure ⟨⟩
  else do
    pure ⟨⟩

/-- The fill of the completion scratch buffers, at the points that ask for it. -/
def prel2 (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) :
    Prog (TpuEff nD τ sig (Elt F) Λ₀ .tc) PUnit := do
  if k0_h2 : k0_cond2 i = 1#1 then do
    Scf.Loop.for k0_t3_loop (k0_t3_ok i k0_h2) ⟨⟩ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2)
    Scf.Loop.for k0_t4_loop (k0_t4_ok i k0_h2) ⟨⟩ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2)
    pure ⟨⟩
  else do
    pure ⟨⟩

/-- The rest of the first part, after the fills. -/
def part9Rest (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) :
    Prog (TpuEff nD τ sig (Elt F) Λ₀ .tc) (Σ' (v8 : BitVec 32) (v10 : FVec F S96x512 .fp8e4m3) (v14 : FVec F S1x512 .f32) (v15 : FVec F S1x512 .f32) (v16 : FVec F S1x512 .f32) (v22_0 : FVec F S1x512 .f32) (v22_1 : FVec F S1x512 .f32), FVec F S96x512 .f32) := do
  let arg2 : BitVec 32 := BitVec.ofNat 32 (i 2).val
  let v8 : BitVec 32 := Scalar.muli arg2 512#32
  let v9 : Vec F S1x96x512 .fp8e4m3 ← Prog.lift (.load arg3 (Rect.unit (s := S1x384x512) ![0, 0, 0] S1x96x512.size inb_S1x384x512_S1x96x512_0_0_0).toLoadRect (View.loadsAt_vmem h_S1x96x512))
  let v11 : Vec F S1x1x512 .f32 ← Prog.lift (.load arg4 (Rect.unit (s := S1x4x512) ![0, 0, 0] S1x1x512.size inb_S1x4x512_S1x1x512_0_0_0).toLoadRect (View.loadsAt_vmem h_S1x1x512))
  let v18 : Vec F S96x512 .f32 ← Prog.lift (.load arg20 (Rect.unit (s := S96x512) ![0, 0] S96x512.size inb_S96x512_S96x512_0_0).toLoadRect (View.loadsAt_vmem h_S96x512))
  Prog.lift (.store arg20 (Rect.unit (s := S96x512) ![0, 0] S96x512.size inb_S96x512_S96x512_0_0) (k0_pay61 (F := F)) Finset.univ (View.stores_vmem_bits_univ h_S96x512 rfl) (.inl rfl))
  let (v22_0, v22_1) ← Scf.Loop.for k0_t5_loop k0_t5_ok (k0_pay59 (F := F), k0_pay60 (F := F)) (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11)
  let v23 : Vec F S96x512 .f32 ← Prog.lift (.load arg20 (Rect.unit (s := S96x512) ![0, 0] S96x512.size inb_S96x512_S96x512_0_0).toLoadRect (View.loadsAt_vmem h_S96x512))
  let v26 : Vec F S96x512 .f32 ← Prog.lift (.load arg21 (Rect.unit (s := S384x512) ![0, 0] S96x512.size inb_S384x512_S96x512_0_0).toLoadRect (View.loadsAt_vmem h_S96x512))
  pure ⟨v8, k0_pay57 v9, k0_pay58 v11, k0_pay59 (F := F), k0_pay60 (F := F), v22_0, v22_1, k0_pay68 v22_1 v23⟩

/-- The first part is the two fills and the rest. -/
theorem part9_eq (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) :
    k0_part9 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (prel1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => prel2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => part9Rest i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [k0_part9_eq_skeleton]
  unfold k0_part9_skel prel1 prel2 part9Rest
  by_cases h1 : k0_cond1 i = 1#1 <;> by_cases h2 : k0_cond2 i = 1#1
  · simp only [dif_pos h1, dif_pos h2, bind_assoc, pure_bind]
  · simp only [dif_pos h1, dif_neg h2, bind_assoc, pure_bind]
  · simp only [dif_neg h1, dif_pos h2, bind_assoc, pure_bind]
  · simp only [dif_neg h1, dif_neg h2, bind_assoc, pure_bind]

/-- One query head: prompt attention, completion attention, their merge and the two log-sum-exp rows. -/
def headProg (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (g : Fin 4) :
    Prog (TpuEff nD τ sig (Elt F) Λ₀ .tc) PUnit := do
  let arg2 : BitVec 32 := BitVec.ofNat 32 (i 2).val
  let v8 : BitVec 32 := Scalar.muli arg2 512#32
  let v9 : Vec F S1x96x512 .fp8e4m3 ← Prog.lift (.load arg3 (Rect.unit (s := S1x384x512) ![0, 96 * g.val, 0] S1x96x512.size (inbQ g)).toLoadRect (View.loadsAt_vmem h_S1x96x512))
  let v11 : Vec F S1x1x512 .f32 ← Prog.lift (.load arg4 (Rect.unit (s := S1x4x512) ![0, g.val, 0] S1x1x512.size (inbR g)).toLoadRect (View.loadsAt_vmem h_S1x1x512))
  let v18 : Vec F S96x512 .f32 ← Prog.lift (.load arg20 (Rect.unit (s := S96x512) ![0, 0] S96x512.size inb_S96x512_S96x512_0_0).toLoadRect (View.loadsAt_vmem h_S96x512))
  Prog.lift (.store arg20 (Rect.unit (s := S96x512) ![0, 0] S96x512.size inb_S96x512_S96x512_0_0) (k0_pay61 (F := F)) Finset.univ (View.stores_vmem_bits_univ h_S96x512 rfl) (.inl rfl))
  let (v22_0, v22_1) ← Scf.Loop.for k0_t5_loop k0_t5_ok (k0_pay59 (F := F), k0_pay60 (F := F)) (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11)
  let v23 : Vec F S96x512 .f32 ← Prog.lift (.load arg20 (Rect.unit (s := S96x512) ![0, 0] S96x512.size inb_S96x512_S96x512_0_0).toLoadRect (View.loadsAt_vmem h_S96x512))
  let v26 : Vec F S96x512 .f32 ← Prog.lift (.load arg21 (Rect.unit (s := S384x512) ![96 * g.val, 0] S96x512.size (inbO g)).toLoadRect (View.loadsAt_vmem h_S96x512))
  let v10 := k0_pay57 v9
  let v14 := k0_pay58 v11
  let v15 := k0_pay59 (F := F)
  let v16 := k0_pay60 (F := F)
  let v25 := k0_pay68 v22_1 v23
  Prog.lift (.store arg21 (Rect.unit (s := S384x512) ![96 * g.val, 0] S96x512.size (inbO g)) (k0_pay69 v25) Finset.univ (View.stores_vmem_bits_univ h_S96x512 rfl) (.inl rfl))
  let v30 : Vec F S96x512 .f32 ← Prog.lift (.load arg20 (Rect.unit (s := S96x512) ![0, 0] S96x512.size inb_S96x512_S96x512_0_0).toLoadRect (View.loadsAt_vmem h_S96x512))
  Prog.lift (.store arg20 (Rect.unit (s := S96x512) ![0, 0] S96x512.size inb_S96x512_S96x512_0_0) (k0_pay70 (F := F)) Finset.univ (View.stores_vmem_bits_univ h_S96x512 rfl) (.inl rfl))
  let (v55_0, v55_1) ← Scf.Loop.for (k0_t6_loop i) (k0_t6_ok i) (v15, v16) (k0_t6_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v15 v16 v25)
  let (v56_0, v56_1) ← Scf.Loop.for (k0_t7_loop i) (k0_t7_ok i) (v55_0, v55_1) (k0_t7_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v15 v16 v25)
  let v57 : BitVec 32 := Scalar.divsi v8 256#32
  let v58 : BitVec 1 := Scalar.cmpi .sgt v8 0#32
  let v59 : BitVec 32 := Scalar.extui v58
  let v60 : BitVec 1 := Scalar.cmpi .slt v8 0#32
  let v61 : BitVec 32 := Scalar.extui v60
  let v62 : BitVec 32 := Scalar.subi v59 v61
  let v63 : BitVec 1 := Scalar.cmpi .sgt 256#32 0#32
  let v64 : BitVec 32 := Scalar.extui v63
  let v65 : BitVec 1 := Scalar.cmpi .slt 256#32 0#32
  let v66 : BitVec 32 := Scalar.extui v65
  let c256_i32_33 := 256#32
  let v67 : BitVec 32 := Scalar.subi v64 v66
  let v68 : BitVec 1 := Scalar.cmpi .ne v62 v67
  let v69 : BitVec 32 := Scalar.remsi v8 c256_i32_33
  let v70 : BitVec 1 := Scalar.cmpi .ne v69 0#32
  let v71 : BitVec 1 := Scalar.andi v68 v70
  let v72 : BitVec 32 := Scalar.subi v57 1#32
  let v73 : BitVec 32 := Scalar.select v71 v72 v57
  let v74 : BitVec 32 := Scalar.addi v8 512#32
  let v75 : BitVec 32 := Scalar.divsi v74 256#32
  let v76 : BitVec 1 := Scalar.cmpi .sgt v74 0#32
  let v77 : BitVec 32 := Scalar.extui v76
  let v78 : BitVec 1 := Scalar.cmpi .slt v74 0#32
  let v79 : BitVec 32 := Scalar.extui v78
  let v80 : BitVec 32 := Scalar.subi v77 v79
  let v81 : BitVec 1 := Scalar.cmpi .sgt 256#32 0#32
  let v82 : BitVec 32 := Scalar.extui v81
  let v83 : BitVec 1 := Scalar.cmpi .slt 256#32 0#32
  let v84 : BitVec 32 := Scalar.extui v83
  let v85 : BitVec 32 := Scalar.subi v82 v84
  let v86 : BitVec 1 := Scalar.cmpi .ne v80 v85
  let v87 : BitVec 32 := Scalar.remsi v74 256#32
  let v88 : BitVec 1 := Scalar.cmpi .ne v87 0#32
  let v89 : BitVec 1 := Scalar.andi v86 v88
  let v90 : BitVec 32 := Scalar.subi v75 1#32
  let v91 : BitVec 32 := Scalar.select v89 v90 v75
  let v92 : BitVec 32 := Scalar.subi v91 v73
  let v94 : BitVec 32 := Scalar.divsi v92 1#32
  let v95 : BitVec 32 := Scalar.muli v94 1#32
  let v96 : BitVec 32 := Scalar.addi v73 v95
  let (v97_0, v97_1) ← Scf.Loop.for (k0_t8_loop i) (k0_t8_ok i) (v56_0, v56_1) (k0_t8_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v22_0 v22_1 v56_0 v56_1 c256_i32_33 v57 v62 v64 v66 v73)
  let (v98_0, v98_1) ← Scf.Loop.for (k0_t9_loop i) (k0_t9_ok i) (v97_0, v97_1) (k0_t9_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v22_0 v22_1 v56_0 v56_1 c256_i32_33 v57 v62 v64 v66 v96)
  let v99 : Vec F S96x512 .f32 ← Prog.lift (.load arg20 (Rect.unit (s := S96x512) ![0, 0] S96x512.size inb_S96x512_S96x512_0_0).toLoadRect (View.loadsAt_vmem h_S96x512))
  let v101 := k0_pay85 v98_1 v99
  let v105 := k0_pay86 v22_0 v22_1
  let v109 := k0_pay87 v98_0 v98_1
  let v120 : Vec F S96x512 .f32 ← Prog.lift (.load arg21 (Rect.unit (s := S384x512) ![96 * g.val, 0] S96x512.size (inbO g)).toLoadRect (View.loadsAt_vmem h_S96x512))
  let v128 : Vec F S96x512 .f32 ← Prog.lift (.load arg21 (Rect.unit (s := S384x512) ![96 * g.val, 0] S96x512.size (inbO g)).toLoadRect (View.loadsAt_vmem h_S96x512))
  Prog.lift (.store arg21 (Rect.unit (s := S384x512) ![96 * g.val, 0] S96x512.size (inbO g)) (k0_pay88 v101 v105 v109 v120) Finset.univ (View.stores_vmem_bits_univ h_S96x512 rfl) (.inl rfl))
  let v133 : Vec F S1x1x512 .f32 ← Prog.lift (.load arg14 (Rect.unit (s := S1x4x512) ![0, g.val, 0] S1x1x512.size (inbR g)).toLoadRect (View.loadsAt_vmem h_S1x1x512))
  Prog.lift (.store arg14 (Rect.unit (s := S1x4x512) ![0, g.val, 0] S1x1x512.size (inbR g)) (k0_pay89 v105) Finset.univ (View.stores_vmem_bits_univ h_S1x1x512 rfl) (.inl rfl))
  let v144 : Vec F S1x1x512 .f32 ← Prog.lift (.load arg15 (Rect.unit (s := S1x4x512) ![0, g.val, 0] S1x1x512.size (inbR g)).toLoadRect (View.loadsAt_vmem h_S1x1x512))
  Prog.lift (.store arg15 (Rect.unit (s := S1x4x512) ![0, g.val, 0] S1x1x512.size (inbR g)) (k0_pay90 v8 v109) Finset.univ (View.stores_vmem_bits_univ h_S1x1x512 rfl) (.inl rfl))
  pure ⟨⟩

/-- The transposed copy of the four heads to the output block. -/
def finProg (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) :
    Prog (TpuEff nD τ sig (Elt F) Λ₀ .tc) PUnit := do
  let v561 : Vec F S384x512 .f32 ← Prog.lift (.load arg21 (Rect.unit (s := S384x512) ![0, 0] S384x512.size inb_S384x512_S384x512_0_0).toLoadRect (View.loadsAt_vmem h_S384x512))
  let v564 : Vec F S512x384 .bf16 ← Prog.lift (.load arg13 (Rect.unit (s := S512x384) ![0, 0] S512x384.size inb_S512x384_S512x384_0_0).toLoadRect (View.loadsAt_vmem h_S512x384))
  Prog.lift (.store arg13 (Rect.unit (s := S512x384) ![0, 0] S512x384.size inb_S512x384_S512x384_0_0) (k0_pay4 v561) Finset.univ (View.stores_vmem h_S512x384 (harg13.storeExact_slice rfl _ packedbf16_S512x384_S512x384_0_0) (fun _ => rfl)) (.inl rfl))
  pure ⟨⟩

set_option maxRecDepth 65536 in
set_option maxHeartbeats 4000000 in
/-- The printed body is the fill, the four heads in turn and the copy. -/
theorem body_eq (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) :
    cc0_shared_prompt_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = (prel1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => prel2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => headProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0 >>= fun _ => headProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 1 >>= fun _ => headProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 2 >>= fun _ => headProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 3 >>= fun _ => finProg i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [cc0_shared_prompt_attention_eq_skeleton]
  unfold cc0_shared_prompt_attention_skel
  rw [part9_eq, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold part9Rest k0_part10_skel k0_part11_skel k0_part12_skel k0_part13_skel k0_part14_skel k0_part15_skel k0_part16_skel k0_part17_skel k0_part18_skel k0_part19_skel k0_part20_skel k0_part21_skel k0_part22_skel
  unfold headProg finProg
  simp only [bind_assoc, pure_bind]
  rfl

end Cert.KernelIdeal.Gen
-- ==== Proof.Trip.lean ====
module

public import proofs.«01_k».proof.Proof.HeadProg
public import Idealize.ShloMosaic.Lib.Exec
public import Idealize.ShloMosaic.Lib.Tactic
public import Idealize.ShloMosaic.Lib.VecWindow
public import Idealize.ShloMosaic.Lib.Pipeline.Kit

/-!
One trip of each attention loop: what it yields and what it leaves in the accumulator, as functions of the carried
values, of the accumulator it finds and of the blocks it loads.
-/

@[expose] public section

set_option maxRecDepth 8192
set_option maxHeartbeats 4000000
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- What an attention loop carries — running maximum and sum — and the accumulator. -/
abbrev St (F : FTy → Type) := (FVec F S1x512 .f32 × FVec F S1x512 .f32) × (S96x512.Idx → F .f32)

/-- The accumulator held at the contents that read `A`. -/
abbrev accAt (c : Dev nD) (arg20 : Memref sig .tc .vmem S96x512 .f32) (A : S96x512.Idx → F .f32) : sProp 𝕄G :=
  iprop(∃ f, (arg20.view.loc (c : Thread nD τ) ↦[arg20.view.set]{fullShare} f) ∗ ⌜arg20.view.read (Elt F) f = A⌝)

/-- The prompt loop: the state after trip `k`, from the state `s` before it. -/
def step5 (i : grid0.Coords) (arg5 : Memref sig .tc .vmem S1x16384x128 .fp8e4m3) (arg16 : Memref sig .tc .vmem S16384x128 .f32) (arg17 : Memref sig .tc .vmem S96x16384 .bf16) (v9 : Vec F S1x96x512 .fp8e4m3) (v11 : Vec F S1x1x512 .f32) (Xarg5 : BufTy.Contents (Elt F) arg5.view.ty) (Xarg16 : BufTy.Contents (Elt F) arg16.view.ty) (Xarg17 : BufTy.Contents (Elt F) arg17.view.ty) (k : Fin k0_t5_loop.trips) (s : St F) : St F :=
  let kb := (arg5.view.readAt (Elt F) (Rect.unit (s := S1x16384x128) (k0_off11 k) S1x256x96.size (k0_off11_inb k)).toLoadRect Xarg5)
  let ksb := (arg16.view.readAt (Elt F) (Rect.unit (s := S16384x128) (k0_off12 k) S256x128.size (k0_off12_inb k)).toLoadRect Xarg16)
  let vb := (arg17.view.readAt (Elt F) (Rect.unit (s := S96x16384) (k0_off13 k) S96x256.size (k0_off13_inb k)).toLoadRect Xarg17)
  ((k0_pay63 v9 v11 s.1.1 kb ksb, k0_pay66 v9 v11 s.1.1 s.1.2 kb ksb), k0_pay67 v9 v11 s.1.1 kb ksb s.2 vb)

/-- One trip of that loop. -/
theorem trip5 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (v9 : Vec F S1x96x512 .fp8e4m3) (v11 : Vec F S1x1x512 .f32)  (Xarg5 : BufTy.Contents (Elt F) arg5.view.ty) (Xarg16 : BufTy.Contents (Elt F) arg16.view.ty) (Xarg17 : BufTy.Contents (Elt F) arg17.view.ty)
    (k : Fin k0_t5_loop.trips) (s : St F) :
    iprop((arg5.view.loc (c : Thread nD τ) ↦[arg5.view.set]{fullShare} Xarg5) ∗ (arg16.view.loc (c : Thread nD τ) ↦[arg16.view.set]{fullShare} Xarg16) ∗ (arg17.view.loc (c : Thread nD τ) ↦[arg17.view.set]{fullShare} Xarg17) ∗ accAt (F := F) c arg20 s.2)
      ⊢ wp frame (wpE (defs₀ (F := F)) 𝒱 (c : Thread nD τ) bd) E (k0_t5_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 k s.1)
          (fun y => iprop((arg5.view.loc (c : Thread nD τ) ↦[arg5.view.set]{fullShare} Xarg5) ∗ (arg16.view.loc (c : Thread nD τ) ↦[arg16.view.set]{fullShare} Xarg16) ∗ (arg17.view.loc (c : Thread nD τ) ↦[arg17.view.set]{fullShare} Xarg17) ∗ accAt (F := F) c arg20 (step5 i arg5 arg16 arg17 v9 v11 Xarg5 Xarg16 Xarg17 k s).2 ∗ ⌜y = (step5 i arg5 arg16 arg17 v9 v11 Xarg5 Xarg16 Xarg17 k s).1⌝)) := by
  obtain ⟨⟨m, l⟩, A⟩ := s
  unfold k0_t5_body
  iintro ⟨Harg5, Harg16, Harg17, %f20, H20, %hA⟩
  sl_exec
  sl_step
  dsimp only at hA
  have hA' : arg20.view.readAt (Elt F) (Rect.unit (s := S96x512) ![0, 0] S96x512.size inb_S96x512_S96x512_0_0).toLoadRect f20 = A := by
    rw [View.readAt_full]; exact hA
  isplitl [Harg5]; · iexact Harg5
  isplitl [Harg16]; · iexact Harg16
  isplitl [Harg17]; · iexact Harg17
  isplitl [H20]
  · iexists _
    isplitl [H20]; · iexact H20
    ipureintro
    rw [View.read_writes_full, hA']
    rfl
  ipureintro
  rfl

/-- The state before trip `n` of that loop, from the state `s0` before its first. -/
def st5 (i : grid0.Coords) (arg5 : Memref sig .tc .vmem S1x16384x128 .fp8e4m3) (arg16 : Memref sig .tc .vmem S16384x128 .f32) (arg17 : Memref sig .tc .vmem S96x16384 .bf16) (v9 : Vec F S1x96x512 .fp8e4m3) (v11 : Vec F S1x1x512 .f32) (Xarg5 : BufTy.Contents (Elt F) arg5.view.ty) (Xarg16 : BufTy.Contents (Elt F) arg16.view.ty) (Xarg17 : BufTy.Contents (Elt F) arg17.view.ty) (s0 : St F) : ℕ → St F
  | 0 => s0
  | n + 1 => if h : n < k0_t5_loop.trips then step5 i arg5 arg16 arg17 v9 v11 Xarg5 Xarg16 Xarg17 ⟨n, h⟩ (st5 i arg5 arg16 arg17 v9 v11 Xarg5 Xarg16 Xarg17 s0 n) else st5 i arg5 arg16 arg17 v9 v11 Xarg5 Xarg16 Xarg17 s0 n

theorem st5_succ (i : grid0.Coords) (arg5 : Memref sig .tc .vmem S1x16384x128 .fp8e4m3) (arg16 : Memref sig .tc .vmem S16384x128 .f32) (arg17 : Memref sig .tc .vmem S96x16384 .bf16) (v9 : Vec F S1x96x512 .fp8e4m3) (v11 : Vec F S1x1x512 .f32) (Xarg5 : BufTy.Contents (Elt F) arg5.view.ty) (Xarg16 : BufTy.Contents (Elt F) arg16.view.ty) (Xarg17 : BufTy.Contents (Elt F) arg17.view.ty) (s0 : St F) (k : Fin k0_t5_loop.trips) :
    st5 i arg5 arg16 arg17 v9 v11 Xarg5 Xarg16 Xarg17 s0 (k.val + 1) = step5 i arg5 arg16 arg17 v9 v11 Xarg5 Xarg16 Xarg17 k (st5 i arg5 arg16 arg17 v9 v11 Xarg5 Xarg16 Xarg17 s0 k.val) := by
  rw [st5.eq_2]; exact dif_pos k.isLt

/-- That loop at the head of a program: the rest runs from the state after its last trip. -/
theorem wp_loop5 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (v9 : Vec F S1x96x512 .fp8e4m3) (v11 : Vec F S1x1x512 .f32)  (Xarg5 : BufTy.Contents (Elt F) arg5.view.ty) (Xarg16 : BufTy.Contents (Elt F) arg16.view.ty) (Xarg17 : BufTy.Contents (Elt F) arg17.view.ty)
    (s0 : St F) {β : Type} {kk : FVec F S1x512 .f32 × FVec F S1x512 .f32 → Prog (TpuEff nD τ sig (Elt F) Λ₀ .tc) β} {Q : β → sProp 𝕄G} :
    (iprop((arg5.view.loc (c : Thread nD τ) ↦[arg5.view.set]{fullShare} Xarg5) ∗ (arg16.view.loc (c : Thread nD τ) ↦[arg16.view.set]{fullShare} Xarg16) ∗ (arg17.view.loc (c : Thread nD τ) ↦[arg17.view.set]{fullShare} Xarg17) ∗ accAt (F := F) c arg20 s0.2) : sProp 𝕄G)
      ⊢ iprop(((arg5.view.loc (c : Thread nD τ) ↦[arg5.view.set]{fullShare} Xarg5) ∗ (arg16.view.loc (c : Thread nD τ) ↦[arg16.view.set]{fullShare} Xarg16) ∗ (arg17.view.loc (c : Thread nD τ) ↦[arg17.view.set]{fullShare} Xarg17) ∗ accAt (F := F) c arg20 (st5 i arg5 arg16 arg17 v9 v11 Xarg5 Xarg16 Xarg17 s0 k0_t5_loop.trips).2 -∗ wp Idealize.ShloMosaic.frame (wpE (defs₀ (F := F)) 𝒱 (c : Thread nD τ) bd) E (kk (st5 i arg5 arg16 arg17 v9 v11 Xarg5 Xarg16 Xarg17 s0 k0_t5_loop.trips).1) Q)
        -∗ wp Idealize.ShloMosaic.frame (wpE (defs₀ (F := F)) 𝒱 (c : Thread nD τ) bd) E
          (Scf.Loop.for k0_t5_loop k0_t5_ok s0.1 (k0_t5_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11) >>= kk) Q) := by
  iintro ⟨Harg5, Harg16, Harg17, H20⟩
  iintro HK
  iapply (Scf.wp_for_bind Idealize.ShloMosaic.frame (wpE (defs₀ (F := F)) 𝒱 (c : Thread nD τ) bd) E k0_t5_loop.lb k0_t5_loop.ub k0_t5_loop.st k0_t5_ok s0.1 (k0_t5_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11)
    (fun n acc => iprop((arg5.view.loc (c : Thread nD τ) ↦[arg5.view.set]{fullShare} Xarg5) ∗ (arg16.view.loc (c : Thread nD τ) ↦[arg16.view.set]{fullShare} Xarg16) ∗ (arg17.view.loc (c : Thread nD τ) ↦[arg17.view.set]{fullShare} Xarg17) ∗ accAt (F := F) c arg20 (st5 i arg5 arg16 arg17 v9 v11 Xarg5 Xarg16 Xarg17 s0 n).2 ∗ ⌜acc = (st5 i arg5 arg16 arg17 v9 v11 Xarg5 Xarg16 Xarg17 s0 n).1⌝)) ?hstep) $$ [Harg5 Harg16 Harg17 H20]
  case hstep =>
    intro k acc
    iintro ⟨Harg5, Harg16, Harg17, H20, %h_acc⟩
    subst h_acc
    rw [st5_succ]
    iapply (trip5 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11  Xarg5 Xarg16 Xarg17 k _)
    isplitl [Harg5]; · iexact Harg5
    isplitl [Harg16]; · iexact Harg16
    isplitl [Harg17]; · iexact Harg17
    iexact H20
  · isplitl [Harg5]; · iexact Harg5
    isplitl [Harg16]; · iexact Harg16
    isplitl [Harg17]; · iexact Harg17
    isplitl [H20]
    · iexact H20
    ipureintro; rfl
  iintro %acc ⟨Harg5, Harg16, Harg17, H20, %h_acc⟩
  subst h_acc
  iapply HK
  isplitl [Harg5]; · iexact Harg5
  isplitl [Harg16]; · iexact Harg16
  isplitl [Harg17]; · iexact Harg17
  iexact H20

/-- The unmasked completion loop: the state after trip `k`, from the state `s` before it. -/
def step6 (i : grid0.Coords) (arg9 : Memref sig .tc .vmem S1x1x1536x128 .fp8e4m3) (arg18 : Memref sig .tc .vmem S1536x128 .f32) (arg19 : Memref sig .tc .vmem S96x1536 .bf16) (v10 : FVec F S96x512 .fp8e4m3) (v14 : FVec F S1x512 .f32) (Xarg9 : BufTy.Contents (Elt F) arg9.view.ty) (Xarg18 : BufTy.Contents (Elt F) arg18.view.ty) (Xarg19 : BufTy.Contents (Elt F) arg19.view.ty) (k : Fin (k0_t6_loop i).trips) (s : St F) : St F :=
  let kb := (arg9.view.readAt (Elt F) (Rect.unit (s := S1x1x1536x128) (k0_off14 i k) S1x1x256x96.size (k0_off14_inb i k)).toLoadRect Xarg9)
  let ksb := (arg18.view.readAt (Elt F) (Rect.unit (s := S1536x128) (k0_off15 i k) S256x128.size (k0_off15_inb i k)).toLoadRect Xarg18)
  let vb := (arg19.view.readAt (Elt F) (Rect.unit (s := S96x1536) (k0_off16 i k) S96x256.size (k0_off16_inb i k)).toLoadRect Xarg19)
  ((k0_pay72 v10 v14 s.1.1 kb ksb, k0_pay75 v10 v14 s.1.1 s.1.2 kb ksb), k0_pay76 v10 v14 s.1.1 kb ksb s.2 vb)

/-- One trip of that loop. -/
theorem trip6 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (v10 : FVec F S96x512 .fp8e4m3) (v14 : FVec F S1x512 .f32) (v8 : BitVec 32) (v15 v16 : FVec F S1x512 .f32) (v25 : FVec F S96x512 .f32) (Xarg9 : BufTy.Contents (Elt F) arg9.view.ty) (Xarg18 : BufTy.Contents (Elt F) arg18.view.ty) (Xarg19 : BufTy.Contents (Elt F) arg19.view.ty)
    (k : Fin (k0_t6_loop i).trips) (s : St F) :
    iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 s.2)
      ⊢ wp frame (wpE (defs₀ (F := F)) 𝒱 (c : Thread nD τ) bd) E (k0_t6_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v15 v16 v25 k s.1)
          (fun y => iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 (step6 i arg9 arg18 arg19 v10 v14 Xarg9 Xarg18 Xarg19 k s).2 ∗ ⌜y = (step6 i arg9 arg18 arg19 v10 v14 Xarg9 Xarg18 Xarg19 k s).1⌝)) := by
  obtain ⟨⟨m, l⟩, A⟩ := s
  unfold k0_t6_body
  iintro ⟨Harg9, Harg18, Harg19, %f20, H20, %hA⟩
  sl_exec
  sl_step
  dsimp only at hA
  have hA' : arg20.view.readAt (Elt F) (Rect.unit (s := S96x512) ![0, 0] S96x512.size inb_S96x512_S96x512_0_0).toLoadRect f20 = A := by
    rw [View.readAt_full]; exact hA
  isplitl [Harg9]; · iexact Harg9
  isplitl [Harg18]; · iexact Harg18
  isplitl [Harg19]; · iexact Harg19
  isplitl [H20]
  · iexists _
    isplitl [H20]; · iexact H20
    ipureintro
    rw [View.read_writes_full, hA']
    rfl
  ipureintro
  rfl

/-- The state before trip `n` of that loop, from the state `s0` before its first. -/
def st6 (i : grid0.Coords) (arg9 : Memref sig .tc .vmem S1x1x1536x128 .fp8e4m3) (arg18 : Memref sig .tc .vmem S1536x128 .f32) (arg19 : Memref sig .tc .vmem S96x1536 .bf16) (v10 : FVec F S96x512 .fp8e4m3) (v14 : FVec F S1x512 .f32) (Xarg9 : BufTy.Contents (Elt F) arg9.view.ty) (Xarg18 : BufTy.Contents (Elt F) arg18.view.ty) (Xarg19 : BufTy.Contents (Elt F) arg19.view.ty) (s0 : St F) : ℕ → St F
  | 0 => s0
  | n + 1 => if h : n < (k0_t6_loop i).trips then step6 i arg9 arg18 arg19 v10 v14 Xarg9 Xarg18 Xarg19 ⟨n, h⟩ (st6 i arg9 arg18 arg19 v10 v14 Xarg9 Xarg18 Xarg19 s0 n) else st6 i arg9 arg18 arg19 v10 v14 Xarg9 Xarg18 Xarg19 s0 n

theorem st6_succ (i : grid0.Coords) (arg9 : Memref sig .tc .vmem S1x1x1536x128 .fp8e4m3) (arg18 : Memref sig .tc .vmem S1536x128 .f32) (arg19 : Memref sig .tc .vmem S96x1536 .bf16) (v10 : FVec F S96x512 .fp8e4m3) (v14 : FVec F S1x512 .f32) (Xarg9 : BufTy.Contents (Elt F) arg9.view.ty) (Xarg18 : BufTy.Contents (Elt F) arg18.view.ty) (Xarg19 : BufTy.Contents (Elt F) arg19.view.ty) (s0 : St F) (k : Fin (k0_t6_loop i).trips) :
    st6 i arg9 arg18 arg19 v10 v14 Xarg9 Xarg18 Xarg19 s0 (k.val + 1) = step6 i arg9 arg18 arg19 v10 v14 Xarg9 Xarg18 Xarg19 k (st6 i arg9 arg18 arg19 v10 v14 Xarg9 Xarg18 Xarg19 s0 k.val) := by
  rw [st6.eq_2]; exact dif_pos k.isLt

/-- That loop at the head of a program: the rest runs from the state after its last trip. -/
theorem wp_loop6 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (v10 : FVec F S96x512 .fp8e4m3) (v14 : FVec F S1x512 .f32) (v8 : BitVec 32) (v15 v16 : FVec F S1x512 .f32) (v25 : FVec F S96x512 .f32) (Xarg9 : BufTy.Contents (Elt F) arg9.view.ty) (Xarg18 : BufTy.Contents (Elt F) arg18.view.ty) (Xarg19 : BufTy.Contents (Elt F) arg19.view.ty)
    (s0 : St F) {β : Type} {kk : FVec F S1x512 .f32 × FVec F S1x512 .f32 → Prog (TpuEff nD τ sig (Elt F) Λ₀ .tc) β} {Q : β → sProp 𝕄G} :
    (iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 s0.2) : sProp 𝕄G)
      ⊢ iprop(((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 (st6 i arg9 arg18 arg19 v10 v14 Xarg9 Xarg18 Xarg19 s0 (k0_t6_loop i).trips).2 -∗ wp Idealize.ShloMosaic.frame (wpE (defs₀ (F := F)) 𝒱 (c : Thread nD τ) bd) E (kk (st6 i arg9 arg18 arg19 v10 v14 Xarg9 Xarg18 Xarg19 s0 (k0_t6_loop i).trips).1) Q)
        -∗ wp Idealize.ShloMosaic.frame (wpE (defs₀ (F := F)) 𝒱 (c : Thread nD τ) bd) E
          (Scf.Loop.for (k0_t6_loop i) (k0_t6_ok i) s0.1 (k0_t6_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v15 v16 v25) >>= kk) Q) := by
  iintro ⟨Harg9, Harg18, Harg19, H20⟩
  iintro HK
  iapply (Scf.wp_for_bind Idealize.ShloMosaic.frame (wpE (defs₀ (F := F)) 𝒱 (c : Thread nD τ) bd) E (k0_t6_loop i).lb (k0_t6_loop i).ub (k0_t6_loop i).st (k0_t6_ok i) s0.1 (k0_t6_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v15 v16 v25)
    (fun n acc => iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 (st6 i arg9 arg18 arg19 v10 v14 Xarg9 Xarg18 Xarg19 s0 n).2 ∗ ⌜acc = (st6 i arg9 arg18 arg19 v10 v14 Xarg9 Xarg18 Xarg19 s0 n).1⌝)) ?hstep) $$ [Harg9 Harg18 Harg19 H20]
  case hstep =>
    intro k acc
    iintro ⟨Harg9, Harg18, Harg19, H20, %h_acc⟩
    subst h_acc
    rw [st6_succ]
    iapply (trip6 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v14 v8 v15 v16 v25 Xarg9 Xarg18 Xarg19 k _)
    isplitl [Harg9]; · iexact Harg9
    isplitl [Harg18]; · iexact Harg18
    isplitl [Harg19]; · iexact Harg19
    iexact H20
  · isplitl [Harg9]; · iexact Harg9
    isplitl [Harg18]; · iexact Harg18
    isplitl [Harg19]; · iexact Harg19
    isplitl [H20]
    · iexact H20
    ipureintro; rfl
  iintro %acc ⟨Harg9, Harg18, Harg19, H20, %h_acc⟩
  subst h_acc
  iapply HK
  isplitl [Harg9]; · iexact Harg9
  isplitl [Harg18]; · iexact Harg18
  isplitl [Harg19]; · iexact Harg19
  iexact H20

/-- The masked completion loop: the state after trip `k`, from the state `s` before it. -/
def step8 (i : grid0.Coords) (arg9 : Memref sig .tc .vmem S1x1x1536x128 .fp8e4m3) (arg18 : Memref sig .tc .vmem S1536x128 .f32) (arg19 : Memref sig .tc .vmem S96x1536 .bf16) (v8 : BitVec 32) (v10 : FVec F S96x512 .fp8e4m3) (v14 : FVec F S1x512 .f32) (v73 : BitVec 32) (Xarg9 : BufTy.Contents (Elt F) arg9.view.ty) (Xarg18 : BufTy.Contents (Elt F) arg18.view.ty) (Xarg19 : BufTy.Contents (Elt F) arg19.view.ty) (k : Fin (k0_t8_loop i).trips) (s : St F) : St F :=
  let kb := (arg9.view.readAt (Elt F) (Rect.unit (s := S1x1x1536x128) (k0_off20 i k) S1x1x256x96.size (k0_off20_inb i k)).toLoadRect Xarg9)
  let ksb := (arg18.view.readAt (Elt F) (Rect.unit (s := S1536x128) (k0_off21 i k) S256x128.size (k0_off21_inb i k)).toLoadRect Xarg18)
  let vb := (arg19.view.readAt (Elt F) (Rect.unit (s := S96x1536) (k0_off22 i k) S96x256.size (k0_off22_inb i k)).toLoadRect Xarg19)
  ((k0_pay6 i v8 v10 v14 v73 1#32 k s.1.1 kb ksb, k0_pay9 i v8 v10 v14 v73 1#32 k s.1.1 s.1.2 kb ksb), k0_pay83 (k0_pay10 i v8 v10 v14 v73 1#32 k s.1.1 kb ksb s.2 vb))

/-- One trip of that loop. -/
theorem trip8 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (v8 : BitVec 32) (v10 : FVec F S96x512 .fp8e4m3) (v14 : FVec F S1x512 .f32) (v73 : BitVec 32) (v22_0 v22_1 v56_0 v56_1 : FVec F S1x512 .f32) (c256_i32_33 v57 v62 v64 v66 : BitVec 32) (Xarg9 : BufTy.Contents (Elt F) arg9.view.ty) (Xarg18 : BufTy.Contents (Elt F) arg18.view.ty) (Xarg19 : BufTy.Contents (Elt F) arg19.view.ty)
    (k : Fin (k0_t8_loop i).trips) (s : St F) :
    iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 s.2)
      ⊢ wp frame (wpE (defs₀ (F := F)) 𝒱 (c : Thread nD τ) bd) E (k0_t8_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v22_0 v22_1 v56_0 v56_1 c256_i32_33 v57 v62 v64 v66 v73 k s.1)
          (fun y => iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 (step8 i arg9 arg18 arg19 v8 v10 v14 v73 Xarg9 Xarg18 Xarg19 k s).2 ∗ ⌜y = (step8 i arg9 arg18 arg19 v8 v10 v14 v73 Xarg9 Xarg18 Xarg19 k s).1⌝)) := by
  obtain ⟨⟨m, l⟩, A⟩ := s
  unfold k0_t8_body
  rw [k0_part1_eq_skeleton]
  unfold k0_part1_skel
  iintro ⟨Harg9, Harg18, Harg19, %f20, H20, %hA⟩
  sl_exec
  sl_step
  dsimp only at hA
  have hA' : arg20.view.readAt (Elt F) (Rect.unit (s := S96x512) ![0, 0] S96x512.size inb_S96x512_S96x512_0_0).toLoadRect f20 = A := by
    rw [View.readAt_full]; exact hA
  isplitl [Harg9]; · iexact Harg9
  isplitl [Harg18]; · iexact Harg18
  isplitl [Harg19]; · iexact Harg19
  isplitl [H20]
  · iexists _
    isplitl [H20]; · iexact H20
    ipureintro
    rw [View.read_writes_full, hA']
    rfl
  ipureintro
  rfl

/-- The state before trip `n` of that loop, from the state `s0` before its first. -/
def st8 (i : grid0.Coords) (arg9 : Memref sig .tc .vmem S1x1x1536x128 .fp8e4m3) (arg18 : Memref sig .tc .vmem S1536x128 .f32) (arg19 : Memref sig .tc .vmem S96x1536 .bf16) (v8 : BitVec 32) (v10 : FVec F S96x512 .fp8e4m3) (v14 : FVec F S1x512 .f32) (v73 : BitVec 32) (Xarg9 : BufTy.Contents (Elt F) arg9.view.ty) (Xarg18 : BufTy.Contents (Elt F) arg18.view.ty) (Xarg19 : BufTy.Contents (Elt F) arg19.view.ty) (s0 : St F) : ℕ → St F
  | 0 => s0
  | n + 1 => if h : n < (k0_t8_loop i).trips then step8 i arg9 arg18 arg19 v8 v10 v14 v73 Xarg9 Xarg18 Xarg19 ⟨n, h⟩ (st8 i arg9 arg18 arg19 v8 v10 v14 v73 Xarg9 Xarg18 Xarg19 s0 n) else st8 i arg9 arg18 arg19 v8 v10 v14 v73 Xarg9 Xarg18 Xarg19 s0 n

theorem st8_succ (i : grid0.Coords) (arg9 : Memref sig .tc .vmem S1x1x1536x128 .fp8e4m3) (arg18 : Memref sig .tc .vmem S1536x128 .f32) (arg19 : Memref sig .tc .vmem S96x1536 .bf16) (v8 : BitVec 32) (v10 : FVec F S96x512 .fp8e4m3) (v14 : FVec F S1x512 .f32) (v73 : BitVec 32) (Xarg9 : BufTy.Contents (Elt F) arg9.view.ty) (Xarg18 : BufTy.Contents (Elt F) arg18.view.ty) (Xarg19 : BufTy.Contents (Elt F) arg19.view.ty) (s0 : St F) (k : Fin (k0_t8_loop i).trips) :
    st8 i arg9 arg18 arg19 v8 v10 v14 v73 Xarg9 Xarg18 Xarg19 s0 (k.val + 1) = step8 i arg9 arg18 arg19 v8 v10 v14 v73 Xarg9 Xarg18 Xarg19 k (st8 i arg9 arg18 arg19 v8 v10 v14 v73 Xarg9 Xarg18 Xarg19 s0 k.val) := by
  rw [st8.eq_2]; exact dif_pos k.isLt

/-- That loop at the head of a program: the rest runs from the state after its last trip. -/
theorem wp_loop8 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (v8 : BitVec 32) (v10 : FVec F S96x512 .fp8e4m3) (v14 : FVec F S1x512 .f32) (v73 : BitVec 32) (v22_0 v22_1 v56_0 v56_1 : FVec F S1x512 .f32) (c256_i32_33 v57 v62 v64 v66 : BitVec 32) (Xarg9 : BufTy.Contents (Elt F) arg9.view.ty) (Xarg18 : BufTy.Contents (Elt F) arg18.view.ty) (Xarg19 : BufTy.Contents (Elt F) arg19.view.ty)
    (s0 : St F) {β : Type} {kk : FVec F S1x512 .f32 × FVec F S1x512 .f32 → Prog (TpuEff nD τ sig (Elt F) Λ₀ .tc) β} {Q : β → sProp 𝕄G} :
    (iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 s0.2) : sProp 𝕄G)
      ⊢ iprop(((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 (st8 i arg9 arg18 arg19 v8 v10 v14 v73 Xarg9 Xarg18 Xarg19 s0 (k0_t8_loop i).trips).2 -∗ wp Idealize.ShloMosaic.frame (wpE (defs₀ (F := F)) 𝒱 (c : Thread nD τ) bd) E (kk (st8 i arg9 arg18 arg19 v8 v10 v14 v73 Xarg9 Xarg18 Xarg19 s0 (k0_t8_loop i).trips).1) Q)
        -∗ wp Idealize.ShloMosaic.frame (wpE (defs₀ (F := F)) 𝒱 (c : Thread nD τ) bd) E
          (Scf.Loop.for (k0_t8_loop i) (k0_t8_ok i) s0.1 (k0_t8_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v22_0 v22_1 v56_0 v56_1 c256_i32_33 v57 v62 v64 v66 v73) >>= kk) Q) := by
  iintro ⟨Harg9, Harg18, Harg19, H20⟩
  iintro HK
  iapply (Scf.wp_for_bind Idealize.ShloMosaic.frame (wpE (defs₀ (F := F)) 𝒱 (c : Thread nD τ) bd) E (k0_t8_loop i).lb (k0_t8_loop i).ub (k0_t8_loop i).st (k0_t8_ok i) s0.1 (k0_t8_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v22_0 v22_1 v56_0 v56_1 c256_i32_33 v57 v62 v64 v66 v73)
    (fun n acc => iprop((arg9.view.loc (c : Thread nD τ) ↦[arg9.view.set]{fullShare} Xarg9) ∗ (arg18.view.loc (c : Thread nD τ) ↦[arg18.view.set]{fullShare} Xarg18) ∗ (arg19.view.loc (c : Thread nD τ) ↦[arg19.view.set]{fullShare} Xarg19) ∗ accAt (F := F) c arg20 (st8 i arg9 arg18 arg19 v8 v10 v14 v73 Xarg9 Xarg18 Xarg19 s0 n).2 ∗ ⌜acc = (st8 i arg9 arg18 arg19 v8 v10 v14 v73 Xarg9 Xarg18 Xarg19 s0 n).1⌝)) ?hstep) $$ [Harg9 Harg18 Harg19 H20]
  case hstep =>
    intro k acc
    iintro ⟨Harg9, Harg18, Harg19, H20, %h_acc⟩
    subst h_acc
    rw [st8_succ]
    iapply (trip8 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v10 v14 v73 v22_0 v22_1 v56_0 v56_1 c256_i32_33 v57 v62 v64 v66 Xarg9 Xarg18 Xarg19 k _)
    isplitl [Harg9]; · iexact Harg9
    isplitl [Harg18]; · iexact Harg18
    isplitl [Harg19]; · iexact Harg19
    iexact H20
  · isplitl [Harg9]; · iexact Harg9
    isplitl [Harg18]; · iexact Harg18
    isplitl [Harg19]; · iexact Harg19
    isplitl [H20]
    · iexact H20
    ipureintro; rfl
  iintro %acc ⟨Harg9, Harg18, Harg19, H20, %h_acc⟩
  subst h_acc
  iapply HK
  isplitl [Harg9]; · iexact Harg9
  isplitl [Harg18]; · iexact Harg18
  isplitl [Harg19]; · iexact Harg19
  iexact H20

end Cert.KernelIdeal.Gen
-- ==== Proof.Head.lean ====
module

public import proofs.«01_k».proof.Proof.Trip
public import Idealize.ShloMosaic.Lib.LoopRemainder
public import Idealize.ShloMosaic.Lib.Exec
public import Idealize.ShloMosaic.Lib.Tactic
public import Idealize.ShloMosaic.Lib.VecWindow
public import Idealize.ShloMosaic.Lib.Pipeline.Kit

/-!
The triple of one query head: what it leaves in the two log-sum-exp blocks and in its rows of the output scratch.
-/

@[expose] public section

set_option maxRecDepth 8192
set_option maxHeartbeats 4000000
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The first query position of the point's tile. -/
def tile0 (i : grid0.Coords) : BitVec 32 := Scalar.muli (BitVec.ofNat 32 (i 2).val) 512#32

/-- A word divided by 256, rounded toward minus infinity, as the kernel computes it. -/
def floor256 (v : BitVec 32) : BitVec 32 :=
  Scalar.select
    (Scalar.andi
      (Scalar.cmpi .ne (Scalar.subi (Scalar.extui (Scalar.cmpi .sgt v 0#32)) (Scalar.extui (Scalar.cmpi .slt v 0#32)) : BitVec 32)
        (Scalar.subi (Scalar.extui (Scalar.cmpi .sgt 256#32 0#32)) (Scalar.extui (Scalar.cmpi .slt 256#32 0#32))))
      (Scalar.cmpi .ne (Scalar.remsi v 256#32) 0#32))
    (Scalar.subi (Scalar.divsi v 256#32) 1#32) (Scalar.divsi v 256#32)

/-- The head's codes and scales, as loaded. -/
def headQ (arg3 : Memref sig .tc .vmem S1x384x512 .fp8e4m3) (Xarg3 : BufTy.Contents (Elt F) arg3.view.ty) (g : Fin 4) : Vec F S1x96x512 .fp8e4m3 :=
  arg3.view.readAt (Elt F) (Rect.unit (s := S1x384x512) ![0, 96 * g.val, 0] S1x96x512.size (inbQ g)).toLoadRect Xarg3
def headS (arg4 : Memref sig .tc .vmem S1x4x512 .f32) (Xarg4 : BufTy.Contents (Elt F) arg4.view.ty) (g : Fin 4) : Vec F S1x1x512 .f32 :=
  arg4.view.readAt (Elt F) (Rect.unit (s := S1x4x512) ![0, g.val, 0] S1x1x512.size (inbR g)).toLoadRect Xarg4

/-- The state after the prompt loop. -/
def headP (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : St F :=
  st5 i arg5 arg16 arg17 (headQ arg3 Xarg3 g) (headS arg4 Xarg4 g) Xarg5 Xarg16 Xarg17 ((k0_pay59, k0_pay60), k0_pay61) k0_t5_loop.trips

/-- The state after the completion loops. -/
def headC1 (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : St F :=
  st6 i arg9 arg18 arg19 (k0_pay57 (headQ arg3 Xarg3 g)) (k0_pay58 (headS arg4 Xarg4 g)) Xarg9 Xarg18 Xarg19 ((k0_pay59, k0_pay60), k0_pay70) (k0_t6_loop i).trips
def headC (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : St F :=
  st8 i arg9 arg18 arg19 (tile0 i) (k0_pay57 (headQ arg3 Xarg3 g)) (k0_pay58 (headS arg4 Xarg4 g)) (floor256 (tile0 i)) Xarg9 Xarg18 Xarg19
    (headC1 i arg3 arg4 arg5 arg9 arg16 arg17 arg18 arg19 Xarg3 Xarg4 Xarg5 Xarg9 Xarg16 Xarg17 Xarg18 Xarg19 g) (k0_t8_loop i).trips

/-- The head's rows of the output, and its two log-sum-exp rows. -/
def headO (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : FVec F S96x512 .f32 :=
  let p := headP i arg3 arg4 arg5 arg9 arg16 arg17 arg18 arg19 Xarg3 Xarg4 Xarg5 Xarg9 Xarg16 Xarg17 Xarg18 Xarg19 g
  let q := headC i arg3 arg4 arg5 arg9 arg16 arg17 arg18 arg19 Xarg3 Xarg4 Xarg5 Xarg9 Xarg16 Xarg17 Xarg18 Xarg19 g
  k0_pay88 (k0_pay85 q.1.2 q.2) (k0_pay86 p.1.1 p.1.2) (k0_pay87 q.1.1 q.1.2) (k0_pay69 (k0_pay68 p.1.2 p.2))
def headLP (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : FVec F S1x1x512 .f32 :=
  let p := headP i arg3 arg4 arg5 arg9 arg16 arg17 arg18 arg19 Xarg3 Xarg4 Xarg5 Xarg9 Xarg16 Xarg17 Xarg18 Xarg19 g
  k0_pay89 (k0_pay86 p.1.1 p.1.2)
def headLC (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : FVec F S1x1x512 .f32 :=
  let q := headC i arg3 arg4 arg5 arg9 arg16 arg17 arg18 arg19 Xarg3 Xarg4 Xarg5 Xarg9 Xarg16 Xarg17 Xarg18 Xarg19 g
  k0_pay90 (tile0 i) (k0_pay87 q.1.1 q.1.2)

/-- A covered load at the rectangle stored last reads what was stored. -/
theorem readCov_self {sig : RefSig} {Val : EltTy → Type} [∀ e, Nonempty (Val e)] {κ : Kind} {sp : Space} {s : Shape} {e : EltTy} (v : View sig κ sp s e)
    {off size : Fin s.rank → ℕ} (inb : ∀ a, off a + size a ≤ s.size a) (w : (Rect.unit off size inb).shape.Idx → Val e) (L : List (View.Piece Val s e)) :
    v.readCov (⟨Rect.unit off size inb, w⟩ :: L) (Rect.unit off size inb).toLoadRect = w := by
  funext y
  exact View.read_writes_cons_unit_of_mem v v.junk inb w L ((Rect.unit off size inb).emb y) y rfl fun a => by
    show off a + 1 * (y a).val = off a + (y a).val
    omega

theorem head_run (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (g : Fin 4) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (Xarg14 : BufTy.Contents (Elt F) arg14.view.ty) (Xarg15 : BufTy.Contents (Elt F) arg15.view.ty) (Xarg20 : BufTy.Contents (Elt F) arg20.view.ty) (Xarg21 : BufTy.Contents (Elt F) arg21.view.ty) :
    (iprop((arg3.view.loc (c : Thread nD τ) ↦[arg3.view.set]{fullShare} Xarg3) ∗ (arg4.view.loc (c : Thread nD τ) ↦[arg4.view.set]{fullShare} Xarg4) ∗ (arg5.view.loc (c : Thread nD τ) ↦[arg5.view.set]{fullShare} Xarg5) ∗ (arg9.view.loc (c : Thread nD τ) ↦[arg9.view.set]{fullShare} Xarg9) ∗ (arg16.view.loc (c : Thread nD τ) ↦[arg16.view.set]{fullShare} Xarg16) ∗ (arg17.view.loc (c : Thread nD τ) ↦[arg17.view.set]{fullShare} Xarg17) ∗ (arg18.view.loc (c : Thread nD τ) ↦[arg18.view.set]{fullShare} Xarg18) ∗ (arg19.view.loc (c : Thread nD τ) ↦[arg19.view.set]{fullShare} Xarg19) ∗ (arg14.view.loc (c : Thread nD τ) ↦[arg14.view.set]{fullShare} Xarg14) ∗ (arg15.view.loc (c : Thread nD τ) ↦[arg15.view.set]{fullShare} Xarg15) ∗ (arg20.view.loc (c : Thread nD τ) ↦[arg20.view.set]{fullShare} Xarg20) ∗ (arg21.view.loc (c : Thread nD τ) ↦[arg21.view.set]{fullShare} Xarg21)) : sProp 𝕄G)
      ⊢ wp frame (wpE (defs₀ (F := F)) 𝒱 (c : Thread nD τ) bd) E (headProg (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 g)
          (fun _ => iprop((arg3.view.loc (c : Thread nD τ) ↦[arg3.view.set]{fullShare} Xarg3) ∗ (arg4.view.loc (c : Thread nD τ) ↦[arg4.view.set]{fullShare} Xarg4) ∗ (arg5.view.loc (c : Thread nD τ) ↦[arg5.view.set]{fullShare} Xarg5) ∗ (arg9.view.loc (c : Thread nD τ) ↦[arg9.view.set]{fullShare} Xarg9) ∗ (arg16.view.loc (c : Thread nD τ) ↦[arg16.view.set]{fullShare} Xarg16) ∗ (arg17.view.loc (c : Thread nD τ) ↦[arg17.view.set]{fullShare} Xarg17) ∗ (arg18.view.loc (c : Thread nD τ) ↦[arg18.view.set]{fullShare} Xarg18) ∗ (arg19.view.loc (c : Thread nD τ) ↦[arg19.view.set]{fullShare} Xarg19)
            ∗ (∃ f, (arg14.view.loc (c : Thread nD τ) ↦[arg14.view.set]{fullShare} f) ∗ ⌜arg14.view.read (Elt F) f = VecWindow.put (arg14.view.read (Elt F) Xarg14) ![0, g.val, 0] S1x1x512.size (headLP i arg3 arg4 arg5 arg9 arg16 arg17 arg18 arg19 Xarg3 Xarg4 Xarg5 Xarg9 Xarg16 Xarg17 Xarg18 Xarg19 g)⌝)
            ∗ (∃ f, (arg15.view.loc (c : Thread nD τ) ↦[arg15.view.set]{fullShare} f) ∗ ⌜arg15.view.read (Elt F) f = VecWindow.put (arg15.view.read (Elt F) Xarg15) ![0, g.val, 0] S1x1x512.size (headLC i arg3 arg4 arg5 arg9 arg16 arg17 arg18 arg19 Xarg3 Xarg4 Xarg5 Xarg9 Xarg16 Xarg17 Xarg18 Xarg19 g)⌝)
            ∗ (∃ f, (arg20.view.loc (c : Thread nD τ) ↦[arg20.view.set]{fullShare} f))
            ∗ (∃ f, (arg21.view.loc (c : Thread nD τ) ↦[arg21.view.set]{fullShare} f) ∗ ⌜arg21.view.read (Elt F) f = VecWindow.put (arg21.view.read (Elt F) Xarg21) ![96 * g.val, 0] S96x512.size (headO i arg3 arg4 arg5 arg9 arg16 arg17 arg18 arg19 Xarg3 Xarg4 Xarg5 Xarg9 Xarg16 Xarg17 Xarg18 Xarg19 g)⌝))) := by
  unfold headProg
  iintro ⟨Harg3, Harg4, Harg5, Harg9, Harg16, Harg17, Harg18, Harg19, Harg14, Harg15, Harg20, Harg21⟩
  sl_exec
  iapply (wp_loop5 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (headQ arg3 Xarg3 g) (headS arg4 Xarg4 g) Xarg5 Xarg16 Xarg17 ((k0_pay59, k0_pay60), k0_pay61)) $$ [Harg5 Harg16 Harg17 Harg20]
  · isplitl [Harg5]; · iexact Harg5
    isplitl [Harg16]; · iexact Harg16
    isplitl [Harg17]; · iexact Harg17
    iexists _
    isplitl [Harg20]; · iexact Harg20
    ipureintro
    exact View.read_writes_full arg20.view _ _ _ _
  iintro ⟨Harg5, Harg16, Harg17, %f1, Harg20, %h1⟩
  sl_exec
  iapply (wp_loop6 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay57 (headQ arg3 Xarg3 g)) (k0_pay58 (headS arg4 Xarg4 g)) _ _ _ _ Xarg9 Xarg18 Xarg19 ((k0_pay59, k0_pay60), k0_pay70)) $$ [Harg9 Harg18 Harg19 Harg20]
  · isplitl [Harg9]; · iexact Harg9
    isplitl [Harg18]; · iexact Harg18
    isplitl [Harg19]; · iexact Harg19
    iexists _
    isplitl [Harg20]; · iexact Harg20
    ipureintro
    exact View.read_writes_full arg20.view _ _ _ _
  iintro ⟨Harg9, Harg18, Harg19, %f2, Harg20, %h2⟩
  sl_exec
  iapply (wp_loop8 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (tile0 i) (k0_pay57 (headQ arg3 Xarg3 g)) (k0_pay58 (headS arg4 Xarg4 g)) (floor256 (tile0 i)) _ _ _ _ _ _ _ _ _ Xarg9 Xarg18 Xarg19 (headC1 i arg3 arg4 arg5 arg9 arg16 arg17 arg18 arg19 Xarg3 Xarg4 Xarg5 Xarg9 Xarg16 Xarg17 Xarg18 Xarg19 g)) $$ [Harg9 Harg18 Harg19 Harg20]
  · isplitl [Harg9]; · iexact Harg9
    isplitl [Harg18]; · iexact Harg18
    isplitl [Harg19]; · iexact Harg19
    iexists _
    isplitl [Harg20]; · iexact Harg20
    ipureintro
    exact h2
  iintro ⟨Harg9, Harg18, Harg19, %f3, Harg20, %h3⟩
  sl_exec
  sl_step
  have e25 : head_run.sl.v25 c i arg3 arg4 arg5 arg16 arg17 arg20 g Xarg3 Xarg4 Xarg5 Xarg16 Xarg17 f1
      = k0_pay68 (headP i arg3 arg4 arg5 arg9 arg16 arg17 arg18 arg19 Xarg3 Xarg4 Xarg5 Xarg9 Xarg16 Xarg17 Xarg18 Xarg19 g).1.2 (headP i arg3 arg4 arg5 arg9 arg16 arg17 arg18 arg19 Xarg3 Xarg4 Xarg5 Xarg9 Xarg16 Xarg17 Xarg18 Xarg19 g).2 := by
    unfold head_run.sl.v25
    rw [View.readAt_full, h1]; rfl
  have e101 : head_run.sl.v101 c i arg3 arg4 arg5 arg9 arg16 arg17 arg18 arg19 arg20 g Xarg3 Xarg4 Xarg5 Xarg9 Xarg16 Xarg17 Xarg18 Xarg19 f3
      = k0_pay85 (headC i arg3 arg4 arg5 arg9 arg16 arg17 arg18 arg19 Xarg3 Xarg4 Xarg5 Xarg9 Xarg16 Xarg17 Xarg18 Xarg19 g).1.2 (headC i arg3 arg4 arg5 arg9 arg16 arg17 arg18 arg19 Xarg3 Xarg4 Xarg5 Xarg9 Xarg16 Xarg17 Xarg18 Xarg19 g).2 := by
    unfold head_run.sl.v101
    rw [View.readAt_full, h3]; rfl
  have e120 : head_run.sl.v120 c i arg3 arg4 arg5 arg16 arg17 arg20 arg21 g Xarg3 Xarg4 Xarg5 Xarg16 Xarg17 f1
      = k0_pay69 (head_run.sl.v25 c i arg3 arg4 arg5 arg16 arg17 arg20 g Xarg3 Xarg4 Xarg5 Xarg16 Xarg17 f1) :=
    readCov_self arg21.view (inbO g) _ []
  isplitl [Harg3]; · iexact Harg3
  isplitl [Harg4]; · iexact Harg4
  isplitl [Harg5]; · iexact Harg5
  isplitl [Harg9]; · iexact Harg9
  isplitl [Harg16]; · iexact Harg16
  isplitl [Harg17]; · iexact Harg17
  isplitl [Harg18]; · iexact Harg18
  isplitl [Harg19]; · iexact Harg19
  isplitl [Harg14]
  · iexists _; isplitl [Harg14]; · iexact Harg14
    ipureintro
    rw [View.read_writes_cons_put _ _ _ _ _ rfl, View.writes_nil]
    rfl
  isplitl [Harg15]
  · iexists _; isplitl [Harg15]; · iexact Harg15
    ipureintro
    rw [View.read_writes_cons_put _ _ _ _ _ rfl, View.writes_nil]
    rfl
  isplitl [Harg20]
  · iexists _; iexact Harg20
  iexists _; isplitl [Harg21]; · iexact Harg21
  ipureintro
  rw [View.read_writes_cons_put _ _ _ _ _ rfl, View.read_writes_cons_put _ _ _ _ _ rfl, VecWindow.put_put_same, View.writes_nil, e120, e101, e25]
  rfl

end Cert.KernelIdeal.Gen
-- ==== Proof.Offs.lean ====
module

public import proofs.«01_k».proof.Proof.Head

/-!
Trip counts and block offsets of the kernel's loops, as numbers.
-/

@[expose] public section

set_option maxRecDepth 8192

noncomputable section

namespace Cert.KernelIdeal.Gen

open Idealize.ShloMosaic

theorem iv_mul (k n : ℕ) (h : n * k < 2 ^ 31) :
    (Scalar.indexCast (Scalar.muli (Scf.iv 0#32 1#32 k) (BitVec.ofNat 32 n)) : Index).toNat = n * k := by
  simp only [Scalar.indexCast, Scalar.muli, IntOp.muli, Scf.iv, BitVec.toNat_mul, BitVec.toNat_ofNat, BitVec.toNat_add]
  simp
  rw [Nat.mul_comm]
  exact Nat.mod_eq_of_lt (by omega)

theorem iv_mul' (b k n : ℕ) (h : n * (b + k) < 2 ^ 31) (hn : 0 < n) :
    (Scalar.indexCast (Scalar.muli (Scf.iv (BitVec.ofNat 32 b) 1#32 k) (BitVec.ofNat 32 n)) : Index).toNat = n * (b + k) := by
  have h2 : b + k ≤ n * (b + k) := Nat.le_mul_of_pos_left _ hn
  simp only [Scalar.indexCast, Scalar.muli, IntOp.muli, Scf.iv, BitVec.toNat_mul, BitVec.toNat_ofNat, BitVec.toNat_add]
  simp
  rw [Nat.mul_comm]
  exact Nat.mod_eq_of_lt (by omega)

theorem trips1 : k0_t1_loop.trips = 128 := by decide
theorem trips2 : k0_t2_loop.trips = 64 := by decide
theorem trips3 : k0_t3_loop.trips = 12 := by decide
theorem trips4 : k0_t4_loop.trips = 6 := by decide
theorem trips5 : k0_t5_loop.trips = 64 := by decide
theorem trips6 (i : grid0.Coords) : (k0_t6_loop i).trips = 2 * (i 2).val := by
  unfold k0_t6_loop
  generalize i 2 = b
  revert b
  decide
theorem trips8 (i : grid0.Coords) : (k0_t8_loop i).trips = 2 := by
  unfold k0_t8_loop
  generalize i 2 = b
  revert b
  decide

theorem off1_eq (k) : k0_off1 k = ![0, 0, 128 * k.val] := by
  have hk := Nat.lt_of_lt_of_le k.isLt k0_t1_abs.2.1
  unfold k0_off1; rw [← iv_mul k.val 128 (by omega)]
theorem off2_eq (k) : k0_off2 k = ![128 * k.val, 0] := by
  have hk := Nat.lt_of_lt_of_le k.isLt k0_t1_abs.2.1
  unfold k0_off2; rw [← iv_mul k.val 128 (by omega)]
theorem off3_eq (k) : k0_off3 k = ![0, 0, 256 * k.val] := by
  have hk := Nat.lt_of_lt_of_le k.isLt k0_t2_abs.2.1
  unfold k0_off3; rw [← iv_mul k.val 256 (by omega)]
theorem off4_eq (k) : k0_off4 k = ![0, 0, 256 * k.val] := by
  have hk := Nat.lt_of_lt_of_le k.isLt k0_t2_abs.2.1
  unfold k0_off4; rw [← iv_mul k.val 256 (by omega)]
theorem off5_eq (k) : k0_off5 k = ![0, 256 * k.val] := by
  have hk := Nat.lt_of_lt_of_le k.isLt k0_t2_abs.2.1
  unfold k0_off5; rw [← iv_mul k.val 256 (by omega)]
theorem off6_eq (k) : k0_off6 k = ![0, 0, 0, 128 * k.val] := by
  have hk := Nat.lt_of_lt_of_le k.isLt k0_t3_abs.2.1
  unfold k0_off6; rw [← iv_mul k.val 128 (by omega)]
theorem off7_eq (k) : k0_off7 k = ![128 * k.val, 0] := by
  have hk := Nat.lt_of_lt_of_le k.isLt k0_t3_abs.2.1
  unfold k0_off7; rw [← iv_mul k.val 128 (by omega)]
theorem off8_eq (k) : k0_off8 k = ![0, 0, 0, 256 * k.val] := by
  have hk := Nat.lt_of_lt_of_le k.isLt k0_t4_abs.2.1
  unfold k0_off8; rw [← iv_mul k.val 256 (by omega)]
theorem off9_eq (k) : k0_off9 k = ![0, 0, 0, 256 * k.val] := by
  have hk := Nat.lt_of_lt_of_le k.isLt k0_t4_abs.2.1
  unfold k0_off9; rw [← iv_mul k.val 256 (by omega)]
theorem off10_eq (k) : k0_off10 k = ![0, 256 * k.val] := by
  have hk := Nat.lt_of_lt_of_le k.isLt k0_t4_abs.2.1
  unfold k0_off10; rw [← iv_mul k.val 256 (by omega)]
theorem off11_eq (k) : k0_off11 k = ![0, 256 * k.val, 0] := by
  have hk := Nat.lt_of_lt_of_le k.isLt k0_t5_abs.2.1
  unfold k0_off11; rw [← iv_mul k.val 256 (by omega)]
theorem off12_eq (k) : k0_off12 k = ![256 * k.val, 0] := by
  have hk := Nat.lt_of_lt_of_le k.isLt k0_t5_abs.2.1
  unfold k0_off12; rw [← iv_mul k.val 256 (by omega)]
theorem off13_eq (k) : k0_off13 k = ![0, 256 * k.val] := by
  have hk := Nat.lt_of_lt_of_le k.isLt k0_t5_abs.2.1
  unfold k0_off13; rw [← iv_mul k.val 256 (by omega)]
theorem off14_eq (i k) : k0_off14 i k = ![0, 0, 256 * k.val, 0] := by
  have hk := Nat.lt_of_lt_of_le k.isLt (k0_t6_abs i).2.1
  unfold k0_off14; rw [← iv_mul k.val 256 (by omega)]
theorem off15_eq (i k) : k0_off15 i k = ![256 * k.val, 0] := by
  have hk := Nat.lt_of_lt_of_le k.isLt (k0_t6_abs i).2.1
  unfold k0_off15; rw [← iv_mul k.val 256 (by omega)]
theorem off16_eq (i k) : k0_off16 i k = ![0, 256 * k.val] := by
  have hk := Nat.lt_of_lt_of_le k.isLt (k0_t6_abs i).2.1
  unfold k0_off16; rw [← iv_mul k.val 256 (by omega)]

theorem tile0_eq (i : grid0.Coords) : tile0 i = BitVec.ofNat 32 (512 * (i 2).val) := by
  unfold tile0
  generalize i 2 = b
  revert b
  decide
theorem floor_tile0 (i : grid0.Coords) : floor256 (tile0 i) = BitVec.ofNat 32 (2 * (i 2).val) := by
  unfold floor256 tile0
  generalize i 2 = b
  revert b
  decide

theorem off20_eq (i k) : k0_off20 i k = ![0, 0, 256 * (2 * (i 2).val + k.val), 0] := by
  have hk := Nat.lt_of_lt_of_le k.isLt (k0_t8_abs i).2.1
  have r_i2 : (i 2).val < 3 := (i 2).isLt
  unfold k0_off20; rw [← iv_mul' (2 * (i 2).val) k.val 256 (by omega) (by omega), ← floor_tile0]; rfl
theorem off21_eq (i k) : k0_off21 i k = ![256 * (2 * (i 2).val + k.val), 0] := by
  have hk := Nat.lt_of_lt_of_le k.isLt (k0_t8_abs i).2.1
  have r_i2 : (i 2).val < 3 := (i 2).isLt
  unfold k0_off21; rw [← iv_mul' (2 * (i 2).val) k.val 256 (by omega) (by omega), ← floor_tile0]; rfl
theorem off22_eq (i k) : k0_off22 i k = ![0, 256 * (2 * (i 2).val + k.val)] := by
  have hk := Nat.lt_of_lt_of_le k.isLt (k0_t8_abs i).2.1
  have r_i2 : (i 2).val < 3 := (i 2).isLt
  unfold k0_off22; rw [← iv_mul' (2 * (i 2).val) k.val 256 (by omega) (by omega), ← floor_tile0]; rfl

end Cert.KernelIdeal.Gen
-- ==== Proof.Prel.lean ====
module

public import proofs.«01_k».proof.Proof.Offs
public import Idealize.ShloMosaic.Lib.Pointwise
public import Idealize.ShloMosaic.Lib.Exec
public import Idealize.ShloMosaic.Lib.Tactic
public import Idealize.ShloMosaic.Lib.VecWindow
public import Idealize.ShloMosaic.Lib.Pipeline.Kit

/-!
The fills of the scratch buffers: what they hold afterwards, and the triples of the two fills.
-/

@[expose] public section

set_option maxRecDepth 8192
set_option maxHeartbeats 4000000
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The key scales, one row of equal lanes per position. -/
def fill1 (x : S1x1x16384.Idx → F .f32) : S16384x128.Idx → F .f32 := fun y => x (ix3 0 0 (y 0))
/-- The value codes times their scales, rounded to the working format. -/
def fill2 (v : S1x96x16384.Idx → F .fp8e4m3) (x : S1x1x16384.Idx → F .f32) : S96x16384.Idx → F .bf16 := fun y =>
  FloatOps.truncf .bf16 bitsLt_bf16_f32 (FloatOps.mulf (FloatOps.extf .f32 bitsLt_fp8e4m3_f32 (v (ix3 0 (y 0) (y 1)))) (x (ix3 0 0 (y 1))))
def fill3 (x : S1x1x1x1536.Idx → F .f32) : S1536x128.Idx → F .f32 := fun y => x (ix4 0 0 0 (y 0))
def fill4 (v : S1x1x96x1536.Idx → F .fp8e4m3) (x : S1x1x1x1536.Idx → F .f32) : S96x1536.Idx → F .bf16 := fun y =>
  FloatOps.truncf .bf16 bitsLt_bf16_f32 (FloatOps.mulf (FloatOps.extf .f32 bitsLt_fp8e4m3_f32 (v (ix4 0 0 (y 0) (y 1)))) (x (ix4 0 0 0 (y 1))))

theorem pay53_apply (b : Vec F S1x1x128 .f32) (j : S128x128.Idx) : k0_pay53 b j = b (ix3 0 0 (j 0)) := by
  pointwise [k0_pay53]
theorem pay54_apply (v : Vec F S1x96x256 .fp8e4m3) (b : Vec F S1x1x256 .f32) (j : S96x256.Idx) : k0_pay54 v b j =
    FloatOps.truncf .bf16 bitsLt_bf16_f32 (FloatOps.mulf (FloatOps.extf .f32 bitsLt_fp8e4m3_f32 (v (ix3 0 (j 0) (j 1)))) (b (ix3 0 0 (j 1)))) := by
  pointwise [k0_pay54]
theorem pay55_apply (b : Vec F S1x1x1x128 .f32) (j : S128x128.Idx) : k0_pay55 b j = b (ix4 0 0 0 (j 0)) := by
  pointwise [k0_pay55]
theorem pay56_apply (v : Vec F S1x1x96x256 .fp8e4m3) (b : Vec F S1x1x1x256 .f32) (j : S96x256.Idx) : k0_pay56 v b j =
    FloatOps.truncf .bf16 bitsLt_bf16_f32 (FloatOps.mulf (FloatOps.extf .f32 bitsLt_fp8e4m3_f32 (v (ix4 0 0 (j 0) (j 1)))) (b (ix4 0 0 0 (j 1)))) := by
  pointwise [k0_pay56]

/-- A store of a block agreeing with `W` extends the rows on which the buffer agrees with `W`. -/
theorem put_rows {n m b : ℕ} {α : Type} (x W : (⟨2, ![n, m]⟩ : Shape).Idx → α) (k : ℕ) (w : ((a : Fin 2) → Fin ((![b, m] : Fin 2 → ℕ) a)) → α)
    (hx : ∀ y, (y 0).val < b * k → x y = W y)
    (hw : ∀ (j : (a : Fin 2) → Fin ((![b, m] : Fin 2 → ℕ) a)) (y : (⟨2, ![n, m]⟩ : Shape).Idx), (y 0).val = b * k + (j 0).val → (y 1).val = (j 1).val → w j = W y)
    (y : (⟨2, ![n, m]⟩ : Shape).Idx) (hy : (y 0).val < b * (k + 1)) : VecWindow.put x ![b * k, 0] ![b, m] w y = W y := by
  unfold VecWindow.put
  split
  next h =>
    have h0 := (h 0).1
    refine hw _ y ?_ ?_
    · show (y 0).val = b * k + ((y 0).val - b * k)
      have : b * k ≤ (y 0).val := h0
      omega
    · show (y 1).val = (y 1).val - 0
      omega
  next h =>
    refine hx y ?_
    by_contra hc
    apply h
    intro a
    match a with
    | 0 => show b * k ≤ (y 0).val ∧ (y 0).val < b * k + b; rw [Nat.mul_succ] at hy; omega
    | 1 => show 0 ≤ (y 1).val ∧ (y 1).val < 0 + m; have := (y 1).isLt; exact ⟨Nat.zero_le _, by rw [Nat.zero_add]; exact this⟩

theorem put_cols {n m b : ℕ} {α : Type} (x W : (⟨2, ![n, m]⟩ : Shape).Idx → α) (k : ℕ) (w : ((a : Fin 2) → Fin ((![n, b] : Fin 2 → ℕ) a)) → α)
    (hx : ∀ y, (y 1).val < b * k → x y = W y)
    (hw : ∀ (j : (a : Fin 2) → Fin ((![n, b] : Fin 2 → ℕ) a)) (y : (⟨2, ![n, m]⟩ : Shape).Idx), (y 0).val = (j 0).val → (y 1).val = b * k + (j 1).val → w j = W y)
    (y : (⟨2, ![n, m]⟩ : Shape).Idx) (hy : (y 1).val < b * (k + 1)) : VecWindow.put x ![0, b * k] ![n, b] w y = W y := by
  unfold VecWindow.put
  split
  next h =>
    have h0 := (h 1).1
    refine hw _ y ?_ ?_
    · show (y 0).val = (y 0).val - 0
      omega
    · show (y 1).val = b * k + ((y 1).val - b * k)
      have : b * k ≤ (y 1).val := h0
      omega
  next h =>
    refine hx y ?_
    by_contra hc
    apply h
    intro a
    match a with
    | 0 => show 0 ≤ (y 0).val ∧ (y 0).val < 0 + n; have := (y 0).isLt; exact ⟨Nat.zero_le _, by rw [Nat.zero_add]; exact this⟩
    | 1 => show b * k ≤ (y 1).val ∧ (y 1).val < b * k + b; rw [Nat.mul_succ] at hy; omega

theorem blk1_arg7 (i : grid0.Coords) (k0_h1 : k0_cond1 i = 1#1) (m : Memref sig .tc .vmem S1x1x16384 .f32) (X : BufTy.Contents (Elt F) m.view.ty) (k : Fin k0_t1_loop.trips) (j : S1x1x128.Idx) (z : S1x1x16384.Idx)
    (hz : (z 0).val = 0 ∧ (z 1).val = 0 ∧ (z 2).val = 128 * k.val + (j 2).val) :
    m.view.readAt (Elt F) (Rect.unit (s := S1x1x16384) (k0_off1 k) S1x1x128.size (k0_off1_inb i k k0_h1)).toLoadRect X j = m.view.read (Elt F) X z := by
  show m.view.read (Elt F) X _ = m.view.read (Elt F) X z
  congr 1
  funext a
  apply Fin.ext
  show k0_off1 k a + 1 * (j a).val = (z a).val
  rw [off1_eq]
  obtain ⟨h0, h1, h2⟩ := hz
  have j0 : (j 0).val < 1 := (j 0).isLt
  have j1 : (j 1).val < 1 := (j 1).isLt
  have j2 : (j 2).val < 128 := (j 2).isLt
  match a with
  | 0 => rw [show (z 0).val = 0 from h0]; show 0 + 1 * (j 0).val = 0; omega
  | 1 => rw [show (z 1).val = 0 from h1]; show 0 + 1 * (j 1).val = 0; omega
  | 2 => rw [show (z 2).val = 128 * k.val + (j 2).val from h2]; show 128 * k.val + 1 * (j 2).val = 128 * k.val + (j 2).val; omega

/-- The fill of the prompt key scales, at the head of a program. -/
theorem wp_fill1 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (k0_h1 : k0_cond1 i = 1#1) (Xarg7 : BufTy.Contents (Elt F) arg7.view.ty)
    {β : Type} {kk : PUnit → Prog (TpuEff nD τ sig (Elt F) Λ₀ .tc) β} {Q : β → sProp 𝕄G} :
    (iprop((arg7.view.loc (c : Thread nD τ) ↦[arg7.view.set]{fullShare} Xarg7) ∗ (∃ f, (arg16.view.loc (c : Thread nD τ) ↦[arg16.view.set]{fullShare} f))) : sProp 𝕄G)
      ⊢ iprop(((arg7.view.loc (c : Thread nD τ) ↦[arg7.view.set]{fullShare} Xarg7) ∗ (∃ f, (arg16.view.loc (c : Thread nD τ) ↦[arg16.view.set]{fullShare} f) ∗ ⌜arg16.view.read (Elt F) f = (fill1 (arg7.view.read (Elt F) Xarg7))⌝) -∗ wp Idealize.ShloMosaic.frame (wpE (defs₀ (F := F)) 𝒱 (c : Thread nD τ) bd) E (kk ⟨⟩) Q)
        -∗ wp Idealize.ShloMosaic.frame (wpE (defs₀ (F := F)) 𝒱 (c : Thread nD τ) bd) E
          (Scf.Loop.for k0_t1_loop (k0_t1_ok i k0_h1) ⟨⟩ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1) >>= kk) Q) := by
  iintro ⟨Harg7, %f0, HO⟩
  iintro HK
  iapply (Scf.wp_for_bind Idealize.ShloMosaic.frame (wpE (defs₀ (F := F)) 𝒱 (c : Thread nD τ) bd) E k0_t1_loop.lb k0_t1_loop.ub k0_t1_loop.st (k0_t1_ok i k0_h1) ⟨⟩ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1)
    (fun n _ => iprop((arg7.view.loc (c : Thread nD τ) ↦[arg7.view.set]{fullShare} Xarg7) ∗ (∃ f, (arg16.view.loc (c : Thread nD τ) ↦[arg16.view.set]{fullShare} f) ∗ ⌜∀ y : S16384x128.Idx, (y 0).val < 128 * n → arg16.view.read (Elt F) f y = (fill1 (arg7.view.read (Elt F) Xarg7)) y⌝))) ?hstep) $$ [Harg7 HO]
  case hstep =>
    intro k acc
    iintro ⟨Harg7, %f, HO, %hf⟩
    unfold k0_t1_body
    sl_exec
    sl_step
    isplitl [Harg7]; · iexact Harg7
    iexists _
    isplitl [HO]; · iexact HO
    ipureintro
    intro y hy
    rw [View.read_writes_cons_put _ _ _ _ _ (off2_eq k), View.writes_nil]
    refine put_rows _ _ _ _ hf ?_ y hy
    intro j y h0 h1
    rw [pay53_apply]
    unfold fill1
    rw [blk1_arg7 i k0_h1 arg7 Xarg7 k (ix3 0 0 (j 0)) (ix3 0 0 (y 0)) ⟨rfl, rfl, h0⟩]
  · isplitl [Harg7]; · iexact Harg7
    iexists _
    isplitl [HO]; · iexact HO
    ipureintro
    intro y hy
    exact absurd hy (by rw [Nat.mul_zero]; exact Nat.not_lt_zero _)
  iintro %acc ⟨Harg7, %f, HO, %hf⟩
  iapply HK
  isplitl [Harg7]; · iexact Harg7
  iexists _
  isplitl [HO]; · iexact HO
  ipureintro
  funext y
  exact hf y (by rw [show Scf.trips k0_t1_loop.lb k0_t1_loop.ub k0_t1_loop.st = 128 from trips1]; exact (y 0).isLt)

theorem blk2_arg6 (i : grid0.Coords) (k0_h1 : k0_cond1 i = 1#1) (m : Memref sig .tc .vmem S1x96x16384 .fp8e4m3) (X : BufTy.Contents (Elt F) m.view.ty) (k : Fin k0_t2_loop.trips) (j : S1x96x256.Idx) (z : S1x96x16384.Idx)
    (hz : (z 0).val = 0 ∧ (z 1).val = (j 1).val ∧ (z 2).val = 256 * k.val + (j 2).val) :
    m.view.readAt (Elt F) (Rect.unit (s := S1x96x16384) (k0_off3 k) S1x96x256.size (k0_off3_inb i k k0_h1)).toLoadRect X j = m.view.read (Elt F) X z := by
  show m.view.read (Elt F) X _ = m.view.read (Elt F) X z
  congr 1
  funext a
  apply Fin.ext
  show k0_off3 k a + 1 * (j a).val = (z a).val
  rw [off3_eq]
  obtain ⟨h0, h1, h2⟩ := hz
  have j0 : (j 0).val < 1 := (j 0).isLt
  have j1 : (j 1).val < 96 := (j 1).isLt
  have j2 : (j 2).val < 256 := (j 2).isLt
  match a with
  | 0 => rw [show (z 0).val = 0 from h0]; show 0 + 1 * (j 0).val = 0; omega
  | 1 => rw [show (z 1).val = (j 1).val from h1]; show 0 + 1 * (j 1).val = (j 1).val; omega
  | 2 => rw [show (z 2).val = 256 * k.val + (j 2).val from h2]; show 256 * k.val + 1 * (j 2).val = 256 * k.val + (j 2).val; omega

theorem blk2_arg8 (i : grid0.Coords) (k0_h1 : k0_cond1 i = 1#1) (m : Memref sig .tc .vmem S1x1x16384 .f32) (X : BufTy.Contents (Elt F) m.view.ty) (k : Fin k0_t2_loop.trips) (j : S1x1x256.Idx) (z : S1x1x16384.Idx)
    (hz : (z 0).val = 0 ∧ (z 1).val = 0 ∧ (z 2).val = 256 * k.val + (j 2).val) :
    m.view.readAt (Elt F) (Rect.unit (s := S1x1x16384) (k0_off4 k) S1x1x256.size (k0_off4_inb i k k0_h1)).toLoadRect X j = m.view.read (Elt F) X z := by
  show m.view.read (Elt F) X _ = m.view.read (Elt F) X z
  congr 1
  funext a
  apply Fin.ext
  show k0_off4 k a + 1 * (j a).val = (z a).val
  rw [off4_eq]
  obtain ⟨h0, h1, h2⟩ := hz
  have j0 : (j 0).val < 1 := (j 0).isLt
  have j1 : (j 1).val < 1 := (j 1).isLt
  have j2 : (j 2).val < 256 := (j 2).isLt
  match a with
  | 0 => rw [show (z 0).val = 0 from h0]; show 0 + 1 * (j 0).val = 0; omega
  | 1 => rw [show (z 1).val = 0 from h1]; show 0 + 1 * (j 1).val = 0; omega
  | 2 => rw [show (z 2).val = 256 * k.val + (j 2).val from h2]; show 256 * k.val + 1 * (j 2).val = 256 * k.val + (j 2).val; omega

/-- The fill of the scaled prompt values. -/
theorem wp_fill2 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (k0_h1 : k0_cond1 i = 1#1) (Xarg6 : BufTy.Contents (Elt F) arg6.view.ty) (Xarg8 : BufTy.Contents (Elt F) arg8.view.ty)
    {β : Type} {kk : PUnit → Prog (TpuEff nD τ sig (Elt F) Λ₀ .tc) β} {Q : β → sProp 𝕄G} :
    (iprop((arg6.view.loc (c : Thread nD τ) ↦[arg6.view.set]{fullShare} Xarg6) ∗ (arg8.view.loc (c : Thread nD τ) ↦[arg8.view.set]{fullShare} Xarg8) ∗ (∃ f, (arg17.view.loc (c : Thread nD τ) ↦[arg17.view.set]{fullShare} f))) : sProp 𝕄G)
      ⊢ iprop(((arg6.view.loc (c : Thread nD τ) ↦[arg6.view.set]{fullShare} Xarg6) ∗ (arg8.view.loc (c : Thread nD τ) ↦[arg8.view.set]{fullShare} Xarg8) ∗ (∃ f, (arg17.view.loc (c : Thread nD τ) ↦[arg17.view.set]{fullShare} f) ∗ ⌜arg17.view.read (Elt F) f = (fill2 (arg6.view.read (Elt F) Xarg6) (arg8.view.read (Elt F) Xarg8))⌝) -∗ wp Idealize.ShloMosaic.frame (wpE (defs₀ (F := F)) 𝒱 (c : Thread nD τ) bd) E (kk ⟨⟩) Q)
        -∗ wp Idealize.ShloMosaic.frame (wpE (defs₀ (F := F)) 𝒱 (c : Thread nD τ) bd) E
          (Scf.Loop.for k0_t2_loop (k0_t2_ok i k0_h1) ⟨⟩ (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1) >>= kk) Q) := by
  iintro ⟨Harg6, Harg8, %f0, HO⟩
  iintro HK
  iapply (Scf.wp_for_bind Idealize.ShloMosaic.frame (wpE (defs₀ (F := F)) 𝒱 (c : Thread nD τ) bd) E k0_t2_loop.lb k0_t2_loop.ub k0_t2_loop.st (k0_t2_ok i k0_h1) ⟨⟩ (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1)
    (fun n _ => iprop((arg6.view.loc (c : Thread nD τ) ↦[arg6.view.set]{fullShare} Xarg6) ∗ (arg8.view.loc (c : Thread nD τ) ↦[arg8.view.set]{fullShare} Xarg8) ∗ (∃ f, (arg17.view.loc (c : Thread nD τ) ↦[arg17.view.set]{fullShare} f) ∗ ⌜∀ y : S96x16384.Idx, (y 1).val < 256 * n → arg17.view.read (Elt F) f y = (fill2 (arg6.view.read (Elt F) Xarg6) (arg8.view.read (Elt F) Xarg8)) y⌝))) ?hstep) $$ [Harg6 Harg8 HO]
  case hstep =>
    intro k acc
    iintro ⟨Harg6, Harg8, %f, HO, %hf⟩
    unfold k0_t2_body
    sl_exec
    sl_step
    isplitl [Harg6]; · iexact Harg6
    isplitl [Harg8]; · iexact Harg8
    iexists _
    isplitl [HO]; · iexact HO
    ipureintro
    intro y hy
    rw [View.read_writes_cons_put _ _ _ _ _ (off5_eq k), View.writes_nil]
    refine put_cols _ _ _ _ hf ?_ y hy
    intro j y h0 h1
    rw [pay54_apply]
    unfold fill2
    rw [blk2_arg6 i k0_h1 arg6 Xarg6 k (ix3 0 (j 0) (j 1)) (ix3 0 (y 0) (y 1)) ⟨rfl, h0, h1⟩]
    rw [blk2_arg8 i k0_h1 arg8 Xarg8 k (ix3 0 0 (j 1)) (ix3 0 0 (y 1)) ⟨rfl, rfl, h1⟩]
  · isplitl [Harg6]; · iexact Harg6
    isplitl [Harg8]; · iexact Harg8
    iexists _
    isplitl [HO]; · iexact HO
    ipureintro
    intro y hy
    exact absurd hy (by rw [Nat.mul_zero]; exact Nat.not_lt_zero _)
  iintro %acc ⟨Harg6, Harg8, %f, HO, %hf⟩
  iapply HK
  isplitl [Harg6]; · iexact Harg6
  isplitl [Harg8]; · iexact Harg8
  iexists _
  isplitl [HO]; · iexact HO
  ipureintro
  funext y
  exact hf y (by rw [show Scf.trips k0_t2_loop.lb k0_t2_loop.ub k0_t2_loop.st = 64 from trips2]; exact (y 1).isLt)

theorem blk3_arg11 (i : grid0.Coords) (k0_h2 : k0_cond2 i = 1#1) (m : Memref sig .tc .vmem S1x1x1x1536 .f32) (X : BufTy.Contents (Elt F) m.view.ty) (k : Fin k0_t3_loop.trips) (j : S1x1x1x128.Idx) (z : S1x1x1x1536.Idx)
    (hz : (z 0).val = 0 ∧ (z 1).val = 0 ∧ (z 2).val = 0 ∧ (z 3).val = 128 * k.val + (j 3).val) :
    m.view.readAt (Elt F) (Rect.unit (s := S1x1x1x1536) (k0_off6 k) S1x1x1x128.size (k0_off6_inb i k k0_h2)).toLoadRect X j = m.view.read (Elt F) X z := by
  show m.view.read (Elt F) X _ = m.view.read (Elt F) X z
  congr 1
  funext a
  apply Fin.ext
  show k0_off6 k a + 1 * (j a).val = (z a).val
  rw [off6_eq]
  obtain ⟨h0, h1, h2, h3⟩ := hz
  have j0 : (j 0).val < 1 := (j 0).isLt
  have j1 : (j 1).val < 1 := (j 1).isLt
  have j2 : (j 2).val < 1 := (j 2).isLt
  have j3 : (j 3).val < 128 := (j 3).isLt
  match a with
  | 0 => rw [show (z 0).val = 0 from h0]; show 0 + 1 * (j 0).val = 0; omega
  | 1 => rw [show (z 1).val = 0 from h1]; show 0 + 1 * (j 1).val = 0; omega
  | 2 => rw [show (z 2).val = 0 from h2]; show 0 + 1 * (j 2).val = 0; omega
  | 3 => rw [show (z 3).val = 128 * k.val + (j 3).val from h3]; show 128 * k.val + 1 * (j 3).val = 128 * k.val + (j 3).val; omega

/-- The fill of the completion key scales. -/
theorem wp_fill3 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (k0_h2 : k0_cond2 i = 1#1) (Xarg11 : BufTy.Contents (Elt F) arg11.view.ty)
    {β : Type} {kk : PUnit → Prog (TpuEff nD τ sig (Elt F) Λ₀ .tc) β} {Q : β → sProp 𝕄G} :
    (iprop((arg11.view.loc (c : Thread nD τ) ↦[arg11.view.set]{fullShare} Xarg11) ∗ (∃ f, (arg18.view.loc (c : Thread nD τ) ↦[arg18.view.set]{fullShare} f))) : sProp 𝕄G)
      ⊢ iprop(((arg11.view.loc (c : Thread nD τ) ↦[arg11.view.set]{fullShare} Xarg11) ∗ (∃ f, (arg18.view.loc (c : Thread nD τ) ↦[arg18.view.set]{fullShare} f) ∗ ⌜arg18.view.read (Elt F) f = (fill3 (arg11.view.read (Elt F) Xarg11))⌝) -∗ wp Idealize.ShloMosaic.frame (wpE (defs₀ (F := F)) 𝒱 (c : Thread nD τ) bd) E (kk ⟨⟩) Q)
        -∗ wp Idealize.ShloMosaic.frame (wpE (defs₀ (F := F)) 𝒱 (c : Thread nD τ) bd) E
          (Scf.Loop.for k0_t3_loop (k0_t3_ok i k0_h2) ⟨⟩ (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2) >>= kk) Q) := by
  iintro ⟨Harg11, %f0, HO⟩
  iintro HK
  iapply (Scf.wp_for_bind Idealize.ShloMosaic.frame (wpE (defs₀ (F := F)) 𝒱 (c : Thread nD τ) bd) E k0_t3_loop.lb k0_t3_loop.ub k0_t3_loop.st (k0_t3_ok i k0_h2) ⟨⟩ (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2)
    (fun n _ => iprop((arg11.view.loc (c : Thread nD τ) ↦[arg11.view.set]{fullShare} Xarg11) ∗ (∃ f, (arg18.view.loc (c : Thread nD τ) ↦[arg18.view.set]{fullShare} f) ∗ ⌜∀ y : S1536x128.Idx, (y 0).val < 128 * n → arg18.view.read (Elt F) f y = (fill3 (arg11.view.read (Elt F) Xarg11)) y⌝))) ?hstep) $$ [Harg11 HO]
  case hstep =>
    intro k acc
    iintro ⟨Harg11, %f, HO, %hf⟩
    unfold k0_t3_body
    sl_exec
    sl_step
    isplitl [Harg11]; · iexact Harg11
    iexists _
    isplitl [HO]; · iexact HO
    ipureintro
    intro y hy
    rw [View.read_writes_cons_put _ _ _ _ _ (off7_eq k), View.writes_nil]
    refine put_rows _ _ _ _ hf ?_ y hy
    intro j y h0 h1
    rw [pay55_apply]
    unfold fill3
    rw [blk3_arg11 i k0_h2 arg11 Xarg11 k (ix4 0 0 0 (j 0)) (ix4 0 0 0 (y 0)) ⟨rfl, rfl, rfl, h0⟩]
  · isplitl [Harg11]; · iexact Harg11
    iexists _
    isplitl [HO]; · iexact HO
    ipureintro
    intro y hy
    exact absurd hy (by rw [Nat.mul_zero]; exact Nat.not_lt_zero _)
  iintro %acc ⟨Harg11, %f, HO, %hf⟩
  iapply HK
  isplitl [Harg11]; · iexact Harg11
  iexists _
  isplitl [HO]; · iexact HO
  ipureintro
  funext y
  exact hf y (by rw [show Scf.trips k0_t3_loop.lb k0_t3_loop.ub k0_t3_loop.st = 12 from trips3]; exact (y 0).isLt)

theorem blk4_arg10 (i : grid0.Coords) (k0_h2 : k0_cond2 i = 1#1) (m : Memref sig .tc .vmem S1x1x96x1536 .fp8e4m3) (X : BufTy.Contents (Elt F) m.view.ty) (k : Fin k0_t4_loop.trips) (j : S1x1x96x256.Idx) (z : S1x1x96x1536.Idx)
    (hz : (z 0).val = 0 ∧ (z 1).val = 0 ∧ (z 2).val = (j 2).val ∧ (z 3).val = 256 * k.val + (j 3).val) :
    m.view.readAt (Elt F) (Rect.unit (s := S1x1x96x1536) (k0_off8 k) S1x1x96x256.size (k0_off8_inb i k k0_h2)).toLoadRect X j = m.view.read (Elt F) X z := by
  show m.view.read (Elt F) X _ = m.view.read (Elt F) X z
  congr 1
  funext a
  apply Fin.ext
  show k0_off8 k a + 1 * (j a).val = (z a).val
  rw [off8_eq]
  obtain ⟨h0, h1, h2, h3⟩ := hz
  have j0 : (j 0).val < 1 := (j 0).isLt
  have j1 : (j 1).val < 1 := (j 1).isLt
  have j2 : (j 2).val < 96 := (j 2).isLt
  have j3 : (j 3).val < 256 := (j 3).isLt
  match a with
  | 0 => rw [show (z 0).val = 0 from h0]; show 0 + 1 * (j 0).val = 0; omega
  | 1 => rw [show (z 1).val = 0 from h1]; show 0 + 1 * (j 1).val = 0; omega
  | 2 => rw [show (z 2).val = (j 2).val from h2]; show 0 + 1 * (j 2).val = (j 2).val; omega
  | 3 => rw [show (z 3).val = 256 * k.val + (j 3).val from h3]; show 256 * k.val + 1 * (j 3).val = 256 * k.val + (j 3).val; omega

theorem blk4_arg12 (i : grid0.Coords) (k0_h2 : k0_cond2 i = 1#1) (m : Memref sig .tc .vmem S1x1x1x1536 .f32) (X : BufTy.Contents (Elt F) m.view.ty) (k : Fin k0_t4_loop.trips) (j : S1x1x1x256.Idx) (z : S1x1x1x1536.Idx)
    (hz : (z 0).val = 0 ∧ (z 1).val = 0 ∧ (z 2).val = 0 ∧ (z 3).val = 256 * k.val + (j 3).val) :
    m.view.readAt (Elt F) (Rect.unit (s := S1x1x1x1536) (k0_off9 k) S1x1x1x256.size (k0_off9_inb i k k0_h2)).toLoadRect X j = m.view.read (Elt F) X z := by
  show m.view.read (Elt F) X _ = m.view.read (Elt F) X z
  congr 1
  funext a
  apply Fin.ext
  show k0_off9 k a + 1 * (j a).val = (z a).val
  rw [off9_eq]
  obtain ⟨h0, h1, h2, h3⟩ := hz
  have j0 : (j 0).val < 1 := (j 0).isLt
  have j1 : (j 1).val < 1 := (j 1).isLt
  have j2 : (j 2).val < 1 := (j 2).isLt
  have j3 : (j 3).val < 256 := (j 3).isLt
  match a with
  | 0 => rw [show (z 0).val = 0 from h0]; show 0 + 1 * (j 0).val = 0; omega
  | 1 => rw [show (z 1).val = 0 from h1]; show 0 + 1 * (j 1).val = 0; omega
  | 2 => rw [show (z 2).val = 0 from h2]; show 0 + 1 * (j 2).val = 0; omega
  | 3 => rw [show (z 3).val = 256 * k.val + (j 3).val from h3]; show 256 * k.val + 1 * (j 3).val = 256 * k.val + (j 3).val; omega

/-- The fill of the scaled completion values. -/
theorem wp_fill4 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (k0_h2 : k0_cond2 i = 1#1) (Xarg10 : BufTy.Contents (Elt F) arg10.view.ty) (Xarg12 : BufTy.Contents (Elt F) arg12.view.ty)
    {β : Type} {kk : PUnit → Prog (TpuEff nD τ sig (Elt F) Λ₀ .tc) β} {Q : β → sProp 𝕄G} :
    (iprop((arg10.view.loc (c : Thread nD τ) ↦[arg10.view.set]{fullShare} Xarg10) ∗ (arg12.view.loc (c : Thread nD τ) ↦[arg12.view.set]{fullShare} Xarg12) ∗ (∃ f, (arg19.view.loc (c : Thread nD τ) ↦[arg19.view.set]{fullShare} f))) : sProp 𝕄G)
      ⊢ iprop(((arg10.view.loc (c : Thread nD τ) ↦[arg10.view.set]{fullShare} Xarg10) ∗ (arg12.view.loc (c : Thread nD τ) ↦[arg12.view.set]{fullShare} Xarg12) ∗ (∃ f, (arg19.view.loc (c : Thread nD τ) ↦[arg19.view.set]{fullShare} f) ∗ ⌜arg19.view.read (Elt F) f = (fill4 (arg10.view.read (Elt F) Xarg10) (arg12.view.read (Elt F) Xarg12))⌝) -∗ wp Idealize.ShloMosaic.frame (wpE (defs₀ (F := F)) 𝒱 (c : Thread nD τ) bd) E (kk ⟨⟩) Q)
        -∗ wp Idealize.ShloMosaic.frame (wpE (defs₀ (F := F)) 𝒱 (c : Thread nD τ) bd) E
          (Scf.Loop.for k0_t4_loop (k0_t4_ok i k0_h2) ⟨⟩ (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2) >>= kk) Q) := by
  iintro ⟨Harg10, Harg12, %f0, HO⟩
  iintro HK
  iapply (Scf.wp_for_bind Idealize.ShloMosaic.frame (wpE (defs₀ (F := F)) 𝒱 (c : Thread nD τ) bd) E k0_t4_loop.lb k0_t4_loop.ub k0_t4_loop.st (k0_t4_ok i k0_h2) ⟨⟩ (k0_t4_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2)
    (fun n _ => iprop((arg10.view.loc (c : Thread nD τ) ↦[arg10.view.set]{fullShare} Xarg10) ∗ (arg12.view.loc (c : Thread nD τ) ↦[arg12.view.set]{fullShare} Xarg12) ∗ (∃ f, (arg19.view.loc (c : Thread nD τ) ↦[arg19.view.set]{fullShare} f) ∗ ⌜∀ y : S96x1536.Idx, (y 1).val < 256 * n → arg19.view.read (Elt F) f y = (fill4 (arg10.view.read (Elt F) Xarg10) (arg12.view.read (Elt F) Xarg12)) y⌝))) ?hstep) $$ [Harg10 Harg12 HO]
  case hstep =>
    intro k acc
    iintro ⟨Harg10, Harg12, %f, HO, %hf⟩
    unfold k0_t4_body
    sl_exec
    sl_step
    isplitl [Harg10]; · iexact Harg10
    isplitl [Harg12]; · iexact Harg12
    iexists _
    isplitl [HO]; · iexact HO
    ipureintro
    intro y hy
    rw [View.read_writes_cons_put _ _ _ _ _ (off10_eq k), View.writes_nil]
    refine put_cols _ _ _ _ hf ?_ y hy
    intro j y h0 h1
    rw [pay56_apply]
    unfold fill4
    rw [blk4_arg10 i k0_h2 arg10 Xarg10 k (ix4 0 0 (j 0) (j 1)) (ix4 0 0 (y 0) (y 1)) ⟨rfl, rfl, h0, h1⟩]
    rw [blk4_arg12 i k0_h2 arg12 Xarg12 k (ix4 0 0 0 (j 1)) (ix4 0 0 0 (y 1)) ⟨rfl, rfl, rfl, h1⟩]
  · isplitl [Harg10]; · iexact Harg10
    isplitl [Harg12]; · iexact Harg12
    iexists _
    isplitl [HO]; · iexact HO
    ipureintro
    intro y hy
    exact absurd hy (by rw [Nat.mul_zero]; exact Nat.not_lt_zero _)
  iintro %acc ⟨Harg10, Harg12, %f, HO, %hf⟩
  iapply HK
  isplitl [Harg10]; · iexact Harg10
  isplitl [Harg12]; · iexact Harg12
  iexists _
  isplitl [HO]; · iexact HO
  ipureintro
  funext y
  exact hf y (by rw [show Scf.trips k0_t4_loop.lb k0_t4_loop.ub k0_t4_loop.st = 6 from trips4]; exact (y 1).isLt)

end Cert.KernelIdeal.Gen
-- ==== Proof.Vals.lean ====
module

public import proofs.«01_k».proof.Proof.Prel
public import Idealize.ShloMosaic.Lib.Exec
public import Idealize.ShloMosaic.Lib.Tactic
public import Idealize.ShloMosaic.Lib.VecWindow
public import Idealize.ShloMosaic.Lib.Pipeline.Kit

/-!
The values of one query head as functions of the blocks alone, and of the memrefs' contents through them.
-/

@[expose] public section

set_option maxRecDepth 8192
set_option maxHeartbeats 4000000
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Part of a block: the elements a load of rectangle `r` reads. -/
def cut {s : Shape} {α : Type} (x : s.Idx → α) (r : LoadRect s) : r.shape.Idx → α := fun j => x (r.idx j)

/-- The prompt loop: the state after trip `k`, from the state `s` before it. -/
def vstep5 (i : grid0.Coords)  (v9 : Vec F S1x96x512 .fp8e4m3) (v11 : Vec F S1x1x512 .f32) (xarg5 : Vec F S1x16384x128 .fp8e4m3) (xarg16 : Vec F S16384x128 .f32) (xarg17 : Vec F S96x16384 .bf16) (k : Fin k0_t5_loop.trips) (s : St F) : St F :=
  let kb := (cut xarg5 (Rect.unit (s := S1x16384x128) (k0_off11 k) S1x256x96.size (k0_off11_inb k)).toLoadRect)
  let ksb := (cut xarg16 (Rect.unit (s := S16384x128) (k0_off12 k) S256x128.size (k0_off12_inb k)).toLoadRect)
  let vb := (cut xarg17 (Rect.unit (s := S96x16384) (k0_off13 k) S96x256.size (k0_off13_inb k)).toLoadRect)
  ((k0_pay63 v9 v11 s.1.1 kb ksb, k0_pay66 v9 v11 s.1.1 s.1.2 kb ksb), k0_pay67 v9 v11 s.1.1 kb ksb s.2 vb)

/-- The state before trip `n`, as a function of the blocks. -/
def vst5 (i : grid0.Coords) (v9 : Vec F S1x96x512 .fp8e4m3) (v11 : Vec F S1x1x512 .f32) (xarg5 : Vec F S1x16384x128 .fp8e4m3) (xarg16 : Vec F S16384x128 .f32) (xarg17 : Vec F S96x16384 .bf16) (s0 : St F) : ℕ → St F
  | 0 => s0
  | n + 1 => if h : n < k0_t5_loop.trips then vstep5 i v9 v11 xarg5 xarg16 xarg17 ⟨n, h⟩ (vst5 i v9 v11 xarg5 xarg16 xarg17 s0 n) else vst5 i v9 v11 xarg5 xarg16 xarg17 s0 n

theorem vst5_succ (i : grid0.Coords) (v9 : Vec F S1x96x512 .fp8e4m3) (v11 : Vec F S1x1x512 .f32) (xarg5 : Vec F S1x16384x128 .fp8e4m3) (xarg16 : Vec F S16384x128 .f32) (xarg17 : Vec F S96x16384 .bf16) (s0 : St F) (k : Fin k0_t5_loop.trips) :
    vst5 i v9 v11 xarg5 xarg16 xarg17 s0 (k.val + 1) = vstep5 i v9 v11 xarg5 xarg16 xarg17 k (vst5 i v9 v11 xarg5 xarg16 xarg17 s0 k.val) := by
  rw [vst5.eq_2]; exact dif_pos k.isLt

theorem st5_eq (i : grid0.Coords) (arg5 : Memref sig .tc .vmem S1x16384x128 .fp8e4m3) (arg16 : Memref sig .tc .vmem S16384x128 .f32) (arg17 : Memref sig .tc .vmem S96x16384 .bf16) (v9 : Vec F S1x96x512 .fp8e4m3) (v11 : Vec F S1x1x512 .f32) (Xarg5 : BufTy.Contents (Elt F) arg5.view.ty) (Xarg16 : BufTy.Contents (Elt F) arg16.view.ty) (Xarg17 : BufTy.Contents (Elt F) arg17.view.ty) (s0 : St F) (n : ℕ) :
    st5 i arg5 arg16 arg17 v9 v11 Xarg5 Xarg16 Xarg17 s0 n = vst5 i v9 v11 (arg5.view.read (Elt F) Xarg5) (arg16.view.read (Elt F) Xarg16) (arg17.view.read (Elt F) Xarg17) s0 n := by
  induction n with
  | zero => rfl
  | succ n ih =>
    rw [st5.eq_2, vst5.eq_2, ih]
    rfl

/-- The unmasked completion loop: the state after trip `k`, from the state `s` before it. -/
def vstep6 (i : grid0.Coords)  (v10 : FVec F S96x512 .fp8e4m3) (v14 : FVec F S1x512 .f32) (xarg9 : Vec F S1x1x1536x128 .fp8e4m3) (xarg18 : Vec F S1536x128 .f32) (xarg19 : Vec F S96x1536 .bf16) (k : Fin (k0_t6_loop i).trips) (s : St F) : St F :=
  let kb := (cut xarg9 (Rect.unit (s := S1x1x1536x128) (k0_off14 i k) S1x1x256x96.size (k0_off14_inb i k)).toLoadRect)
  let ksb := (cut xarg18 (Rect.unit (s := S1536x128) (k0_off15 i k) S256x128.size (k0_off15_inb i k)).toLoadRect)
  let vb := (cut xarg19 (Rect.unit (s := S96x1536) (k0_off16 i k) S96x256.size (k0_off16_inb i k)).toLoadRect)
  ((k0_pay72 v10 v14 s.1.1 kb ksb, k0_pay75 v10 v14 s.1.1 s.1.2 kb ksb), k0_pay76 v10 v14 s.1.1 kb ksb s.2 vb)

/-- The state before trip `n`, as a function of the blocks. -/
def vst6 (i : grid0.Coords) (v10 : FVec F S96x512 .fp8e4m3) (v14 : FVec F S1x512 .f32) (xarg9 : Vec F S1x1x1536x128 .fp8e4m3) (xarg18 : Vec F S1536x128 .f32) (xarg19 : Vec F S96x1536 .bf16) (s0 : St F) : ℕ → St F
  | 0 => s0
  | n + 1 => if h : n < (k0_t6_loop i).trips then vstep6 i v10 v14 xarg9 xarg18 xarg19 ⟨n, h⟩ (vst6 i v10 v14 xarg9 xarg18 xarg19 s0 n) else vst6 i v10 v14 xarg9 xarg18 xarg19 s0 n

theorem vst6_succ (i : grid0.Coords) (v10 : FVec F S96x512 .fp8e4m3) (v14 : FVec F S1x512 .f32) (xarg9 : Vec F S1x1x1536x128 .fp8e4m3) (xarg18 : Vec F S1536x128 .f32) (xarg19 : Vec F S96x1536 .bf16) (s0 : St F) (k : Fin (k0_t6_loop i).trips) :
    vst6 i v10 v14 xarg9 xarg18 xarg19 s0 (k.val + 1) = vstep6 i v10 v14 xarg9 xarg18 xarg19 k (vst6 i v10 v14 xarg9 xarg18 xarg19 s0 k.val) := by
  rw [vst6.eq_2]; exact dif_pos k.isLt

theorem st6_eq (i : grid0.Coords) (arg9 : Memref sig .tc .vmem S1x1x1536x128 .fp8e4m3) (arg18 : Memref sig .tc .vmem S1536x128 .f32) (arg19 : Memref sig .tc .vmem S96x1536 .bf16) (v10 : FVec F S96x512 .fp8e4m3) (v14 : FVec F S1x512 .f32) (Xarg9 : BufTy.Contents (Elt F) arg9.view.ty) (Xarg18 : BufTy.Contents (Elt F) arg18.view.ty) (Xarg19 : BufTy.Contents (Elt F) arg19.view.ty) (s0 : St F) (n : ℕ) :
    st6 i arg9 arg18 arg19 v10 v14 Xarg9 Xarg18 Xarg19 s0 n = vst6 i v10 v14 (arg9.view.read (Elt F) Xarg9) (arg18.view.read (Elt F) Xarg18) (arg19.view.read (Elt F) Xarg19) s0 n := by
  induction n with
  | zero => rfl
  | succ n ih =>
    rw [st6.eq_2, vst6.eq_2, ih]
    rfl

/-- The masked completion loop: the state after trip `k`, from the state `s` before it. -/
def vstep8 (i : grid0.Coords)  (v8 : BitVec 32) (v10 : FVec F S96x512 .fp8e4m3) (v14 : FVec F S1x512 .f32) (v73 : BitVec 32) (xarg9 : Vec F S1x1x1536x128 .fp8e4m3) (xarg18 : Vec F S1536x128 .f32) (xarg19 : Vec F S96x1536 .bf16) (k : Fin (k0_t8_loop i).trips) (s : St F) : St F :=
  let kb := (cut xarg9 (Rect.unit (s := S1x1x1536x128) (k0_off20 i k) S1x1x256x96.size (k0_off20_inb i k)).toLoadRect)
  let ksb := (cut xarg18 (Rect.unit (s := S1536x128) (k0_off21 i k) S256x128.size (k0_off21_inb i k)).toLoadRect)
  let vb := (cut xarg19 (Rect.unit (s := S96x1536) (k0_off22 i k) S96x256.size (k0_off22_inb i k)).toLoadRect)
  ((k0_pay6 i v8 v10 v14 v73 1#32 k s.1.1 kb ksb, k0_pay9 i v8 v10 v14 v73 1#32 k s.1.1 s.1.2 kb ksb), k0_pay83 (k0_pay10 i v8 v10 v14 v73 1#32 k s.1.1 kb ksb s.2 vb))

/-- The state before trip `n`, as a function of the blocks. -/
def vst8 (i : grid0.Coords) (v8 : BitVec 32) (v10 : FVec F S96x512 .fp8e4m3) (v14 : FVec F S1x512 .f32) (v73 : BitVec 32) (xarg9 : Vec F S1x1x1536x128 .fp8e4m3) (xarg18 : Vec F S1536x128 .f32) (xarg19 : Vec F S96x1536 .bf16) (s0 : St F) : ℕ → St F
  | 0 => s0
  | n + 1 => if h : n < (k0_t8_loop i).trips then vstep8 i v8 v10 v14 v73 xarg9 xarg18 xarg19 ⟨n, h⟩ (vst8 i v8 v10 v14 v73 xarg9 xarg18 xarg19 s0 n) else vst8 i v8 v10 v14 v73 xarg9 xarg18 xarg19 s0 n

theorem vst8_succ (i : grid0.Coords) (v8 : BitVec 32) (v10 : FVec F S96x512 .fp8e4m3) (v14 : FVec F S1x512 .f32) (v73 : BitVec 32) (xarg9 : Vec F S1x1x1536x128 .fp8e4m3) (xarg18 : Vec F S1536x128 .f32) (xarg19 : Vec F S96x1536 .bf16) (s0 : St F) (k : Fin (k0_t8_loop i).trips) :
    vst8 i v8 v10 v14 v73 xarg9 xarg18 xarg19 s0 (k.val + 1) = vstep8 i v8 v10 v14 v73 xarg9 xarg18 xarg19 k (vst8 i v8 v10 v14 v73 xarg9 xarg18 xarg19 s0 k.val) := by
  rw [vst8.eq_2]; exact dif_pos k.isLt

theorem st8_eq (i : grid0.Coords) (arg9 : Memref sig .tc .vmem S1x1x1536x128 .fp8e4m3) (arg18 : Memref sig .tc .vmem S1536x128 .f32) (arg19 : Memref sig .tc .vmem S96x1536 .bf16) (v8 : BitVec 32) (v10 : FVec F S96x512 .fp8e4m3) (v14 : FVec F S1x512 .f32) (v73 : BitVec 32) (Xarg9 : BufTy.Contents (Elt F) arg9.view.ty) (Xarg18 : BufTy.Contents (Elt F) arg18.view.ty) (Xarg19 : BufTy.Contents (Elt F) arg19.view.ty) (s0 : St F) (n : ℕ) :
    st8 i arg9 arg18 arg19 v8 v10 v14 v73 Xarg9 Xarg18 Xarg19 s0 n = vst8 i v8 v10 v14 v73 (arg9.view.read (Elt F) Xarg9) (arg18.view.read (Elt F) Xarg18) (arg19.view.read (Elt F) Xarg19) s0 n := by
  induction n with
  | zero => rfl
  | succ n ih =>
    rw [st8.eq_2, vst8.eq_2, ih]
    rfl

/-- The head's codes and scales. -/
def vQ (xarg3 : Vec F S1x384x512 .fp8e4m3) (g : Fin 4) : Vec F S1x96x512 .fp8e4m3 :=
  cut xarg3 (Rect.unit (s := S1x384x512) ![0, 96 * g.val, 0] S1x96x512.size (inbQ g)).toLoadRect
def vS (xarg4 : Vec F S1x4x512 .f32) (g : Fin 4) : Vec F S1x1x512 .f32 :=
  cut xarg4 (Rect.unit (s := S1x4x512) ![0, g.val, 0] S1x1x512.size (inbR g)).toLoadRect

/-- The state after the prompt loop. -/
def vP (i : grid0.Coords) (xarg3 : Vec F S1x384x512 .fp8e4m3) (xarg4 : Vec F S1x4x512 .f32) (xarg5 : Vec F S1x16384x128 .fp8e4m3) (xarg9 : Vec F S1x1x1536x128 .fp8e4m3) (xarg16 : Vec F S16384x128 .f32) (xarg17 : Vec F S96x16384 .bf16) (xarg18 : Vec F S1536x128 .f32) (xarg19 : Vec F S96x1536 .bf16) (g : Fin 4) : St F :=
  vst5 i (vQ xarg3 g) (vS xarg4 g) xarg5 xarg16 xarg17 ((k0_pay59, k0_pay60), k0_pay61) k0_t5_loop.trips

/-- The state after the completion loops. -/
def vC1 (i : grid0.Coords) (xarg3 : Vec F S1x384x512 .fp8e4m3) (xarg4 : Vec F S1x4x512 .f32) (xarg5 : Vec F S1x16384x128 .fp8e4m3) (xarg9 : Vec F S1x1x1536x128 .fp8e4m3) (xarg16 : Vec F S16384x128 .f32) (xarg17 : Vec F S96x16384 .bf16) (xarg18 : Vec F S1536x128 .f32) (xarg19 : Vec F S96x1536 .bf16) (g : Fin 4) : St F :=
  vst6 i (k0_pay57 (vQ xarg3 g)) (k0_pay58 (vS xarg4 g)) xarg9 xarg18 xarg19 ((k0_pay59, k0_pay60), k0_pay70) (k0_t6_loop i).trips
def vC (i : grid0.Coords) (xarg3 : Vec F S1x384x512 .fp8e4m3) (xarg4 : Vec F S1x4x512 .f32) (xarg5 : Vec F S1x16384x128 .fp8e4m3) (xarg9 : Vec F S1x1x1536x128 .fp8e4m3) (xarg16 : Vec F S16384x128 .f32) (xarg17 : Vec F S96x16384 .bf16) (xarg18 : Vec F S1536x128 .f32) (xarg19 : Vec F S96x1536 .bf16) (g : Fin 4) : St F :=
  vst8 i (tile0 i) (k0_pay57 (vQ xarg3 g)) (k0_pay58 (vS xarg4 g)) (floor256 (tile0 i)) xarg9 xarg18 xarg19
    (vC1 i xarg3 xarg4 xarg5 xarg9 xarg16 xarg17 xarg18 xarg19 g) (k0_t8_loop i).trips

/-- The head's rows of the output, and its two log-sum-exp rows. -/
def vO (i : grid0.Coords) (xarg3 : Vec F S1x384x512 .fp8e4m3) (xarg4 : Vec F S1x4x512 .f32) (xarg5 : Vec F S1x16384x128 .fp8e4m3) (xarg9 : Vec F S1x1x1536x128 .fp8e4m3) (xarg16 : Vec F S16384x128 .f32) (xarg17 : Vec F S96x16384 .bf16) (xarg18 : Vec F S1536x128 .f32) (xarg19 : Vec F S96x1536 .bf16) (g : Fin 4) : FVec F S96x512 .f32 :=
  let p := vP i xarg3 xarg4 xarg5 xarg9 xarg16 xarg17 xarg18 xarg19 g
  let q := vC i xarg3 xarg4 xarg5 xarg9 xarg16 xarg17 xarg18 xarg19 g
  k0_pay88 (k0_pay85 q.1.2 q.2) (k0_pay86 p.1.1 p.1.2) (k0_pay87 q.1.1 q.1.2) (k0_pay69 (k0_pay68 p.1.2 p.2))
def vLP (i : grid0.Coords) (xarg3 : Vec F S1x384x512 .fp8e4m3) (xarg4 : Vec F S1x4x512 .f32) (xarg5 : Vec F S1x16384x128 .fp8e4m3) (xarg9 : Vec F S1x1x1536x128 .fp8e4m3) (xarg16 : Vec F S16384x128 .f32) (xarg17 : Vec F S96x16384 .bf16) (xarg18 : Vec F S1536x128 .f32) (xarg19 : Vec F S96x1536 .bf16) (g : Fin 4) : FVec F S1x1x512 .f32 :=
  let p := vP i xarg3 xarg4 xarg5 xarg9 xarg16 xarg17 xarg18 xarg19 g
  k0_pay89 (k0_pay86 p.1.1 p.1.2)
def vLC (i : grid0.Coords) (xarg3 : Vec F S1x384x512 .fp8e4m3) (xarg4 : Vec F S1x4x512 .f32) (xarg5 : Vec F S1x16384x128 .fp8e4m3) (xarg9 : Vec F S1x1x1536x128 .fp8e4m3) (xarg16 : Vec F S16384x128 .f32) (xarg17 : Vec F S96x16384 .bf16) (xarg18 : Vec F S1536x128 .f32) (xarg19 : Vec F S96x1536 .bf16) (g : Fin 4) : FVec F S1x1x512 .f32 :=
  let q := vC i xarg3 xarg4 xarg5 xarg9 xarg16 xarg17 xarg18 xarg19 g
  k0_pay90 (tile0 i) (k0_pay87 q.1.1 q.1.2)

theorem headP_eq (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : headP i arg3 arg4 arg5 arg9 arg16 arg17 arg18 arg19 Xarg3 Xarg4 Xarg5 Xarg9 Xarg16 Xarg17 Xarg18 Xarg19 g = vP i (arg3.view.read (Elt F) Xarg3) (arg4.view.read (Elt F) Xarg4) (arg5.view.read (Elt F) Xarg5) (arg9.view.read (Elt F) Xarg9) (arg16.view.read (Elt F) Xarg16) (arg17.view.read (Elt F) Xarg17) (arg18.view.read (Elt F) Xarg18) (arg19.view.read (Elt F) Xarg19) g := by
  unfold headP vP; rw [st5_eq]; rfl
theorem headC1_eq (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : headC1 i arg3 arg4 arg5 arg9 arg16 arg17 arg18 arg19 Xarg3 Xarg4 Xarg5 Xarg9 Xarg16 Xarg17 Xarg18 Xarg19 g = vC1 i (arg3.view.read (Elt F) Xarg3) (arg4.view.read (Elt F) Xarg4) (arg5.view.read (Elt F) Xarg5) (arg9.view.read (Elt F) Xarg9) (arg16.view.read (Elt F) Xarg16) (arg17.view.read (Elt F) Xarg17) (arg18.view.read (Elt F) Xarg18) (arg19.view.read (Elt F) Xarg19) g := by
  unfold headC1 vC1; rw [st6_eq]; rfl
theorem headC_eq (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : headC i arg3 arg4 arg5 arg9 arg16 arg17 arg18 arg19 Xarg3 Xarg4 Xarg5 Xarg9 Xarg16 Xarg17 Xarg18 Xarg19 g = vC i (arg3.view.read (Elt F) Xarg3) (arg4.view.read (Elt F) Xarg4) (arg5.view.read (Elt F) Xarg5) (arg9.view.read (Elt F) Xarg9) (arg16.view.read (Elt F) Xarg16) (arg17.view.read (Elt F) Xarg17) (arg18.view.read (Elt F) Xarg18) (arg19.view.read (Elt F) Xarg19) g := by
  unfold headC vC; rw [st8_eq, headC1_eq]; rfl
theorem headO_eq (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : headO i arg3 arg4 arg5 arg9 arg16 arg17 arg18 arg19 Xarg3 Xarg4 Xarg5 Xarg9 Xarg16 Xarg17 Xarg18 Xarg19 g = vO i (arg3.view.read (Elt F) Xarg3) (arg4.view.read (Elt F) Xarg4) (arg5.view.read (Elt F) Xarg5) (arg9.view.read (Elt F) Xarg9) (arg16.view.read (Elt F) Xarg16) (arg17.view.read (Elt F) Xarg17) (arg18.view.read (Elt F) Xarg18) (arg19.view.read (Elt F) Xarg19) g := by
  unfold headO vO; rw [headP_eq, headC_eq]
theorem headLP_eq (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : headLP i arg3 arg4 arg5 arg9 arg16 arg17 arg18 arg19 Xarg3 Xarg4 Xarg5 Xarg9 Xarg16 Xarg17 Xarg18 Xarg19 g = vLP i (arg3.view.read (Elt F) Xarg3) (arg4.view.read (Elt F) Xarg4) (arg5.view.read (Elt F) Xarg5) (arg9.view.read (Elt F) Xarg9) (arg16.view.read (Elt F) Xarg16) (arg17.view.read (Elt F) Xarg17) (arg18.view.read (Elt F) Xarg18) (arg19.view.read (Elt F) Xarg19) g := by
  unfold headLP vLP; rw [headP_eq]
theorem headLC_eq (i : grid0.Coords) (arg3 : Memref sig .tc .vmem S1x384x512 .fp8e4m3) (arg4 : Memref sig .tc .vmem S1x4x512 .f32) (arg5 : Memref sig .tc .vmem S1x16384x128 .fp8e4m3) (arg9 : Memref sig .tc .vmem S1x1x1536x128 .fp8e4m3) (arg16 : Memref sig .tc .vmem S16384x128 .f32) (arg17 : Memref sig .tc .vmem S96x16384 .bf16) (arg18 : Memref sig .tc .vmem S1536x128 .f32) (arg19 : Memref sig .tc .vmem S96x1536 .bf16) (Xarg3 : BufTy.Contents (Elt F) arg3.view.ty) (Xarg4 : BufTy.Contents (Elt F) arg4.view.ty) (Xarg5 : BufTy.Contents (Elt F) arg5.view.ty) (Xarg9 : BufTy.Contents (Elt F) arg9.view.ty) (Xarg16 : BufTy.Contents (Elt F) arg16.view.ty) (Xarg17 : BufTy.Contents (Elt F) arg17.view.ty) (Xarg18 : BufTy.Contents (Elt F) arg18.view.ty) (Xarg19 : BufTy.Contents (Elt F) arg19.view.ty) (g : Fin 4) : headLC i arg3 arg4 arg5 arg9 arg16 arg17 arg18 arg19 Xarg3 Xarg4 Xarg5 Xarg9 Xarg16 Xarg17 Xarg18 Xarg19 g = vLC i (arg3.view.read (Elt F) Xarg3) (arg4.view.read (Elt F) Xarg4) (arg5.view.read (Elt F) Xarg5) (arg9.view.read (Elt F) Xarg9) (arg16.view.read (Elt F) Xarg16) (arg17.view.read (Elt F) Xarg17) (arg18.view.read (Elt F) Xarg18) (arg19.view.read (Elt F) Xarg19) g := by
  unfold headLC vLC; rw [headC_eq]

/-- Four row blocks, one above the other. -/
def stack4 {α : Type} (h : Fin 4 → S96x512.Idx → α) : S384x512.Idx → α := fun y =>
  h ⟨(y 0).val / 96, by have : (y 0).val < 384 := (y 0).isLt; omega⟩ (ix2 ⟨(y 0).val % 96, Nat.mod_lt _ (by decide)⟩ (y 1))
def stackR {α : Type} (h : Fin 4 → S1x1x512.Idx → α) : S1x4x512.Idx → α := fun y => h (y 1) (ix3 0 0 (y 2))

theorem stack4_put {α : Type} (x : S384x512.Idx → α) (h : Fin 4 → S96x512.Idx → α) :
    VecWindow.put (VecWindow.put (VecWindow.put (VecWindow.put x ![96 * (0 : Fin 4).val, 0] S96x512.size (h 0)) ![96 * (1 : Fin 4).val, 0] S96x512.size (h 1))
      ![96 * (2 : Fin 4).val, 0] S96x512.size (h 2)) ![96 * (3 : Fin 4).val, 0] S96x512.size (h 3) = stack4 h := by
  have hw : ∀ (g : Fin 4) (j : (a : Fin 2) → Fin ((![96, 512] : Fin 2 → ℕ) a)) (y : S384x512.Idx), (y 0).val = 96 * g.val + (j 0).val → (y 1).val = (j 1).val → h g j = stack4 h y := by
    intro g j y h0 h1
    have hj : (j 0).val < 96 := (j 0).isLt
    unfold stack4
    have e : (⟨(y 0).val / 96, by have : (y 0).val < 384 := (y 0).isLt; omega⟩ : Fin 4) = g := Fin.ext (by show (y 0).val / 96 = g.val; omega)
    rw [e]
    congr 1
    funext a
    match a with
    | 0 => exact Fin.ext (by show (j 0).val = (y 0).val % 96; omega)
    | 1 => exact Fin.ext h1.symm
  funext y
  refine put_rows (b := 96) _ (stack4 h) 3 _ ?_ (hw 3) y (y 0).isLt
  intro y hy
  refine put_rows (b := 96) _ (stack4 h) 2 _ ?_ (hw 2) y hy
  intro y hy
  refine put_rows (b := 96) _ (stack4 h) 1 _ ?_ (hw 1) y hy
  intro y hy
  refine put_rows (b := 96) _ (stack4 h) 0 _ ?_ (hw 0) y hy
  intro y hy
  exact absurd hy (Nat.not_lt_zero _)

theorem stackR_put {α : Type} (x : S1x4x512.Idx → α) (h : Fin 4 → S1x1x512.Idx → α) :
    VecWindow.put (VecWindow.put (VecWindow.put (VecWindow.put x ![0, (0 : Fin 4).val, 0] S1x1x512.size (h 0)) ![0, (1 : Fin 4).val, 0] S1x1x512.size (h 1))
      ![0, (2 : Fin 4).val, 0] S1x1x512.size (h 2)) ![0, (3 : Fin 4).val, 0] S1x1x512.size (h 3) = stackR h := by
  have one : ∀ (x : S1x4x512.Idx → α) (g : Fin 4) (k : ℕ), g.val = k → (∀ y, (y 1).val < k → x y = stackR h y) → ∀ y : S1x4x512.Idx, (y 1).val < k + 1 →
      VecWindow.put x ![0, g.val, 0] S1x1x512.size (h g) y = stackR h y := by
    intro x g k hg hx y hy
    unfold VecWindow.put
    split
    next hh =>
      have h1 : g.val ≤ (y 1).val := (hh 1).1
      have h2 : (y 1).val < g.val + 1 := (hh 1).2
      unfold stackR
      have e : y 1 = g := Fin.ext (by omega)
      rw [e]
      congr 1
      funext a
      match a with
      | 0 => exact Subsingleton.elim (α := Fin 1) _ _
      | 1 => exact Subsingleton.elim (α := Fin 1) _ _
      | 2 => exact Fin.ext (by show (y 2).val - 0 = (y 2).val; omega)
    next hh =>
      refine hx y ?_
      by_contra hc
      apply hh
      intro a
      match a with
      | 0 => have : (y 0).val < 1 := (y 0).isLt; exact ⟨Nat.zero_le _, by show (y 0).val < 0 + 1; omega⟩
      | 1 => exact ⟨by show g.val ≤ (y 1).val; omega, by show (y 1).val < g.val + 1; omega⟩
      | 2 => have : (y 2).val < 512 := (y 2).isLt; exact ⟨Nat.zero_le _, by show (y 2).val < 0 + 512; omega⟩
  funext y
  refine one _ 3 3 rfl ?_ y (y 1).isLt
  intro y hy
  refine one _ 2 2 rfl ?_ y hy
  intro y hy
  refine one _ 1 1 rfl ?_ y hy
  intro y hy
  refine one _ 0 0 rfl ?_ y hy
  intro y hy
  exact absurd hy (Nat.not_lt_zero _)

/-- What the body leaves in the three output blocks, as functions of the input blocks. -/
def wO (i : grid0.Coords) (x0 : Vec F S1x384x512 .fp8e4m3) (x1 : Vec F S1x4x512 .f32) (x2 : Vec F S1x16384x128 .fp8e4m3) (x3 : Vec F S1x96x16384 .fp8e4m3) (x4 : Vec F S1x1x16384 .f32) (x5 : Vec F S1x1x16384 .f32) (x6 : Vec F S1x1x1536x128 .fp8e4m3) (x7 : Vec F S1x1x96x1536 .fp8e4m3) (x8 : Vec F S1x1x1x1536 .f32) (x9 : Vec F S1x1x1x1536 .f32) : Vec F S512x384 .bf16 :=
  k0_pay4 (stack4 fun g => vO i x0 x1 x2 x6 (fill1 x4) (fill2 x3 x5) (fill3 x8) (fill4 x7 x9) g)
def wLP (i : grid0.Coords) (x0 : Vec F S1x384x512 .fp8e4m3) (x1 : Vec F S1x4x512 .f32) (x2 : Vec F S1x16384x128 .fp8e4m3) (x3 : Vec F S1x96x16384 .fp8e4m3) (x4 : Vec F S1x1x16384 .f32) (x5 : Vec F S1x1x16384 .f32) (x6 : Vec F S1x1x1536x128 .fp8e4m3) (x7 : Vec F S1x1x96x1536 .fp8e4m3) (x8 : Vec F S1x1x1x1536 .f32) (x9 : Vec F S1x1x1x1536 .f32) : Vec F S1x4x512 .f32 :=
  stackR fun g => vLP i x0 x1 x2 x6 (fill1 x4) (fill2 x3 x5) (fill3 x8) (fill4 x7 x9) g
def wLC (i : grid0.Coords) (x0 : Vec F S1x384x512 .fp8e4m3) (x1 : Vec F S1x4x512 .f32) (x2 : Vec F S1x16384x128 .fp8e4m3) (x3 : Vec F S1x96x16384 .fp8e4m3) (x4 : Vec F S1x1x16384 .f32) (x5 : Vec F S1x1x16384 .f32) (x6 : Vec F S1x1x1536x128 .fp8e4m3) (x7 : Vec F S1x1x96x1536 .fp8e4m3) (x8 : Vec F S1x1x1x1536 .f32) (x9 : Vec F S1x1x1x1536 .f32) : Vec F S1x4x512 .f32 :=
  stackR fun g => vLC i x0 x1 x2 x6 (fill1 x4) (fill2 x3 x5) (fill3 x8) (fill4 x7 x9) g

end Cert.KernelIdeal.Gen
-- ==== Proof.Softmax.lean ====
module

public import Idealize.ShloMosaic.PureOps.Ideal

/-!
A softmax taken block by block, in powers of two and with a running maximum that starts at a finite number, against the softmax taken at once, over the extended reals.
-/

@[expose] public section

noncomputable section

namespace Cert.Attn

open Idealize.ShloMosaic Finset

/-- The running maximum of the first `n` scores, started at `b`. -/
def top (b : EReal) (s : ℕ → EReal) (n : ℕ) : EReal := max b ((range n).sup s)
/-- The sum of the first `n` weights. -/
def den (b : EReal) (s : ℕ → EReal) (n : ℕ) : EReal := ∑ j ∈ range n, Ideal.exp2 (s j - top b s n)
/-- The weighted sum of the first `n` values. -/
def num (b : EReal) (s x : ℕ → EReal) (n : ℕ) : EReal := ∑ j ∈ range n, x j * Ideal.exp2 (s j - top b s n)

theorem exp2_nonneg (x : EReal) : 0 ≤ Ideal.exp2 x := by
  induction x using EReal.rec with
  | bot => simp
  | top => simp
  | coe r => rw [Ideal.exp2_coe]; exact EReal.coe_nonneg.2 (Real.rpow_nonneg (by norm_num) r)

theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

theorem sub_ne_top {m m' : EReal} (h : m ≤ m') (hm : m ≠ ⊥) : m - m' ≠ ⊤ := by
  induction m' using EReal.rec with
  | bot => exact absurd (le_bot_iff.1 h) hm
  | top => simp
  | coe r =>
    induction m using EReal.rec with
    | bot => exact absurd rfl hm
    | top => simp at h
    | coe q => rw [← EReal.coe_sub]; exact EReal.coe_ne_top _

/-- A weight against the old maximum becomes the weight against the new one. -/
theorem exp2_rescale {x m m' : EReal} (h : x ≤ m) (h' : m ≤ m') (hm : m ≠ ⊥) :
    Ideal.exp2 (x - m) * Ideal.exp2 (m - m') = Ideal.exp2 (x - m') := by
  induction m' using EReal.rec with
  | bot => exact absurd (le_bot_iff.1 h') hm
  | top => simp
  | coe r' =>
    induction m using EReal.rec with
    | bot => exact absurd rfl hm
    | top => simp at h'
    | coe r =>
      induction x using EReal.rec with
      | bot => simp
      | top => simp at h
      | coe q =>
        rw [← EReal.coe_sub, ← EReal.coe_sub, ← EReal.coe_sub, Ideal.exp2_coe, Ideal.exp2_coe, Ideal.exp2_coe, ← EReal.coe_mul]
        congr 1
        show (2:ℝ) ^ (q - r) * (2:ℝ) ^ (r - r') = (2:ℝ) ^ (q - r')
        rw [← Real.rpow_add (by norm_num)]
        congr 1; ring

theorem sum_mul_of_nonneg {ι : Type} (S : Finset ι) (f : ι → EReal) {c : EReal} (hc : 0 ≤ c) (hc' : c ≠ ⊤) :
    (∑ j ∈ S, f j) * c = ∑ j ∈ S, f j * c := by
  classical
  induction S using Finset.induction_on with
  | empty => simp
  | insert a S ha ih => rw [sum_insert ha, sum_insert ha, EReal.right_distrib_of_nonneg_of_ne_top hc hc', ih]

theorem le_top_of (b : EReal) (s : ℕ → EReal) {n j : ℕ} (h : j < n) : s j ≤ top b s n :=
  le_max_of_le_right (le_sup (f := s) (mem_range.2 h))

theorem top_ne_bot {b : EReal} (hb : b ≠ ⊥) (s : ℕ → EReal) (n : ℕ) : top b s n ≠ ⊥ :=
  fun h => hb (le_bot_iff.1 (h ▸ le_max_left b _))

theorem top_add (b : EReal) (s : ℕ → EReal) (n k : ℕ) :
    top b s (n + k) = max (top b s n) ((univ : Finset (Fin k)).sup fun r => s (n + r.val)) := by
  unfold top
  apply le_antisymm
  · refine max_le (le_max_of_le_left (le_max_left _ _)) (Finset.sup_le fun j hj => ?_)
    by_cases h : j < n
    · exact le_max_of_le_left (le_max_of_le_right (le_sup (f := s) (mem_range.2 h)))
    · have hj' := mem_range.1 hj
      have := le_sup (f := fun r : Fin k => s (n + r.val)) (mem_univ (⟨j - n, by omega⟩ : Fin k))
      refine le_max_of_le_right (le_trans (le_of_eq ?_) this)
      show s j = s (n + (j - n))
      congr 1; omega
  · refine max_le (max_le (le_max_left _ _) (le_max_of_le_right (sup_mono (range_mono (Nat.le_add_right n k))))) (Finset.sup_le fun r _ => ?_)
    exact le_max_of_le_right (le_sup (f := s) (mem_range.2 (Nat.add_lt_add_left r.isLt n)))

theorem top_le (b : EReal) (s : ℕ → EReal) (n k : ℕ) : top b s n ≤ top b s (n + k) := by
  rw [top_add]; exact le_max_left _ _

/-- The sum of weights after one more block. -/
theorem den_add {b : EReal} (hb : b ≠ ⊥) (s : ℕ → EReal) (n k : ℕ) :
    den b s (n + k) = den b s n * Ideal.exp2 (top b s n - top b s (n + k)) + ∑ r : Fin k, Ideal.exp2 (s (n + r.val) - top b s (n + k)) := by
  unfold den
  rw [sum_range_add, sum_mul_of_nonneg _ _ (exp2_nonneg _) (exp2_ne_top (sub_ne_top (top_le b s n k) (top_ne_bot hb s n))), sum_range (n := k)]
  congr 1
  refine sum_congr rfl fun j hj => ?_
  rw [exp2_rescale (le_top_of b s (mem_range.1 hj)) (top_le b s n k) (top_ne_bot hb s n)]

/-- The weighted sum after one more block. -/
theorem num_add {b : EReal} (hb : b ≠ ⊥) (s x : ℕ → EReal) (n k : ℕ) :
    num b s x (n + k) = num b s x n * Ideal.exp2 (top b s n - top b s (n + k)) + ∑ r : Fin k, x (n + r.val) * Ideal.exp2 (s (n + r.val) - top b s (n + k)) := by
  unfold num
  rw [sum_range_add, sum_mul_of_nonneg _ _ (exp2_nonneg _) (exp2_ne_top (sub_ne_top (top_le b s n k) (top_ne_bot hb s n))), sum_range (n := k)]
  congr 1
  refine sum_congr rfl fun j hj => ?_
  rw [mul_assoc, exp2_rescale (le_top_of b s (mem_range.1 hj)) (top_le b s n k) (top_ne_bot hb s n)]

/-! The softmax taken at once. -/

/-- The largest of the first `n` scores. -/
def rmax (s : ℕ → EReal) (n : ℕ) : EReal := (range n).sup s
/-- The sum of the first `n` weights. -/
def rden (s : ℕ → EReal) (n : ℕ) : EReal := ∑ j ∈ range n, Ideal.exp (s j - rmax s n)
/-- The weighted sum of the first `n` values. -/
def rnum (s vs v : ℕ → EReal) (n : ℕ) : EReal := ∑ j ∈ range n, Ideal.exp (s j - rmax s n) * vs j * v j
/-- The log of the sum of the exponentials. -/
def rlse (s : ℕ → EReal) (n : ℕ) : EReal := rmax s n + Ideal.log (rden s n)
/-- The attention output. -/
def rout (s vs v : ℕ → EReal) (n : ℕ) : EReal := Ideal.div (rnum s vs v n) (rden s n)

theorem exp_bot_sub (m : EReal) : Ideal.exp (⊥ - m) = 0 := by simp [sub_eq_add_neg]
theorem exp2_bot_sub (m : EReal) : Ideal.exp2 (⊥ - m) = 0 := by simp [sub_eq_add_neg]

theorem rmax_tail {s : ℕ → EReal} {n N : ℕ} (h : n ≤ N) (hs : ∀ j, n ≤ j → j < N → s j = ⊥) : rmax s N = rmax s n := by
  unfold rmax
  refine le_antisymm (Finset.sup_le fun j hj => ?_) (sup_mono (range_mono h))
  by_cases hn : j < n
  · exact le_sup (f := s) (mem_range.2 hn)
  · rw [hs j (by omega) (mem_range.1 hj)]; exact bot_le

theorem sum_tail {f : ℕ → EReal} {n N : ℕ} (h : n ≤ N) (hs : ∀ j, n ≤ j → j < N → f j = 0) : ∑ j ∈ range N, f j = ∑ j ∈ range n, f j := by
  symm
  refine sum_subset (range_mono h) fun j hj hn => hs j ?_ (mem_range.1 hj)
  simpa using hn

theorem rden_tail {s : ℕ → EReal} {n N : ℕ} (h : n ≤ N) (hs : ∀ j, n ≤ j → j < N → s j = ⊥) : rden s N = rden s n := by
  unfold rden
  rw [rmax_tail h hs]
  exact sum_tail h fun j h1 h2 => by rw [hs j h1 h2, exp_bot_sub]

theorem rnum_tail {s : ℕ → EReal} (vs v : ℕ → EReal) {n N : ℕ} (h : n ≤ N) (hs : ∀ j, n ≤ j → j < N → s j = ⊥) : rnum s vs v N = rnum s vs v n := by
  unfold rnum
  rw [rmax_tail h hs]
  exact sum_tail h fun j h1 h2 => by rw [hs j h1 h2, exp_bot_sub, zero_mul, zero_mul]

theorem rlse_tail {s : ℕ → EReal} {n N : ℕ} (h : n ≤ N) (hs : ∀ j, n ≤ j → j < N → s j = ⊥) : rlse s N = rlse s n := by
  unfold rlse; rw [rmax_tail h hs, rden_tail h hs]

theorem rout_tail {s : ℕ → EReal} (vs v : ℕ → EReal) {n N : ℕ} (h : n ≤ N) (hs : ∀ j, n ≤ j → j < N → s j = ⊥) : rout s vs v N = rout s vs v n := by
  unfold rout; rw [rnum_tail vs v h hs, rden_tail h hs]

/-- The scores in units of `log 2`. -/
def log2e : EReal := (((Real.log 2)⁻¹ : ℝ) : EReal)

theorem log2_pos : 0 < Real.log 2 := Real.log_pos (by norm_num)

/-- The three ways a row of scores can be: no score above `⊥`, one at `⊤`, or a real maximum. -/
inductive Row (b : EReal) (s : ℕ → EReal) (n : ℕ) : Prop
  | none (h : rmax s n = ⊥) (hw : ∀ j < n, Ideal.exp (s j - rmax s n) = 0) (hk : ∀ j < n, Ideal.exp2 (s j * log2e - top b (fun j => s j * log2e) n) = 0)
  | inf (h : rmax s n = ⊤) (h' : top b (fun j => s j * log2e) n = ⊤) (hw : ∀ j < n, Ideal.exp (s j - rmax s n) = 0) (hk : ∀ j < n, Ideal.exp2 (s j * log2e - top b (fun j => s j * log2e) n) = 0)
  | real (r μ : ℝ) (w : ℕ → ℝ) (h : rmax s n = (r : EReal)) (h' : top b (fun j => s j * log2e) n = (μ : EReal))
      (hw : ∀ j < n, Ideal.exp (s j - rmax s n) = (w j : EReal))
      (hk : ∀ j < n, Ideal.exp2 (s j * log2e - top b (fun j => s j * log2e) n) = ((w j * Real.exp (r - μ * Real.log 2) : ℝ) : EReal))
      (hpos : 0 < ∑ j ∈ range n, w j)

theorem mul_log2e_mono {x y : EReal} (h : x ≤ y) : x * log2e ≤ y * log2e :=
  mul_le_mul_of_nonneg_right h (EReal.coe_nonneg.2 (inv_nonneg.2 log2_pos.le))

theorem row (β : ℝ) (s : ℕ → EReal) (n : ℕ) : Row (β : EReal) s n := by
  have hc : (0:ℝ) < (Real.log 2)⁻¹ := inv_pos.2 log2_pos
  have hle : ∀ j < n, s j ≤ rmax s n := fun j hj => le_sup (f := s) (mem_range.2 hj)
  obtain hR | hR | ⟨r, hR⟩ : rmax s n = ⊥ ∨ rmax s n = ⊤ ∨ ∃ r : ℝ, rmax s n = (r : EReal) := by
    induction h : rmax s n using EReal.rec with
    | bot => exact .inl rfl
    | top => exact .inr (.inl rfl)
    | coe r => exact .inr (.inr ⟨r, rfl⟩)
  · have hs : ∀ j < n, s j = ⊥ := fun j hj => le_bot_iff.1 (hR ▸ hle j hj)
    refine .none hR (fun j hj => ?_) fun j hj => ?_
    · rw [hs j hj, exp_bot_sub]
    · rw [hs j hj, log2e, EReal.bot_mul_coe_of_pos hc, exp2_bot_sub]
  · have hne : (range n).Nonempty := by
      rw [nonempty_iff_ne_empty]; intro h
      rw [rmax, h, sup_empty] at hR; exact absurd hR bot_ne_top
    obtain ⟨j0, hj0, he⟩ := exists_mem_eq_sup (range n) hne s
    have hs0 : s j0 = ⊤ := by rw [← he]; exact hR
    have ht : top (β : EReal) (fun j => s j * log2e) n = ⊤ := by
      refine top_le_iff.1 (le_trans (le_of_eq ?_) (le_top_of _ (fun j => s j * log2e) (mem_range.1 hj0)))
      show ⊤ = s j0 * log2e
      rw [hs0, log2e, EReal.top_mul_coe_of_pos hc]
    refine .inf hR ht (fun j hj => ?_) fun j hj => ?_
    · rw [hR]; show Ideal.exp (s j - ⊤) = 0; simp
    · rw [ht]; simp
  · have hR' : rmax s n = (r : EReal) := hR
    have hne : (range n).Nonempty := by
      rw [nonempty_iff_ne_empty]; intro h
      rw [rmax, h, sup_empty] at hR'; exact absurd hR'.symm (EReal.coe_ne_bot r)
    obtain ⟨j0, hj0, he⟩ := exists_mem_eq_sup (range n) hne s
    have hs0 : s j0 = (r : EReal) := by rw [← he]; exact hR'
    have hsup : (range n).sup (fun j => s j * log2e) = ((r * (Real.log 2)⁻¹ : ℝ) : EReal) := by
      apply le_antisymm
      · refine Finset.sup_le fun j hj => ?_
        rw [EReal.coe_mul]
        exact mul_log2e_mono (hR' ▸ hle j (mem_range.1 hj))
      · refine le_trans (le_of_eq ?_) (le_sup (f := fun j => s j * log2e) hj0)
        show _ = s j0 * log2e
        rw [hs0, EReal.coe_mul, log2e]
    have ht : top (β : EReal) (fun j => s j * log2e) n = ((max β (r * (Real.log 2)⁻¹) : ℝ) : EReal) := by
      unfold top; rw [hsup]; exact (EReal.coe_strictMono.monotone.map_max).symm
    refine .real r (max β (r * (Real.log 2)⁻¹)) (fun j => (Ideal.exp (s j - r)).toReal) hR' ht ?_ ?_ ?_
    · intro j hj
      rw [hR']
      have := hR' ▸ hle j hj
      induction hx : s j using EReal.rec with
      | bot => simp
      | top => rw [hx] at this; simp at this
      | coe q => rw [← EReal.coe_sub, Ideal.exp_coe, EReal.toReal_coe]
    · intro j hj
      rw [ht]
      generalize max β (r * (Real.log 2)⁻¹) = μ
      have := hR' ▸ hle j hj
      induction hx : s j using EReal.rec with
      | bot => rw [log2e, EReal.bot_mul_coe_of_pos hc, exp2_bot_sub, exp_bot_sub]; simp
      | top => rw [hx] at this; simp at this
      | coe q =>
        rw [log2e, ← EReal.coe_mul, ← EReal.coe_sub, ← EReal.coe_sub, Ideal.exp_coe, EReal.toReal_coe, Ideal.exp2_coe]
        congr 1
        show (2:ℝ) ^ (q * (Real.log 2)⁻¹ - μ) = _
        rw [← Real.exp_add, Real.rpow_def_of_pos (by norm_num)]
        congr 1
        have := log2_pos.ne'
        field_simp
        ring
    · refine sum_pos' (fun j hj => ?_) ⟨j0, hj0, ?_⟩
      · have := hR' ▸ hle j (mem_range.1 hj)
        induction hx : s j using EReal.rec with
        | bot => simp
        | top => rw [hx] at this; simp at this
        | coe q => rw [← EReal.coe_sub, Ideal.exp_coe, EReal.toReal_coe]; exact (Real.exp_pos _).le
      · rw [hs0, ← EReal.coe_sub, Ideal.exp_coe, EReal.toReal_coe]; exact Real.exp_pos _

theorem coe_sum (S : Finset ℕ) (w : ℕ → ℝ) : ((∑ j ∈ S, w j : ℝ) : EReal) = ∑ j ∈ S, (w j : EReal) := by
  classical
  induction S using Finset.induction_on with
  | empty => simp
  | insert a S ha ih => rw [sum_insert ha, sum_insert ha, EReal.coe_add, ih]

/-- The log of the sum of the exponentials, from the block-wise sums. -/
theorem lse_eq (β : ℝ) (s : ℕ → EReal) (n : ℕ) :
    top (β : EReal) (fun j => s j * log2e) n * ((Real.log 2 : ℝ) : EReal) + Ideal.log (den (β : EReal) (fun j => s j * log2e) n) = rlse s n := by
  have hz : ∀ f : ℕ → EReal, (∀ j < n, f j = 0) → ∑ j ∈ range n, f j = 0 := fun f h => sum_eq_zero fun j hj => h j (mem_range.1 hj)
  have h0 : Ideal.log 0 = ⊥ := by show Ideal.log ((0:ℝ) : EReal) = ⊥; rw [Ideal.log_coe, if_pos le_rfl]
  unfold rlse rden den
  cases row β s n with
  | none h hw hk => rw [hz _ hw, hz _ hk, h0, EReal.add_bot, EReal.add_bot]
  | inf h h' hw hk => rw [hz _ hw, hz _ hk, h0, EReal.add_bot, EReal.add_bot]
  | real r μ w h h' hw hk hpos =>
    rw [sum_congr rfl fun j hj => hw j (mem_range.1 hj), sum_congr rfl fun j hj => hk j (mem_range.1 hj), h, h', ← coe_sum, ← coe_sum, ← sum_mul]
    have hC := Real.exp_pos (r - μ * Real.log 2)
    rw [Ideal.log_coe, Ideal.log_coe, if_neg (not_le.2 hpos), if_neg (not_le.2 (mul_pos hpos hC)), ← EReal.coe_mul, ← EReal.coe_add, ← EReal.coe_add,
      Real.log_mul hpos.ne' hC.ne', Real.log_exp]
    congr 1; ring

/-- The attention output, from the block-wise sums. -/
theorem out_eq (β : ℝ) (s vs v : ℕ → EReal) (n : ℕ) :
    Ideal.div (num (β : EReal) (fun j => s j * log2e) (fun j => v j * vs j) n) (den (β : EReal) (fun j => s j * log2e) n) = rout s vs v n := by
  have hz : ∀ f : ℕ → EReal, (∀ j < n, f j = 0) → ∑ j ∈ range n, f j = 0 := fun f h => sum_eq_zero fun j hj => h j (mem_range.1 hj)
  unfold rout rnum rden den num
  cases row β s n with
  | none h hw hk => rw [hz _ hw, hz _ hk, hz _ fun j hj => by show v j * vs j * Ideal.exp2 (s j * log2e - top (β : EReal) (fun j => s j * log2e) n) = 0; rw [hk j hj, mul_zero]]; rw [hz (fun j => _ * _) fun j hj => by show Ideal.exp (s j - rmax s n) * vs j * v j = 0; rw [hw j hj, zero_mul, zero_mul]]
  | inf h h' hw hk => rw [hz _ hw, hz _ hk, hz _ fun j hj => by show v j * vs j * Ideal.exp2 (s j * log2e - top (β : EReal) (fun j => s j * log2e) n) = 0; rw [hk j hj, mul_zero]]; rw [hz (fun j => _ * _) fun j hj => by show Ideal.exp (s j - rmax s n) * vs j * v j = 0; rw [hw j hj, zero_mul, zero_mul]]
  | real r μ w h h' hw hk hpos =>
    have hC := Real.exp_pos (r - μ * Real.log 2)
    have e1 : ∑ j ∈ range n, v j * vs j * Ideal.exp2 (s j * log2e - top (β : EReal) (fun j => s j * log2e) n)
        = (∑ j ∈ range n, Ideal.exp (s j - rmax s n) * vs j * v j) * ((Real.exp (r - μ * Real.log 2) : ℝ) : EReal) := by
      rw [sum_mul_of_nonneg _ _ (EReal.coe_nonneg.2 hC.le) (EReal.coe_ne_top _)]
      refine sum_congr rfl fun j hj => ?_
      rw [hw j (mem_range.1 hj), hk j (mem_range.1 hj), EReal.coe_mul]
      rw [mul_comm (v j) (vs j), mul_comm (w j : EReal) (vs j)]
      simp only [mul_assoc, mul_comm, mul_left_comm]
    rw [e1]
    generalize ∑ j ∈ range n, Ideal.exp (s j - rmax s n) * vs j * v j = A
    rw [sum_congr rfl fun j hj => hw j (mem_range.1 hj), sum_congr rfl fun j hj => hk j (mem_range.1 hj), ← coe_sum, ← coe_sum, ← sum_mul,
      Ideal.div_coe (mul_pos hpos hC).ne', Ideal.div_coe hpos.ne', mul_assoc, ← EReal.coe_mul]
    congr 2
    field_simp

theorem rlse_ne_top (s : ℕ → EReal) (n : ℕ) : rlse s n ≠ ⊤ := by
  have hz : ∀ f : ℕ → EReal, (∀ j < n, f j = 0) → ∑ j ∈ range n, f j = 0 := fun f h => sum_eq_zero fun j hj => h j (mem_range.1 hj)
  have h0 : Ideal.log 0 = ⊥ := by show Ideal.log ((0:ℝ) : EReal) = ⊥; rw [Ideal.log_coe, if_pos le_rfl]
  unfold rlse rden
  cases row 0 s n with
  | none h hw hk => rw [hz _ hw, h0, EReal.add_bot]; exact bot_ne_top
  | inf h h' hw hk => rw [hz _ hw, h0, EReal.add_bot]; exact bot_ne_top
  | real r μ w h h' hw hk hpos =>
    rw [sum_congr rfl fun j hj => hw j (mem_range.1 hj), h, ← coe_sum, Ideal.log_coe, if_neg (not_le.2 hpos), ← EReal.coe_add]
    exact EReal.coe_ne_top _

/-- Two ways of writing `log (exp p + exp c)`. -/
theorem logaddexp_eq {p c : EReal} (hp : p ≠ ⊤) (hc : c ≠ ⊤) :
    max p c + Ideal.log (Ideal.exp (p - max p c) + Ideal.exp (c - max p c)) = max p c + Ideal.log1p (Ideal.exp (-(max (p - c) (-(p - c))))) := by
  have h0 : Ideal.log 0 = ⊥ := by show Ideal.log ((0:ℝ) : EReal) = ⊥; rw [Ideal.log_coe, if_pos le_rfl]
  have h1 : Ideal.exp 0 = 1 := by show Ideal.exp ((0:ℝ) : EReal) = 1; rw [Ideal.exp_coe, Real.exp_zero]; rfl
  induction p using EReal.rec with
  | top => exact absurd rfl hp
  | bot =>
    induction c using EReal.rec with
    | top => exact absurd rfl hc
    | bot => simp
    | coe c =>
      rw [max_eq_right bot_le, exp_bot_sub, zero_add, EReal.sub_self (EReal.coe_ne_top _) (EReal.coe_ne_bot _), h1]
      simp [Ideal.log1p]
  | coe p =>
    induction c using EReal.rec with
    | top => exact absurd rfl hc
    | bot =>
      rw [max_eq_left bot_le, exp_bot_sub, add_zero, EReal.sub_self (EReal.coe_ne_top _) (EReal.coe_ne_bot _), h1]
      simp [Ideal.log1p]
    | coe c =>
      congr 2
      have e : (max (p : EReal) c) = ((max p c : ℝ) : EReal) := (EReal.coe_strictMono.monotone.map_max).symm
      have e' : max ((p : EReal) - c) (-((p : EReal) - c)) = ((|p - c| : ℝ) : EReal) := by
        rw [← EReal.coe_sub, ← EReal.coe_neg]; exact (EReal.coe_strictMono.monotone.map_max).symm
      rw [e, e', ← EReal.coe_sub, ← EReal.coe_sub, ← EReal.coe_neg, Ideal.exp_coe, Ideal.exp_coe, Ideal.exp_coe]
      show _ = ((1:ℝ) : EReal) + _
      rw [← EReal.coe_add, ← EReal.coe_add]
      congr 1
      rcases le_total p c with h | h
      · rw [max_eq_right h, abs_of_nonpos (sub_nonpos.2 h), _root_.sub_self, Real.exp_zero, neg_neg, add_comm]
      · rw [max_eq_left h, abs_of_nonneg (sub_nonneg.2 h), _root_.sub_self, Real.exp_zero, neg_sub]

end Cert.Attn
-- ==== Proof.Payloads.lean ====
module

public import proofs.«01_k».proof.Proof.Vals
public import proofs.«01_k».proof.Proof.Softmax
public import Idealize.ShloMosaic.Lib.Pointwise
public import Idealize.ShloMosaic.Lib.WordCmp

/-!
The kernel's arithmetic read at an index over the extended reals: the scores, one block of keys added to a row's running state, and the end of a row.
-/

@[expose] public section

set_option maxRecDepth 8192
set_option maxHeartbeats 4000000

noncomputable section

namespace Cert.KernelIdeal.Gen

open Idealize.ShloMosaic Cert.Attn

/-! Constants. -/

/-- Where the running maximum starts. -/
abbrev B0 : EReal := Ideal.ofBits .f32 0xF149F2CA#32
theorem ninf : Ideal.ofBits .f32 0xFF800000#32 = (⊥ : EReal) := by
  simp [Ideal.ofBits, Ideal.ieee, -EReal.coe_mul]
theorem bits_zero : Ideal.ofBits .f32 0x00000000#32 = (0 : EReal) := by
  simp [Ideal.ofBits, Ideal.ieee, -EReal.coe_mul]
theorem start_real : ∃ β : ℝ, B0 = (β : EReal) := by
  have h : B0 ≠ ⊥ ∧ B0 ≠ ⊤ := by
    simp [B0, Ideal.ofBits, Ideal.ieee, -EReal.coe_mul]
  exact ⟨B0.toReal, (EReal.coe_toReal h.2 h.1).symm⟩
theorem start_ne_bot : B0 ≠ ⊥ := by
  obtain ⟨β, h⟩ := start_real
  rw [h]; exact EReal.coe_ne_bot β

/-- The score scale in units of `log 2`. -/
theorem scale_log2e : Named.named (F := Ideal) (φ := .f32) κ "scale_log2e" 0x3E16C740#32 = ((((Real.sqrt 96)⁻¹ * (Real.log 2)⁻¹ : ℝ)) : EReal) :=
  IdealRules.named_const.ideal_named_scalar _ _ _ _ rfl
theorem ln2 : Named.named (F := Ideal) (φ := .f32) κ "ln2" 0x3F317218#32 = ((Real.log 2 : ℝ) : EReal) :=
  IdealRules.named_const.ideal_named_scalar _ _ _ _ rfl

theorem fold_max {k : ℕ} (f : Fin k → EReal) : Finset.fold max (⊥ : EReal) f Finset.univ = (Finset.univ : Finset (Fin k)).sup f := rfl

/-! A row's running state. -/

/-- The state of lane `c` after `n` keys with scores `s` and values `x`. -/
def Inv (s : ℕ → EReal) (x : Fin 96 → ℕ → EReal) (c : Fin 512) (n : ℕ) (st : St Ideal) : Prop :=
  st.1.1 (ix2 0 c) = top B0 s n ∧ st.1.2 (ix2 0 c) = den B0 s n ∧ ∀ e : Fin 96, st.2 (ix2 e c) = num B0 s (x e) n

theorem inv_add {s : ℕ → EReal} {x : Fin 96 → ℕ → EReal} {c : Fin 512} {n : ℕ} {st st' : St Ideal} (h : Inv s x c n st)
    (hm : st'.1.1 (ix2 0 c) = max (st.1.1 (ix2 0 c)) (Finset.fold max (⊥ : EReal) (fun r : Fin 256 => s (n + r.val)) Finset.univ))
    (hl : st'.1.2 (ix2 0 c) = st.1.2 (ix2 0 c) * Ideal.exp2 (st.1.1 (ix2 0 c) - st'.1.1 (ix2 0 c)) + ∑ r : Fin 256, Ideal.exp2 (s (n + r.val) - st'.1.1 (ix2 0 c)))
    (ha : ∀ e : Fin 96, st'.2 (ix2 e c) = st.2 (ix2 e c) * Ideal.exp2 (st.1.1 (ix2 0 c) - st'.1.1 (ix2 0 c)) + ∑ r : Fin 256, x e (n + r.val) * Ideal.exp2 (s (n + r.val) - st'.1.1 (ix2 0 c))) :
    Inv s x c (n + 256) st' := by
  obtain ⟨h1, h2, h3⟩ := h
  have hm' : st'.1.1 (ix2 0 c) = top B0 s (n + 256) := by rw [hm, h1, fold_max, top_add]
  refine ⟨hm', ?_, fun e => ?_⟩
  · rw [hl, h1, h2, hm', den_add start_ne_bot]
  · rw [ha, h1, h3, hm', num_add start_ne_bot]

theorem inv_zero (s : ℕ → EReal) (x : Fin 96 → ℕ → EReal) (c : Fin 512) (a : FVec Ideal S96x512 .f32) (ha : ∀ e : Fin 96, a (ix2 e c) = 0) :
    Inv s x c 0 ((k0_pay59, k0_pay60), a) := by
  refine ⟨?_, ?_, fun e => ?_⟩
  · show k0_pay59 (F := Ideal) (ix2 0 c) = _
    pointwise [k0_pay59]
    simp [top]
  · show k0_pay60 (F := Ideal) (ix2 0 c) = _
    pointwise [k0_pay60]
    simp [den]
  · rw [show ((k0_pay59, k0_pay60), a).2 (ix2 e c) = 0 from ha e]
    simp [num]

theorem pay61_at (e : Fin 96) (c : Fin 512) : k0_pay61 (F := Ideal) (ix2 e c) = 0 := by
  pointwise [k0_pay61]
theorem pay70_at (e : Fin 96) (c : Fin 512) : k0_pay70 (F := Ideal) (ix2 e c) = 0 := by
  pointwise [k0_pay70]

/-! The scores. -/

theorem pay57_at (v9 : Vec Ideal S1x96x512 .fp8e4m3) (d : Fin 96) (c : Fin 512) : k0_pay57 v9 (ix2 d c) = v9 (ix3 0 d c) := by
  pointwise [k0_pay57]
theorem pay58_at (v11 : Vec Ideal S1x1x512 .f32) (c : Fin 512) : k0_pay58 v11 (ix2 0 c) = v11 (ix3 0 0 c) * ((((Real.sqrt 96)⁻¹ * (Real.log 2)⁻¹ : ℝ)) : EReal) := by
  pointwise [k0_pay58]
  rw [scale_log2e]

theorem pay62_at (v9 : Vec Ideal S1x96x512 .fp8e4m3) (v11 : Vec Ideal S1x1x512 .f32) (kb : Vec Ideal S1x256x96 .fp8e4m3) (ksb : Vec Ideal S256x128 .f32) (κs : Fin 256 → EReal)
    (hk : ∀ r c', ksb (ix2 r c') = κs r) (r : Fin 256) (c : Fin 512) :
    k0_pay62 v9 v11 kb ksb (ix2 r c) = (∑ d : Fin 96, kb (ix3 0 r d) * v9 (ix3 0 d c)) * κs r * (v11 (ix3 0 0 c) * ((((Real.sqrt 96)⁻¹ * (Real.log 2)⁻¹ : ℝ)) : EReal)) := by
  pointwise [k0_pay62]
  simp only [hk, pay57_at, pay58_at, dite_eq_ite, ite_self]

theorem pay71_at (v10 : FVec Ideal S96x512 .fp8e4m3) (v14 : FVec Ideal S1x512 .f32) (kb : Vec Ideal S1x1x256x96 .fp8e4m3) (ksb : Vec Ideal S256x128 .f32) (κs : Fin 256 → EReal)
    (hk : ∀ r c', ksb (ix2 r c') = κs r) (r : Fin 256) (c : Fin 512) :
    k0_pay71 v10 v14 kb ksb (ix2 r c) = (∑ d : Fin 96, kb (ix4 0 0 r d) * v10 (ix2 d c)) * κs r * v14 (ix2 0 c) := by
  pointwise [k0_pay71]
  simp only [hk, dite_eq_ite, ite_self]

theorem pay5_at (i : grid0.Coords) (v10 : FVec Ideal S96x512 .fp8e4m3) (v14 : FVec Ideal S1x512 .f32) (k : Fin (k0_t8_loop i).trips) (kb : Vec Ideal S1x1x256x96 .fp8e4m3) (ksb : Vec Ideal S256x128 .f32) (κs : Fin 256 → EReal)
    (hk : ∀ r c', ksb (ix2 r c') = κs r) (r : Fin 256) (c : Fin 512) :
    k0_pay5 i (BitVec.ofNat 32 (512 * (i 2).val)) v10 v14 (BitVec.ofNat 32 (2 * (i 2).val)) 1#32 k kb ksb (ix2 r c)
      = if 256 * (2 * (i 2).val + k.val) + r.val ≤ 512 * (i 2).val + c.val then (∑ d : Fin 96, kb (ix4 0 0 r d) * v10 (ix2 d c)) * κs r * v14 (ix2 0 c) else ⊥ := by
  have hi : (i 2).val < 3 := (i 2).isLt
  have hk8 : k.val < 2 := (trips8 i) ▸ k.isLt
  pointwise [k0_pay5]
  simp only [hk, dite_eq_ite, ite_self]
  have e1 : IntOp.addi (Scalar.muli (Scf.iv (BitVec.ofNat 32 (2 * (i 2).val)) 1#32 k.val) 256#32) (BitVec.ofNat 32 r.val) = BitVec.ofNat 32 (256 * (2 * (i 2).val + k.val) + r.val) := by
    apply BitVec.eq_of_toNat_eq
    simp only [Scalar.muli, IntOp.muli, IntOp.addi, Scf.iv, BitVec.toNat_mul, BitVec.toNat_ofNat, BitVec.toNat_add]
    omega
  have e2 : IntOp.addi (BitVec.ofNat 32 (512 * (i 2).val)) (BitVec.ofNat 32 c.val) = BitVec.ofNat 32 (512 * (i 2).val + c.val) := by
    apply BitVec.eq_of_toNat_eq
    simp only [IntOp.addi, BitVec.toNat_ofNat, BitVec.toNat_add]
    omega
  rw [e1, e2, ninf]
  have hr := r.isLt
  have hc := c.isLt
  by_cases h : 256 * (2 * (i 2).val + k.val) + r.val ≤ 512 * (i 2).val + c.val
  · rw [if_pos h, (WordCmp.cmpi_sle_ofNat_eq_one_iff (w := 32) (by omega) (by omega)).2 h]; rfl
  · rw [if_neg h, (WordCmp.cmpi_sle_ofNat_eq_zero_iff (w := 32) (by omega) (by omega)).2 (by omega)]; rfl

/-! One block of keys. -/

theorem block5 {s : ℕ → EReal} {x : Fin 96 → ℕ → EReal} {c : Fin 512} {n : ℕ} {st : St Ideal} (h : Inv s x c n st)
    (v9 : Vec Ideal S1x96x512 .fp8e4m3) (v11 : Vec Ideal S1x1x512 .f32) (kb : Vec Ideal S1x256x96 .fp8e4m3) (ksb : Vec Ideal S256x128 .f32) (vb : Vec Ideal S96x256 .bf16)
    (hs : ∀ r : Fin 256, k0_pay62 v9 v11 kb ksb (ix2 r c) = s (n + r.val)) (hx : ∀ (e : Fin 96) (r : Fin 256), vb (ix2 e r) = x e (n + r.val)) :
    Inv s x c (n + 256) ((k0_pay63 v9 v11 st.1.1 kb ksb, k0_pay66 v9 v11 st.1.1 st.1.2 kb ksb), k0_pay67 v9 v11 st.1.1 kb ksb st.2 vb) := by
  refine inv_add h ?_ ?_ fun e => ?_
  · show k0_pay63 v9 v11 st.1.1 kb ksb (ix2 0 c) = _
    pointwise [k0_pay63]
    simp only [hs, ninf]
  · show k0_pay66 v9 v11 st.1.1 st.1.2 kb ksb (ix2 0 c) = _
    pointwise [k0_pay66, k0_pay65, k0_pay64]
    simp only [hs]
    rfl
  · show k0_pay67 v9 v11 st.1.1 kb ksb st.2 vb (ix2 e c) = _
    pointwise [k0_pay67, k0_pay65, k0_pay64]
    simp only [hs, hx]
    rfl

theorem block6 {s : ℕ → EReal} {x : Fin 96 → ℕ → EReal} {c : Fin 512} {n : ℕ} {st : St Ideal} (h : Inv s x c n st)
    (v10 : FVec Ideal S96x512 .fp8e4m3) (v14 : FVec Ideal S1x512 .f32) (kb : Vec Ideal S1x1x256x96 .fp8e4m3) (ksb : Vec Ideal S256x128 .f32) (vb : Vec Ideal S96x256 .bf16)
    (hs : ∀ r : Fin 256, k0_pay71 v10 v14 kb ksb (ix2 r c) = s (n + r.val)) (hx : ∀ (e : Fin 96) (r : Fin 256), vb (ix2 e r) = x e (n + r.val)) :
    Inv s x c (n + 256) ((k0_pay72 v10 v14 st.1.1 kb ksb, k0_pay75 v10 v14 st.1.1 st.1.2 kb ksb), k0_pay76 v10 v14 st.1.1 kb ksb st.2 vb) := by
  refine inv_add h ?_ ?_ fun e => ?_
  · show k0_pay72 v10 v14 st.1.1 kb ksb (ix2 0 c) = _
    pointwise [k0_pay72]
    simp only [hs, ninf]
  · show k0_pay75 v10 v14 st.1.1 st.1.2 kb ksb (ix2 0 c) = _
    pointwise [k0_pay75, k0_pay74, k0_pay73]
    simp only [hs]
    rfl
  · show k0_pay76 v10 v14 st.1.1 kb ksb st.2 vb (ix2 e c) = _
    pointwise [k0_pay76, k0_pay74, k0_pay73]
    simp only [hs, hx]
    rfl

theorem block8 {s : ℕ → EReal} {x : Fin 96 → ℕ → EReal} {c : Fin 512} {n : ℕ} {st : St Ideal} (h : Inv s x c n st)
    (i : grid0.Coords) (v8 : BitVec 32) (v10 : FVec Ideal S96x512 .fp8e4m3) (v14 : FVec Ideal S1x512 .f32) (v73 : BitVec 32) (k : Fin (k0_t8_loop i).trips)
    (kb : Vec Ideal S1x1x256x96 .fp8e4m3) (ksb : Vec Ideal S256x128 .f32) (vb : Vec Ideal S96x256 .bf16)
    (hs : ∀ r : Fin 256, k0_pay5 i v8 v10 v14 v73 1#32 k kb ksb (ix2 r c) = s (n + r.val)) (hx : ∀ (e : Fin 96) (r : Fin 256), vb (ix2 e r) = x e (n + r.val)) :
    Inv s x c (n + 256) ((k0_pay6 i v8 v10 v14 v73 1#32 k st.1.1 kb ksb, k0_pay9 i v8 v10 v14 v73 1#32 k st.1.1 st.1.2 kb ksb), k0_pay83 (k0_pay10 i v8 v10 v14 v73 1#32 k st.1.1 kb ksb st.2 vb)) := by
  refine inv_add h ?_ ?_ fun e => ?_
  · show k0_pay6 i v8 v10 v14 v73 1#32 k st.1.1 kb ksb (ix2 0 c) = _
    pointwise [k0_pay6]
    simp only [hs, ninf]
  · show k0_pay9 i v8 v10 v14 v73 1#32 k st.1.1 st.1.2 kb ksb (ix2 0 c) = _
    pointwise [k0_pay9, k0_pay8, k0_pay7]
    simp only [hs]
    rfl
  · show k0_pay83 (k0_pay10 i v8 v10 v14 v73 1#32 k st.1.1 kb ksb st.2 vb) (ix2 e c) = _
    pointwise [k0_pay83, k0_pay10, k0_pay8, k0_pay7]
    simp only [hs, hx]
    rfl

/-! The end of a row. -/

theorem out_prompt_at (l : FVec Ideal S1x512 .f32) (a : Vec Ideal S96x512 .f32) (e : Fin 96) (c : Fin 512) : k0_pay69 (k0_pay68 l a) (ix2 e c) = Ideal.div (a (ix2 e c)) (l (ix2 0 c)) := by
  pointwise [k0_pay69, k0_pay68]
theorem out_compl_at (l : FVec Ideal S1x512 .f32) (a : Vec Ideal S96x512 .f32) (e : Fin 96) (c : Fin 512) : k0_pay85 l a (ix2 e c) = Ideal.div (a (ix2 e c)) (l (ix2 0 c)) := by
  pointwise [k0_pay85]
theorem lse_prompt_at (m l : FVec Ideal S1x512 .f32) (c : Fin 512) : k0_pay86 m l (ix2 0 c) = m (ix2 0 c) * ((Real.log 2 : ℝ) : EReal) + Ideal.log (l (ix2 0 c)) := by
  pointwise [k0_pay86]
  rw [ln2]
theorem lse_compl_at (m l : FVec Ideal S1x512 .f32) (c : Fin 512) : k0_pay87 m l (ix2 0 c) = m (ix2 0 c) * ((Real.log 2 : ℝ) : EReal) + Ideal.log (l (ix2 0 c)) := by
  pointwise [k0_pay87]
  rw [ln2]

/-- The merge of the two partial softmaxes, as the kernel writes it. -/
def kmerge (p q op oq : EReal) : EReal :=
  Ideal.exp (p - (max p q + Ideal.log (Ideal.exp (p - max p q) + Ideal.exp (q - max p q)))) * op
    + Ideal.exp (q - (max p q + Ideal.log (Ideal.exp (p - max p q) + Ideal.exp (q - max p q)))) * oq

theorem merge_at (oc : FVec Ideal S96x512 .f32) (p q : FVec Ideal S1x512 .f32) (op : Vec Ideal S96x512 .f32) (e : Fin 96) (c : Fin 512) :
    k0_pay88 oc p q op (ix2 e c) = kmerge (p (ix2 0 c)) (q (ix2 0 c)) (op (ix2 e c)) (oc (ix2 e c)) := by
  pointwise [k0_pay88]
  rfl

theorem lp_at (p : FVec Ideal S1x512 .f32) (c : Fin 512) : k0_pay89 p (ix3 0 0 c) = p (ix2 0 c) - Ideal.ofBits .f32 0x411B43D5#32 := by
  pointwise [k0_pay89]
theorem lc_at (n : ℕ) (hn : n < 2 ^ 20) (q : FVec Ideal S1x512 .f32) (c : Fin 512) :
    k0_pay90 (BitVec.ofNat 32 n) q (ix3 0 0 c) = q (ix2 0 c) - Ideal.log (((n + c.val + 1 : ℕ) : ℝ) : EReal) := by
  have hc := c.isLt
  pointwise [k0_pay90]
  have e1 : IntOp.addi (IntOp.addi (BitVec.ofNat 32 n) (BitVec.ofNat 32 c.val)) 1#32 = BitVec.ofNat 32 (n + c.val + 1) := by
    apply BitVec.eq_of_toNat_eq
    simp only [IntOp.addi, BitVec.toNat_ofNat, BitVec.toNat_add]
    omega
  rw [e1]
  have e2 : (BitVec.ofNat 32 (n + c.val + 1)).toInt = ((n + c.val + 1 : ℕ) : ℤ) := by
    rw [BitVec.toInt_eq_toNat_of_lt (by rw [BitVec.toNat_ofNat]; omega), BitVec.toNat_ofNat, Nat.mod_eq_of_lt (by omega)]
  show _ - Ideal.log ((((BitVec.ofNat 32 (n + c.val + 1)).toInt : ℝ)) : EReal) = _
  rw [e2, Int.cast_natCast]

theorem pay4_at (x : Vec Ideal S384x512 .f32) (r : Fin 512) (e : Fin 384) : k0_pay4 x (ix2 r e) = x (ix2 e r) := by
  pointwise [k0_pay4]

end Cert.KernelIdeal.Gen
-- ==== Proof.Rows.lean ====
module

public import proofs.«01_k».proof.Proof.Payloads
public import proofs.«01_k».proof.Proof.Offs

/-!
One row of the kernel's attention, over the extended reals: the loops' final states and the row's results as softmaxes taken at once.
-/

@[expose] public section

set_option maxRecDepth 8192
set_option maxHeartbeats 4000000

noncomputable section

namespace Cert.KernelIdeal.Gen

open Idealize.ShloMosaic Cert.Attn

/-- An element of a part of a block. -/
theorem cut_at {s : Shape} {α : Type} (x : s.Idx → α) (off size : Fin s.rank → ℕ) (inb) (j : (Rect.unit (s := s) off size inb).toLoadRect.shape.Idx) (k : s.Idx)
    {off' : Fin s.rank → ℕ} (ho : off = off') (h : ∀ a, (k a).val = off' a + (j a).val) : cut x (Rect.unit (s := s) off size inb).toLoadRect j = x k := by
  unfold cut
  congr 1
  funext a
  refine Fin.ext ?_
  have h' := h a
  rw [← ho] at h'
  rw [h']
  show off a + 1 * (j a).val = _
  rw [Nat.one_mul]

/-- The score scale. -/
def sc : EReal := (((Real.sqrt 96)⁻¹ : ℝ) : EReal)

/-- Column `d` of a row padded to 128 lanes. -/
def d128 (d : Fin 96) : Fin 128 := ⟨d.val, by omega⟩
/-- Row `d` of head `g` of a group of four. -/
def gd (g : Fin 4) (d : Fin 96) : Fin 384 := ⟨96 * g.val + d.val, by omega⟩

/-- The prompt scores of a query, in natural units. -/
def rP (x0 : Vec Ideal S1x384x512 .fp8e4m3) (x1 : Vec Ideal S1x4x512 .f32) (x2 : Vec Ideal S1x16384x128 .fp8e4m3) (x4 : Vec Ideal S1x1x16384 .f32) (g : Fin 4) (c : Fin 512) (j : ℕ) : EReal :=
  (∑ d : Fin 96, x0 (ix3 0 (gd g d) c) * x2 (ix3 0 (Fin.ofNat 16384 j) (d128 d))) * (x1 (ix3 0 g c) * sc) * x4 (ix3 0 0 (Fin.ofNat 16384 j))

/-- The completion scores of the query at position `p`, in natural units, `⊥` after it. -/
def rC (x0 : Vec Ideal S1x384x512 .fp8e4m3) (x1 : Vec Ideal S1x4x512 .f32) (x6 : Vec Ideal S1x1x1536x128 .fp8e4m3) (x8 : Vec Ideal S1x1x1x1536 .f32) (g : Fin 4) (c : Fin 512) (p : ℕ) (j : ℕ) : EReal :=
  if j ≤ p then (∑ d : Fin 96, x0 (ix3 0 (gd g d) c) * x6 (ix4 0 0 (Fin.ofNat 1536 j) (d128 d))) * (x1 (ix3 0 g c) * sc) * x8 (ix4 0 0 0 (Fin.ofNat 1536 j)) else ⊥

theorem scale_eq (a : EReal) (b : EReal) (q : EReal) :
    a * b * (q * ((((Real.sqrt 96)⁻¹ * (Real.log 2)⁻¹ : ℝ)) : EReal)) = a * (q * sc) * b * log2e := by
  rw [EReal.coe_mul]
  show a * b * (q * (sc * log2e)) = _
  simp only [mul_assoc, mul_comm, mul_left_comm]

theorem fin_ofNat (n j : ℕ) [NeZero n] (h : j < n) : (Fin.ofNat n j).val = j := Nat.mod_eq_of_lt h

section

variable (i : grid0.Coords) (x0 : Vec Ideal S1x384x512 .fp8e4m3) (x1 : Vec Ideal S1x4x512 .f32) (x2 : Vec Ideal S1x16384x128 .fp8e4m3) (x3 : Vec Ideal S1x96x16384 .fp8e4m3) (x4 : Vec Ideal S1x1x16384 .f32) (x5 : Vec Ideal S1x1x16384 .f32) (x6 : Vec Ideal S1x1x1536x128 .fp8e4m3) (x7 : Vec Ideal S1x1x96x1536 .fp8e4m3) (x8 : Vec Ideal S1x1x1x1536 .f32) (x9 : Vec Ideal S1x1x1x1536 .f32) (g : Fin 4) (c : Fin 512)

theorem vQ_at (d : Fin 96) : vQ x0 g (ix3 0 d c) = x0 (ix3 0 (gd g d) c) := by
  unfold vQ
  refine cut_at _ _ _ _ _ _ rfl fun a => ?_
  match a with
  | 0 => rfl
  | 1 => rfl
  | 2 => exact (Nat.zero_add _).symm

theorem vS_at : vS x1 g (ix3 0 0 c) = x1 (ix3 0 g c) := by
  unfold vS
  refine cut_at _ _ _ _ _ _ rfl fun a => ?_
  match a with
  | 0 => rfl
  | 1 => rfl
  | 2 => exact (Nat.zero_add _).symm

/-- The prompt loop's state. -/
theorem st5_inv (n : ℕ) (hn : n ≤ 64) :
    Inv (fun j => rP x0 x1 x2 x4 g c j * log2e) (fun e j => x3 (ix3 0 e (Fin.ofNat 16384 j)) * x5 (ix3 0 0 (Fin.ofNat 16384 j))) c (256 * n)
      (vst5 i (vQ x0 g) (vS x1 g) x2 (fill1 (F := Ideal) x4) (fill2 (F := Ideal) x3 x5) ((k0_pay59, k0_pay60), k0_pay61) n) := by
  induction n with
  | zero => exact inv_zero _ _ _ _ fun e => pay61_at e c
  | succ n ih =>
    have hk : n < k0_t5_loop.trips := by rw [trips5]; omega
    rw [vst5_succ i _ _ _ _ _ _ ⟨n, hk⟩]
    refine block5 (ih (by omega)) _ _ _ _ _ (fun r => ?_) fun e r => ?_
    · have hr := r.isLt
      rw [pay62_at (κs := fun r => x4 (ix3 0 0 (Fin.ofNat 16384 (256 * n + r.val))))]
      · show _ = rP x0 x1 x2 x4 g c (256 * n + r.val) * log2e
        rw [vS_at, scale_eq, rP]
        congr 3
        refine Finset.sum_congr rfl fun d _ => ?_
        rw [vQ_at, mul_comm]
        congr 1
        refine cut_at _ _ _ _ _ _ (off11_eq ..) fun a => ?_
        match a with
        | 0 => rfl
        | 1 => exact fin_ofNat 16384 _ (by omega)
        | 2 => exact (Nat.zero_add _).symm
      · intro r c'
        have hr := r.isLt
        refine (cut_at _ _ _ _ _ (ix2 (Fin.ofNat 16384 (256 * n + r.val)) c') (off12_eq ..) fun a => ?_).trans rfl
        match a with
        | 0 => exact fin_ofNat 16384 _ (by omega)
        | 1 => exact (Nat.zero_add _).symm
    · have hr := r.isLt
      refine (cut_at _ _ _ _ _ (ix2 e (Fin.ofNat 16384 (256 * n + r.val))) (off13_eq ..) fun a => ?_).trans rfl
      match a with
      | 0 => exact (Nat.zero_add _).symm
      | 1 => exact fin_ofNat 16384 _ (by omega)

/-- The unmasked completion loop's state. -/
theorem st6_inv (n : ℕ) (hn : n ≤ 2 * (i 2).val) :
    Inv (fun j => rC x0 x1 x6 x8 g c (512 * (i 2).val + c.val) j * log2e) (fun e j => x7 (ix4 0 0 e (Fin.ofNat 1536 j)) * x9 (ix4 0 0 0 (Fin.ofNat 1536 j))) c (256 * n)
      (vst6 i (k0_pay57 (vQ x0 g)) (k0_pay58 (vS x1 g)) x6 (fill3 (F := Ideal) x8) (fill4 (F := Ideal) x7 x9) ((k0_pay59, k0_pay60), k0_pay70) n) := by
  have hi : (i 2).val < 3 := (i 2).isLt
  induction n with
  | zero => exact inv_zero _ _ _ _ fun e => pay70_at e c
  | succ n ih =>
    have hk : n < (k0_t6_loop i).trips := by rw [trips6]; omega
    rw [vst6_succ i _ _ _ _ _ _ ⟨n, hk⟩]
    refine block6 (ih (by omega)) _ _ _ _ _ (fun r => ?_) fun e r => ?_
    · have hr := r.isLt
      rw [pay71_at (κs := fun r => x8 (ix4 0 0 0 (Fin.ofNat 1536 (256 * n + r.val))))]
      · show _ = rC x0 x1 x6 x8 g c (512 * (i 2).val + c.val) (256 * n + r.val) * log2e
        rw [pay58_at, vS_at, scale_eq, rC, if_pos (by omega)]
        congr 3
        refine Finset.sum_congr rfl fun d _ => ?_
        rw [pay57_at, vQ_at, mul_comm]
        congr 1
        refine cut_at _ _ _ _ _ _ (off14_eq ..) fun a => ?_
        match a with
        | 0 => rfl
        | 1 => rfl
        | 2 => exact fin_ofNat 1536 _ (by omega)
        | 3 => exact (Nat.zero_add _).symm
      · intro r c'
        have hr := r.isLt
        refine (cut_at _ _ _ _ _ (ix2 (Fin.ofNat 1536 (256 * n + r.val)) c') (off15_eq ..) fun a => ?_).trans rfl
        match a with
        | 0 => exact fin_ofNat 1536 _ (by omega)
        | 1 => exact (Nat.zero_add _).symm
    · have hr := r.isLt
      refine (cut_at _ _ _ _ _ (ix2 e (Fin.ofNat 1536 (256 * n + r.val))) (off16_eq ..) fun a => ?_).trans rfl
      match a with
      | 0 => exact (Nat.zero_add _).symm
      | 1 => exact fin_ofNat 1536 _ (by omega)

/-- The masked completion loop's state. -/
theorem st8_inv (s0 : St Ideal)
    (h0 : Inv (fun j => rC x0 x1 x6 x8 g c (512 * (i 2).val + c.val) j * log2e) (fun e j => x7 (ix4 0 0 e (Fin.ofNat 1536 j)) * x9 (ix4 0 0 0 (Fin.ofNat 1536 j))) c (256 * (2 * (i 2).val)) s0)
    (n : ℕ) (hn : n ≤ 2) :
    Inv (fun j => rC x0 x1 x6 x8 g c (512 * (i 2).val + c.val) j * log2e) (fun e j => x7 (ix4 0 0 e (Fin.ofNat 1536 j)) * x9 (ix4 0 0 0 (Fin.ofNat 1536 j))) c (256 * (2 * (i 2).val + n))
      (vst8 i (BitVec.ofNat 32 (512 * (i 2).val)) (k0_pay57 (vQ x0 g)) (k0_pay58 (vS x1 g)) (BitVec.ofNat 32 (2 * (i 2).val)) x6 (fill3 (F := Ideal) x8) (fill4 (F := Ideal) x7 x9) s0 n) := by
  have hi : (i 2).val < 3 := (i 2).isLt
  induction n with
  | zero => exact h0
  | succ n ih =>
    have hk : n < (k0_t8_loop i).trips := by rw [trips8]; omega
    rw [vst8_succ i _ _ _ _ _ _ _ _ ⟨n, hk⟩]
    refine block8 (ih (by omega)) _ _ _ _ _ _ _ _ _ (fun r => ?_) fun e r => ?_
    · have hr := r.isLt
      rw [pay5_at (κs := fun r => x8 (ix4 0 0 0 (Fin.ofNat 1536 (256 * (2 * (i 2).val + n) + r.val))))]
      · show _ = rC x0 x1 x6 x8 g c (512 * (i 2).val + c.val) (256 * (2 * (i 2).val + n) + r.val) * log2e
        rw [rC]
        by_cases hm : 256 * (2 * (i 2).val + n) + r.val ≤ 512 * (i 2).val + c.val
        · rw [if_pos hm, if_pos hm, pay58_at, vS_at, scale_eq]
          congr 3
          refine Finset.sum_congr rfl fun d _ => ?_
          rw [pay57_at, vQ_at, mul_comm]
          congr 1
          refine cut_at _ _ _ _ _ _ (off20_eq ..) fun a => ?_
          match a with
          | 0 => rfl
          | 1 => rfl
          | 2 => exact fin_ofNat 1536 _ (by omega)
          | 3 => exact (Nat.zero_add _).symm
        · rw [if_neg hm, if_neg hm, log2e, EReal.bot_mul_coe_of_pos (inv_pos.2 log2_pos)]
      · intro r c'
        have hr := r.isLt
        refine (cut_at _ _ _ _ _ (ix2 (Fin.ofNat 1536 (256 * (2 * (i 2).val + n) + r.val)) c') (off21_eq ..) fun a => ?_).trans rfl
        match a with
        | 0 => exact fin_ofNat 1536 _ (by omega)
        | 1 => exact (Nat.zero_add _).symm
    · have hr := r.isLt
      refine (cut_at _ _ _ _ _ (ix2 e (Fin.ofNat 1536 (256 * (2 * (i 2).val + n) + r.val))) (off22_eq ..) fun a => ?_).trans rfl
      match a with
      | 0 => exact (Nat.zero_add _).symm
      | 1 => exact fin_ofNat 1536 _ (by omega)

theorem vP_inv : Inv (fun j => rP x0 x1 x2 x4 g c j * log2e) (fun e j => x3 (ix3 0 e (Fin.ofNat 16384 j)) * x5 (ix3 0 0 (Fin.ofNat 16384 j))) c 16384
    (vP i x0 x1 x2 x6 (fill1 (F := Ideal) x4) (fill2 (F := Ideal) x3 x5) (fill3 (F := Ideal) x8) (fill4 (F := Ideal) x7 x9) g) := by
  unfold vP
  rw [trips5]
  exact st5_inv i x0 x1 x2 x3 x4 x5 g c 64 le_rfl

theorem vC_inv : Inv (fun j => rC x0 x1 x6 x8 g c (512 * (i 2).val + c.val) j * log2e) (fun e j => x7 (ix4 0 0 e (Fin.ofNat 1536 j)) * x9 (ix4 0 0 0 (Fin.ofNat 1536 j))) c (256 * (2 * (i 2).val + 2))
    (vC i x0 x1 x2 x6 (fill1 (F := Ideal) x4) (fill2 (F := Ideal) x3 x5) (fill3 (F := Ideal) x8) (fill4 (F := Ideal) x7 x9) g) := by
  unfold vC
  rw [trips8, floor_tile0, tile0_eq]
  refine st8_inv i x0 x1 x6 x7 x8 x9 g c _ ?_ 2 le_rfl
  unfold vC1
  rw [trips6]
  exact st6_inv i x0 x1 x6 x7 x8 x9 g c _ le_rfl

/-- A row's two log-sum-exps and outputs, from a loop's last state. -/
theorem inv_lse {s : ℕ → EReal} {x : Fin 96 → ℕ → EReal} {n : ℕ} {st : St Ideal} (h : Inv (fun j => s j * log2e) x c n st) :
    st.1.1 (ix2 0 c) * ((Real.log 2 : ℝ) : EReal) + Ideal.log (st.1.2 (ix2 0 c)) = rlse s n := by
  obtain ⟨β, hβ⟩ := start_real
  rw [h.1, h.2.1, hβ, lse_eq]
theorem inv_out {s : ℕ → EReal} {vs : ℕ → EReal} {v : Fin 96 → ℕ → EReal} {n : ℕ} {st : St Ideal} (h : Inv (fun j => s j * log2e) (fun e j => v e j * vs j) c n st) (e : Fin 96) :
    Ideal.div (st.2 (ix2 e c)) (st.1.2 (ix2 0 c)) = rout s vs (v e) n := by
  obtain ⟨β, hβ⟩ := start_real
  rw [h.2.1, h.2.2 e, hβ, out_eq]

theorem rC_tail (j : ℕ) (h1 : 256 * (2 * (i 2).val + 2) ≤ j) : rC x0 x1 x6 x8 g c (512 * (i 2).val + c.val) j = ⊥ := by
  have := c.isLt
  rw [rC, if_neg (by omega)]

/-- The head's two log-sum-exps. -/
theorem lseP_at : k0_pay86 (vP i x0 x1 x2 x6 (fill1 (F := Ideal) x4) (fill2 (F := Ideal) x3 x5) (fill3 (F := Ideal) x8) (fill4 (F := Ideal) x7 x9) g).1.1 (vP i x0 x1 x2 x6 (fill1 (F := Ideal) x4) (fill2 (F := Ideal) x3 x5) (fill3 (F := Ideal) x8) (fill4 (F := Ideal) x7 x9) g).1.2 (ix2 0 c)
    = rlse (rP x0 x1 x2 x4 g c) 16384 := by
  rw [lse_prompt_at, inv_lse c (vP_inv i x0 x1 x2 x3 x4 x5 x6 x7 x8 x9 g c)]
theorem lseC_at : k0_pay87 (vC i x0 x1 x2 x6 (fill1 (F := Ideal) x4) (fill2 (F := Ideal) x3 x5) (fill3 (F := Ideal) x8) (fill4 (F := Ideal) x7 x9) g).1.1 (vC i x0 x1 x2 x6 (fill1 (F := Ideal) x4) (fill2 (F := Ideal) x3 x5) (fill3 (F := Ideal) x8) (fill4 (F := Ideal) x7 x9) g).1.2 (ix2 0 c)
    = rlse (rC x0 x1 x6 x8 g c (512 * (i 2).val + c.val)) 1536 := by
  have hi : (i 2).val < 3 := (i 2).isLt
  rw [lse_compl_at, inv_lse c (vC_inv i x0 x1 x2 x3 x4 x5 x6 x7 x8 x9 g c)]
  exact (rlse_tail (by omega) fun j h1 _ => rC_tail i x0 x1 x6 x8 g c j h1).symm

/-- The head's output. -/
theorem vO_at (e : Fin 96) : vO i x0 x1 x2 x6 (fill1 (F := Ideal) x4) (fill2 (F := Ideal) x3 x5) (fill3 (F := Ideal) x8) (fill4 (F := Ideal) x7 x9) g (ix2 e c)
    = kmerge (rlse (rP x0 x1 x2 x4 g c) 16384) (rlse (rC x0 x1 x6 x8 g c (512 * (i 2).val + c.val)) 1536)
        (rout (rP x0 x1 x2 x4 g c) (fun j => x5 (ix3 0 0 (Fin.ofNat 16384 j))) (fun j => x3 (ix3 0 e (Fin.ofNat 16384 j))) 16384)
        (rout (rC x0 x1 x6 x8 g c (512 * (i 2).val + c.val)) (fun j => x9 (ix4 0 0 0 (Fin.ofNat 1536 j))) (fun j => x7 (ix4 0 0 e (Fin.ofNat 1536 j))) 1536) := by
  have hi : (i 2).val < 3 := (i 2).isLt
  unfold vO
  rw [merge_at, lseP_at, lseC_at, out_prompt_at, out_compl_at]
  refine congrArg₂ (kmerge _ _) ?_ ?_
  · exact inv_out c (vP_inv i x0 x1 x2 x3 x4 x5 x6 x7 x8 x9 g c) e
  · refine (inv_out c (v := fun e j => x7 (ix4 0 0 e (Fin.ofNat 1536 j))) (vC_inv i x0 x1 x2 x3 x4 x5 x6 x7 x8 x9 g c) e).trans ?_
    exact (rout_tail _ _ (by omega) fun j h1 _ => rC_tail i x0 x1 x6 x8 g c j h1).symm

theorem vLP_at : vLP i x0 x1 x2 x6 (fill1 (F := Ideal) x4) (fill2 (F := Ideal) x3 x5) (fill3 (F := Ideal) x8) (fill4 (F := Ideal) x7 x9) g (ix3 0 0 c) = rlse (rP x0 x1 x2 x4 g c) 16384 - Ideal.ofBits .f32 0x411B43D5#32 := by
  unfold vLP
  rw [lp_at, lseP_at]
theorem vLC_at : vLC i x0 x1 x2 x6 (fill1 (F := Ideal) x4) (fill2 (F := Ideal) x3 x5) (fill3 (F := Ideal) x8) (fill4 (F := Ideal) x7 x9) g (ix3 0 0 c)
    = rlse (rC x0 x1 x6 x8 g c (512 * (i 2).val + c.val)) 1536 - Ideal.log (((512 * (i 2).val + c.val + 1 : ℕ) : ℝ) : EReal) := by
  have hi : (i 2).val < 3 := (i 2).isLt
  unfold vLC
  rw [tile0_eq, lc_at _ (by omega), lseC_at]

/-- The body's three output blocks at an index. -/
theorem wO_at (r : Fin 512) (e : Fin 96) : wO i x0 x1 x2 x3 x4 x5 x6 x7 x8 x9 (ix2 r (gd g e))
    = kmerge (rlse (rP x0 x1 x2 x4 g r) 16384) (rlse (rC x0 x1 x6 x8 g r (512 * (i 2).val + r.val)) 1536)
        (rout (rP x0 x1 x2 x4 g r) (fun j => x5 (ix3 0 0 (Fin.ofNat 16384 j))) (fun j => x3 (ix3 0 e (Fin.ofNat 16384 j))) 16384)
        (rout (rC x0 x1 x6 x8 g r (512 * (i 2).val + r.val)) (fun j => x9 (ix4 0 0 0 (Fin.ofNat 1536 j))) (fun j => x7 (ix4 0 0 e (Fin.ofNat 1536 j))) 1536) := by
  unfold wO
  rw [pay4_at, ← vO_at i x0 x1 x2 x3 x4 x5 x6 x7 x8 x9 g r e]
  unfold stack4
  have he := e.isLt
  have e1 : (96 * g.val + e.val) / 96 = g.val := by omega
  have e2 : (96 * g.val + e.val) % 96 = e.val := by omega
  show vO i x0 x1 x2 x6 (fill1 (F := Ideal) x4) (fill2 (F := Ideal) x3 x5) (fill3 (F := Ideal) x8) (fill4 (F := Ideal) x7 x9) ⟨(96 * g.val + e.val) / 96, _⟩ (ix2 ⟨(96 * g.val + e.val) % 96, _⟩ r) = _
  congr 1
  · exact Fin.ext e1
  · congr 1; exact Fin.ext e2

theorem wLP_at : wLP i x0 x1 x2 x3 x4 x5 x6 x7 x8 x9 (ix3 0 g c) = rlse (rP x0 x1 x2 x4 g c) 16384 - Ideal.ofBits .f32 0x411B43D5#32 :=
  vLP_at i x0 x1 x2 x3 x4 x5 x6 x7 x8 x9 g c
theorem wLC_at : wLC i x0 x1 x2 x3 x4 x5 x6 x7 x8 x9 (ix3 0 g c)
    = rlse (rC x0 x1 x6 x8 g c (512 * (i 2).val + c.val)) 1536 - Ideal.log (((512 * (i 2).val + c.val + 1 : ℕ) : ℝ) : EReal) :=
  vLC_at i x0 x1 x2 x3 x4 x5 x6 x7 x8 x9 g c

end

end Cert.KernelIdeal.Gen
-- ==== Proof.Spec.lean ====
module

public import proofs.«01_k».proof.Proof.Rows

/-!
The attention both programs compute, over the extended reals, as functions of the ten arguments: the scores of a query
against the prompt's keys and against its completion's, their log-sum-exps, the two softmax outputs, and their merge.
-/

@[expose] public section

noncomputable section

namespace Cert.Attn

open Idealize.ShloMosaic Cert.KernelIdeal Cert.KernelIdeal.Gen

/-- The query head of a key-value head's group. -/
def hd (h : Fin 8) (g : Fin 4) : Fin 32 := ⟨4 * h.val + g.val, by omega⟩

/-- The column of an output element. -/
def co (h : Fin 8) (g : Fin 4) (e : Fin 96) : Fin 3072 := ⟨384 * h.val + (96 * g.val + e.val), by omega⟩

section

variable (q : S12x1536x32x96.Idx → EReal) (qs : S12x1536x32.Idx → EReal) (pk pv : S16384x8x96.Idx → EReal) (pks pvs : S16384x8.Idx → EReal)
  (k v : S12x1536x8x96.Idx → EReal) (ks vs : S12x1536x8.Idx → EReal)

/-- A query's score against the prompt's key `j`. -/
def scoreP (b : Fin 12) (s : Fin 1536) (h : Fin 8) (g : Fin 4) (j : ℕ) : EReal :=
  (∑ d : Fin 96, q (ix4 b s (hd h g) d) * pk (ix3 (Fin.ofNat 16384 j) h d)) * (qs (ix3 b s (hd h g)) * sc) * pks (ix2 (Fin.ofNat 16384 j) h)

/-- A query's score against its completion's key `j`: `⊥` after the query's own position. -/
def scoreC (b : Fin 12) (s : Fin 1536) (h : Fin 8) (g : Fin 4) (j : ℕ) : EReal :=
  if j ≤ s.val then (∑ d : Fin 96, q (ix4 b s (hd h g) d) * k (ix4 b (Fin.ofNat 1536 j) h d)) * (qs (ix3 b s (hd h g)) * sc) * ks (ix3 b (Fin.ofNat 1536 j) h) else ⊥

/-- The log-sum-exp over the prompt. -/
def lseP (b : Fin 12) (s : Fin 1536) (h : Fin 8) (g : Fin 4) : EReal := rlse (scoreP q qs pk pks b s h g) 16384

/-- The log-sum-exp over the completion. -/
def lseC (b : Fin 12) (s : Fin 1536) (h : Fin 8) (g : Fin 4) : EReal := rlse (scoreC q qs k ks b s h g) 1536

/-- The softmax output over the prompt. -/
def outP (b : Fin 12) (s : Fin 1536) (h : Fin 8) (g : Fin 4) (e : Fin 96) : EReal :=
  rout (scoreP q qs pk pks b s h g) (fun j => pvs (ix2 (Fin.ofNat 16384 j) h)) (fun j => pv (ix3 (Fin.ofNat 16384 j) h e)) 16384

/-- The softmax output over the completion. -/
def outC (b : Fin 12) (s : Fin 1536) (h : Fin 8) (g : Fin 4) (e : Fin 96) : EReal :=
  rout (scoreC q qs k ks b s h g) (fun j => vs (ix3 b (Fin.ofNat 1536 j) h)) (fun j => v (ix4 b (Fin.ofNat 1536 j) h e)) 1536

/-- The attention output: the two merged by their log-sum-exps. -/
def attn (b : Fin 12) (s : Fin 1536) (h : Fin 8) (g : Fin 4) (e : Fin 96) : EReal :=
  kmerge (lseP q qs pk pks b s h g) (lseC q qs k ks b s h g) (outP q qs pk pv pks pvs b s h g e) (outC q qs k v ks vs b s h g e)

/-- The prompt's normalized log-sum-exp. -/
def resP (b : Fin 12) (s : Fin 1536) (h : Fin 8) (g : Fin 4) : EReal := lseP q qs pk pks b s h g - Ideal.ofBits .f32 0x411B43D5#32

/-- The completion's normalized log-sum-exp. -/
def resC (b : Fin 12) (s : Fin 1536) (h : Fin 8) (g : Fin 4) : EReal := lseC q qs k ks b s h g - Ideal.log (((s.val + 1 : ℕ) : ℝ) : EReal)

end

/-- Every column is an output element's. -/
theorem exists_co (y : Fin 3072) : ∃ h g e, y = co h g e :=
  ⟨⟨y.val / 384, by omega⟩, ⟨y.val % 384 / 96, by omega⟩, ⟨y.val % 96, by omega⟩, Fin.ext (by show y.val = 384 * (y.val / 384) + (96 * (y.val % 384 / 96) + y.val % 96); omega)⟩

/-- Every query head is one of a group. -/
theorem exists_hd (y : Fin 32) : ∃ h g, y = hd h g :=
  ⟨⟨y.val / 4, by omega⟩, ⟨y.val % 4, by omega⟩, Fin.ext (by show y.val = 4 * (y.val / 4) + y.val % 4; omega)⟩

/-- Two output arrays equal at every element. -/
theorem ext_out {F G : S12x1536x3072.Idx → EReal} (H : ∀ b s h g e, F (ix3 b s (co h g e)) = G (ix3 b s (co h g e))) : F = G := by
  funext y
  obtain ⟨b, s, x, rfl⟩ : ∃ (b : Fin 12) (s : Fin 1536) (x : Fin 3072), y = ix3 b s x := ⟨y 0, y 1, y 2, eq_ix3 y⟩
  obtain ⟨h, g, e, rfl⟩ := exists_co x
  exact H b s h g e

/-- Two arrays of log-sum-exps equal at every element. -/
theorem ext_lse {F G : S12x1536x32.Idx → EReal} (H : ∀ b s h g, F (ix3 b s (hd h g)) = G (ix3 b s (hd h g))) : F = G := by
  funext y
  obtain ⟨b, s, x, rfl⟩ : ∃ (b : Fin 12) (s : Fin 1536) (x : Fin 32), y = ix3 b s x := ⟨y 0, y 1, y 2, eq_ix3 y⟩
  obtain ⟨h, g, rfl⟩ := exists_hd x
  exact H b s h g

end Cert.Attn
-- ==== Proof.Body.lean ====
module

public import proofs.«01_k».proof.Proof.Vals
public import Idealize.ShloMosaic.Lib.LoopRemainder
public import Idealize.ShloMosaic.Lib.Exec
public import Idealize.ShloMosaic.Lib.Tactic
public import Idealize.ShloMosaic.Lib.VecWindow
public import Idealize.ShloMosaic.Lib.Pipeline.Kit

/-!
The triple of the whole body: the scratch buffers filled, the three output blocks at their values.
-/

@[expose] public section

set_option maxRecDepth 8192
set_option maxHeartbeats 4000000
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- A triple at the head of a program: the rest runs from its postcondition. -/
theorem wp_seq (𝒱 : Variants) (c : Dev nD) (bd : Option 𝒱.V) (E : Set ℕ) {β : Type} {p : Prog (TpuEff nD τ sig (Elt F) Λ₀ .tc) PUnit}
    {kk : PUnit → Prog (TpuEff nD τ sig (Elt F) Λ₀ .tc) β} {Q : β → sProp 𝕄G} {pre post : sProp 𝕄G}
    (h : pre ⊢ wp Idealize.ShloMosaic.frame (wpE (defs₀ (F := F)) 𝒱 (c : Thread nD τ) bd) E p (fun _ => post)) :
    pre ⊢ iprop((post -∗ wp Idealize.ShloMosaic.frame (wpE (defs₀ (F := F)) 𝒱 (c : Thread nD τ) bd) E (kk ⟨⟩) Q) -∗ wp Idealize.ShloMosaic.frame (wpE (defs₀ (F := F)) 𝒱 (c : Thread nD τ) bd) E (p >>= kk) Q) := by
  iintro Hp
  iintro HK
  rw [wp_bind]
  iapply (wp_mono Idealize.ShloMosaic.frame (wpE (defs₀ (F := F)) 𝒱 (c : Thread nD τ) bd) E (p := p) (Q := fun _ => iprop(post ∗ (post -∗ wp Idealize.ShloMosaic.frame (wpE (defs₀ (F := F)) 𝒱 (c : Thread nD τ) bd) E (kk ⟨⟩) Q))) fun a => by
    iintro ⟨Hp, HK⟩
    iapply HK
    iexact Hp)
  iapply (wp_frame_r Idealize.ShloMosaic.frame (wpE (defs₀ (F := F)) 𝒱 (c : Thread nD τ) bd) E)
  isplitl [Hp]
  · iapply h
    iexact Hp
  iexact HK

/-- The fill at the head of a program: afterwards the scratch buffers hold the blocks' values, having held them before where the fill does not run. -/
theorem wp_prel1 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (Xarg6 : BufTy.Contents (Elt F) arg6.view.ty) (Xarg7 : BufTy.Contents (Elt F) arg7.view.ty) (Xarg8 : BufTy.Contents (Elt F) arg8.view.ty)
    {β : Type} {kk : PUnit → Prog (TpuEff nD τ sig (Elt F) Λ₀ .tc) β} {Q : β → sProp 𝕄G} :
    (iprop((arg6.view.loc (c : Thread nD τ) ↦[arg6.view.set]{fullShare} Xarg6) ∗ (arg7.view.loc (c : Thread nD τ) ↦[arg7.view.set]{fullShare} Xarg7) ∗ (arg8.view.loc (c : Thread nD τ) ↦[arg8.view.set]{fullShare} Xarg8) ∗ (∃ f, (arg16.view.loc (c : Thread nD τ) ↦[arg16.view.set]{fullShare} f) ∗ ⌜k0_cond1 i ≠ 1#1 → arg16.view.read (Elt F) f = (fill1 (arg7.view.read (Elt F) Xarg7))⌝) ∗ (∃ f, (arg17.view.loc (c : Thread nD τ) ↦[arg17.view.set]{fullShare} f) ∗ ⌜k0_cond1 i ≠ 1#1 → arg17.view.read (Elt F) f = (fill2 (arg6.view.read (Elt F) Xarg6) (arg8.view.read (Elt F) Xarg8))⌝)) : sProp 𝕄G)
      ⊢ iprop(((arg6.view.loc (c : Thread nD τ) ↦[arg6.view.set]{fullShare} Xarg6) ∗ (arg7.view.loc (c : Thread nD τ) ↦[arg7.view.set]{fullShare} Xarg7) ∗ (arg8.view.loc (c : Thread nD τ) ↦[arg8.view.set]{fullShare} Xarg8) ∗ (∃ f, (arg16.view.loc (c : Thread nD τ) ↦[arg16.view.set]{fullShare} f) ∗ ⌜arg16.view.read (Elt F) f = (fill1 (arg7.view.read (Elt F) Xarg7))⌝) ∗ (∃ f, (arg17.view.loc (c : Thread nD τ) ↦[arg17.view.set]{fullShare} f) ∗ ⌜arg17.view.read (Elt F) f = (fill2 (arg6.view.read (Elt F) Xarg6) (arg8.view.read (Elt F) Xarg8))⌝) -∗ wp Idealize.ShloMosaic.frame (wpE (defs₀ (F := F)) 𝒱 (c : Thread nD τ) bd) E (kk ⟨⟩) Q)
        -∗ wp Idealize.ShloMosaic.frame (wpE (defs₀ (F := F)) 𝒱 (c : Thread nD τ) bd) E (prel1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= kk) Q) := by
  iintro ⟨Harg6, Harg7, Harg8, ⟨%f1, H1, %hf1⟩, ⟨%f2, H2, %hf2⟩⟩
  iintro HK
  unfold prel1
  by_cases h : k0_cond1 i = 1#1
  · rw [dif_pos h]
    simp only [bind_assoc, pure_bind]
    iapply (wp_fill1 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h Xarg7) $$ [Harg7 H1]
    · isplitl [Harg7]; · iexact Harg7
      iexists _; iexact H1
    iintro ⟨Harg7, H1⟩
    iapply (wp_fill2 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h Xarg6 Xarg8) $$ [Harg6 Harg8 H2]
    · isplitl [Harg6]; · iexact Harg6
      isplitl [Harg8]; · iexact Harg8
      iexists _; iexact H2
    iintro ⟨Harg6, Harg8, H2⟩
    iapply HK
    isplitl [Harg6]; · iexact Harg6
    isplitl [Harg7]; · iexact Harg7
    isplitl [Harg8]; · iexact Harg8
    isplitl [H1]; · iexact H1
    iexact H2
  · rw [dif_neg h]
    simp only [pure_bind]
    iapply HK
    isplitl [Harg6]; · iexact Harg6
    isplitl [Harg7]; · iexact Harg7
    isplitl [Harg8]; · iexact Harg8
    isplitl [H1]
    · iexists _; isplitl [H1]; · iexact H1
      ipureintro; exact hf1 h
    iexists _; isplitl [H2]; · iexact H2
    ipureintro; exact hf2 h

/-- The fill at the head of a program: afterwards the scratch buffers hold the blocks' values, having held them before where the fill does not run. -/
theorem wp_prel2 (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (Xarg10 : BufTy.Contents (Elt F) arg10.view.ty) (Xarg11 : BufTy.Contents (Elt F) arg11.view.ty) (Xarg12 : BufTy.Contents (Elt F) arg12.view.ty)
    {β : Type} {kk : PUnit → Prog (TpuEff nD τ sig (Elt F) Λ₀ .tc) β} {Q : β → sProp 𝕄G} :
    (iprop((arg10.view.loc (c : Thread nD τ) ↦[arg10.view.set]{fullShare} Xarg10) ∗ (arg11.view.loc (c : Thread nD τ) ↦[arg11.view.set]{fullShare} Xarg11) ∗ (arg12.view.loc (c : Thread nD τ) ↦[arg12.view.set]{fullShare} Xarg12) ∗ (∃ f, (arg18.view.loc (c : Thread nD τ) ↦[arg18.view.set]{fullShare} f) ∗ ⌜k0_cond2 i ≠ 1#1 → arg18.view.read (Elt F) f = (fill3 (arg11.view.read (Elt F) Xarg11))⌝) ∗ (∃ f, (arg19.view.loc (c : Thread nD τ) ↦[arg19.view.set]{fullShare} f) ∗ ⌜k0_cond2 i ≠ 1#1 → arg19.view.read (Elt F) f = (fill4 (arg10.view.read (Elt F) Xarg10) (arg12.view.read (Elt F) Xarg12))⌝)) : sProp 𝕄G)
      ⊢ iprop(((arg10.view.loc (c : Thread nD τ) ↦[arg10.view.set]{fullShare} Xarg10) ∗ (arg11.view.loc (c : Thread nD τ) ↦[arg11.view.set]{fullShare} Xarg11) ∗ (arg12.view.loc (c : Thread nD τ) ↦[arg12.view.set]{fullShare} Xarg12) ∗ (∃ f, (arg18.view.loc (c : Thread nD τ) ↦[arg18.view.set]{fullShare} f) ∗ ⌜arg18.view.read (Elt F) f = (fill3 (arg11.view.read (Elt F) Xarg11))⌝) ∗ (∃ f, (arg19.view.loc (c : Thread nD τ) ↦[arg19.view.set]{fullShare} f) ∗ ⌜arg19.view.read (Elt F) f = (fill4 (arg10.view.read (Elt F) Xarg10) (arg12.view.read (Elt F) Xarg12))⌝) -∗ wp Idealize.ShloMosaic.frame (wpE (defs₀ (F := F)) 𝒱 (c : Thread nD τ) bd) E (kk ⟨⟩) Q)
        -∗ wp Idealize.ShloMosaic.frame (wpE (defs₀ (F := F)) 𝒱 (c : Thread nD τ) bd) E (prel2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= kk) Q) := by
  iintro ⟨Harg10, Harg11, Harg12, ⟨%f1, H1, %hf1⟩, ⟨%f2, H2, %hf2⟩⟩
  iintro HK
  unfold prel2
  by_cases h : k0_cond2 i = 1#1
  · rw [dif_pos h]
    simp only [bind_assoc, pure_bind]
    iapply (wp_fill3 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h Xarg11) $$ [Harg11 H1]
    · isplitl [Harg11]; · iexact Harg11
      iexists _; iexact H1
    iintro ⟨Harg11, H1⟩
    iapply (wp_fill4 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 h Xarg10 Xarg12) $$ [Harg10 Harg12 H2]
    · isplitl [Harg10]; · iexact Harg10
      isplitl [Harg12]; · iexact Harg12
      iexists _; iexact H2
    iintro ⟨Harg10, Harg12, H2⟩
    iapply HK
    isplitl [Harg10]; · iexact Harg10
    isplitl [Harg11]; · iexact Harg11
    isplitl [Harg12]; · iexact Harg12
    isplitl [H1]; · iexact H1
    iexact H2
  · rw [dif_neg h]
    simp only [pure_bind]
    iapply HK
    isplitl [Harg10]; · iexact Harg10
    isplitl [Harg11]; · iexact Harg11
    isplitl [Harg12]; · iexact Harg12
    isplitl [H1]
    · iexists _; isplitl [H1]; · iexact H1
      ipureintro; exact hf1 h
    iexists _; isplitl [H2]; · iexact H2
    ipureintro; exact hf2 h

/-- The last part: the four heads' rows transposed and rounded into the output block. -/
theorem fin_run (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (Xarg21 : BufTy.Contents (Elt F) arg21.view.ty) (Xarg13 : BufTy.Contents (Elt F) arg13.view.ty) :
    (iprop((arg21.view.loc (c : Thread nD τ) ↦[arg21.view.set]{fullShare} Xarg21) ∗ (arg13.view.loc (c : Thread nD τ) ↦[arg13.view.set]{fullShare} Xarg13)) : sProp 𝕄G)
      ⊢ wp Idealize.ShloMosaic.frame (wpE (defs₀ (F := F)) 𝒱 (c : Thread nD τ) bd) E (finProg (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop((arg21.view.loc (c : Thread nD τ) ↦[arg21.view.set]{fullShare} Xarg21) ∗ (∃ f, (arg13.view.loc (c : Thread nD τ) ↦[arg13.view.set]{fullShare} f) ∗ ⌜arg13.view.read (Elt F) f = k0_pay4 (arg21.view.read (Elt F) Xarg21)⌝))) := by
  unfold finProg
  iintro ⟨H21, H13⟩
  sl_exec
  sl_step
  isplitl [H21]; · iexact H21
  iexists _; isplitl [H13]; · iexact H13
  ipureintro
  rw [View.read_writes_full, View.readAt_full]

set_option maxHeartbeats 8000000 in
/-- The whole body, from the input blocks to the output blocks. -/
theorem body_run (𝒱 : Variants) (c : Dev nD) (bd : Option 𝒱.V) (E : Set ℕ) (i : grid0.Coords) (arg3 : Memref sig .tc .vmem S1x384x512 .fp8e4m3) (harg3 : arg3.IsWhole) (arg4 : Memref sig .tc .vmem S1x4x512 .f32) (harg4 : arg4.IsWhole) (arg5 : Memref sig .tc .vmem S1x16384x128 .fp8e4m3) (harg5 : arg5.IsWhole) (arg6 : Memref sig .tc .vmem S1x96x16384 .fp8e4m3) (harg6 : arg6.IsWhole) (arg7 : Memref sig .tc .vmem S1x1x16384 .f32) (harg7 : arg7.IsWhole) (arg8 : Memref sig .tc .vmem S1x1x16384 .f32) (harg8 : arg8.IsWhole) (arg9 : Memref sig .tc .vmem S1x1x1536x128 .fp8e4m3) (harg9 : arg9.IsWhole) (arg10 : Memref sig .tc .vmem S1x1x96x1536 .fp8e4m3) (harg10 : arg10.IsWhole) (arg11 : Memref sig .tc .vmem S1x1x1x1536 .f32) (harg11 : arg11.IsWhole) (arg12 : Memref sig .tc .vmem S1x1x1x1536 .f32) (harg12 : arg12.IsWhole) (arg13 : Memref sig .tc .vmem S512x384 .bf16) (harg13 : arg13.IsWhole) (arg14 : Memref sig .tc .vmem S1x4x512 .f32) (harg14 : arg14.IsWhole) (arg15 : Memref sig .tc .vmem S1x4x512 .f32) (harg15 : arg15.IsWhole) (arg16 : Memref sig .tc .vmem S16384x128 .f32) (harg16 : arg16.IsWhole) (arg17 : Memref sig .tc .vmem S96x16384 .bf16) (harg17 : arg17.IsWhole) (arg18 : Memref sig .tc .vmem S1536x128 .f32) (harg18 : arg18.IsWhole) (arg19 : Memref sig .tc .vmem S96x1536 .bf16) (harg19 : arg19.IsWhole) (arg20 : Memref sig .tc .vmem S96x512 .f32) (harg20 : arg20.IsWhole) (arg21 : Memref sig .tc .vmem S384x512 .f32) (harg21 : arg21.IsWhole) (x0 : Vec F S1x384x512 .fp8e4m3) (x1 : Vec F S1x4x512 .f32) (x2 : Vec F S1x16384x128 .fp8e4m3) (x3 : Vec F S1x96x16384 .fp8e4m3) (x4 : Vec F S1x1x16384 .f32) (x5 : Vec F S1x1x16384 .f32) (x6 : Vec F S1x1x1536x128 .fp8e4m3) (x7 : Vec F S1x1x96x1536 .fp8e4m3) (x8 : Vec F S1x1x1x1536 .f32) (x9 : Vec F S1x1x1x1536 .f32) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d ∗ ⌜k0_cond1 i ≠ 1#1 → d = (fill1 x4)⌝) ∗ (∃ d, owns (c : Thread nD τ) arg17 fullShare d ∗ ⌜k0_cond1 i ≠ 1#1 → d = (fill2 x3 x5)⌝) ∗ (∃ d, owns (c : Thread nD τ) arg18 fullShare d ∗ ⌜k0_cond2 i ≠ 1#1 → d = (fill3 x8)⌝) ∗ (∃ d, owns (c : Thread nD τ) arg19 fullShare d ∗ ⌜k0_cond2 i ≠ 1#1 → d = (fill4 x7 x9)⌝) ∗ (∃ d, owns (c : Thread nD τ) arg20 fullShare d) ∗ (∃ d, owns (c : Thread nD τ) arg21 fullShare d)) : sProp 𝕄G)
      ⊢ wp Idealize.ShloMosaic.frame (wpE (defs₀ (F := F)) 𝒱 (c : Thread nD τ) bd) E (cc0_shared_prompt_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (wO i x0 x1 x2 x3 x4 x5 x6 x7 x8 x9) ∗ owns (c : Thread nD τ) arg14 fullShare (wLP i x0 x1 x2 x3 x4 x5 x6 x7 x8 x9) ∗ owns (c : Thread nD τ) arg15 fullShare (wLC i x0 x1 x2 x3 x4 x5 x6 x7 x8 x9) ∗ owns (c : Thread nD τ) arg16 fullShare (fill1 x4) ∗ owns (c : Thread nD τ) arg17 fullShare (fill2 x3 x5) ∗ owns (c : Thread nD τ) arg18 fullShare (fill3 x8) ∗ owns (c : Thread nD τ) arg19 fullShare (fill4 x7 x9) ∗ (∃ d, owns (c : Thread nD τ) arg20 fullShare d) ∗ (∃ d, owns (c : Thread nD τ) arg21 fullShare d))) := by
  rw [body_eq]
  unfold owns
  iintro ⟨⟨%f0, %hf0, Harg3⟩, ⟨%f1, %hf1, Harg4⟩, ⟨%f2, %hf2, Harg5⟩, ⟨%f3, %hf3, Harg6⟩, ⟨%f4, %hf4, Harg7⟩, ⟨%f5, %hf5, Harg8⟩, ⟨%f6, %hf6, Harg9⟩, ⟨%f7, %hf7, Harg10⟩, ⟨%f8, %hf8, Harg11⟩, ⟨%f9, %hf9, Harg12⟩, ⟨%d13, %f13, -, Harg13⟩, ⟨%d14, %f14, -, Harg14⟩, ⟨%d15, %f15, -, Harg15⟩, ⟨%d16, ⟨%f16, %hf16, Harg16⟩, %hc16⟩, ⟨%d17, ⟨%f17, %hf17, Harg17⟩, %hc17⟩, ⟨%d18, ⟨%f18, %hf18, Harg18⟩, %hc18⟩, ⟨%d19, ⟨%f19, %hf19, Harg19⟩, %hc19⟩, ⟨%d20, %f20, -, Harg20⟩, ⟨%d21, %f21, -, Harg21⟩⟩
  subst hf0 hf1 hf2 hf3 hf4 hf5 hf6 hf7 hf8 hf9
  subst hf16 hf17 hf18 hf19
  iapply (wp_prel1 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f3 f4 f5) $$ [Harg6 Harg7 Harg8 Harg16 Harg17]
  · isplitl [Harg6]; · iexact Harg6
    isplitl [Harg7]; · iexact Harg7
    isplitl [Harg8]; · iexact Harg8
    isplitl [Harg16]
    · iexists _; isplitl [Harg16]; · iexact Harg16
      ipureintro; exact hc16
    iexists _; isplitl [Harg17]; · iexact Harg17
    ipureintro; exact hc17
  iintro ⟨Harg6, Harg7, Harg8, ⟨%w16, Harg16, %hw16⟩, ⟨%w17, Harg17, %hw17⟩⟩
  iapply (wp_prel2 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f7 f8 f9) $$ [Harg10 Harg11 Harg12 Harg18 Harg19]
  · isplitl [Harg10]; · iexact Harg10
    isplitl [Harg11]; · iexact Harg11
    isplitl [Harg12]; · iexact Harg12
    isplitl [Harg18]
    · iexists _; isplitl [Harg18]; · iexact Harg18
      ipureintro; exact hc18
    iexists _; isplitl [Harg19]; · iexact Harg19
    ipureintro; exact hc19
  iintro ⟨Harg10, Harg11, Harg12, ⟨%w18, Harg18, %hw18⟩, ⟨%w19, Harg19, %hw19⟩⟩
  iapply (wp_seq 𝒱 c bd E (head_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 0 _ _ _ _ _ _ _ _ _ _ _ _)) $$ [Harg3 Harg4 Harg5 Harg9 Harg16 Harg17 Harg18 Harg19 Harg14 Harg15 Harg20 Harg21]
  · isplitl [Harg3]; · iexact Harg3
    isplitl [Harg4]; · iexact Harg4
    isplitl [Harg5]; · iexact Harg5
    isplitl [Harg9]; · iexact Harg9
    isplitl [Harg16]; · iexact Harg16
    isplitl [Harg17]; · iexact Harg17
    isplitl [Harg18]; · iexact Harg18
    isplitl [Harg19]; · iexact Harg19
    isplitl [Harg14]; · iexact Harg14
    isplitl [Harg15]; · iexact Harg15
    isplitl [Harg20]; · iexact Harg20
    iexact Harg21
  iintro ⟨Harg3, Harg4, Harg5, Harg9, Harg16, Harg17, Harg18, Harg19, ⟨%p14_0, Harg14, %hp14_0⟩, ⟨%p15_0, Harg15, %hp15_0⟩, ⟨%p20_0, Harg20⟩, ⟨%p21_0, Harg21, %hp21_0⟩⟩
  iapply (wp_seq 𝒱 c bd E (head_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 1 _ _ _ _ _ _ _ _ _ _ _ _)) $$ [Harg3 Harg4 Harg5 Harg9 Harg16 Harg17 Harg18 Harg19 Harg14 Harg15 Harg20 Harg21]
  · isplitl [Harg3]; · iexact Harg3
    isplitl [Harg4]; · iexact Harg4
    isplitl [Harg5]; · iexact Harg5
    isplitl [Harg9]; · iexact Harg9
    isplitl [Harg16]; · iexact Harg16
    isplitl [Harg17]; · iexact Harg17
    isplitl [Harg18]; · iexact Harg18
    isplitl [Harg19]; · iexact Harg19
    isplitl [Harg14]; · iexact Harg14
    isplitl [Harg15]; · iexact Harg15
    isplitl [Harg20]; · iexact Harg20
    iexact Harg21
  iintro ⟨Harg3, Harg4, Harg5, Harg9, Harg16, Harg17, Harg18, Harg19, ⟨%p14_1, Harg14, %hp14_1⟩, ⟨%p15_1, Harg15, %hp15_1⟩, ⟨%p20_1, Harg20⟩, ⟨%p21_1, Harg21, %hp21_1⟩⟩
  iapply (wp_seq 𝒱 c bd E (head_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 2 _ _ _ _ _ _ _ _ _ _ _ _)) $$ [Harg3 Harg4 Harg5 Harg9 Harg16 Harg17 Harg18 Harg19 Harg14 Harg15 Harg20 Harg21]
  · isplitl [Harg3]; · iexact Harg3
    isplitl [Harg4]; · iexact Harg4
    isplitl [Harg5]; · iexact Harg5
    isplitl [Harg9]; · iexact Harg9
    isplitl [Harg16]; · iexact Harg16
    isplitl [Harg17]; · iexact Harg17
    isplitl [Harg18]; · iexact Harg18
    isplitl [Harg19]; · iexact Harg19
    isplitl [Harg14]; · iexact Harg14
    isplitl [Harg15]; · iexact Harg15
    isplitl [Harg20]; · iexact Harg20
    iexact Harg21
  iintro ⟨Harg3, Harg4, Harg5, Harg9, Harg16, Harg17, Harg18, Harg19, ⟨%p14_2, Harg14, %hp14_2⟩, ⟨%p15_2, Harg15, %hp15_2⟩, ⟨%p20_2, Harg20⟩, ⟨%p21_2, Harg21, %hp21_2⟩⟩
  iapply (wp_seq 𝒱 c bd E (head_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 3 _ _ _ _ _ _ _ _ _ _ _ _)) $$ [Harg3 Harg4 Harg5 Harg9 Harg16 Harg17 Harg18 Harg19 Harg14 Harg15 Harg20 Harg21]
  · isplitl [Harg3]; · iexact Harg3
    isplitl [Harg4]; · iexact Harg4
    isplitl [Harg5]; · iexact Harg5
    isplitl [Harg9]; · iexact Harg9
    isplitl [Harg16]; · iexact Harg16
    isplitl [Harg17]; · iexact Harg17
    isplitl [Harg18]; · iexact Harg18
    isplitl [Harg19]; · iexact Harg19
    isplitl [Harg14]; · iexact Harg14
    isplitl [Harg15]; · iexact Harg15
    isplitl [Harg20]; · iexact Harg20
    iexact Harg21
  iintro ⟨Harg3, Harg4, Harg5, Harg9, Harg16, Harg17, Harg18, Harg19, ⟨%p14_3, Harg14, %hp14_3⟩, ⟨%p15_3, Harg15, %hp15_3⟩, ⟨%p20_3, Harg20⟩, ⟨%p21_3, Harg21, %hp21_3⟩⟩
  iapply (wp_mono Idealize.ShloMosaic.frame (wpE (defs₀ (F := F)) 𝒱 (c : Thread nD τ) bd) E (Q := fun _ => iprop(iprop((arg21.view.loc (c : Thread nD τ) ↦[arg21.view.set]{fullShare} p21_3) ∗ (∃ f, (arg13.view.loc (c : Thread nD τ) ↦[arg13.view.set]{fullShare} f) ∗ ⌜arg13.view.read (Elt F) f = k0_pay4 (arg21.view.read (Elt F) p21_3)⌝)) ∗ iprop((arg3.view.loc (c : Thread nD τ) ↦[arg3.view.set]{fullShare} f0) ∗ (arg4.view.loc (c : Thread nD τ) ↦[arg4.view.set]{fullShare} f1) ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} f4) ∗ (arg8.view.loc (c : Thread nD τ) ↦[arg8.view.set]{fullShare} f5) ∗ (arg9.view.loc (c : Thread nD τ) ↦[arg9.view.set]{fullShare} f6) ∗ (arg10.view.loc (c : Thread nD τ) ↦[arg10.view.set]{fullShare} f7) ∗ (arg11.view.loc (c : Thread nD τ) ↦[arg11.view.set]{fullShare} f8) ∗ (arg12.view.loc (c : Thread nD τ) ↦[arg12.view.set]{fullShare} f9) ∗ (arg14.view.loc (c : Thread nD τ) ↦[arg14.view.set]{fullShare} p14_3) ∗ (arg15.view.loc (c : Thread nD τ) ↦[arg15.view.set]{fullShare} p15_3) ∗ (arg16.view.loc (c : Thread nD τ) ↦[arg16.view.set]{fullShare} w16) ∗ (arg17.view.loc (c : Thread nD τ) ↦[arg17.view.set]{fullShare} w17) ∗ (arg18.view.loc (c : Thread nD τ) ↦[arg18.view.set]{fullShare} w18) ∗ (arg19.view.loc (c : Thread nD τ) ↦[arg19.view.set]{fullShare} w19) ∗ (arg20.view.loc (c : Thread nD τ) ↦[arg20.view.set]{fullShare} p20_3)))) fun a => ?_)
  · iintro ⟨⟨Harg21, %p13, Harg13, %hp13⟩, Harg3, Harg4, Harg5, Harg6, Harg7, Harg8, Harg9, Harg10, Harg11, Harg12, Harg14, Harg15, Harg16, Harg17, Harg18, Harg19, Harg20⟩
    have e21 : arg21.view.read (Elt F) p21_3 = stack4 fun g => vO i (arg3.view.read (Elt F) f0) (arg4.view.read (Elt F) f1) (arg5.view.read (Elt F) f2) (arg9.view.read (Elt F) f6) (arg16.view.read (Elt F) w16) (arg17.view.read (Elt F) w17) (arg18.view.read (Elt F) w18) (arg19.view.read (Elt F) w19) g := by
      rw [hp21_3, hp21_2, hp21_1, hp21_0]
      simp only [headO_eq]
      exact stack4_put _ (fun g => vO i (arg3.view.read (Elt F) f0) (arg4.view.read (Elt F) f1) (arg5.view.read (Elt F) f2) (arg9.view.read (Elt F) f6) (arg16.view.read (Elt F) w16) (arg17.view.read (Elt F) w17) (arg18.view.read (Elt F) w18) (arg19.view.read (Elt F) w19) g)
    have e14 : arg14.view.read (Elt F) p14_3 = wLP i (arg3.view.read (Elt F) f0) (arg4.view.read (Elt F) f1) (arg5.view.read (Elt F) f2) (arg6.view.read (Elt F) f3) (arg7.view.read (Elt F) f4) (arg8.view.read (Elt F) f5) (arg9.view.read (Elt F) f6) (arg10.view.read (Elt F) f7) (arg11.view.read (Elt F) f8) (arg12.view.read (Elt F) f9) := by
      rw [hp14_3, hp14_2, hp14_1, hp14_0]
      simp only [headLP_eq, hw16, hw17, hw18, hw19]
      exact stackR_put _ (fun g => vLP i (arg3.view.read (Elt F) f0) (arg4.view.read (Elt F) f1) (arg5.view.read (Elt F) f2) (arg9.view.read (Elt F) f6) (fill1 (arg7.view.read (Elt F) f4)) (fill2 (arg6.view.read (Elt F) f3) (arg8.view.read (Elt F) f5)) (fill3 (arg11.view.read (Elt F) f8)) (fill4 (arg10.view.read (Elt F) f7) (arg12.view.read (Elt F) f9)) g)
    have e15 : arg15.view.read (Elt F) p15_3 = wLC i (arg3.view.read (Elt F) f0) (arg4.view.read (Elt F) f1) (arg5.view.read (Elt F) f2) (arg6.view.read (Elt F) f3) (arg7.view.read (Elt F) f4) (arg8.view.read (Elt F) f5) (arg9.view.read (Elt F) f6) (arg10.view.read (Elt F) f7) (arg11.view.read (Elt F) f8) (arg12.view.read (Elt F) f9) := by
      rw [hp15_3, hp15_2, hp15_1, hp15_0]
      simp only [headLC_eq, hw16, hw17, hw18, hw19]
      exact stackR_put _ (fun g => vLC i (arg3.view.read (Elt F) f0) (arg4.view.read (Elt F) f1) (arg5.view.read (Elt F) f2) (arg9.view.read (Elt F) f6) (fill1 (arg7.view.read (Elt F) f4)) (fill2 (arg6.view.read (Elt F) f3) (arg8.view.read (Elt F) f5)) (fill3 (arg11.view.read (Elt F) f8)) (fill4 (arg10.view.read (Elt F) f7) (arg12.view.read (Elt F) f9)) g)
    have e13 : arg13.view.read (Elt F) p13 = wO i (arg3.view.read (Elt F) f0) (arg4.view.read (Elt F) f1) (arg5.view.read (Elt F) f2) (arg6.view.read (Elt F) f3) (arg7.view.read (Elt F) f4) (arg8.view.read (Elt F) f5) (arg9.view.read (Elt F) f6) (arg10.view.read (Elt F) f7) (arg11.view.read (Elt F) f8) (arg12.view.read (Elt F) f9) := by
      rw [hp13, e21, hw16, hw17, hw18, hw19]
      rfl
    isplitl [Harg3]
    · iexists _; isplitr; · ipureintro; exact rfl
      iexact Harg3
    isplitl [Harg4]
    · iexists _; isplitr; · ipureintro; exact rfl
      iexact Harg4
    isplitl [Harg5]
    · iexists _; isplitr; · ipureintro; exact rfl
      iexact Harg5
    isplitl [Harg6]
    · iexists _; isplitr; · ipureintro; exact rfl
      iexact Harg6
    isplitl [Harg7]
    · iexists _; isplitr; · ipureintro; exact rfl
      iexact Harg7
    isplitl [Harg8]
    · iexists _; isplitr; · ipureintro; exact rfl
      iexact Harg8
    isplitl [Harg9]
    · iexists _; isplitr; · ipureintro; exact rfl
      iexact Harg9
    isplitl [Harg10]
    · iexists _; isplitr; · ipureintro; exact rfl
      iexact Harg10
    isplitl [Harg11]
    · iexists _; isplitr; · ipureintro; exact rfl
      iexact Harg11
    isplitl [Harg12]
    · iexists _; isplitr; · ipureintro; exact rfl
      iexact Harg12
    isplitl [Harg13]
    · iexists _; isplitr; · ipureintro; exact e13
      iexact Harg13
    isplitl [Harg14]
    · iexists _; isplitr; · ipureintro; exact e14
      iexact Harg14
    isplitl [Harg15]
    · iexists _; isplitr; · ipureintro; exact e15
      iexact Harg15
    isplitl [Harg16]
    · iexists _; isplitr; · ipureintro; exact hw16
      iexact Harg16
    isplitl [Harg17]
    · iexists _; isplitr; · ipureintro; exact hw17
      iexact Harg17
    isplitl [Harg18]
    · iexists _; isplitr; · ipureintro; exact hw18
      iexact Harg18
    isplitl [Harg19]
    · iexists _; isplitr; · ipureintro; exact hw19
      iexact Harg19
    isplitl [Harg20]
    · iexists _, _; isplitr; swap; · iexact Harg20
      ipureintro; rfl
    iexists _, _; isplitr; swap; · iexact Harg21
    ipureintro; rfl
  iapply (wp_frame_r Idealize.ShloMosaic.frame (wpE (defs₀ (F := F)) 𝒱 (c : Thread nD τ) bd) E)
  isplitl [Harg21 Harg13]
  · iapply (fin_run 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 p21_3 f13)
    isplitl [Harg21]; · iexact Harg21
    iexact Harg13
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg14]; · iexact Harg14
  isplitl [Harg15]; · iexact Harg15
  isplitl [Harg16]; · iexact Harg16
  isplitl [Harg17]; · iexact Harg17
  isplitl [Harg18]; · iexact Harg18
  isplitl [Harg19]; · iexact Harg19
  iexact Harg20

end Cert.KernelIdeal.Gen
-- ==== Proof.Blocks.lean ====
module

public import proofs.«01_k».proof.Proof.Vals
public import proofs.«01_k».proof.Proof.Gen.KernelIdeal.Frame
public import Idealize.ShloMosaic.Lib.Pointwise
public import Idealize.ShloMosaic.Lib.Pipeline.ValueKit

/-!
The blocks the ten input windows read, at coordinates.
-/

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.RA Idealize.SL.BI Idealize.SL.Sem

variable {F : FTy → Type} [FloatOps F] [Named F]
variable (m : (ℓ : Loc nD τ sig) → Buf (Elt F) ℓ)

/-- The query tile of a grid point, of the 36 of the array. -/
def qtile (i : grid0.Coords) : Nat := 3 * (i 1).val + (i 2).val

theorem c0_lt (i : grid0.Coords) : (i 0).val < 8 := (i 0).isLt
theorem c1_lt (i : grid0.Coords) : (i 1).val < 12 := (i 1).isLt
theorem c2_lt (i : grid0.Coords) : (i 2).val < 3 := (i 2).isLt
theorem qtile_lt (i : grid0.Coords) : qtile i < 36 := by
  have := c1_lt i; have := c2_lt i; unfold qtile; omega

/-- The key-value head of a grid point, and its row. -/
def ihead (i : grid0.Coords) : Fin 8 := ⟨(i 0).val, c0_lt i⟩
def irow (i : grid0.Coords) : Fin 12 := ⟨(i 1).val, c1_lt i⟩

theorem tr0 (i : grid0.Coords) : cc0_transform_0 i = ![(i 0).val, 0, qtile i] := by
  unfold cc0_transform_0 qtile
  generalize i 0 = a; generalize i 1 = b; generalize i 2 = d
  revert a b d; decide +kernel

theorem tr1 (i : grid0.Coords) : cc0_transform_1 i = ![(i 0).val, 0, qtile i] := by
  unfold cc0_transform_1 qtile
  generalize i 0 = a; generalize i 1 = b; generalize i 2 = d
  revert a b d; decide +kernel

theorem tr2 (i : grid0.Coords) : cc0_transform_2 i = ![(i 0).val, 0, 0] := by
  unfold cc0_transform_2
  generalize i 0 = a; generalize i 1 = b
  revert a b; decide +kernel

theorem tr3 (i : grid0.Coords) : cc0_transform_3 i = ![(i 0).val, 0, 0] := by
  unfold cc0_transform_3
  generalize i 0 = a; generalize i 1 = b
  revert a b; decide +kernel

theorem tr4 (i : grid0.Coords) : cc0_transform_4 i = ![(i 0).val, 0, 0] := by
  unfold cc0_transform_4
  generalize i 0 = a; generalize i 1 = b
  revert a b; decide +kernel

theorem tr5 (i : grid0.Coords) : cc0_transform_5 i = ![(i 0).val, 0, 0] := by
  unfold cc0_transform_5
  generalize i 0 = a; generalize i 1 = b
  revert a b; decide +kernel

theorem tr6 (i : grid0.Coords) : cc0_transform_6 i = ![(i 0).val, (i 1).val, 0, 0] := by
  unfold cc0_transform_6
  generalize i 0 = a; generalize i 1 = b
  revert a b; decide +kernel

theorem tr7 (i : grid0.Coords) : cc0_transform_7 i = ![(i 0).val, (i 1).val, 0, 0] := by
  unfold cc0_transform_7
  generalize i 0 = a; generalize i 1 = b
  revert a b; decide +kernel

theorem tr8 (i : grid0.Coords) : cc0_transform_8 i = ![(i 0).val, (i 1).val, 0, 0] := by
  unfold cc0_transform_8
  generalize i 0 = a; generalize i 1 = b
  revert a b; decide +kernel

theorem tr9 (i : grid0.Coords) : cc0_transform_9 i = ![(i 0).val, (i 1).val, 0, 0] := by
  unfold cc0_transform_9
  generalize i 0 = a; generalize i 1 = b
  revert a b; decide +kernel

theorem tr10 (i : grid0.Coords) : cc0_transform_10 i = ![qtile i, (i 0).val] := by
  unfold cc0_transform_10 qtile
  generalize i 0 = a; generalize i 1 = b; generalize i 2 = d
  revert a b d; decide +kernel

theorem tr11 (i : grid0.Coords) : cc0_transform_11 i = ![(i 0).val, 0, qtile i] := by
  unfold cc0_transform_11 qtile
  generalize i 0 = a; generalize i 1 = b; generalize i 2 = d
  revert a b d; decide +kernel

theorem tr12 (i : grid0.Coords) : cc0_transform_12 i = ![(i 0).val, 0, qtile i] := by
  unfold cc0_transform_12 qtile
  generalize i 0 = a; generalize i 1 = b; generalize i 2 = d
  revert a b d; decide +kernel

/-- Window 0's block of an array, and that the pipeline reads it. -/
def blk0 {α : Type} (A : S8x384x18432.Idx → α) (i : grid0.Coords) : S1x384x512.Idx → α := fun j => A (ix3 (ihead i) (j 1) ⟨512 * qtile i + (j 2).val, by have := qtile_lt i; have h : (j 2).val < 512 := (j 2).isLt; omega⟩)

theorem emb0 (t : Fin cfg0.N) (j : S1x384x512.Idx) : ((cfg0.win 0).blk t).view.emb j = (let i := grid0.coords t; ix3 (ihead i) (j 1) ⟨512 * qtile i + (j 2).val, by have := qtile_lt i; have h : (j 2).val < 512 := (j 2).isLt; omega⟩ : S8x384x18432.Idx) := by
  have h : win0_0.index t = _ := tr0 (grid0.coords t)
  funext a; apply Fin.ext
  match a with
  | ⟨0, _⟩ => show win0_0.index t (0 : Fin 3) * _ + 1 * (j 0).val = _; rw [h]; have h0 : (j 0).val < 1 := (j 0).isLt; show (grid0.coords t 0).val * 1 + 1 * (j 0).val = (grid0.coords t 0).val; omega
  | ⟨1, _⟩ => show win0_0.index t (1 : Fin 3) * _ + 1 * (j 1).val = _; rw [h]; show 0 * _ + 1 * (j 1).val = (j 1).val; omega
  | ⟨2, _⟩ => show win0_0.index t (2 : Fin 3) * _ + 1 * (j 2).val = _; rw [h]; show qtile (grid0.coords t) * 512 + 1 * (j 2).val = 512 * qtile (grid0.coords t) + (j 2).val; omega

theorem iblk0_eq (c : Dev nD) (t : Fin cfg0.N) : iblk m c 0 t = blk0 (V m c main_v1) (grid0.coords t) := by
  funext j
  show V m c main_v1 (((cfg0.win 0).blk t).view.emb j) = _
  rw [emb0]; rfl

/-- Window 1's block of an array, and that the pipeline reads it. -/
def blk1 {α : Type} (A : S8x4x18432.Idx → α) (i : grid0.Coords) : S1x4x512.Idx → α := fun j => A (ix3 (ihead i) (j 1) ⟨512 * qtile i + (j 2).val, by have := qtile_lt i; have h : (j 2).val < 512 := (j 2).isLt; omega⟩)

theorem emb1 (t : Fin cfg0.N) (j : S1x4x512.Idx) : ((cfg0.win 1).blk t).view.emb j = (let i := grid0.coords t; ix3 (ihead i) (j 1) ⟨512 * qtile i + (j 2).val, by have := qtile_lt i; have h : (j 2).val < 512 := (j 2).isLt; omega⟩ : S8x4x18432.Idx) := by
  have h : win0_1.index t = _ := tr1 (grid0.coords t)
  funext a; apply Fin.ext
  match a with
  | ⟨0, _⟩ => show win0_1.index t (0 : Fin 3) * _ + 1 * (j 0).val = _; rw [h]; have h0 : (j 0).val < 1 := (j 0).isLt; show (grid0.coords t 0).val * 1 + 1 * (j 0).val = (grid0.coords t 0).val; omega
  | ⟨1, _⟩ => show win0_1.index t (1 : Fin 3) * _ + 1 * (j 1).val = _; rw [h]; show 0 * _ + 1 * (j 1).val = (j 1).val; omega
  | ⟨2, _⟩ => show win0_1.index t (2 : Fin 3) * _ + 1 * (j 2).val = _; rw [h]; show qtile (grid0.coords t) * 512 + 1 * (j 2).val = 512 * qtile (grid0.coords t) + (j 2).val; omega

theorem iblk1_eq (c : Dev nD) (t : Fin cfg0.N) : iblk m c 1 t = blk1 (V m c main_v3) (grid0.coords t) := by
  funext j
  show V m c main_v3 (((cfg0.win 1).blk t).view.emb j) = _
  rw [emb1]; rfl

/-- Window 2's block of an array, and that the pipeline reads it. -/
def blk2 {α : Type} (A : S8x16384x128.Idx → α) (i : grid0.Coords) : S1x16384x128.Idx → α := fun j => A (ix3 (ihead i) (j 1) (j 2))

theorem emb2 (t : Fin cfg0.N) (j : S1x16384x128.Idx) : ((cfg0.win 2).blk t).view.emb j = (let i := grid0.coords t; ix3 (ihead i) (j 1) (j 2) : S8x16384x128.Idx) := by
  have h : win0_2.index t = _ := tr2 (grid0.coords t)
  funext a; apply Fin.ext
  match a with
  | ⟨0, _⟩ => show win0_2.index t (0 : Fin 3) * _ + 1 * (j 0).val = _; rw [h]; have h0 : (j 0).val < 1 := (j 0).isLt; show (grid0.coords t 0).val * 1 + 1 * (j 0).val = (grid0.coords t 0).val; omega
  | ⟨1, _⟩ => show win0_2.index t (1 : Fin 3) * _ + 1 * (j 1).val = _; rw [h]; show 0 * _ + 1 * (j 1).val = (j 1).val; omega
  | ⟨2, _⟩ => show win0_2.index t (2 : Fin 3) * _ + 1 * (j 2).val = _; rw [h]; show 0 * _ + 1 * (j 2).val = (j 2).val; omega

theorem iblk2_eq (c : Dev nD) (t : Fin cfg0.N) : iblk m c 2 t = blk2 (V m c main_v7) (grid0.coords t) := by
  funext j
  show V m c main_v7 (((cfg0.win 2).blk t).view.emb j) = _
  rw [emb2]; rfl

/-- Window 3's block of an array, and that the pipeline reads it. -/
def blk3 {α : Type} (A : S8x96x16384.Idx → α) (i : grid0.Coords) : S1x96x16384.Idx → α := fun j => A (ix3 (ihead i) (j 1) (j 2))

theorem emb3 (t : Fin cfg0.N) (j : S1x96x16384.Idx) : ((cfg0.win 3).blk t).view.emb j = (let i := grid0.coords t; ix3 (ihead i) (j 1) (j 2) : S8x96x16384.Idx) := by
  have h : win0_3.index t = _ := tr3 (grid0.coords t)
  funext a; apply Fin.ext
  match a with
  | ⟨0, _⟩ => show win0_3.index t (0 : Fin 3) * _ + 1 * (j 0).val = _; rw [h]; have h0 : (j 0).val < 1 := (j 0).isLt; show (grid0.coords t 0).val * 1 + 1 * (j 0).val = (grid0.coords t 0).val; omega
  | ⟨1, _⟩ => show win0_3.index t (1 : Fin 3) * _ + 1 * (j 1).val = _; rw [h]; show 0 * _ + 1 * (j 1).val = (j 1).val; omega
  | ⟨2, _⟩ => show win0_3.index t (2 : Fin 3) * _ + 1 * (j 2).val = _; rw [h]; show 0 * _ + 1 * (j 2).val = (j 2).val; omega

theorem iblk3_eq (c : Dev nD) (t : Fin cfg0.N) : iblk m c 3 t = blk3 (V m c main_v8) (grid0.coords t) := by
  funext j
  show V m c main_v8 (((cfg0.win 3).blk t).view.emb j) = _
  rw [emb3]; rfl

/-- Window 4's block of an array, and that the pipeline reads it. -/
def blk4 {α : Type} (A : S8x1x16384.Idx → α) (i : grid0.Coords) : S1x1x16384.Idx → α := fun j => A (ix3 (ihead i) (j 1) (j 2))

theorem emb4 (t : Fin cfg0.N) (j : S1x1x16384.Idx) : ((cfg0.win 4).blk t).view.emb j = (let i := grid0.coords t; ix3 (ihead i) (j 1) (j 2) : S8x1x16384.Idx) := by
  have h : win0_4.index t = _ := tr4 (grid0.coords t)
  funext a; apply Fin.ext
  match a with
  | ⟨0, _⟩ => show win0_4.index t (0 : Fin 3) * _ + 1 * (j 0).val = _; rw [h]; have h0 : (j 0).val < 1 := (j 0).isLt; show (grid0.coords t 0).val * 1 + 1 * (j 0).val = (grid0.coords t 0).val; omega
  | ⟨1, _⟩ => show win0_4.index t (1 : Fin 3) * _ + 1 * (j 1).val = _; rw [h]; show 0 * _ + 1 * (j 1).val = (j 1).val; omega
  | ⟨2, _⟩ => show win0_4.index t (2 : Fin 3) * _ + 1 * (j 2).val = _; rw [h]; show 0 * _ + 1 * (j 2).val = (j 2).val; omega

theorem iblk4_eq (c : Dev nD) (t : Fin cfg0.N) : iblk m c 4 t = blk4 (V m c main_v10) (grid0.coords t) := by
  funext j
  show V m c main_v10 (((cfg0.win 4).blk t).view.emb j) = _
  rw [emb4]; rfl

/-- Window 5's block of an array, and that the pipeline reads it. -/
def blk5 {α : Type} (A : S8x1x16384.Idx → α) (i : grid0.Coords) : S1x1x16384.Idx → α := fun j => A (ix3 (ihead i) (j 1) (j 2))

theorem emb5 (t : Fin cfg0.N) (j : S1x1x16384.Idx) : ((cfg0.win 5).blk t).view.emb j = (let i := grid0.coords t; ix3 (ihead i) (j 1) (j 2) : S8x1x16384.Idx) := by
  have h : win0_5.index t = _ := tr5 (grid0.coords t)
  funext a; apply Fin.ext
  match a with
  | ⟨0, _⟩ => show win0_5.index t (0 : Fin 3) * _ + 1 * (j 0).val = _; rw [h]; have h0 : (j 0).val < 1 := (j 0).isLt; show (grid0.coords t 0).val * 1 + 1 * (j 0).val = (grid0.coords t 0).val; omega
  | ⟨1, _⟩ => show win0_5.index t (1 : Fin 3) * _ + 1 * (j 1).val = _; rw [h]; show 0 * _ + 1 * (j 1).val = (j 1).val; omega
  | ⟨2, _⟩ => show win0_5.index t (2 : Fin 3) * _ + 1 * (j 2).val = _; rw [h]; show 0 * _ + 1 * (j 2).val = (j 2).val; omega

theorem iblk5_eq (c : Dev nD) (t : Fin cfg0.N) : iblk m c 5 t = blk5 (V m c main_v12) (grid0.coords t) := by
  funext j
  show V m c main_v12 (((cfg0.win 5).blk t).view.emb j) = _
  rw [emb5]; rfl

/-- Window 6's block of an array, and that the pipeline reads it. -/
def blk6 {α : Type} (A : S8x12x1536x128.Idx → α) (i : grid0.Coords) : S1x1x1536x128.Idx → α := fun j => A (ix4 (ihead i) (irow i) (j 2) (j 3))

theorem emb6 (t : Fin cfg0.N) (j : S1x1x1536x128.Idx) : ((cfg0.win 6).blk t).view.emb j = (let i := grid0.coords t; ix4 (ihead i) (irow i) (j 2) (j 3) : S8x12x1536x128.Idx) := by
  have h : win0_6.index t = _ := tr6 (grid0.coords t)
  funext a; apply Fin.ext
  match a with
  | ⟨0, _⟩ => show win0_6.index t (0 : Fin 4) * _ + 1 * (j 0).val = _; rw [h]; have h0 : (j 0).val < 1 := (j 0).isLt; show (grid0.coords t 0).val * 1 + 1 * (j 0).val = (grid0.coords t 0).val; omega
  | ⟨1, _⟩ => show win0_6.index t (1 : Fin 4) * _ + 1 * (j 1).val = _; rw [h]; have h0 : (j 1).val < 1 := (j 1).isLt; show (grid0.coords t 1).val * 1 + 1 * (j 1).val = (grid0.coords t 1).val; omega
  | ⟨2, _⟩ => show win0_6.index t (2 : Fin 4) * _ + 1 * (j 2).val = _; rw [h]; show 0 * _ + 1 * (j 2).val = (j 2).val; omega
  | ⟨3, _⟩ => show win0_6.index t (3 : Fin 4) * _ + 1 * (j 3).val = _; rw [h]; show 0 * _ + 1 * (j 3).val = (j 3).val; omega

theorem iblk6_eq (c : Dev nD) (t : Fin cfg0.N) : iblk m c 6 t = blk6 (V m c main_v16) (grid0.coords t) := by
  funext j
  show V m c main_v16 (((cfg0.win 6).blk t).view.emb j) = _
  rw [emb6]; rfl

/-- Window 7's block of an array, and that the pipeline reads it. -/
def blk7 {α : Type} (A : S8x12x96x1536.Idx → α) (i : grid0.Coords) : S1x1x96x1536.Idx → α := fun j => A (ix4 (ihead i) (irow i) (j 2) (j 3))

theorem emb7 (t : Fin cfg0.N) (j : S1x1x96x1536.Idx) : ((cfg0.win 7).blk t).view.emb j = (let i := grid0.coords t; ix4 (ihead i) (irow i) (j 2) (j 3) : S8x12x96x1536.Idx) := by
  have h : win0_7.index t = _ := tr7 (grid0.coords t)
  funext a; apply Fin.ext
  match a with
  | ⟨0, _⟩ => show win0_7.index t (0 : Fin 4) * _ + 1 * (j 0).val = _; rw [h]; have h0 : (j 0).val < 1 := (j 0).isLt; show (grid0.coords t 0).val * 1 + 1 * (j 0).val = (grid0.coords t 0).val; omega
  | ⟨1, _⟩ => show win0_7.index t (1 : Fin 4) * _ + 1 * (j 1).val = _; rw [h]; have h0 : (j 1).val < 1 := (j 1).isLt; show (grid0.coords t 1).val * 1 + 1 * (j 1).val = (grid0.coords t 1).val; omega
  | ⟨2, _⟩ => show win0_7.index t (2 : Fin 4) * _ + 1 * (j 2).val = _; rw [h]; show 0 * _ + 1 * (j 2).val = (j 2).val; omega
  | ⟨3, _⟩ => show win0_7.index t (3 : Fin 4) * _ + 1 * (j 3).val = _; rw [h]; show 0 * _ + 1 * (j 3).val = (j 3).val; omega

theorem iblk7_eq (c : Dev nD) (t : Fin cfg0.N) : iblk m c 7 t = blk7 (V m c main_v17) (grid0.coords t) := by
  funext j
  show V m c main_v17 (((cfg0.win 7).blk t).view.emb j) = _
  rw [emb7]; rfl

/-- Window 8's block of an array, and that the pipeline reads it. -/
def blk8 {α : Type} (A : S8x12x1x1536.Idx → α) (i : grid0.Coords) : S1x1x1x1536.Idx → α := fun j => A (ix4 (ihead i) (irow i) (j 2) (j 3))

theorem emb8 (t : Fin cfg0.N) (j : S1x1x1x1536.Idx) : ((cfg0.win 8).blk t).view.emb j = (let i := grid0.coords t; ix4 (ihead i) (irow i) (j 2) (j 3) : S8x12x1x1536.Idx) := by
  have h : win0_8.index t = _ := tr8 (grid0.coords t)
  funext a; apply Fin.ext
  match a with
  | ⟨0, _⟩ => show win0_8.index t (0 : Fin 4) * _ + 1 * (j 0).val = _; rw [h]; have h0 : (j 0).val < 1 := (j 0).isLt; show (grid0.coords t 0).val * 1 + 1 * (j 0).val = (grid0.coords t 0).val; omega
  | ⟨1, _⟩ => show win0_8.index t (1 : Fin 4) * _ + 1 * (j 1).val = _; rw [h]; have h0 : (j 1).val < 1 := (j 1).isLt; show (grid0.coords t 1).val * 1 + 1 * (j 1).val = (grid0.coords t 1).val; omega
  | ⟨2, _⟩ => show win0_8.index t (2 : Fin 4) * _ + 1 * (j 2).val = _; rw [h]; show 0 * _ + 1 * (j 2).val = (j 2).val; omega
  | ⟨3, _⟩ => show win0_8.index t (3 : Fin 4) * _ + 1 * (j 3).val = _; rw [h]; show 0 * _ + 1 * (j 3).val = (j 3).val; omega

theorem iblk8_eq (c : Dev nD) (t : Fin cfg0.N) : iblk m c 8 t = blk8 (V m c main_v19) (grid0.coords t) := by
  funext j
  show V m c main_v19 (((cfg0.win 8).blk t).view.emb j) = _
  rw [emb8]; rfl

/-- Window 9's block of an array, and that the pipeline reads it. -/
def blk9 {α : Type} (A : S8x12x1x1536.Idx → α) (i : grid0.Coords) : S1x1x1x1536.Idx → α := fun j => A (ix4 (ihead i) (irow i) (j 2) (j 3))

theorem emb9 (t : Fin cfg0.N) (j : S1x1x1x1536.Idx) : ((cfg0.win 9).blk t).view.emb j = (let i := grid0.coords t; ix4 (ihead i) (irow i) (j 2) (j 3) : S8x12x1x1536.Idx) := by
  have h : win0_9.index t = _ := tr9 (grid0.coords t)
  funext a; apply Fin.ext
  match a with
  | ⟨0, _⟩ => show win0_9.index t (0 : Fin 4) * _ + 1 * (j 0).val = _; rw [h]; have h0 : (j 0).val < 1 := (j 0).isLt; show (grid0.coords t 0).val * 1 + 1 * (j 0).val = (grid0.coords t 0).val; omega
  | ⟨1, _⟩ => show win0_9.index t (1 : Fin 4) * _ + 1 * (j 1).val = _; rw [h]; have h0 : (j 1).val < 1 := (j 1).isLt; show (grid0.coords t 1).val * 1 + 1 * (j 1).val = (grid0.coords t 1).val; omega
  | ⟨2, _⟩ => show win0_9.index t (2 : Fin 4) * _ + 1 * (j 2).val = _; rw [h]; show 0 * _ + 1 * (j 2).val = (j 2).val; omega
  | ⟨3, _⟩ => show win0_9.index t (3 : Fin 4) * _ + 1 * (j 3).val = _; rw [h]; show 0 * _ + 1 * (j 3).val = (j 3).val; omega

theorem iblk9_eq (c : Dev nD) (t : Fin cfg0.N) : iblk m c 9 t = blk9 (V m c main_v21) (grid0.coords t) := by
  funext j
  show V m c main_v21 (((cfg0.win 9).blk t).view.emb j) = _
  rw [emb9]; rfl

end Cert.KernelIdeal.Gen
-- ==== Proof.Data.lean ====
module

public import proofs.«01_k».proof.Proof.Body
public import proofs.«01_k».proof.Proof.Blocks
public import Idealize.ShloMosaic.Lib.LoopRemainder
public import Idealize.ShloMosaic.Lib.Exec
public import Idealize.ShloMosaic.Lib.Tactic
public import Idealize.ShloMosaic.Lib.VecWindow
public import Idealize.ShloMosaic.Lib.Pipeline.Kit

/-!
The proof data of the pipeline: what every buffer holds at every grid point, the run, and the unchanged arguments.
-/

@[expose] public section

set_option maxRecDepth 16384
set_option maxHeartbeats 4000000
set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points ≡ 0 (mod 36) — by arithmetic of the point. -/
theorem hcond0_0 : ∀ t : Fin cfg0.N, cond0_0 (grid0.coords t) ↔ t.val % 36 = 0 :=
  (fun t => by
    have ht : t.val < 288 := Nat.lt_of_lt_of_eq t.isLt N_0
    have e0 : (grid0.coords t 0).val = t.val / 36 % 8 := Pipeline.Grid.coords_val t 0 (by decide) rfl
    have e1 : (grid0.coords t 1).val = t.val / 3 % 12 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the points ≡ 0 (mod 3) — by arithmetic of the point. -/
theorem hcond0_1 : ∀ t : Fin cfg0.N, cond0_1 (grid0.coords t) ↔ t.val % 3 = 0 :=
  (fun t => by
    have ht : t.val < 288 := Nat.lt_of_lt_of_eq t.isLt N_0
    have e0 : (grid0.coords t 0).val = t.val / 36 % 8 := Pipeline.Grid.coords_val t 0 (by decide) rfl
    have e1 : (grid0.coords t 1).val = t.val / 3 % 12 := Pipeline.Grid.coords_val t 1 (by decide) rfl
    have e2 : (grid0.coords t 2).val = t.val / 1 % 3 := Pipeline.Grid.coords_val t 2 (by decide) rfl
    simp only [cond0_1, k0_cond2, e0, e1, e2]
    word_cmp
   : ∀ t : Fin grid0.N, cond0_1 (grid0.coords t) ↔ t.val % 3 = 0)

/-- Each window's current staging memref at point `t`, spelled as the pipeline passes it (`bodyAt0`), and its wholeness. -/
abbrev ms0_0 (t : Fin cfg0.N) : Memref sig .tc .vmem S1x384x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16384x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x16384 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1536x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x96x1536 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1x1536 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x384 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4x512 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S16384x128 .f32 := Memref.whole cc0_scratch0
abbrev scM0_1 : Memref sig .tc .vmem S96x16384 .bf16 := Memref.whole cc0_scratch1
abbrev scM0_2 : Memref sig .tc .vmem S1536x128 .f32 := Memref.whole cc0_scratch2
abbrev scM0_3 : Memref sig .tc .vmem S96x1536 .bf16 := Memref.whole cc0_scratch3
abbrev scM0_4 : Memref sig .tc .vmem S96x512 .f32 := Memref.whole cc0_scratch4
abbrev scM0_5 : Memref sig .tc .vmem S384x512 .f32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The head and the row of a grid point do not change where the fills do not run. -/
theorem ihead_keep (t : Fin cfg0.N) (n : ℕ) (hn : n < cfg0.N) (e : t.val = n + 1) (h : t.val % 36 ≠ 0) :
    ihead (grid0.coords t) = ihead (grid0.coords ⟨n, hn⟩) := by
  have e0 : (grid0.coords t 0).val = t.val / 36 % 8 := Pipeline.Grid.coords_val t 0 (by decide) rfl
  have e1 : (grid0.coords ⟨n, hn⟩ 0).val = n / 36 % 8 := Pipeline.Grid.coords_val ⟨n, hn⟩ 0 (by decide) rfl
  apply Fin.ext
  show (grid0.coords t 0).val = (grid0.coords ⟨n, hn⟩ 0).val
  omega

theorem irow_keep (t : Fin cfg0.N) (n : ℕ) (hn : n < cfg0.N) (e : t.val = n + 1) (h : t.val % 3 ≠ 0) :
    irow (grid0.coords t) = irow (grid0.coords ⟨n, hn⟩) := by
  have e0 : (grid0.coords t 1).val = t.val / 3 % 12 := Pipeline.Grid.coords_val t 1 (by decide) rfl
  have e1 : (grid0.coords ⟨n, hn⟩ 1).val = n / 3 % 12 := Pipeline.Grid.coords_val ⟨n, hn⟩ 1 (by decide) rfl
  apply Fin.ext
  show (grid0.coords t 1).val = (grid0.coords ⟨n, hn⟩ 1).val
  omega

theorem keep3 (c : Dev nD) (t : Fin cfg0.N) (n : ℕ) (hn : n < cfg0.N) (e : t.val = n + 1) (h : t.val % 36 ≠ 0) :
    iblk m c 3 t = iblk m c 3 ⟨n, hn⟩ := by
  rw [iblk3_eq, iblk3_eq]
  have h0 : ihead (grid0.coords t) = ihead (grid0.coords ⟨n, hn⟩) := ihead_keep t n hn e (by omega)

  unfold blk3
  rw [h0]

theorem keep4 (c : Dev nD) (t : Fin cfg0.N) (n : ℕ) (hn : n < cfg0.N) (e : t.val = n + 1) (h : t.val % 36 ≠ 0) :
    iblk m c 4 t = iblk m c 4 ⟨n, hn⟩ := by
  rw [iblk4_eq, iblk4_eq]
  have h0 : ihead (grid0.coords t) = ihead (grid0.coords ⟨n, hn⟩) := ihead_keep t n hn e (by omega)

  unfold blk4
  rw [h0]

theorem keep5 (c : Dev nD) (t : Fin cfg0.N) (n : ℕ) (hn : n < cfg0.N) (e : t.val = n + 1) (h : t.val % 36 ≠ 0) :
    iblk m c 5 t = iblk m c 5 ⟨n, hn⟩ := by
  rw [iblk5_eq, iblk5_eq]
  have h0 : ihead (grid0.coords t) = ihead (grid0.coords ⟨n, hn⟩) := ihead_keep t n hn e (by omega)

  unfold blk5
  rw [h0]

theorem keep7 (c : Dev nD) (t : Fin cfg0.N) (n : ℕ) (hn : n < cfg0.N) (e : t.val = n + 1) (h : t.val % 3 ≠ 0) :
    iblk m c 7 t = iblk m c 7 ⟨n, hn⟩ := by
  rw [iblk7_eq, iblk7_eq]
  have h0 : ihead (grid0.coords t) = ihead (grid0.coords ⟨n, hn⟩) := ihead_keep t n hn e (by omega)
  have h1 : irow (grid0.coords t) = irow (grid0.coords ⟨n, hn⟩) := irow_keep t n hn e (by omega)
  unfold blk7
  rw [h0, h1]

theorem keep8 (c : Dev nD) (t : Fin cfg0.N) (n : ℕ) (hn : n < cfg0.N) (e : t.val = n + 1) (h : t.val % 3 ≠ 0) :
    iblk m c 8 t = iblk m c 8 ⟨n, hn⟩ := by
  rw [iblk8_eq, iblk8_eq]
  have h0 : ihead (grid0.coords t) = ihead (grid0.coords ⟨n, hn⟩) := ihead_keep t n hn e (by omega)
  have h1 : irow (grid0.coords t) = irow (grid0.coords ⟨n, hn⟩) := irow_keep t n hn e (by omega)
  unfold blk8
  rw [h0, h1]

theorem keep9 (c : Dev nD) (t : Fin cfg0.N) (n : ℕ) (hn : n < cfg0.N) (e : t.val = n + 1) (h : t.val % 3 ≠ 0) :
    iblk m c 9 t = iblk m c 9 ⟨n, hn⟩ := by
  rw [iblk9_eq, iblk9_eq]
  have h0 : ihead (grid0.coords t) = ihead (grid0.coords ⟨n, hn⟩) := ihead_keep t n hn e (by omega)
  have h1 : irow (grid0.coords t) = irow (grid0.coords ⟨n, hn⟩) := irow_keep t n hn e (by omega)
  unfold blk9
  rw [h0, h1]

/-- The region invariant before position `n`: the four filled buffers at the values of the blocks of the point before. -/
def PhiS (c : Dev nD) : (n : ℕ) → n ≤ cfg0.N → sProp 𝕄
  | 0, _ => Pipeline.ΦA spec0 c
  | n + 1, hn => iprop(iprop(owns (c : Thread nD τ) scM0_0 fullShare (fill1 (iblk m c 4 ⟨n, hn⟩)) ∗ owns (c : Thread nD τ) scM0_1 fullShare (fill2 (iblk m c 3 ⟨n, hn⟩) (iblk m c 5 ⟨n, hn⟩)) ∗ owns (c : Thread nD τ) scM0_2 fullShare (fill3 (iblk m c 8 ⟨n, hn⟩)) ∗ owns (c : Thread nD τ) scM0_3 fullShare (fill4 (iblk m c 7 ⟨n, hn⟩) (iblk m c 9 ⟨n, hn⟩)) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (fill1 (iblk m c 4 ⟨n, hn⟩)) ∗ owns (c : Thread nD τ) scM0_1 fullShare (fill2 (iblk m c 3 ⟨n, hn⟩) (iblk m c 5 ⟨n, hn⟩)) ∗ owns (c : Thread nD τ) scM0_2 fullShare (fill3 (iblk m c 8 ⟨n, hn⟩)) ∗ owns (c : Thread nD τ) scM0_3 fullShare (fill4 (iblk m c 7 ⟨n, hn⟩) (iblk m c 9 ⟨n, hn⟩)) ∗ (∃ d, owns (c : Thread nD τ) scM0_4 fullShare d) ∗ (∃ d, owns (c : Thread nD τ) scM0_5 fullShare d)) ∗ (∃ r, prngReg c r)) := rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => wO (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => wLP (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => wLC (grid0.coords t) (iblk m c 0 t) (iblk m c 1 t) (iblk m c 2 t) (iblk m c 3 t) (iblk m c 4 t) (iblk m c 5 t) (iblk m c 6 t) (iblk m c 7 t) (iblk m c 8 t) (iblk m c 9 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem after0_10 (c : Dev nD) (t : Fin cfg0.N) : (dats m 0 c).after 10 t = wO (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = wLP (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = wLC (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

/-- What the body leaves is the postcondition. -/
theorem post_of (c : Dev nD) (t : Fin cfg0.N) :
    (iprop(iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (wO (grid0.coords t) (iblk m c 0 t) (iblk m c 1 t) (iblk m c 2 t) (iblk m c 3 t) (iblk m c 4 t) (iblk m c 5 t) (iblk m c 6 t) (iblk m c 7 t) (iblk m c 8 t) (iblk m c 9 t)) ∗ owns (c : Thread nD τ) (ms0_11 t) fullShare (wLP (grid0.coords t) (iblk m c 0 t) (iblk m c 1 t) (iblk m c 2 t) (iblk m c 3 t) (iblk m c 4 t) (iblk m c 5 t) (iblk m c 6 t) (iblk m c 7 t) (iblk m c 8 t) (iblk m c 9 t)) ∗ owns (c : Thread nD τ) (ms0_12 t) fullShare (wLC (grid0.coords t) (iblk m c 0 t) (iblk m c 1 t) (iblk m c 2 t) (iblk m c 3 t) (iblk m c 4 t) (iblk m c 5 t) (iblk m c 6 t) (iblk m c 7 t) (iblk m c 8 t) (iblk m c 9 t)) ∗ owns (c : Thread nD τ) scM0_0 fullShare (fill1 (iblk m c 4 t)) ∗ owns (c : Thread nD τ) scM0_1 fullShare (fill2 (iblk m c 3 t) (iblk m c 5 t)) ∗ owns (c : Thread nD τ) scM0_2 fullShare (fill3 (iblk m c 8 t)) ∗ owns (c : Thread nD τ) scM0_3 fullShare (fill4 (iblk m c 7 t) (iblk m c 9 t)) ∗ (∃ d, owns (c : Thread nD τ) scM0_4 fullShare d) ∗ (∃ d, owns (c : Thread nD τ) scM0_5 fullShare d)) ∗ iprop((∃ r, prngReg c r) ∗ (dats m 0 c).owesAt () t.castSucc)) : sProp 𝕄) ⊢ bodyPost m c t := by
  unfold bodyPost
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  iintro ⟨⟨H0, H1, H2, H3, H4, H5, H6, H7, H8, H9, H10, H11, H12, HS0, HS1, HS2, HS3, HS4, HS5⟩, Hg, Ho⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7, before0_8, before0_9]
  rw [PhiS_castSucc m c t]
  by_cases hz : t.val = 0
  · rw [PhiS_zero m c _ _ hz, PhiA0_eq]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (wp_mono Idealize.ShloMosaic.frame (wpE (defs₀ (F := F)) Variants.none (c : Thread nD τ) none) Set.univ fun _ => post_of m c t)
    iapply (wp_frame_r Idealize.ShloMosaic.frame (wpE (defs₀ (F := F)) Variants.none (c : Thread nD τ) none) Set.univ)
    isplitr [Ho Hg]
    swap
    · isplitl [Hg]; · iexact Hg
      iexact Ho
    iapply (body_run Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]
    · icases HS0 with ⟨%e0, HS0⟩
      iexists e0; isplitl [HS0]; · iexact HS0
      ipureintro; exact fun h => absurd ((hcond0_0 t).mpr (by rw [hz])) h
    isplitl [HS1]
    · icases HS1 with ⟨%e1, HS1⟩
      iexists e1; isplitl [HS1]; · iexact HS1
      ipureintro; exact fun h => absurd ((hcond0_0 t).mpr (by rw [hz])) h
    isplitl [HS2]
    · icases HS2 with ⟨%e2, HS2⟩
      iexists e2; isplitl [HS2]; · iexact HS2
      ipureintro; exact fun h => absurd ((hcond0_1 t).mpr (by rw [hz])) h
    isplitl [HS3]
    · icases HS3 with ⟨%e3, HS3⟩
      iexists e3; isplitl [HS3]; · iexact HS3
      ipureintro; exact fun h => absurd ((hcond0_1 t).mpr (by rw [hz])) h
    isplitl [HS4]; · iexact HS4
    iexact HS5
  · obtain ⟨n, hn⟩ := Nat.exists_eq_succ_of_ne_zero hz
    have hlt : n < cfg0.N := by have := t.isLt; omega
    have e0 : k0_cond1 (grid0.coords t) ≠ 1#1 → fill1 (iblk m c 4 ⟨n, hlt⟩) = fill1 (iblk m c 4 t) := fun h => by
      rw [keep4 m c t n hlt hn fun h' => h ((hcond0_0 t).mpr h')]
    have e1 : k0_cond1 (grid0.coords t) ≠ 1#1 → fill2 (iblk m c 3 ⟨n, hlt⟩) (iblk m c 5 ⟨n, hlt⟩) = fill2 (iblk m c 3 t) (iblk m c 5 t) := fun h => by
      rw [keep3 m c t n hlt hn fun h' => h ((hcond0_0 t).mpr h'), keep5 m c t n hlt hn fun h' => h ((hcond0_0 t).mpr h')]
    have e2 : k0_cond2 (grid0.coords t) ≠ 1#1 → fill3 (iblk m c 8 ⟨n, hlt⟩) = fill3 (iblk m c 8 t) := fun h => by
      rw [keep8 m c t n hlt hn fun h' => h ((hcond0_1 t).mpr h')]
    have e3 : k0_cond2 (grid0.coords t) ≠ 1#1 → fill4 (iblk m c 7 ⟨n, hlt⟩) (iblk m c 9 ⟨n, hlt⟩) = fill4 (iblk m c 7 t) (iblk m c 9 t) := fun h => by
      rw [keep7 m c t n hlt hn fun h' => h ((hcond0_1 t).mpr h'), keep9 m c t n hlt hn fun h' => h ((hcond0_1 t).mpr h')]
    have hP : PhiS m c t.val (Nat.le_of_lt t.isLt) = iprop(iprop(owns (c : Thread nD τ) scM0_0 fullShare (fill1 (iblk m c 4 ⟨n, hlt⟩)) ∗ owns (c : Thread nD τ) scM0_1 fullShare (fill2 (iblk m c 3 ⟨n, hlt⟩) (iblk m c 5 ⟨n, hlt⟩)) ∗ owns (c : Thread nD τ) scM0_2 fullShare (fill3 (iblk m c 8 ⟨n, hlt⟩)) ∗ owns (c : Thread nD τ) scM0_3 fullShare (fill4 (iblk m c 7 ⟨n, hlt⟩) (iblk m c 9 ⟨n, hlt⟩)) ∗ (∃ d, owns (c : Thread nD τ) scM0_4 fullShare d) ∗ (∃ d, owns (c : Thread nD τ) scM0_5 fullShare d)) ∗ (∃ r, prngReg c r)) := by
      have : ∀ k (hk : k ≤ cfg0.N), k = n + 1 → PhiS m c k hk = iprop(iprop(owns (c : Thread nD τ) scM0_0 fullShare (fill1 (iblk m c 4 ⟨n, hlt⟩)) ∗ owns (c : Thread nD τ) scM0_1 fullShare (fill2 (iblk m c 3 ⟨n, hlt⟩) (iblk m c 5 ⟨n, hlt⟩)) ∗ owns (c : Thread nD τ) scM0_2 fullShare (fill3 (iblk m c 8 ⟨n, hlt⟩)) ∗ owns (c : Thread nD τ) scM0_3 fullShare (fill4 (iblk m c 7 ⟨n, hlt⟩) (iblk m c 9 ⟨n, hlt⟩)) ∗ (∃ d, owns (c : Thread nD τ) scM0_4 fullShare d) ∗ (∃ d, owns (c : Thread nD τ) scM0_5 fullShare d)) ∗ (∃ r, prngReg c r)) := by
        rintro k hk rfl; rfl
      exact this _ _ hn
    rw [hP]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (wp_mono Idealize.ShloMosaic.frame (wpE (defs₀ (F := F)) Variants.none (c : Thread nD τ) none) Set.univ fun _ => post_of m c t)
    iapply (wp_frame_r Idealize.ShloMosaic.frame (wpE (defs₀ (F := F)) Variants.none (c : Thread nD τ) none) Set.univ)
    isplitr [Ho Hg]
    swap
    · isplitl [Hg]; · iexact Hg
      iexact Ho
    iapply (body_run Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]
    · iexists _; isplitl [HS0]; · iexact HS0
      ipureintro; exact fun h => e0 h
    isplitl [HS1]
    · iexists _; isplitl [HS1]; · iexact HS1
      ipureintro; exact fun h => e1 h
    isplitl [HS2]
    · iexists _; isplitl [HS2]; · iexact HS2
      ipureintro; exact fun h => e2 h
    isplitl [HS3]
    · iexists _; isplitl [HS3]; · iexact HS3
      ipureintro; exact fun h => e3 h
    isplitl [HS4]; · iexact HS4
    iexact HS5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl]
  obtain ⟨t, hlt⟩ := t
  obtain ⟨n, rfl⟩ := Nat.exists_eq_succ_of_ne_zero ht
  rw [show PhiS m c (Fin.mk (n + 1) hlt).val (Nat.le_of_lt_succ hlt) = _ from PhiS_succ m c n (Nat.lt_of_succ_lt_succ hlt), PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 288 := N_0; omega)

-- the launch theorem's implicit arguments are found by unifying its conclusion with this one
set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Gen
-- ==== Proof.KHost.lean ====
module

public import proofs.«01_k».proof.Proof.Spec
public import proofs.«01_k».proof.Proof.Data
public import Idealize.ShloMosaic.Lib.Pointwise
public import Idealize.ShloMosaic.Lib.Claim

/-!
What the region finds in its ten operands, read at coordinates: the arguments, regrouped by the host lines.
-/

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.Sem
open Cert.Attn

variable (m : (ℓ : Loc nD τ sig) → Buf (Elt Ideal) ℓ) (c : Dev nD)

/-- The row of a batch entry's position, of all rows. -/
def rw' (b : Fin 12) (s : Fin 1536) : Fin 18432 := ⟨1536 * b.val + s.val, by omega⟩

theorem entry1 : V m c main_v1 = transpose S8x384x18432 [1, 2, 0] (shapeCast S18432x8x384 (m ((c.tc : Thread nD τ).loc main_arg0)) shapeCasts_S12x1536x32x96_S18432x8x384) transposes_S18432x8x384_S8x384x18432_1_2_0 := by
  show StableHlo.after (List.flatten [hostOps0]) (fun b => m (c, b)) (Proc.devRef .tc main_v1) = _
  simp only [hostOps0, List.flatten_cons, List.flatten_nil, List.append_nil, List.cons_append, List.nil_append]
  after_results
  rfl

theorem entry3 : V m c main_v3 = transpose S8x4x18432 [1, 2, 0] (shapeCast S18432x8x4 (m ((c.tc : Thread nD τ).loc main_arg1)) shapeCasts_S12x1536x32_S18432x8x4) transposes_S18432x8x4_S8x4x18432_1_2_0 := by
  show StableHlo.after (List.flatten [hostOps0]) (fun b => m (c, b)) (Proc.devRef .tc main_v3) = _
  simp only [hostOps0, List.flatten_cons, List.flatten_nil, List.append_nil, List.cons_append, List.nil_append]
  after_results
  rfl

theorem entry7 : V m c main_v7 = transpose S8x16384x128 [1, 0, 2] (concatenate S16384x8x128 2 [⟨S16384x8x96, (m ((c.tc : Thread nD τ).loc main_arg2))⟩, ⟨S16384x8x32, Host.convertf .fp8e4m3 (broadcastInDim S16384x8x32 ![] bcast_S_S16384x8x32 (constant (F := Ideal) S_ .f32 0x00000000#32))⟩] concatenates_S16384x8x96_S16384x8x32_S16384x8x128_d2) transposes_S16384x8x128_S8x16384x128_1_0_2 := by
  show StableHlo.after (List.flatten [hostOps0]) (fun b => m (c, b)) (Proc.devRef .tc main_v7) = _
  simp only [hostOps0, List.flatten_cons, List.flatten_nil, List.append_nil, List.cons_append, List.nil_append]
  after_results

theorem entry8 : V m c main_v8 = transpose S8x96x16384 [1, 2, 0] (m ((c.tc : Thread nD τ).loc main_arg3)) transposes_S16384x8x96_S8x96x16384_1_2_0 := by
  show StableHlo.after (List.flatten [hostOps0]) (fun b => m (c, b)) (Proc.devRef .tc main_v8) = _
  simp only [hostOps0, List.flatten_cons, List.flatten_nil, List.append_nil, List.cons_append, List.nil_append]
  after_results

theorem entry10 : V m c main_v10 = shapeCast S8x1x16384 (transpose S8x16384 [1, 0] (m ((c.tc : Thread nD τ).loc main_arg4)) transposes_S16384x8_S8x16384_1_0) shapeCasts_S8x16384_S8x1x16384 := by
  show StableHlo.after (List.flatten [hostOps0]) (fun b => m (c, b)) (Proc.devRef .tc main_v10) = _
  simp only [hostOps0, List.flatten_cons, List.flatten_nil, List.append_nil, List.cons_append, List.nil_append]
  after_results
  rfl

theorem entry12 : V m c main_v12 = shapeCast S8x1x16384 (transpose S8x16384 [1, 0] (m ((c.tc : Thread nD τ).loc main_arg5)) transposes_S16384x8_S8x16384_1_0) shapeCasts_S8x16384_S8x1x16384 := by
  show StableHlo.after (List.flatten [hostOps0]) (fun b => m (c, b)) (Proc.devRef .tc main_v12) = _
  simp only [hostOps0, List.flatten_cons, List.flatten_nil, List.append_nil, List.cons_append, List.nil_append]
  after_results
  rfl

theorem entry16 : V m c main_v16 = transpose S8x12x1536x128 [2, 0, 1, 3] (concatenate S12x1536x8x128 3 [⟨S12x1536x8x96, (m ((c.tc : Thread nD τ).loc main_arg6))⟩, ⟨S12x1536x8x32, Host.convertf .fp8e4m3 (broadcastInDim S12x1536x8x32 ![] bcast_S_S12x1536x8x32 (constant (F := Ideal) S_ .f32 0x00000000#32))⟩] concatenates_S12x1536x8x96_S12x1536x8x32_S12x1536x8x128_d3) transposes_S12x1536x8x128_S8x12x1536x128_2_0_1_3 := by
  show StableHlo.after (List.flatten [hostOps0]) (fun b => m (c, b)) (Proc.devRef .tc main_v16) = _
  simp only [hostOps0, List.flatten_cons, List.flatten_nil, List.append_nil, List.cons_append, List.nil_append]
  after_results

theorem entry17 : V m c main_v17 = transpose S8x12x96x1536 [2, 0, 3, 1] (m ((c.tc : Thread nD τ).loc main_arg7)) transposes_S12x1536x8x96_S8x12x96x1536_2_0_3_1 := by
  show StableHlo.after (List.flatten [hostOps0]) (fun b => m (c, b)) (Proc.devRef .tc main_v17) = _
  simp only [hostOps0, List.flatten_cons, List.flatten_nil, List.append_nil, List.cons_append, List.nil_append]
  after_results

theorem entry19 : V m c main_v19 = shapeCast S8x12x1x1536 (transpose S8x12x1536 [2, 0, 1] (m ((c.tc : Thread nD τ).loc main_arg8)) transposes_S12x1536x8_S8x12x1536_2_0_1) shapeCasts_S8x12x1536_S8x12x1x1536 := by
  show StableHlo.after (List.flatten [hostOps0]) (fun b => m (c, b)) (Proc.devRef .tc main_v19) = _
  simp only [hostOps0, List.flatten_cons, List.flatten_nil, List.append_nil, List.cons_append, List.nil_append]
  after_results
  rfl

theorem entry21 : V m c main_v21 = shapeCast S8x12x1x1536 (transpose S8x12x1536 [2, 0, 1] (m ((c.tc : Thread nD τ).loc main_arg9)) transposes_S12x1536x8_S8x12x1536_2_0_1) shapeCasts_S8x12x1536_S8x12x1x1536 := by
  show StableHlo.after (List.flatten [hostOps0]) (fun b => m (c, b)) (Proc.devRef .tc main_v21) = _
  simp only [hostOps0, List.flatten_cons, List.flatten_nil, List.append_nil, List.cons_append, List.nil_append]
  after_results
  rfl

theorem V1_at (b : Fin 12) (s : Fin 1536) (h : Fin 8) (g : Fin 4) (d : Fin 96) : V m c main_v1 (ix3 h (gd g d) (rw' b s)) = m ((c.tc : Thread nD τ).loc main_arg0) (ix4 b s (hd h g) d) := by
  rw [entry1]
  refine (transpose_apply _ _ _ _ (ix3 (rw' b s) h (gd g d)) (by intro b; match b with | ⟨0, _⟩ => rfl | ⟨1, _⟩ => rfl | ⟨2, _⟩ => rfl)).trans ?_
  refine shapeCast_apply _ _ _ (ix4 b s (hd h g) d) ?_
  rw [Shape.rowMajor_val_three, Shape.rowMajor_val_four]
  show ((b.val * 1536 + s.val) * 32 + (4 * h.val + g.val)) * 96 + d.val = ((1536 * b.val + s.val) * 8 + h.val) * 384 + (gd g d).val
  unfold gd
  dsimp only
  omega

theorem V3_at (b : Fin 12) (s : Fin 1536) (h : Fin 8) (g : Fin 4) : V m c main_v3 (ix3 h g (rw' b s)) = m ((c.tc : Thread nD τ).loc main_arg1) (ix3 b s (hd h g)) := by
  rw [entry3]
  refine (transpose_apply _ _ _ _ (ix3 (rw' b s) h g) (by intro b; match b with | ⟨0, _⟩ => rfl | ⟨1, _⟩ => rfl | ⟨2, _⟩ => rfl)).trans ?_
  refine shapeCast_apply _ _ _ (ix3 b s (hd h g)) ?_
  rw [Shape.rowMajor_val_three, Shape.rowMajor_val_three]
  show (b.val * 1536 + s.val) * 32 + (4 * h.val + g.val) = ((1536 * b.val + s.val) * 8 + h.val) * 4 + g.val
  omega

theorem V7_at (h : Fin 8) (j : Fin 16384) (d : Fin 96) : V m c main_v7 (ix3 h j (d128 d)) = m ((c.tc : Thread nD τ).loc main_arg2) (ix3 j h d) := by
  rw [entry7]
  have hd : (d128 d).val < 96 := d.isLt
  pointwise
  rw [dif_pos hd]
  rfl

theorem V8_at (h : Fin 8) (j : Fin 16384) (d : Fin 96) : V m c main_v8 (ix3 h d j) = m ((c.tc : Thread nD τ).loc main_arg3) (ix3 j h d) := by
  rw [entry8]
  pointwise

theorem V10_at (h : Fin 8) (j : Fin 16384) : V m c main_v10 (ix3 h 0 j) = m ((c.tc : Thread nD τ).loc main_arg4) (ix2 j h) := by
  rw [entry10]
  pointwise

theorem V12_at (h : Fin 8) (j : Fin 16384) : V m c main_v12 (ix3 h 0 j) = m ((c.tc : Thread nD τ).loc main_arg5) (ix2 j h) := by
  rw [entry12]
  pointwise

theorem V16_at (b : Fin 12) (h : Fin 8) (j : Fin 1536) (d : Fin 96) : V m c main_v16 (ix4 h b j (d128 d)) = m ((c.tc : Thread nD τ).loc main_arg6) (ix4 b j h d) := by
  rw [entry16]
  have hd : (d128 d).val < 96 := d.isLt
  pointwise
  rw [dif_pos hd]
  rfl

theorem V17_at (b : Fin 12) (h : Fin 8) (j : Fin 1536) (d : Fin 96) : V m c main_v17 (ix4 h b d j) = m ((c.tc : Thread nD τ).loc main_arg7) (ix4 b j h d) := by
  rw [entry17]
  pointwise

theorem V19_at (b : Fin 12) (h : Fin 8) (j : Fin 1536) : V m c main_v19 (ix4 h b 0 j) = m ((c.tc : Thread nD τ).loc main_arg8) (ix3 b j h) := by
  rw [entry19]
  pointwise

theorem V21_at (b : Fin 12) (h : Fin 8) (j : Fin 1536) : V m c main_v21 (ix4 h b 0 j) = m ((c.tc : Thread nD τ).loc main_arg9) (ix3 b j h) := by
  rw [entry21]
  pointwise

end Cert.KernelIdeal.Gen
-- ==== Proof.KOut.lean ====
module

public import proofs.«01_k».proof.Proof.KHost
public import Idealize.ShloMosaic.Lib.Pipeline.ValueKit

/-!
The region's three output arrays, named: each block the body leaves is the attention at its rows and columns, and the
blocks tile the arrays.
-/

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.Sem
open Cert.Attn

variable (m : (ℓ : Loc nD τ sig) → Buf (Elt Ideal) ℓ) (c : Dev nD)

/-- The position of a block's row in its batch entry. -/
def posn (i : grid0.Coords) (r : Fin 512) : Fin 1536 := ⟨512 * (i 2).val + r.val, by have := c2_lt i; omega⟩

theorem row_eq (i : grid0.Coords) (r : Fin 512) (h : 512 * qtile i + r.val < 18432) : (⟨512 * qtile i + r.val, h⟩ : Fin 18432) = rw' (irow i) (posn i r) := by
  apply Fin.ext
  show 512 * (3 * (i 1).val + (i 2).val) + r.val = 1536 * (i 1).val + (512 * (i 2).val + r.val)
  omega

/-- The arguments, as arrays of extended reals. -/
def A0 : S12x1536x32x96.Idx → EReal := m ((c.tc : Thread nD τ).loc main_arg0)
def A1 : S12x1536x32.Idx → EReal := m ((c.tc : Thread nD τ).loc main_arg1)
def A2 : S16384x8x96.Idx → EReal := m ((c.tc : Thread nD τ).loc main_arg2)
def A3 : S16384x8x96.Idx → EReal := m ((c.tc : Thread nD τ).loc main_arg3)
def A4 : S16384x8.Idx → EReal := m ((c.tc : Thread nD τ).loc main_arg4)
def A5 : S16384x8.Idx → EReal := m ((c.tc : Thread nD τ).loc main_arg5)
def A6 : S12x1536x8x96.Idx → EReal := m ((c.tc : Thread nD τ).loc main_arg6)
def A7 : S12x1536x8x96.Idx → EReal := m ((c.tc : Thread nD τ).loc main_arg7)
def A8 : S12x1536x8.Idx → EReal := m ((c.tc : Thread nD τ).loc main_arg8)
def A9 : S12x1536x8.Idx → EReal := m ((c.tc : Thread nD τ).loc main_arg9)

theorem b0_at (i : grid0.Coords) (g : Fin 4) (d : Fin 96) (r : Fin 512) : blk0 (V m c main_v1) i (ix3 0 (gd g d) r) = A0 m c (ix4 (irow i) (posn i r) (hd (ihead i) g) d) :=
  (congrArg (fun x => V m c main_v1 (ix3 (ihead i) (gd g d) x)) (row_eq i r _)).trans (V1_at m c _ _ _ _ _)
theorem b1_at (i : grid0.Coords) (g : Fin 4) (r : Fin 512) : blk1 (V m c main_v3) i (ix3 0 g r) = A1 m c (ix3 (irow i) (posn i r) (hd (ihead i) g)) :=
  (congrArg (fun x => V m c main_v3 (ix3 (ihead i) g x)) (row_eq i r _)).trans (V3_at m c _ _ _ _)
theorem b2_at (i : grid0.Coords) (j : Fin 16384) (d : Fin 96) : blk2 (V m c main_v7) i (ix3 0 j (d128 d)) = A2 m c (ix3 j (ihead i) d) := V7_at m c _ _ _
theorem b3_at (i : grid0.Coords) (d : Fin 96) (j : Fin 16384) : blk3 (V m c main_v8) i (ix3 0 d j) = A3 m c (ix3 j (ihead i) d) := V8_at m c _ _ _
theorem b4_at (i : grid0.Coords) (j : Fin 16384) : blk4 (V m c main_v10) i (ix3 0 0 j) = A4 m c (ix2 j (ihead i)) := V10_at m c _ _
theorem b5_at (i : grid0.Coords) (j : Fin 16384) : blk5 (V m c main_v12) i (ix3 0 0 j) = A5 m c (ix2 j (ihead i)) := V12_at m c _ _
theorem b6_at (i : grid0.Coords) (j : Fin 1536) (d : Fin 96) : blk6 (V m c main_v16) i (ix4 0 0 j (d128 d)) = A6 m c (ix4 (irow i) j (ihead i) d) := V16_at m c _ _ _ _
theorem b7_at (i : grid0.Coords) (d : Fin 96) (j : Fin 1536) : blk7 (V m c main_v17) i (ix4 0 0 d j) = A7 m c (ix4 (irow i) j (ihead i) d) := V17_at m c _ _ _ _
theorem b8_at (i : grid0.Coords) (j : Fin 1536) : blk8 (V m c main_v19) i (ix4 0 0 0 j) = A8 m c (ix3 (irow i) j (ihead i)) := V19_at m c _ _ _
theorem b9_at (i : grid0.Coords) (j : Fin 1536) : blk9 (V m c main_v21) i (ix4 0 0 0 j) = A9 m c (ix3 (irow i) j (ihead i)) := V21_at m c _ _ _

theorem rP_eq (i : grid0.Coords) (g : Fin 4) (r : Fin 512) :
    rP (blk0 (V m c main_v1) i) (blk1 (V m c main_v3) i) (blk2 (V m c main_v7) i) (blk4 (V m c main_v10) i) g r
    = scoreP (A0 m c) (A1 m c) (A2 m c) (A4 m c) (irow i) (posn i r) (ihead i) g := by
  funext j
  unfold rP scoreP
  rw [b1_at, b4_at]
  refine congrArg (fun z => z * _ * _) (Finset.sum_congr rfl fun d _ => ?_)
  rw [b0_at, b2_at]

theorem rC_eq (i : grid0.Coords) (g : Fin 4) (r : Fin 512) :
    rC (blk0 (V m c main_v1) i) (blk1 (V m c main_v3) i) (blk6 (V m c main_v16) i) (blk8 (V m c main_v19) i) g r (512 * (i 2).val + r.val)
    = scoreC (A0 m c) (A1 m c) (A6 m c) (A8 m c) (irow i) (posn i r) (ihead i) g := by
  funext j
  unfold rC scoreC
  rw [b1_at, b8_at]
  refine if_congr Iff.rfl (congrArg (fun z => z * _ * _) (Finset.sum_congr rfl fun d _ => ?_)) rfl
  rw [b0_at, b6_at]

/-- What the body leaves in the output block. -/
theorem wO_spec (i : grid0.Coords) (r : Fin 512) (g : Fin 4) (e : Fin 96) : wO i (blk0 (V m c main_v1) i) (blk1 (V m c main_v3) i) (blk2 (V m c main_v7) i) (blk3 (V m c main_v8) i) (blk4 (V m c main_v10) i) (blk5 (V m c main_v12) i) (blk6 (V m c main_v16) i) (blk7 (V m c main_v17) i) (blk8 (V m c main_v19) i) (blk9 (V m c main_v21) i) (ix2 r (gd g e))
    = attn (A0 m c) (A1 m c) (A2 m c) (A3 m c) (A4 m c) (A5 m c) (A6 m c) (A7 m c) (A8 m c) (A9 m c) (irow i) (posn i r) (ihead i) g e := by
  rw [wO_at, rP_eq, rC_eq]
  exact congrArg₂ (kmerge _ _) (congrArg₂ (fun a b => rout _ a b 16384) (funext fun j => b5_at m c i _) (funext fun j => b3_at m c i e _))
    (congrArg₂ (fun a b => rout _ a b 1536) (funext fun j => b9_at m c i _) (funext fun j => b7_at m c i e _))
theorem wLP_spec (i : grid0.Coords) (r : Fin 512) (g : Fin 4) : wLP i (blk0 (V m c main_v1) i) (blk1 (V m c main_v3) i) (blk2 (V m c main_v7) i) (blk3 (V m c main_v8) i) (blk4 (V m c main_v10) i) (blk5 (V m c main_v12) i) (blk6 (V m c main_v16) i) (blk7 (V m c main_v17) i) (blk8 (V m c main_v19) i) (blk9 (V m c main_v21) i) (ix3 0 g r)
    = resP (A0 m c) (A1 m c) (A2 m c) (A4 m c) (irow i) (posn i r) (ihead i) g := by
  rw [wLP_at, rP_eq]
  rfl
theorem wLC_spec (i : grid0.Coords) (r : Fin 512) (g : Fin 4) : wLC i (blk0 (V m c main_v1) i) (blk1 (V m c main_v3) i) (blk2 (V m c main_v7) i) (blk3 (V m c main_v8) i) (blk4 (V m c main_v10) i) (blk5 (V m c main_v12) i) (blk6 (V m c main_v16) i) (blk7 (V m c main_v17) i) (blk8 (V m c main_v19) i) (blk9 (V m c main_v21) i) (ix3 0 g r)
    = resC (A0 m c) (A1 m c) (A6 m c) (A8 m c) (irow i) (posn i r) (ihead i) g := by
  rw [wLC_at, rC_eq]
  rfl

/-- The batch entry and the position of a row. -/
def rb (x : Fin 18432) : Fin 12 := ⟨x.val / 1536, by omega⟩
def rs (x : Fin 18432) : Fin 1536 := ⟨x.val % 1536, by omega⟩
theorem rb_rw (b : Fin 12) (s : Fin 1536) : rb (rw' b s) = b := Fin.ext (by show (1536 * b.val + s.val) / 1536 = b.val; omega)
theorem rs_rw (b : Fin 12) (s : Fin 1536) : rs (rw' b s) = s := Fin.ext (by show (1536 * b.val + s.val) % 1536 = s.val; omega)

/-- The three output arrays. -/
def G10 : S18432x3072.Idx → EReal := fun y =>
  attn (A0 m c) (A1 m c) (A2 m c) (A3 m c) (A4 m c) (A5 m c) (A6 m c) (A7 m c) (A8 m c) (A9 m c) (rb (y 0)) (rs (y 0)) ⟨(y 1).val / 384, by have : (y 1).val < 3072 := (y 1).isLt; omega⟩ ⟨(y 1).val % 384 / 96, by have : (y 1).val < 3072 := (y 1).isLt; omega⟩ ⟨(y 1).val % 96, by omega⟩
def G11 : S8x4x18432.Idx → EReal := fun y => resP (A0 m c) (A1 m c) (A2 m c) (A4 m c) (rb (y 2)) (rs (y 2)) (y 0) (y 1)
def G12 : S8x4x18432.Idx → EReal := fun y => resC (A0 m c) (A1 m c) (A6 m c) (A8 m c) (rb (y 2)) (rs (y 2)) (y 0) (y 1)

theorem G10_at (b s h g e) : G10 m c (ix2 (rw' b s) (co h g e)) = attn (A0 m c) (A1 m c) (A2 m c) (A3 m c) (A4 m c) (A5 m c) (A6 m c) (A7 m c) (A8 m c) (A9 m c) b s h g e := by
  show attn (A0 m c) (A1 m c) (A2 m c) (A3 m c) (A4 m c) (A5 m c) (A6 m c) (A7 m c) (A8 m c) (A9 m c) (rb (rw' b s)) (rs (rw' b s)) ⟨(384 * h.val + (96 * g.val + e.val)) / 384, _⟩ ⟨(384 * h.val + (96 * g.val + e.val)) % 384 / 96, _⟩ ⟨(384 * h.val + (96 * g.val + e.val)) % 96, _⟩ = _
  have e1 : (⟨(384 * h.val + (96 * g.val + e.val)) / 384, by omega⟩ : Fin 8) = h := Fin.ext (by show (384 * h.val + (96 * g.val + e.val)) / 384 = h.val; omega)
  have e2 : (⟨(384 * h.val + (96 * g.val + e.val)) % 384 / 96, by omega⟩ : Fin 4) = g := Fin.ext (by show (384 * h.val + (96 * g.val + e.val)) % 384 / 96 = g.val; omega)
  have e3 : (⟨(384 * h.val + (96 * g.val + e.val)) % 96, by omega⟩ : Fin 96) = e := Fin.ext (by show (384 * h.val + (96 * g.val + e.val)) % 96 = e.val; omega)
  rw [rb_rw, rs_rw, e1, e2, e3]
theorem G11_at (b s h g) : G11 m c (ix3 h g (rw' b s)) = resP (A0 m c) (A1 m c) (A2 m c) (A4 m c) b s h g := by
  show resP (A0 m c) (A1 m c) (A2 m c) (A4 m c) (rb (rw' b s)) (rs (rw' b s)) h g = _
  rw [rb_rw, rs_rw]
theorem G12_at (b s h g) : G12 m c (ix3 h g (rw' b s)) = resC (A0 m c) (A1 m c) (A6 m c) (A8 m c) b s h g := by
  show resC (A0 m c) (A1 m c) (A6 m c) (A8 m c) (rb (rw' b s)) (rs (rw' b s)) h g = _
  rw [rb_rw, rs_rw]

theorem exists_gd (x : Fin 384) : ∃ g e, x = gd g e :=
  ⟨⟨x.val / 96, by omega⟩, ⟨x.val % 96, by omega⟩, Fin.ext (by show x.val = 96 * (x.val / 96) + x.val % 96; omega)⟩

theorem emb10 (t : Fin cfg0.N) (r : Fin 512) (g : Fin 4) (e : Fin 96) : ((cfg0.win 10).blk t).view.emb (ix2 r (gd g e) : S512x384.Idx)
    = (ix2 (rw' (irow (grid0.coords t)) (posn (grid0.coords t) r)) (co (ihead (grid0.coords t)) g e) : S18432x3072.Idx) := by
  have h : win0_10.index t = _ := tr10 (grid0.coords t)
  funext a; apply Fin.ext
  match a with
  | ⟨0, _⟩ => show win0_10.index t (0 : Fin 2) * _ + 1 * r.val = _; rw [h]; show (3 * (grid0.coords t 1).val + (grid0.coords t 2).val) * 512 + 1 * r.val = 1536 * (grid0.coords t 1).val + (512 * (grid0.coords t 2).val + r.val); omega
  | ⟨1, _⟩ => show win0_10.index t (1 : Fin 2) * _ + 1 * (gd g e).val = _; rw [h]; show (grid0.coords t 0).val * 384 + 1 * (96 * g.val + e.val) = 384 * (grid0.coords t 0).val + (96 * g.val + e.val); omega
theorem emb11 (t : Fin cfg0.N) (g : Fin 4) (r : Fin 512) : ((cfg0.win 11).blk t).view.emb (ix3 0 g r : S1x4x512.Idx)
    = (ix3 (ihead (grid0.coords t)) g (rw' (irow (grid0.coords t)) (posn (grid0.coords t) r)) : S8x4x18432.Idx) := by
  have h : win0_11.index t = _ := tr11 (grid0.coords t)
  funext a; apply Fin.ext
  match a with
  | ⟨0, _⟩ => show win0_11.index t (0 : Fin 3) * _ + 1 * 0 = _; rw [h]; show (grid0.coords t 0).val * 1 + 1 * 0 = (grid0.coords t 0).val; omega
  | ⟨1, _⟩ => show win0_11.index t (1 : Fin 3) * _ + 1 * g.val = _; rw [h]; show 0 * _ + 1 * g.val = g.val; omega
  | ⟨2, _⟩ => show win0_11.index t (2 : Fin 3) * _ + 1 * r.val = _; rw [h]; show (3 * (grid0.coords t 1).val + (grid0.coords t 2).val) * 512 + 1 * r.val = 1536 * (grid0.coords t 1).val + (512 * (grid0.coords t 2).val + r.val); omega
theorem emb12 (t : Fin cfg0.N) (g : Fin 4) (r : Fin 512) : ((cfg0.win 12).blk t).view.emb (ix3 0 g r : S1x4x512.Idx)
    = (ix3 (ihead (grid0.coords t)) g (rw' (irow (grid0.coords t)) (posn (grid0.coords t) r)) : S8x4x18432.Idx) := by
  have h : win0_12.index t = _ := tr12 (grid0.coords t)
  funext a; apply Fin.ext
  match a with
  | ⟨0, _⟩ => show win0_12.index t (0 : Fin 3) * _ + 1 * 0 = _; rw [h]; show (grid0.coords t 0).val * 1 + 1 * 0 = (grid0.coords t 0).val; omega
  | ⟨1, _⟩ => show win0_12.index t (1 : Fin 3) * _ + 1 * g.val = _; rw [h]; show 0 * _ + 1 * g.val = g.val; omega
  | ⟨2, _⟩ => show win0_12.index t (2 : Fin 3) * _ + 1 * r.val = _; rw [h]; show (3 * (grid0.coords t 1).val + (grid0.coords t 2).val) * 512 + 1 * r.val = 1536 * (grid0.coords t 1).val + (512 * (grid0.coords t 2).val + r.val); omega

/-- The output array. -/
theorem out10 : (dats m 0 c).arrAt 10 cfg0.N = G10 m c := by
  refine (dats m 0 c).arrAt_eq_of_covers 10 _ (by decide +kernel) fun t hf y => ?_
  blk_simp
  rw [after0_10, iblk0_eq, iblk1_eq, iblk2_eq, iblk3_eq, iblk4_eq, iblk5_eq, iblk6_eq, iblk7_eq, iblk8_eq, iblk9_eq]
  change S512x384.Idx at y
  obtain ⟨r, x, rfl⟩ : ∃ (r : Fin 512) (x : Fin 384), y = ix2 r x := ⟨y 0, y 1, eq_ix2 y⟩
  obtain ⟨g, e, rfl⟩ := exists_gd x
  refine (wO_spec m c (grid0.coords t) r g e).trans ?_
  rw [emb10 t r g e]
  exact (G10_at m c _ _ _ _ _).symm

/-- The prompt's log-sum-exps. -/
theorem out11 : (dats m 0 c).arrAt 11 cfg0.N = G11 m c := by
  refine (dats m 0 c).arrAt_eq_of_covers 11 _ (by decide +kernel) fun t hf y => ?_
  blk_simp
  rw [after0_11, iblk0_eq, iblk1_eq, iblk2_eq, iblk3_eq, iblk4_eq, iblk5_eq, iblk6_eq, iblk7_eq, iblk8_eq, iblk9_eq]
  change S1x4x512.Idx at y
  obtain ⟨z, g, r, rfl⟩ : ∃ (z : Fin 1) (g : Fin 4) (r : Fin 512), y = ix3 z g r := ⟨y 0, y 1, y 2, eq_ix3 y⟩
  obtain rfl : z = 0 := Subsingleton.elim _ _
  refine (wLP_spec m c (grid0.coords t) r g).trans ?_
  rw [emb11 t g r]
  exact (G11_at m c _ _ _ _).symm

/-- The completion's log-sum-exps. -/
theorem out12 : (dats m 0 c).arrAt 12 cfg0.N = G12 m c := by
  refine (dats m 0 c).arrAt_eq_of_covers 12 _ (by decide +kernel) fun t hf y => ?_
  blk_simp
  rw [after0_12, iblk0_eq, iblk1_eq, iblk2_eq, iblk3_eq, iblk4_eq, iblk5_eq, iblk6_eq, iblk7_eq, iblk8_eq, iblk9_eq]
  change S1x4x512.Idx at y
  obtain ⟨z, g, r, rfl⟩ : ∃ (z : Fin 1) (g : Fin 4) (r : Fin 512), y = ix3 z g r := ⟨y 0, y 1, y 2, eq_ix3 y⟩
  obtain rfl : z = 0 := Subsingleton.elim _ _
  refine (wLC_spec m c (grid0.coords t) r g).trans ?_
  rw [emb12 t g r]
  exact (G12_at m c _ _ _ _).symm

end Cert.KernelIdeal.Gen
-- ==== Proof.KRun.lean ====
module

public import proofs.«01_k».proof.Proof.KOut
public import Idealize.ShloMosaic.Lib.Claim

/-!
The kernel's run with its three results named: the host lines after the region only regroup the output arrays.
-/

@[expose] public section

set_option maxRecDepth 16384
set_option maxHeartbeats 1000000

noncomputable section

namespace Cert.KernelIdeal.Gen

open Idealize.ShloMosaic Idealize.ShloMosaic.TcCoe Idealize.ShloMosaic.Tactic
open Idealize.SL Idealize.SL.Sem
open Cert.Attn

variable (m : (ℓ : Loc nD τ sig) → Buf (Elt Ideal) ℓ) (ρ : Dev nD → PrngReg) (c : Dev nD)

/-- The three results. -/
def K0 : S12x1536x3072.Idx → EReal := shapeCast S12x1536x3072 (G10 m c) shapeCasts_S18432x3072_S12x1536x3072
def K1 : S12x1536x32.Idx → EReal := shapeCast S12x1536x32 (transpose S18432x8x4 [2, 0, 1] (G11 m c) transposes_S8x4x18432_S18432x8x4_2_0_1) shapeCasts_S18432x8x4_S12x1536x32
def K2 : S12x1536x32.Idx → EReal := shapeCast S12x1536x32 (transpose S18432x8x4 [2, 0, 1] (G12 m c) transposes_S8x4x18432_S18432x8x4_2_0_1) shapeCasts_S18432x8x4_S12x1536x32

theorem arr_inj : Function.Injective (Pipeline.arrRef spec0) := by decide

/-- The region's output arrays as the tail finds them. -/
theorem leave10 : Pipeline.withArrays (cfgs 0).spec c (V0 m c) (fun w => (dats m 0 c).arrAt w (cfgs 0).N) (Proc.devRef .tc main_v22_0) = G10 m c :=
  (Pipeline.withArrays_arr spec0 arr_inj c (V0 m c) (fun w => (dats m 0 c).arrAt w (cfgs 0).N) 10).trans (out10 m c)
theorem leave11 : Pipeline.withArrays (cfgs 0).spec c (V0 m c) (fun w => (dats m 0 c).arrAt w (cfgs 0).N) (Proc.devRef .tc main_v22_1) = G11 m c :=
  (Pipeline.withArrays_arr spec0 arr_inj c (V0 m c) (fun w => (dats m 0 c).arrAt w (cfgs 0).N) 11).trans (out11 m c)
theorem leave12 : Pipeline.withArrays (cfgs 0).spec c (V0 m c) (fun w => (dats m 0 c).arrAt w (cfgs 0).N) (Proc.devRef .tc main_v22_2) = G12 m c :=
  (Pipeline.withArrays_arr spec0 arr_inj c (V0 m c) (fun w => (dats m 0 c).arrAt w (cfgs 0).N) 12).trans (out12 m c)

theorem tail23 : Pipeline.afterTail₀ cfgs (dats m) 0 (V0 m) [hostOps1] c main_v23 = K0 m c := by
  unfold Pipeline.afterTail₀
  simp only [hostOps1, List.flatten_cons, List.flatten_nil, List.append_nil, List.cons_append, List.nil_append]
  after_results
  rw [leave10]
  rfl
theorem tail25 : Pipeline.afterTail₀ cfgs (dats m) 0 (V0 m) [hostOps1] c main_v25 = K1 m c := by
  unfold Pipeline.afterTail₀
  simp only [hostOps1, List.flatten_cons, List.flatten_nil, List.append_nil, List.cons_append, List.nil_append]
  after_results
  rw [leave11]
  rfl
theorem tail27 : Pipeline.afterTail₀ cfgs (dats m) 0 (V0 m) [hostOps1] c main_v27 = K2 m c := by
  unfold Pipeline.afterTail₀
  simp only [hostOps1, List.flatten_cons, List.flatten_nil, List.append_nil, List.cons_append, List.nil_append]
  after_results
  rw [leave12]
  rfl

/-- The results at coordinates. -/
theorem K0_at (b : Fin 12) (s : Fin 1536) (h : Fin 8) (g : Fin 4) (e : Fin 96) : K0 m c (ix3 b s (co h g e))
    = attn (A0 m c) (A1 m c) (A2 m c) (A3 m c) (A4 m c) (A5 m c) (A6 m c) (A7 m c) (A8 m c) (A9 m c) b s h g e := by
  rw [← G10_at]
  refine shapeCast_apply _ _ _ (ix2 (rw' b s) (co h g e)) ?_
  rw [Shape.rowMajor_val_three, Shape.rowMajor_val_two]
  show (1536 * b.val + s.val) * 3072 + (co h g e).val = (b.val * 1536 + s.val) * 3072 + (co h g e).val
  omega
theorem K1_at (b : Fin 12) (s : Fin 1536) (h : Fin 8) (g : Fin 4) : K1 m c (ix3 b s (hd h g))
    = resP (A0 m c) (A1 m c) (A2 m c) (A4 m c) b s h g := by
  rw [← G11_at]
  refine (shapeCast_apply _ _ _ (ix3 (rw' b s) h g) ?_).trans
    (transpose_apply _ _ _ _ (ix3 h g (rw' b s)) (by intro b; match b with | ⟨0, _⟩ => rfl | ⟨1, _⟩ => rfl | ⟨2, _⟩ => rfl))
  rw [Shape.rowMajor_val_three, Shape.rowMajor_val_three]
  show ((1536 * b.val + s.val) * 8 + h.val) * 4 + g.val = (b.val * 1536 + s.val) * 32 + (4 * h.val + g.val)
  omega
theorem K2_at (b : Fin 12) (s : Fin 1536) (h : Fin 8) (g : Fin 4) : K2 m c (ix3 b s (hd h g))
    = resC (A0 m c) (A1 m c) (A6 m c) (A8 m c) b s h g := by
  rw [← G12_at]
  refine (shapeCast_apply _ _ _ (ix3 (rw' b s) h g) ?_).trans
    (transpose_apply _ _ _ _ (ix3 h g (rw' b s)) (by intro b; match b with | ⟨0, _⟩ => rfl | ⟨1, _⟩ => rfl | ⟨2, _⟩ => rfl))
  rw [Shape.rowMajor_val_three, Shape.rowMajor_val_three]
  show ((1536 * b.val + s.val) * 8 + h.val) * 4 + g.val = (b.val * 1536 + s.val) * 32 + (4 * h.val + g.val)
  omega

/-- The kernel's run: its results and its arguments at the end. -/
theorem run_value : θ_run defs (onTc (τ := τ) (main (F := Ideal))) ⟨m, fun _ => 0, ρ⟩ (fun r => ∀ c : Dev nD,
      r.2.mem ((c.tc : Thread nD τ).loc main_v23) = K0 m c
      ∧ r.2.mem ((c.tc : Thread nD τ).loc main_v25) = K1 m c
      ∧ r.2.mem ((c.tc : Thread nD τ).loc main_v27) = K2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h => ?_) (θ_run_and (run_main m ρ) (frame m ρ))
  exact fun c => ⟨((h.1 c).2 main_v23 (Pipeline.mem_restRefs_of main_v23 (by decide) (by decide))).trans (tail23 m c),
    ((h.1 c).2 main_v25 (Pipeline.mem_restRefs_of main_v25 (by decide) (by decide))).trans (tail25 m c),
    ((h.1 c).2 main_v27 (Pipeline.mem_restRefs_of main_v27 (by decide) (by decide))).trans (tail27 m c), h.2.1 c⟩

end Cert.KernelIdeal.Gen
-- ==== Proof.RRegion.lean ====
module

public import proofs.«01_k».proof.Proof.Gen.ReferenceIdeal.Frame
public import proofs.«01_k».proof.Proof.Rows
public import Idealize.ShloMosaic.Lib.Pipeline.ValueKit

/-!
The reference's region: the widened codes and the scaled query scales, as arrays of the arguments.
-/

@[expose] public section

set_option maxRecDepth 16384
set_option maxHeartbeats 1000000

noncomputable section

namespace Cert.ReferenceIdeal.Gen

open Idealize.ShloMosaic Idealize.ShloMosaic.TcCoe Idealize.ShloMosaic.Tactic
open Idealize.SL Idealize.SL.Sem
open Cert.Attn

variable (m : (ℓ : Loc nD τ sig) → Buf (Elt Ideal) ℓ) (c : Dev nD)

/-- The arguments, as arrays of extended reals. -/
def B0 : S12x1536x32x96.Idx → EReal := m ((c.tc : Thread nD τ).loc main_arg0)
def B1 : S12x1536x32.Idx → EReal := m ((c.tc : Thread nD τ).loc main_arg1)
def B2 : S16384x8x96.Idx → EReal := m ((c.tc : Thread nD τ).loc main_arg2)
def B3 : S16384x8x96.Idx → EReal := m ((c.tc : Thread nD τ).loc main_arg3)
def B4 : S16384x8.Idx → EReal := m ((c.tc : Thread nD τ).loc main_arg4)
def B5 : S16384x8.Idx → EReal := m ((c.tc : Thread nD τ).loc main_arg5)
def B6 : S12x1536x8x96.Idx → EReal := m ((c.tc : Thread nD τ).loc main_arg6)
def B7 : S12x1536x8x96.Idx → EReal := m ((c.tc : Thread nD τ).loc main_arg7)
def B8 : S12x1536x8.Idx → EReal := m ((c.tc : Thread nD τ).loc main_arg8)
def B9 : S12x1536x8.Idx → EReal := m ((c.tc : Thread nD τ).loc main_arg9)

/-- Every window is its whole array. -/
theorem emb0 (t : Fin cfg0.N) (j : S12x1536x32x96.Idx) : ((cfg0.win 0).blk t).view.emb j = j := by
  have h : win0_0.index t = fun _ => 0 := by funext a; match a with | ⟨0, _⟩ => rfl | ⟨1, _⟩ => rfl | ⟨2, _⟩ => rfl | ⟨3, _⟩ => rfl
  funext a; apply Fin.ext
  match a with
  | ⟨0, _⟩ => show win0_0.index t (0 : Fin 4) * _ + 1 * (j 0).val = (j 0).val; rw [h]; show 0 * _ + 1 * (j 0).val = (j 0).val; omega
  | ⟨1, _⟩ => show win0_0.index t (1 : Fin 4) * _ + 1 * (j 1).val = (j 1).val; rw [h]; show 0 * _ + 1 * (j 1).val = (j 1).val; omega
  | ⟨2, _⟩ => show win0_0.index t (2 : Fin 4) * _ + 1 * (j 2).val = (j 2).val; rw [h]; show 0 * _ + 1 * (j 2).val = (j 2).val; omega
  | ⟨3, _⟩ => show win0_0.index t (3 : Fin 4) * _ + 1 * (j 3).val = (j 3).val; rw [h]; show 0 * _ + 1 * (j 3).val = (j 3).val; omega
theorem emb1 (t : Fin cfg0.N) (j : S16384x8x96.Idx) : ((cfg0.win 1).blk t).view.emb j = j := by
  have h : win0_1.index t = fun _ => 0 := by funext a; match a with | ⟨0, _⟩ => rfl | ⟨1, _⟩ => rfl | ⟨2, _⟩ => rfl
  funext a; apply Fin.ext
  match a with
  | ⟨0, _⟩ => show win0_1.index t (0 : Fin 3) * _ + 1 * (j 0).val = (j 0).val; rw [h]; show 0 * _ + 1 * (j 0).val = (j 0).val; omega
  | ⟨1, _⟩ => show win0_1.index t (1 : Fin 3) * _ + 1 * (j 1).val = (j 1).val; rw [h]; show 0 * _ + 1 * (j 1).val = (j 1).val; omega
  | ⟨2, _⟩ => show win0_1.index t (2 : Fin 3) * _ + 1 * (j 2).val = (j 2).val; rw [h]; show 0 * _ + 1 * (j 2).val = (j 2).val; omega
theorem emb2 (t : Fin cfg0.N) (j : S16384x8x96.Idx) : ((cfg0.win 2).blk t).view.emb j = j := by
  have h : win0_2.index t = fun _ => 0 := by funext a; match a with | ⟨0, _⟩ => rfl | ⟨1, _⟩ => rfl | ⟨2, _⟩ => rfl
  funext a; apply Fin.ext
  match a with
  | ⟨0, _⟩ => show win0_2.index t (0 : Fin 3) * _ + 1 * (j 0).val = (j 0).val; rw [h]; show 0 * _ + 1 * (j 0).val = (j 0).val; omega
  | ⟨1, _⟩ => show win0_2.index t (1 : Fin 3) * _ + 1 * (j 1).val = (j 1).val; rw [h]; show 0 * _ + 1 * (j 1).val = (j 1).val; omega
  | ⟨2, _⟩ => show win0_2.index t (2 : Fin 3) * _ + 1 * (j 2).val = (j 2).val; rw [h]; show 0 * _ + 1 * (j 2).val = (j 2).val; omega
theorem emb3 (t : Fin cfg0.N) (j : S12x1536x8x96.Idx) : ((cfg0.win 3).blk t).view.emb j = j := by
  have h : win0_3.index t = fun _ => 0 := by funext a; match a with | ⟨0, _⟩ => rfl | ⟨1, _⟩ => rfl | ⟨2, _⟩ => rfl | ⟨3, _⟩ => rfl
  funext a; apply Fin.ext
  match a with
  | ⟨0, _⟩ => show win0_3.index t (0 : Fin 4) * _ + 1 * (j 0).val = (j 0).val; rw [h]; show 0 * _ + 1 * (j 0).val = (j 0).val; omega
  | ⟨1, _⟩ => show win0_3.index t (1 : Fin 4) * _ + 1 * (j 1).val = (j 1).val; rw [h]; show 0 * _ + 1 * (j 1).val = (j 1).val; omega
  | ⟨2, _⟩ => show win0_3.index t (2 : Fin 4) * _ + 1 * (j 2).val = (j 2).val; rw [h]; show 0 * _ + 1 * (j 2).val = (j 2).val; omega
  | ⟨3, _⟩ => show win0_3.index t (3 : Fin 4) * _ + 1 * (j 3).val = (j 3).val; rw [h]; show 0 * _ + 1 * (j 3).val = (j 3).val; omega
theorem emb4 (t : Fin cfg0.N) (j : S12x1536x8x96.Idx) : ((cfg0.win 4).blk t).view.emb j = j := by
  have h : win0_4.index t = fun _ => 0 := by funext a; match a with | ⟨0, _⟩ => rfl | ⟨1, _⟩ => rfl | ⟨2, _⟩ => rfl | ⟨3, _⟩ => rfl
  funext a; apply Fin.ext
  match a with
  | ⟨0, _⟩ => show win0_4.index t (0 : Fin 4) * _ + 1 * (j 0).val = (j 0).val; rw [h]; show 0 * _ + 1 * (j 0).val = (j 0).val; omega
  | ⟨1, _⟩ => show win0_4.index t (1 : Fin 4) * _ + 1 * (j 1).val = (j 1).val; rw [h]; show 0 * _ + 1 * (j 1).val = (j 1).val; omega
  | ⟨2, _⟩ => show win0_4.index t (2 : Fin 4) * _ + 1 * (j 2).val = (j 2).val; rw [h]; show 0 * _ + 1 * (j 2).val = (j 2).val; omega
  | ⟨3, _⟩ => show win0_4.index t (3 : Fin 4) * _ + 1 * (j 3).val = (j 3).val; rw [h]; show 0 * _ + 1 * (j 3).val = (j 3).val; omega
theorem emb5 (t : Fin cfg0.N) (j : S12x1536x32.Idx) : ((cfg0.win 5).blk t).view.emb j = j := by
  have h : win0_5.index t = fun _ => 0 := by funext a; match a with | ⟨0, _⟩ => rfl | ⟨1, _⟩ => rfl | ⟨2, _⟩ => rfl
  funext a; apply Fin.ext
  match a with
  | ⟨0, _⟩ => show win0_5.index t (0 : Fin 3) * _ + 1 * (j 0).val = (j 0).val; rw [h]; show 0 * _ + 1 * (j 0).val = (j 0).val; omega
  | ⟨1, _⟩ => show win0_5.index t (1 : Fin 3) * _ + 1 * (j 1).val = (j 1).val; rw [h]; show 0 * _ + 1 * (j 1).val = (j 1).val; omega
  | ⟨2, _⟩ => show win0_5.index t (2 : Fin 3) * _ + 1 * (j 2).val = (j 2).val; rw [h]; show 0 * _ + 1 * (j 2).val = (j 2).val; omega
theorem emb6 (t : Fin cfg0.N) (j : S12x1536x32x96.Idx) : ((cfg0.win 6).blk t).view.emb j = j := by
  have h : win0_6.index t = fun _ => 0 := by funext a; match a with | ⟨0, _⟩ => rfl | ⟨1, _⟩ => rfl | ⟨2, _⟩ => rfl | ⟨3, _⟩ => rfl
  funext a; apply Fin.ext
  match a with
  | ⟨0, _⟩ => show win0_6.index t (0 : Fin 4) * _ + 1 * (j 0).val = (j 0).val; rw [h]; show 0 * _ + 1 * (j 0).val = (j 0).val; omega
  | ⟨1, _⟩ => show win0_6.index t (1 : Fin 4) * _ + 1 * (j 1).val = (j 1).val; rw [h]; show 0 * _ + 1 * (j 1).val = (j 1).val; omega
  | ⟨2, _⟩ => show win0_6.index t (2 : Fin 4) * _ + 1 * (j 2).val = (j 2).val; rw [h]; show 0 * _ + 1 * (j 2).val = (j 2).val; omega
  | ⟨3, _⟩ => show win0_6.index t (3 : Fin 4) * _ + 1 * (j 3).val = (j 3).val; rw [h]; show 0 * _ + 1 * (j 3).val = (j 3).val; omega
theorem emb7 (t : Fin cfg0.N) (j : S16384x8x96.Idx) : ((cfg0.win 7).blk t).view.emb j = j := by
  have h : win0_7.index t = fun _ => 0 := by funext a; match a with | ⟨0, _⟩ => rfl | ⟨1, _⟩ => rfl | ⟨2, _⟩ => rfl
  funext a; apply Fin.ext
  match a with
  | ⟨0, _⟩ => show win0_7.index t (0 : Fin 3) * _ + 1 * (j 0).val = (j 0).val; rw [h]; show 0 * _ + 1 * (j 0).val = (j 0).val; omega
  | ⟨1, _⟩ => show win0_7.index t (1 : Fin 3) * _ + 1 * (j 1).val = (j 1).val; rw [h]; show 0 * _ + 1 * (j 1).val = (j 1).val; omega
  | ⟨2, _⟩ => show win0_7.index t (2 : Fin 3) * _ + 1 * (j 2).val = (j 2).val; rw [h]; show 0 * _ + 1 * (j 2).val = (j 2).val; omega
theorem emb8 (t : Fin cfg0.N) (j : S16384x8x96.Idx) : ((cfg0.win 8).blk t).view.emb j = j := by
  have h : win0_8.index t = fun _ => 0 := by funext a; match a with | ⟨0, _⟩ => rfl | ⟨1, _⟩ => rfl | ⟨2, _⟩ => rfl
  funext a; apply Fin.ext
  match a with
  | ⟨0, _⟩ => show win0_8.index t (0 : Fin 3) * _ + 1 * (j 0).val = (j 0).val; rw [h]; show 0 * _ + 1 * (j 0).val = (j 0).val; omega
  | ⟨1, _⟩ => show win0_8.index t (1 : Fin 3) * _ + 1 * (j 1).val = (j 1).val; rw [h]; show 0 * _ + 1 * (j 1).val = (j 1).val; omega
  | ⟨2, _⟩ => show win0_8.index t (2 : Fin 3) * _ + 1 * (j 2).val = (j 2).val; rw [h]; show 0 * _ + 1 * (j 2).val = (j 2).val; omega
theorem emb9 (t : Fin cfg0.N) (j : S12x1536x8x96.Idx) : ((cfg0.win 9).blk t).view.emb j = j := by
  have h : win0_9.index t = fun _ => 0 := by funext a; match a with | ⟨0, _⟩ => rfl | ⟨1, _⟩ => rfl | ⟨2, _⟩ => rfl | ⟨3, _⟩ => rfl
  funext a; apply Fin.ext
  match a with
  | ⟨0, _⟩ => show win0_9.index t (0 : Fin 4) * _ + 1 * (j 0).val = (j 0).val; rw [h]; show 0 * _ + 1 * (j 0).val = (j 0).val; omega
  | ⟨1, _⟩ => show win0_9.index t (1 : Fin 4) * _ + 1 * (j 1).val = (j 1).val; rw [h]; show 0 * _ + 1 * (j 1).val = (j 1).val; omega
  | ⟨2, _⟩ => show win0_9.index t (2 : Fin 4) * _ + 1 * (j 2).val = (j 2).val; rw [h]; show 0 * _ + 1 * (j 2).val = (j 2).val; omega
  | ⟨3, _⟩ => show win0_9.index t (3 : Fin 4) * _ + 1 * (j 3).val = (j 3).val; rw [h]; show 0 * _ + 1 * (j 3).val = (j 3).val; omega
theorem emb10 (t : Fin cfg0.N) (j : S12x1536x8x96.Idx) : ((cfg0.win 10).blk t).view.emb j = j := by
  have h : win0_10.index t = fun _ => 0 := by funext a; match a with | ⟨0, _⟩ => rfl | ⟨1, _⟩ => rfl | ⟨2, _⟩ => rfl | ⟨3, _⟩ => rfl
  funext a; apply Fin.ext
  match a with
  | ⟨0, _⟩ => show win0_10.index t (0 : Fin 4) * _ + 1 * (j 0).val = (j 0).val; rw [h]; show 0 * _ + 1 * (j 0).val = (j 0).val; omega
  | ⟨1, _⟩ => show win0_10.index t (1 : Fin 4) * _ + 1 * (j 1).val = (j 1).val; rw [h]; show 0 * _ + 1 * (j 1).val = (j 1).val; omega
  | ⟨2, _⟩ => show win0_10.index t (2 : Fin 4) * _ + 1 * (j 2).val = (j 2).val; rw [h]; show 0 * _ + 1 * (j 2).val = (j 2).val; omega
  | ⟨3, _⟩ => show win0_10.index t (3 : Fin 4) * _ + 1 * (j 3).val = (j 3).val; rw [h]; show 0 * _ + 1 * (j 3).val = (j 3).val; omega
theorem emb11 (t : Fin cfg0.N) (j : S12x1536x32.Idx) : ((cfg0.win 11).blk t).view.emb j = j := by
  have h : win0_11.index t = fun _ => 0 := by funext a; match a with | ⟨0, _⟩ => rfl | ⟨1, _⟩ => rfl | ⟨2, _⟩ => rfl
  funext a; apply Fin.ext
  match a with
  | ⟨0, _⟩ => show win0_11.index t (0 : Fin 3) * _ + 1 * (j 0).val = (j 0).val; rw [h]; show 0 * _ + 1 * (j 0).val = (j 0).val; omega
  | ⟨1, _⟩ => show win0_11.index t (1 : Fin 3) * _ + 1 * (j 1).val = (j 1).val; rw [h]; show 0 * _ + 1 * (j 1).val = (j 1).val; omega
  | ⟨2, _⟩ => show win0_11.index t (2 : Fin 3) * _ + 1 * (j 2).val = (j 2).val; rw [h]; show 0 * _ + 1 * (j 2).val = (j 2).val; omega

/-- The input blocks are the arguments. -/
theorem iblk0_eq (t : Fin cfg0.N) : iblk m c 0 t = B0 m c := by
  funext j
  exact congrArg (B0 m c) (emb0 t j)
theorem iblk1_eq (t : Fin cfg0.N) : iblk m c 1 t = B2 m c := by
  funext j
  exact congrArg (B2 m c) (emb1 t j)
theorem iblk2_eq (t : Fin cfg0.N) : iblk m c 2 t = B3 m c := by
  funext j
  exact congrArg (B3 m c) (emb2 t j)
theorem iblk3_eq (t : Fin cfg0.N) : iblk m c 3 t = B6 m c := by
  funext j
  exact congrArg (B6 m c) (emb3 t j)
theorem iblk4_eq (t : Fin cfg0.N) : iblk m c 4 t = B7 m c := by
  funext j
  exact congrArg (B7 m c) (emb4 t j)
theorem iblk5_eq (t : Fin cfg0.N) : iblk m c 5 t = B1 m c := by
  funext j
  exact congrArg (B1 m c) (emb5 t j)

/-- The region's output arrays: the codes widened, and the query scales times the score scale. -/
theorem out6 : (dats m 0 c).arrAt 6 cfg0.N = B0 m c := by
  refine (dats m 0 c).arrAt_eq_of_covers 6 _ (by decide +kernel) fun t hf y => ?_
  blk_simp
  rw [after0_6, iblk0_eq, iblk1_eq, iblk2_eq, iblk3_eq, iblk4_eq, iblk5_eq, out0_6]
  change S12x1536x32x96.Idx at y
  rw [emb6 t y]
  refine (congrFun (View.canon_cons_unit_lit inb_S12x1536x32x96_S12x1536x32x96_0_0_0_0 _ [] (by decide)) y).trans ?_
  rw [View.ld_unit_lit inb_S12x1536x32x96_S12x1536x32x96_0_0_0_0 _ (by decide)]
  rfl
theorem out7 : (dats m 0 c).arrAt 7 cfg0.N = B2 m c := by
  refine (dats m 0 c).arrAt_eq_of_covers 7 _ (by decide +kernel) fun t hf y => ?_
  blk_simp
  rw [after0_7, iblk0_eq, iblk1_eq, iblk2_eq, iblk3_eq, iblk4_eq, iblk5_eq, out0_7]
  change S16384x8x96.Idx at y
  rw [emb7 t y]
  refine (congrFun (View.canon_cons_unit_lit inb_S16384x8x96_S16384x8x96_0_0_0 _ [] (by decide)) y).trans ?_
  rw [View.ld_unit_lit inb_S16384x8x96_S16384x8x96_0_0_0 _ (by decide)]
  rfl
theorem out8 : (dats m 0 c).arrAt 8 cfg0.N = B3 m c := by
  refine (dats m 0 c).arrAt_eq_of_covers 8 _ (by decide +kernel) fun t hf y => ?_
  blk_simp
  rw [after0_8, iblk0_eq, iblk1_eq, iblk2_eq, iblk3_eq, iblk4_eq, iblk5_eq, out0_8]
  change S16384x8x96.Idx at y
  rw [emb8 t y]
  refine (congrFun (View.canon_cons_unit_lit inb_S16384x8x96_S16384x8x96_0_0_0 _ [] (by decide)) y).trans ?_
  rw [View.ld_unit_lit inb_S16384x8x96_S16384x8x96_0_0_0 _ (by decide)]
  rfl
theorem out9 : (dats m 0 c).arrAt 9 cfg0.N = B6 m c := by
  refine (dats m 0 c).arrAt_eq_of_covers 9 _ (by decide +kernel) fun t hf y => ?_
  blk_simp
  rw [after0_9, iblk0_eq, iblk1_eq, iblk2_eq, iblk3_eq, iblk4_eq, iblk5_eq, out0_9]
  change S12x1536x8x96.Idx at y
  rw [emb9 t y]
  refine (congrFun (View.canon_cons_unit_lit inb_S12x1536x8x96_S12x1536x8x96_0_0_0_0 _ [] (by decide)) y).trans ?_
  rw [View.ld_unit_lit inb_S12x1536x8x96_S12x1536x8x96_0_0_0_0 _ (by decide)]
  rfl
theorem out10 : (dats m 0 c).arrAt 10 cfg0.N = B7 m c := by
  refine (dats m 0 c).arrAt_eq_of_covers 10 _ (by decide +kernel) fun t hf y => ?_
  blk_simp
  rw [after0_10, iblk0_eq, iblk1_eq, iblk2_eq, iblk3_eq, iblk4_eq, iblk5_eq, out0_10]
  change S12x1536x8x96.Idx at y
  rw [emb10 t y]
  refine (congrFun (View.canon_cons_unit_lit inb_S12x1536x8x96_S12x1536x8x96_0_0_0_0 _ [] (by decide)) y).trans ?_
  rw [View.ld_unit_lit inb_S12x1536x8x96_S12x1536x8x96_0_0_0_0 _ (by decide)]
  rfl
theorem out11 : (dats m 0 c).arrAt 11 cfg0.N = (fun y => B1 m c y * Cert.KernelIdeal.Gen.sc : S12x1536x32.Idx → EReal) := by
  refine (dats m 0 c).arrAt_eq_of_covers 11 _ (by decide +kernel) fun t hf y => ?_
  blk_simp
  rw [after0_11, iblk0_eq, iblk1_eq, iblk2_eq, iblk3_eq, iblk4_eq, iblk5_eq, out0_11]
  change S12x1536x32.Idx at y
  rw [emb11 t y]
  refine (congrFun (View.canon_cons_unit_lit inb_S12x1536x32_S12x1536x32_0_0_0 _ [] (by decide)) y).trans ?_
  rw [View.ld_unit_lit inb_S12x1536x32_S12x1536x32_0_0_0 _ (by decide)]
  exact congrArg (B1 m c y * ·) (IdealRules.named_const.ideal_named_scalar (φ := .f32) _ _ _ _ rfl)

end Cert.ReferenceIdeal.Gen
-- ==== Proof.RTail.lean ====
module

public import proofs.«01_k».proof.Proof.RRegion
public import proofs.«01_k».proof.Proof.Spec
public import Idealize.ShloMosaic.Lib.Claim
public import Idealize.ShloMosaic.Lib.WordCmp

/-!
The reference's host lines as functions of arrays, and what each holds at coordinates: scores, softmax, log-sum-exp,
and the merge of the two softmaxes.
-/

@[expose] public section

set_option maxRecDepth 16384
set_option maxHeartbeats 100000

noncomputable section

namespace Cert.ReferenceIdeal.Gen

open Idealize.ShloMosaic Idealize.ShloMosaic.TcCoe Idealize.ShloMosaic.Tactic
open Idealize.SL Idealize.SL.Sem
open Cert.Attn

/-- A maximum and a sum over all indices, as ones over a range. -/
theorem fold_range {n : ℕ} (f : Fin n → EReal) (S : ℕ → EReal) (h : ∀ j : Fin n, f j = S j.val) : Finset.fold max (⊥ : EReal) f Finset.univ = rmax S n := by
  show (Finset.univ : Finset (Fin n)).sup f = _
  refine le_antisymm (Finset.sup_le fun j _ => ?_) (Finset.sup_le fun j hj => ?_)
  · rw [h j]; exact Finset.le_sup (f := S) (Finset.mem_range.2 j.isLt)
  · have hj' := Finset.mem_range.1 hj
    have := Finset.le_sup (f := f) (Finset.mem_univ (⟨j, hj'⟩ : Fin n))
    rwa [h] at this
theorem sum_range_of {n : ℕ} (f : Fin n → EReal) (S : ℕ → EReal) (h : ∀ j : Fin n, f j = S j.val) : (∑ j, f j) = ∑ j ∈ Finset.range n, S j := by
  rw [Finset.sum_range]; exact Finset.sum_congr rfl fun j _ => h j
theorem rlse_eq (s : ℕ → EReal) (n : ℕ) : rlse s n = rmax s n + Ideal.log (rden s n) := rfl
theorem rout_eq (s vs v : ℕ → EReal) (n : ℕ) : rout s vs v n = Ideal.div (∑ j ∈ Finset.range n, Ideal.exp (s j - rmax s n) * vs j * v j) (rden s n) := rfl
theorem addlog {s : Shape} (a d : FVec Ideal s .f32) (i : s.Idx) : addf a (Host.log d) i = a i + Ideal.log (d i) := rfl
theorem ofNat_val (n : ℕ) [NeZero n] (j : Fin n) : Fin.ofNat n j.val = j := Fin.ext (Nat.mod_eq_of_lt j.isLt)

/-- The prompt's scores before any mask; their maximum; weights, their sum, the log-sum-exp; the weighted mean. -/
def tScoreP (q : FVec Ideal S12x1536x32x96 .f32) (z : FVec Ideal S12x1536x32 .f32) (k : FVec Ideal S16384x8x96 .f32) (a : FVec Ideal S16384x8 .f32) : FVec Ideal S12x1536x8x4x16384 .f32 :=
  mulf (mulf (transpose S12x1536x8x4x16384 [2, 3, 0, 4, 1] (Host.dotGeneral dot_S16384x8x96_S12x1536x8x4x96_S8x16384x12x1536x4_2_4_0_013_1_2 none k (shapeCast S12x1536x8x4x96 q shapeCasts_S12x1536x32x96_S12x1536x8x4x96)) transposes_S8x16384x12x1536x4_S12x1536x8x4x16384_2_3_0_4_1)
    (broadcastInDim S12x1536x8x4x16384 ![0, 1, 2, 3, 4] bcast_S12x1536x8x4x1_S12x1536x8x4x16384_0_1_2_3_4 (broadcastInDim S12x1536x8x4x1 ![0, 1, 2, 3] bcast_S12x1536x8x4_S12x1536x8x4x1_0_1_2_3 (shapeCast S12x1536x8x4 z shapeCasts_S12x1536x32_S12x1536x8x4))))
   (broadcastInDim S12x1536x8x4x16384 ![0, 1, 2, 3, 4] bcast_S1x1x8x1x16384_S12x1536x8x4x16384_0_1_2_3_4 (broadcastInDim S1x1x8x1x16384 ![2, 4] bcast_S8x16384_S1x1x8x1x16384_2_4 (transpose S8x16384 [1, 0] a transposes_S16384x8_S8x16384_1_0)))
def tMaxP (x : FVec Ideal S12x1536x8x4x16384 .f32) : FVec Ideal S12x1536x8x4 .f32 :=
  Host.reduce FloatOps.maximumf x (constant S_ .f32 0xFF800000#32) reducesTo_S12x1536x8x4x16384_S12x1536x8x4_d4 h_S_
def tExpP (x : FVec Ideal S12x1536x8x4x16384 .f32) : FVec Ideal S12x1536x8x4x16384 .f32 :=
  Host.exp (subf x (broadcastInDim S12x1536x8x4x16384 ![0, 1, 2, 3, 4] bcast_S12x1536x8x4x1_S12x1536x8x4x16384_0_1_2_3_4 (broadcastInDim S12x1536x8x4x1 ![0, 1, 2, 3] bcast_S12x1536x8x4_S12x1536x8x4x1_0_1_2_3 (tMaxP x))))
def tDenP (x : FVec Ideal S12x1536x8x4x16384 .f32) : FVec Ideal S12x1536x8x4 .f32 :=
  Host.reduceAdd (tExpP x) (constant S_ .f32 0x00000000#32) reducesTo_S12x1536x8x4x16384_S12x1536x8x4_d4 h_S_
def tLseP (x : FVec Ideal S12x1536x8x4x16384 .f32) : FVec Ideal S12x1536x8x4 .f32 := addf (tMaxP x) (Host.log (tDenP x))
def tOutP (v : FVec Ideal S16384x8x96 .bf16) (a : FVec Ideal S16384x8 .f32) (x : FVec Ideal S12x1536x8x4x16384 .f32) : FVec Ideal S12x1536x8x4x96 .f32 :=
  Host.divf (transpose S12x1536x8x4x96 [2, 3, 0, 4, 1] (Host.dotGeneral dot_S16384x8x96_S12x1536x8x4x16384_S8x96x12x1536x4_0_4_2_013_1_2 none v (truncf .bf16 (mulf (tExpP x) (broadcastInDim S12x1536x8x4x16384 ![0, 1, 2, 3, 4] bcast_S1x1x8x1x16384_S12x1536x8x4x16384_0_1_2_3_4 (broadcastInDim S1x1x8x1x16384 ![2, 4] bcast_S8x16384_S1x1x8x1x16384_2_4 (transpose S8x16384 [1, 0] a transposes_S16384x8_S8x16384_1_0)))) bitsLt_bf16_f32)) transposes_S8x96x12x1536x4_S12x1536x8x4x96_2_3_0_4_1)
    (broadcastInDim S12x1536x8x4x96 ![0, 1, 2, 3, 4] bcast_S12x1536x8x4x1_S12x1536x8x4x96_0_1_2_3_4 (broadcastInDim S12x1536x8x4x1 ![0, 1, 2, 3] bcast_S12x1536x8x4_S12x1536x8x4x1_0_1_2_3 (tDenP x)))

section
variable (b : Fin 12) (s : Fin 1536) (h : Fin 8) (g : Fin 4)

theorem tScoreP_at (q : FVec Ideal S12x1536x32x96 .f32) (z : FVec Ideal S12x1536x32 .f32) (k : FVec Ideal S16384x8x96 .f32) (a : FVec Ideal S16384x8 .f32) (j : Fin 16384) : tScoreP q z k a (ix5 b s h g j)
    = (∑ d, k (ix3 j h d) * q (ix4 b s (hd h g) d)) * z (ix3 b s (hd h g)) * a (ix2 j h) := by
  have e : ∀ p, (⟨h.val * 4 + g.val, p⟩ : Fin 32) = hd h g := fun p => Fin.ext (by show h.val * 4 + g.val = 4 * h.val + g.val; omega)
  pointwise [tScoreP]
  simp only [e]
theorem tMaxP_at (x : FVec Ideal S12x1536x8x4x16384 .f32) (S : ℕ → EReal) (hS : ∀ j : Fin 16384, x (ix5 b s h g j) = S j.val) : tMaxP x (ix4 b s h g) = rmax S 16384 := by
  pointwise [tMaxP]
  rw [Cert.KernelIdeal.Gen.ninf]
  exact fold_range _ S hS
theorem tExpP_at (x : FVec Ideal S12x1536x8x4x16384 .f32) (S : ℕ → EReal) (hS : ∀ j : Fin 16384, x (ix5 b s h g j) = S j.val) (j : Fin 16384) : tExpP x (ix5 b s h g j) = Ideal.exp (S j.val - rmax S 16384) := by
  pointwise [tExpP]
  rw [hS, tMaxP_at b s h g x S hS]
theorem tDenP_at (x : FVec Ideal S12x1536x8x4x16384 .f32) (S : ℕ → EReal) (hS : ∀ j : Fin 16384, x (ix5 b s h g j) = S j.val) : tDenP x (ix4 b s h g) = rden S 16384 := by
  pointwise [tDenP]
  exact sum_range_of _ (fun j => Ideal.exp (S j - rmax S 16384)) fun j => tExpP_at b s h g x S hS j
theorem tLseP_at (x : FVec Ideal S12x1536x8x4x16384 .f32) (S : ℕ → EReal) (hS : ∀ j : Fin 16384, x (ix5 b s h g j) = S j.val) : tLseP x (ix4 b s h g) = rlse S 16384 := by
  unfold tLseP
  rw [addlog, tMaxP_at b s h g x S hS, tDenP_at b s h g x S hS, rlse_eq]
theorem tOutP_at (v : FVec Ideal S16384x8x96 .bf16) (a : FVec Ideal S16384x8 .f32) (x : FVec Ideal S12x1536x8x4x16384 .f32) (S : ℕ → EReal) (hS : ∀ j : Fin 16384, x (ix5 b s h g j) = S j.val) (e : Fin 96) : tOutP v a x (ix5 b s h g e)
    = rout S (fun j => a (ix2 (Fin.ofNat 16384 j) h)) (fun j => v (ix3 (Fin.ofNat 16384 j) h e)) 16384 := by
  pointwise [tOutP]
  rw [tDenP_at b s h g x S hS, rout_eq]
  refine congrArg (fun z => Ideal.div z (rden S 16384)) (sum_range_of _ (fun j => Ideal.exp (S j - rmax S 16384) * a (ix2 (Fin.ofNat 16384 j) h) * v (ix3 (Fin.ofNat 16384 j) h e)) fun j => ?_)
  rw [tExpP_at b s h g x S hS j, ofNat_val]
  exact mul_comm _ _
end

/-- The completion's scores before any mask; their maximum; weights, their sum, the log-sum-exp; the weighted mean. -/
def tScoreC (q : FVec Ideal S12x1536x32x96 .f32) (z : FVec Ideal S12x1536x32 .f32) (k : FVec Ideal S12x1536x8x96 .f32) (a : FVec Ideal S12x1536x8 .f32) : FVec Ideal S12x1536x8x4x1536 .f32 :=
  mulf (mulf (transpose S12x1536x8x4x1536 [0, 3, 1, 4, 2] (Host.dotGeneral dot_S12x1536x8x96_S12x1536x8x4x96_S12x8x1536x1536x4_3_4_1_13_02_02 none k (shapeCast S12x1536x8x4x96 q shapeCasts_S12x1536x32x96_S12x1536x8x4x96)) transposes_S12x8x1536x1536x4_S12x1536x8x4x1536_0_3_1_4_2)
    (broadcastInDim S12x1536x8x4x1536 ![0, 1, 2, 3, 4] bcast_S12x1536x8x4x1_S12x1536x8x4x1536_0_1_2_3_4 (broadcastInDim S12x1536x8x4x1 ![0, 1, 2, 3] bcast_S12x1536x8x4_S12x1536x8x4x1_0_1_2_3 (shapeCast S12x1536x8x4 z shapeCasts_S12x1536x32_S12x1536x8x4))))
   (broadcastInDim S12x1536x8x4x1536 ![0, 1, 2, 3, 4] bcast_S12x1x8x1x1536_S12x1536x8x4x1536_0_1_2_3_4 (broadcastInDim S12x1x8x1x1536 ![0, 2, 4] bcast_S12x8x1536_S12x1x8x1x1536_0_2_4 (transpose S12x8x1536 [0, 2, 1] a transposes_S12x1536x8_S12x8x1536_0_2_1)))
def tMaxC (x : FVec Ideal S12x1536x8x4x1536 .f32) : FVec Ideal S12x1536x8x4 .f32 :=
  Host.reduce FloatOps.maximumf x (constant S_ .f32 0xFF800000#32) reducesTo_S12x1536x8x4x1536_S12x1536x8x4_d4 h_S_
def tExpC (x : FVec Ideal S12x1536x8x4x1536 .f32) : FVec Ideal S12x1536x8x4x1536 .f32 :=
  Host.exp (subf x (broadcastInDim S12x1536x8x4x1536 ![0, 1, 2, 3, 4] bcast_S12x1536x8x4x1_S12x1536x8x4x1536_0_1_2_3_4 (broadcastInDim S12x1536x8x4x1 ![0, 1, 2, 3] bcast_S12x1536x8x4_S12x1536x8x4x1_0_1_2_3 (tMaxC x))))
def tDenC (x : FVec Ideal S12x1536x8x4x1536 .f32) : FVec Ideal S12x1536x8x4 .f32 :=
  Host.reduceAdd (tExpC x) (constant S_ .f32 0x00000000#32) reducesTo_S12x1536x8x4x1536_S12x1536x8x4_d4 h_S_
def tLseC (x : FVec Ideal S12x1536x8x4x1536 .f32) : FVec Ideal S12x1536x8x4 .f32 := addf (tMaxC x) (Host.log (tDenC x))
def tOutC (v : FVec Ideal S12x1536x8x96 .bf16) (a : FVec Ideal S12x1536x8 .f32) (x : FVec Ideal S12x1536x8x4x1536 .f32) : FVec Ideal S12x1536x8x4x96 .f32 :=
  Host.divf (transpose S12x1536x8x4x96 [0, 3, 1, 4, 2] (Host.dotGeneral dot_S12x1536x8x96_S12x1536x8x4x1536_S12x8x96x1536x4_1_4_3_13_02_02 none v (truncf .bf16 (mulf (tExpC x) (broadcastInDim S12x1536x8x4x1536 ![0, 1, 2, 3, 4] bcast_S12x1x8x1x1536_S12x1536x8x4x1536_0_1_2_3_4 (broadcastInDim S12x1x8x1x1536 ![0, 2, 4] bcast_S12x8x1536_S12x1x8x1x1536_0_2_4 (transpose S12x8x1536 [0, 2, 1] a transposes_S12x1536x8_S12x8x1536_0_2_1)))) bitsLt_bf16_f32)) transposes_S12x8x96x1536x4_S12x1536x8x4x96_0_3_1_4_2)
    (broadcastInDim S12x1536x8x4x96 ![0, 1, 2, 3, 4] bcast_S12x1536x8x4x1_S12x1536x8x4x96_0_1_2_3_4 (broadcastInDim S12x1536x8x4x1 ![0, 1, 2, 3] bcast_S12x1536x8x4_S12x1536x8x4x1_0_1_2_3 (tDenC x)))

section
variable (b : Fin 12) (s : Fin 1536) (h : Fin 8) (g : Fin 4)

theorem tScoreC_at (q : FVec Ideal S12x1536x32x96 .f32) (z : FVec Ideal S12x1536x32 .f32) (k : FVec Ideal S12x1536x8x96 .f32) (a : FVec Ideal S12x1536x8 .f32) (j : Fin 1536) : tScoreC q z k a (ix5 b s h g j)
    = (∑ d, k (ix4 b j h d) * q (ix4 b s (hd h g) d)) * z (ix3 b s (hd h g)) * a (ix3 b j h) := by
  have e : ∀ p, (⟨h.val * 4 + g.val, p⟩ : Fin 32) = hd h g := fun p => Fin.ext (by show h.val * 4 + g.val = 4 * h.val + g.val; omega)
  pointwise [tScoreC]
  simp only [e]
theorem tMaxC_at (x : FVec Ideal S12x1536x8x4x1536 .f32) (S : ℕ → EReal) (hS : ∀ j : Fin 1536, x (ix5 b s h g j) = S j.val) : tMaxC x (ix4 b s h g) = rmax S 1536 := by
  pointwise [tMaxC]
  rw [Cert.KernelIdeal.Gen.ninf]
  exact fold_range _ S hS
theorem tExpC_at (x : FVec Ideal S12x1536x8x4x1536 .f32) (S : ℕ → EReal) (hS : ∀ j : Fin 1536, x (ix5 b s h g j) = S j.val) (j : Fin 1536) : tExpC x (ix5 b s h g j) = Ideal.exp (S j.val - rmax S 1536) := by
  pointwise [tExpC]
  rw [hS, tMaxC_at b s h g x S hS]
theorem tDenC_at (x : FVec Ideal S12x1536x8x4x1536 .f32) (S : ℕ → EReal) (hS : ∀ j : Fin 1536, x (ix5 b s h g j) = S j.val) : tDenC x (ix4 b s h g) = rden S 1536 := by
  pointwise [tDenC]
  exact sum_range_of _ (fun j => Ideal.exp (S j - rmax S 1536)) fun j => tExpC_at b s h g x S hS j
theorem tLseC_at (x : FVec Ideal S12x1536x8x4x1536 .f32) (S : ℕ → EReal) (hS : ∀ j : Fin 1536, x (ix5 b s h g j) = S j.val) : tLseC x (ix4 b s h g) = rlse S 1536 := by
  unfold tLseC
  rw [addlog, tMaxC_at b s h g x S hS, tDenC_at b s h g x S hS, rlse_eq]
theorem tOutC_at (v : FVec Ideal S12x1536x8x96 .bf16) (a : FVec Ideal S12x1536x8 .f32) (x : FVec Ideal S12x1536x8x4x1536 .f32) (S : ℕ → EReal) (hS : ∀ j : Fin 1536, x (ix5 b s h g j) = S j.val) (e : Fin 96) : tOutC v a x (ix5 b s h g e)
    = rout S (fun j => a (ix3 b (Fin.ofNat 1536 j) h)) (fun j => v (ix4 b (Fin.ofNat 1536 j) h e)) 1536 := by
  pointwise [tOutC]
  rw [tDenC_at b s h g x S hS, rout_eq]
  refine congrArg (fun z => Ideal.div z (rden S 1536)) (sum_range_of _ (fun j => Ideal.exp (S j - rmax S 1536) * a (ix3 b (Fin.ofNat 1536 j) h) * v (ix4 b (Fin.ofNat 1536 j) h e)) fun j => ?_)
  rw [tExpC_at b s h g x S hS j, ofNat_val]
  exact mul_comm _ _
end

/-- The causal mask and the masked scores. -/
def tMask : S1x1536x1x1x1536.Idx → BitVec 1 :=
  broadcastInDim S1x1536x1x1x1536 ![1, 4] bcast_S1536x1536_S1x1536x1x1x1536_1_4 (cmpi .sle (broadcastInDim S1536x1536 ![0, 1] bcast_S1x1536_S1536x1536_0_1 (broadcastInDim S1x1536 ![1] bcast_S1536_S1x1536_1 (iotaInDim S1536 32 0)))
    (broadcastInDim S1536x1536 ![0, 1] bcast_S1536x1_S1536x1536_0_1 (broadcastInDim S1536x1 ![0] bcast_S1536_S1536x1_0 (iotaInDim S1536 32 0))))
def tCut (x : FVec Ideal S12x1536x8x4x1536 .f32) : FVec Ideal S12x1536x8x4x1536 .f32 :=
  select (broadcastInDim S12x1536x8x4x1536 ![0, 1, 2, 3, 4] bcast_S1x1536x1x1x1536_S12x1536x8x4x1536_0_1_2_3_4 tMask) x (broadcastInDim S12x1536x8x4x1536 ![] bcast_S_S12x1536x8x4x1536 (constant S_ .f32 0xFF800000#32))
/-- The merged log-sum-exp, the merged output, and the two relative log-sum-exps. -/
def tAdd (p q : FVec Ideal S12x1536x8x4 .f32) : FVec Ideal S12x1536x8x4 .f32 :=
  select (cmpf .une (subf p q) (subf p q)) (addf p q) (addf (maximumf p q) (Host.log1p (Host.exp (Host.negf (Host.absf (subf p q))))))
def tW (p q : FVec Ideal S12x1536x8x4 .f32) : FVec Ideal S12x1536x8x4x96 .f32 :=
  broadcastInDim S12x1536x8x4x96 ![0, 1, 2, 3, 4] bcast_S12x1536x8x4x1_S12x1536x8x4x96_0_1_2_3_4 (broadcastInDim S12x1536x8x4x1 ![0, 1, 2, 3] bcast_S12x1536x8x4_S12x1536x8x4x1_0_1_2_3 (Host.exp (subf p q)))
def tMerge (p q : FVec Ideal S12x1536x8x4 .f32) (op oq : FVec Ideal S12x1536x8x4x96 .f32) : FVec Ideal S12x1536x3072 .bf16 :=
  shapeCast S12x1536x3072 (truncf .bf16 (addf (mulf (tW p (tAdd p q)) op) (mulf (tW q (tAdd p q)) oq)) bitsLt_bf16_f32) shapeCasts_S12x1536x8x4x96_S12x1536x3072
def tResP (p : FVec Ideal S12x1536x8x4 .f32) : FVec Ideal S12x1536x32 .f32 :=
  shapeCast S12x1536x32 (subf p (broadcastInDim S12x1536x8x4 ![] bcast_S_S12x1536x8x4 (constant S_ .f32 0x411B43D5#32))) shapeCasts_S12x1536x8x4_S12x1536x32
def tResC (q : FVec Ideal S12x1536x8x4 .f32) : FVec Ideal S12x1536x32 .f32 :=
  shapeCast S12x1536x32 (subf q (broadcastInDim S12x1536x8x4 ![0, 1, 2, 3] bcast_S1x1536x1x1_S12x1536x8x4_0_1_2_3 (broadcastInDim S1x1536x1x1 ![1] bcast_S1536_S1x1536x1x1_1 (Host.log (addf (broadcastInDim S1536 ![] bcast_S_S1536 (constant S_ .f32 0x3F800000#32)) (sitofp .f32 (iotaInDim S1536 32 0))))))) shapeCasts_S12x1536x8x4_S12x1536x32

section
variable (b : Fin 12) (s : Fin 1536) (h : Fin 8) (g : Fin 4)

theorem tCut_at (x : FVec Ideal S12x1536x8x4x1536 .f32) (j : Fin 1536) : tCut x (ix5 b s h g j) = if j.val ≤ s.val then x (ix5 b s h g j) else ⊥ := by
  pointwise [tCut, tMask]
  rw [Cert.KernelIdeal.Gen.ninf]
  have hj := j.isLt
  have hs := s.isLt
  by_cases hc : j.val ≤ s.val
  · rw [if_pos hc, (WordCmp.cmpi_sle_ofNat_eq_one_iff (w := 32) (by omega) (by omega)).2 hc]; rfl
  · rw [if_neg hc, (WordCmp.cmpi_sle_ofNat_eq_zero_iff (w := 32) (by omega) (by omega)).2 (by omega)]; rfl
theorem tAdd_at (p q : FVec Ideal S12x1536x8x4 .f32) (hp : p (ix4 b s h g) ≠ ⊤) (hq : q (ix4 b s h g) ≠ ⊤) : tAdd p q (ix4 b s h g)
    = (max (p (ix4 b s h g)) (q (ix4 b s h g)) + Ideal.log (Ideal.exp (p (ix4 b s h g) - max (p (ix4 b s h g)) (q (ix4 b s h g))) + Ideal.exp (q (ix4 b s h g) - max (p (ix4 b s h g)) (q (ix4 b s h g))))) := by
  rw [logaddexp_eq hp hq]
  pointwise [tAdd]
  rw [if_neg (fun hne => hne rfl)]
  rfl
theorem tMerge_at (p q : FVec Ideal S12x1536x8x4 .f32) (op oq : FVec Ideal S12x1536x8x4x96 .f32) (hp : p (ix4 b s h g) ≠ ⊤) (hq : q (ix4 b s h g) ≠ ⊤) (e : Fin 96) : tMerge p q op oq (ix3 b s (co h g e))
    = Cert.KernelIdeal.Gen.kmerge (p (ix4 b s h g)) (q (ix4 b s h g)) (op (ix5 b s h g e)) (oq (ix5 b s h g e)) := by
  refine (shapeCast_apply _ _ _ (ix5 b s h g e) ?_).trans ?_
  · rw [Shape.rowMajor_val_five, Shape.rowMajor_val_three]
    show (((b.val * 1536 + s.val) * 8 + h.val) * 4 + g.val) * 96 + e.val = (b.val * 1536 + s.val) * 3072 + (384 * h.val + (96 * g.val + e.val))
    omega
  · pointwise [tW]
    rw [tAdd_at b s h g p q hp hq]
    rfl
theorem tResP_at (p : FVec Ideal S12x1536x8x4 .f32) : tResP p (ix3 b s (hd h g)) = p (ix4 b s h g) - Ideal.ofBits .f32 0x411B43D5#32 := by
  refine (shapeCast_apply _ _ _ (ix4 b s h g) ?_).trans ?_
  · rw [Shape.rowMajor_val_four, Shape.rowMajor_val_three]
    show ((b.val * 1536 + s.val) * 8 + h.val) * 4 + g.val = (b.val * 1536 + s.val) * 32 + (4 * h.val + g.val)
    omega
  · pointwise
theorem tResC_at (q : FVec Ideal S12x1536x8x4 .f32) : tResC q (ix3 b s (hd h g)) = q (ix4 b s h g) - Ideal.log (((s.val + 1 : ℕ) : ℝ) : EReal) := by
  refine (shapeCast_apply _ _ _ (ix4 b s h g) ?_).trans ?_
  · rw [Shape.rowMajor_val_four, Shape.rowMajor_val_three]
    show ((b.val * 1536 + s.val) * 8 + h.val) * 4 + g.val = (b.val * 1536 + s.val) * 32 + (4 * h.val + g.val)
    omega
  · pointwise
    have hs := s.isLt
    have e2 : (BitVec.ofNat 32 s.val).toInt = (s.val : ℤ) := by
      rw [BitVec.toInt_eq_toNat_of_lt (by rw [BitVec.toNat_ofNat]; omega), BitVec.toNat_ofNat, Nat.mod_eq_of_lt (by omega)]
    have e3 : FloatOps.sitofp (F := Ideal) FTy.f32 (BitVec.ofNat 32 s.val) = (((s.val : ℕ) : ℝ) : EReal) := by
      show ((((BitVec.ofNat 32 s.val).toInt : ℝ)) : EReal) = _
      rw [e2, Int.cast_natCast]
    rw [e3, ← EReal.coe_one, ← EReal.coe_add, Nat.cast_add, Nat.cast_one, add_comm]
end

end Cert.ReferenceIdeal.Gen
-- ==== Proof.RReads.lean ====
module

public import proofs.«01_k».proof.Proof.RTail

/-!
What each stretch of the reference's host lines leaves, from any contents before it.
-/

@[expose] public section

set_option maxRecDepth 16384
set_option maxHeartbeats 400000

noncomputable section

namespace Cert.ReferenceIdeal.Gen

open Idealize.ShloMosaic Idealize.ShloMosaic.TcCoe Idealize.ShloMosaic.Tactic
open Idealize.SL Idealize.SL.Sem
open Cert.Attn

variable (V : Valuation τ sig (Elt Ideal))

/-- The first stretch: both score arrays, the prompt's softmax, the mask. -/
theorem read13 : StableHlo.after hostOps1 V (Proc.devRef .tc main_v13) = tScoreP (V (Proc.devRef .tc main_v0_0)) (V (Proc.devRef .tc main_v0_5)) (V (Proc.devRef .tc main_v0_1)) (V (Proc.devRef .tc main_arg4)) := by
  simp only [hostOps1]
  after_results
  rfl
theorem read48 : StableHlo.after hostOps1 V (Proc.devRef .tc main_v48) = tScoreC (V (Proc.devRef .tc main_v0_0)) (V (Proc.devRef .tc main_v0_5)) (V (Proc.devRef .tc main_v0_3)) (V (Proc.devRef .tc main_arg8)) := by
  simp only [hostOps1]
  after_results
  rfl
theorem read43 : StableHlo.after hostOps1 V (Proc.devRef .tc main_v43) = tMask := by
  simp only [hostOps1]
  after_results
  rfl
theorem readc1 : StableHlo.after hostOps1 V (Proc.devRef .tc main_cst_1) = constant (F := Ideal) S_ .f32 0xFF800000#32 := by
  simp only [hostOps1]
  after_results
theorem read42 : StableHlo.after hostOps1 V (Proc.devRef .tc main_v42) = broadcastInDim S12x1x8x1x1536 ![0, 2, 4] bcast_S12x8x1536_S12x1x8x1x1536_0_2_4 (transpose S12x8x1536 [0, 2, 1] (V (Proc.devRef .tc main_arg9)) transposes_S12x1536x8_S12x8x1536_0_2_1) := by
  simp only [hostOps1]
  after_results
theorem read04 : StableHlo.after hostOps1 V (Proc.devRef .tc main_v0_4) = V (Proc.devRef .tc main_v0_4) := by
  simp only [hostOps1]
  after_results
theorem read29 : StableHlo.after hostOps1 V (Proc.devRef .tc main_v29) = tLseP (StableHlo.after hostOps1 V (Proc.devRef .tc main_v13)) := by
  simp only [hostOps1]
  after_results
  rfl
theorem read27 : StableHlo.after hostOps1 V (Proc.devRef .tc main_v27) = tOutP (V (Proc.devRef .tc main_v0_2)) (V (Proc.devRef .tc main_arg5)) (StableHlo.after hostOps1 V (Proc.devRef .tc main_v13)) := by
  simp only [hostOps1]
  after_results
  rfl

/-- The second stretch: the masked scores. -/
theorem read49 (h43 : V (Proc.devRef .tc main_v43) = tMask) (hc : V (Proc.devRef .tc main_cst_1) = constant (F := Ideal) S_ .f32 0xFF800000#32) :
    StableHlo.after hostOps1_1 V (Proc.devRef .tc main_v49) = tCut (V (Proc.devRef .tc main_v48)) := by
  simp only [hostOps1_1]
  after_results
  rw [h43, hc]
  rfl
theorem keep29 : StableHlo.after hostOps1_1 V (Proc.devRef .tc main_v29) = V (Proc.devRef .tc main_v29) := by
  simp only [hostOps1_1]
  after_results
theorem keep27 : StableHlo.after hostOps1_1 V (Proc.devRef .tc main_v27) = V (Proc.devRef .tc main_v27) := by
  simp only [hostOps1_1]
  after_results
theorem keep42 : StableHlo.after hostOps1_1 V (Proc.devRef .tc main_v42) = V (Proc.devRef .tc main_v42) := by
  simp only [hostOps1_1]
  after_results
theorem keep04 : StableHlo.after hostOps1_1 V (Proc.devRef .tc main_v0_4) = V (Proc.devRef .tc main_v0_4) := by
  simp only [hostOps1_1]
  after_results

/-- The third stretch: the completion's softmax, the merge, the results. -/
theorem read65 : StableHlo.after hostOps1_2 V (Proc.devRef .tc main_v65) = tLseC (V (Proc.devRef .tc main_v49)) := by
  simp only [hostOps1_2]
  after_results
  rfl
theorem read63 (a : FVec Ideal S12x1536x8 .f32) (h42 : V (Proc.devRef .tc main_v42) = broadcastInDim S12x1x8x1x1536 ![0, 2, 4] bcast_S12x8x1536_S12x1x8x1x1536_0_2_4 (transpose S12x8x1536 [0, 2, 1] a transposes_S12x1536x8_S12x8x1536_0_2_1)) :
    StableHlo.after hostOps1_2 V (Proc.devRef .tc main_v63) = tOutC (V (Proc.devRef .tc main_v0_4)) a (V (Proc.devRef .tc main_v49)) := by
  simp only [hostOps1_2]
  after_results
  rw [h42]
  rfl
theorem read97 : StableHlo.after hostOps1_2 V (Proc.devRef .tc main_v97) = tMerge (V (Proc.devRef .tc main_v29)) (StableHlo.after hostOps1_2 V (Proc.devRef .tc main_v65)) (V (Proc.devRef .tc main_v27)) (StableHlo.after hostOps1_2 V (Proc.devRef .tc main_v63)) := by
  simp only [hostOps1_2]
  after_results
  rfl
theorem read98 : StableHlo.after hostOps1_2 V (Proc.devRef .tc main_v98) = tResP (V (Proc.devRef .tc main_v29)) := by
  simp only [hostOps1_2]
  after_results
  rfl
theorem read99 : StableHlo.after hostOps1_2 V (Proc.devRef .tc main_v99) = tResC (StableHlo.after hostOps1_2 V (Proc.devRef .tc main_v65)) := by
  simp only [hostOps1_2]
  after_results
  rfl

end Cert.ReferenceIdeal.Gen
-- ==== Proof.RRun.lean ====
module

public import proofs.«01_k».proof.Proof.RReads

/-!
The reference's run with its three results named, and the results at coordinates: the same attention and the same
log-sum-exps.
-/

@[expose] public section

set_option maxRecDepth 16384
set_option maxHeartbeats 400000

noncomputable section

namespace Cert.ReferenceIdeal.Gen

open Idealize.ShloMosaic Idealize.ShloMosaic.TcCoe Idealize.ShloMosaic.Tactic
open Idealize.SL Idealize.SL.Sem
open Cert.Attn

variable (m : (ℓ : Loc nD τ sig) → Buf (Elt Ideal) ℓ) (ρ : Dev nD → PrngReg) (c : Dev nD)

/-- The scores, and the three results. -/
def X13 : FVec Ideal S12x1536x8x4x16384 .f32 := tScoreP (B0 m c) (fun y => B1 m c y * Cert.KernelIdeal.Gen.sc : S12x1536x32.Idx → EReal) (B2 m c) (B4 m c)
def X49 : FVec Ideal S12x1536x8x4x1536 .f32 := tCut (tScoreC (B0 m c) (fun y => B1 m c y * Cert.KernelIdeal.Gen.sc : S12x1536x32.Idx → EReal) (B6 m c) (B8 m c))
def R0 : S12x1536x3072.Idx → EReal := tMerge (tLseP (X13 m c)) (tLseC (X49 m c)) (tOutP (B3 m c) (B5 m c) (X13 m c)) (tOutC (B7 m c) (B9 m c) (X49 m c))
def R1 : S12x1536x32.Idx → EReal := tResP (tLseP (X13 m c))
def R2 : S12x1536x32.Idx → EReal := tResC (tLseC (X49 m c))

theorem arr_inj : Function.Injective (Pipeline.arrRef spec0) := by decide

/-- The buffers as the host lines after the region find them. -/
def W0 : Valuation τ sig (Elt Ideal) := Pipeline.withArrays (cfgs 0).spec c (V0 m c) fun w => (dats m 0 c).arrAt w (cfgs 0).N

theorem leave6 : W0 m c (Proc.devRef .tc main_v0_0) = B0 m c :=
  (Pipeline.withArrays_arr spec0 arr_inj c (V0 m c) (fun w => (dats m 0 c).arrAt w (cfgs 0).N) 6).trans (out6 m c)
theorem leave7 : W0 m c (Proc.devRef .tc main_v0_1) = B2 m c :=
  (Pipeline.withArrays_arr spec0 arr_inj c (V0 m c) (fun w => (dats m 0 c).arrAt w (cfgs 0).N) 7).trans (out7 m c)
theorem leave8 : W0 m c (Proc.devRef .tc main_v0_2) = B3 m c :=
  (Pipeline.withArrays_arr spec0 arr_inj c (V0 m c) (fun w => (dats m 0 c).arrAt w (cfgs 0).N) 8).trans (out8 m c)
theorem leave9 : W0 m c (Proc.devRef .tc main_v0_3) = B6 m c :=
  (Pipeline.withArrays_arr spec0 arr_inj c (V0 m c) (fun w => (dats m 0 c).arrAt w (cfgs 0).N) 9).trans (out9 m c)
theorem leave10 : W0 m c (Proc.devRef .tc main_v0_4) = B7 m c :=
  (Pipeline.withArrays_arr spec0 arr_inj c (V0 m c) (fun w => (dats m 0 c).arrAt w (cfgs 0).N) 10).trans (out10 m c)
theorem leave11 : W0 m c (Proc.devRef .tc main_v0_5) = (fun y => B1 m c y * Cert.KernelIdeal.Gen.sc : S12x1536x32.Idx → EReal) :=
  (Pipeline.withArrays_arr spec0 arr_inj c (V0 m c) (fun w => (dats m 0 c).arrAt w (cfgs 0).N) 11).trans (out11 m c)
theorem arg4_left : W0 m c (Proc.devRef .tc main_arg4) = B4 m c :=
  (Pipeline.withArrays_of_ne _ c (V0 m c) _ main_arg4 (by exact (by decide : ∀ w, Pipeline.arrRef spec0 w ≠ main_arg4))).trans (V_main_arg4 m c)
theorem arg5_left : W0 m c (Proc.devRef .tc main_arg5) = B5 m c :=
  (Pipeline.withArrays_of_ne _ c (V0 m c) _ main_arg5 (by exact (by decide : ∀ w, Pipeline.arrRef spec0 w ≠ main_arg5))).trans (V_main_arg5 m c)
theorem arg8_left : W0 m c (Proc.devRef .tc main_arg8) = B8 m c :=
  (Pipeline.withArrays_of_ne _ c (V0 m c) _ main_arg8 (by exact (by decide : ∀ w, Pipeline.arrRef spec0 w ≠ main_arg8))).trans (V_main_arg8 m c)
theorem arg9_left : W0 m c (Proc.devRef .tc main_arg9) = B9 m c :=
  (Pipeline.withArrays_of_ne _ c (V0 m c) _ main_arg9 (by exact (by decide : ∀ w, Pipeline.arrRef spec0 w ≠ main_arg9))).trans (V_main_arg9 m c)

/-- The buffers after the first stretch, and after the second. -/
def W1 : Valuation τ sig (Elt Ideal) := StableHlo.after hostOps1 (W0 m c)
def W2 : Valuation τ sig (Elt Ideal) := StableHlo.after hostOps1_1 (W1 m c)

theorem append_after (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

theorem tail_eq (b : Ref sig .tc) : Pipeline.afterTail₀ cfgs (dats m) 0 (V0 m) [hostOps1, hostOps1_1, hostOps1_2] c b = StableHlo.after hostOps1_2 (W2 m c) (Proc.devRef .tc b) := by
  show StableHlo.after (hostOps1 ++ (hostOps1_1 ++ (hostOps1_2 ++ []))) (W0 m c) (Proc.devRef .tc b) = _
  rw [append_after, append_after, List.append_nil]
  rfl

theorem w1_13 : W1 m c (Proc.devRef .tc main_v13) = X13 m c := by
  refine (read13 (W0 m c)).trans ?_
  rw [leave6, leave11, leave7, arg4_left]; rfl
theorem w1_48 : W1 m c (Proc.devRef .tc main_v48) = tScoreC (B0 m c) (fun y => B1 m c y * Cert.KernelIdeal.Gen.sc : S12x1536x32.Idx → EReal) (B6 m c) (B8 m c) := by
  refine (read48 (W0 m c)).trans ?_
  rw [leave6, leave11, leave9, arg8_left]
theorem w2_29 : W2 m c (Proc.devRef .tc main_v29) = tLseP (X13 m c) :=
  (keep29 (W1 m c)).trans ((read29 (W0 m c)).trans (congrArg tLseP (w1_13 m c)))
theorem w2_27 : W2 m c (Proc.devRef .tc main_v27) = tOutP (B3 m c) (B5 m c) (X13 m c) := by
  refine (keep27 (W1 m c)).trans ((read27 (W0 m c)).trans ?_)
  rw [leave8, arg5_left]
  exact congrArg (tOutP (B3 m c) (B5 m c)) (w1_13 m c)
theorem w2_42 : W2 m c (Proc.devRef .tc main_v42) = broadcastInDim S12x1x8x1x1536 ![0, 2, 4] bcast_S12x8x1536_S12x1x8x1x1536_0_2_4 (transpose S12x8x1536 [0, 2, 1] (B9 m c) transposes_S12x1536x8_S12x8x1536_0_2_1) := by
  refine (keep42 (W1 m c)).trans ((read42 (W0 m c)).trans ?_)
  rw [arg9_left]
theorem w2_04 : W2 m c (Proc.devRef .tc main_v0_4) = B7 m c :=
  (keep04 (W1 m c)).trans ((read04 (W0 m c)).trans (leave10 m c))
theorem w2_49 : W2 m c (Proc.devRef .tc main_v49) = X49 m c :=
  (read49 (W1 m c) (read43 (W0 m c)) (readc1 (W0 m c))).trans (congrArg tCut (w1_48 m c))
theorem w3_65 : StableHlo.after hostOps1_2 (W2 m c) (Proc.devRef .tc main_v65) = tLseC (X49 m c) :=
  (read65 (W2 m c)).trans (congrArg tLseC (w2_49 m c))
theorem w3_63 : StableHlo.after hostOps1_2 (W2 m c) (Proc.devRef .tc main_v63) = tOutC (B7 m c) (B9 m c) (X49 m c) := by
  refine (read63 (W2 m c) (B9 m c) (w2_42 m c)).trans ?_
  rw [w2_04, w2_49]

theorem tail97 : Pipeline.afterTail₀ cfgs (dats m) 0 (V0 m) [hostOps1, hostOps1_1, hostOps1_2] c main_v97 = R0 m c := by
  refine (tail_eq m c main_v97).trans ((read97 (W2 m c)).trans ?_)
  rw [w2_29, w2_27, w3_65, w3_63]; rfl
theorem tail98 : Pipeline.afterTail₀ cfgs (dats m) 0 (V0 m) [hostOps1, hostOps1_1, hostOps1_2] c main_v98 = R1 m c := by
  refine (tail_eq m c main_v98).trans ((read98 (W2 m c)).trans ?_)
  rw [w2_29]; rfl
theorem tail99 : Pipeline.afterTail₀ cfgs (dats m) 0 (V0 m) [hostOps1, hostOps1_1, hostOps1_2] c main_v99 = R2 m c := by
  refine (tail_eq m c main_v99).trans ((read99 (W2 m c)).trans ?_)
  rw [w3_65]; rfl

theorem scoreP_eq (q : S12x1536x32x96.Idx → EReal) (qs : S12x1536x32.Idx → EReal) (pk : S16384x8x96.Idx → EReal) (pks : S16384x8.Idx → EReal) (b : Fin 12) (s : Fin 1536) (h : Fin 8) (g : Fin 4) (j : ℕ) :
    scoreP q qs pk pks b s h g j = (∑ d : Fin 96, q (ix4 b s (hd h g) d) * pk (ix3 (Fin.ofNat 16384 j) h d)) * (qs (ix3 b s (hd h g)) * Cert.KernelIdeal.Gen.sc) * pks (ix2 (Fin.ofNat 16384 j) h) := rfl
theorem scoreC_eq (q : S12x1536x32x96.Idx → EReal) (qs : S12x1536x32.Idx → EReal) (k : S12x1536x8x96.Idx → EReal) (ks : S12x1536x8.Idx → EReal) (b : Fin 12) (s : Fin 1536) (h : Fin 8) (g : Fin 4) (j : ℕ) :
    scoreC q qs k ks b s h g j = if j ≤ s.val then (∑ d : Fin 96, q (ix4 b s (hd h g) d) * k (ix4 b (Fin.ofNat 1536 j) h d)) * (qs (ix3 b s (hd h g)) * Cert.KernelIdeal.Gen.sc) * ks (ix3 b (Fin.ofNat 1536 j) h) else ⊥ := rfl

/-- The scores and the results at coordinates. -/
theorem X13_at (b : Fin 12) (s : Fin 1536) (h : Fin 8) (g : Fin 4) (j : Fin 16384) : X13 m c (ix5 b s h g j) = scoreP (B0 m c) (B1 m c) (B2 m c) (B4 m c) b s h g j.val := by
  refine (tScoreP_at b s h g _ _ _ _ j).trans ?_
  rw [scoreP_eq, ofNat_val]
  exact congrArg (fun z => z * _ * _) (Finset.sum_congr rfl fun d _ => mul_comm _ _)
theorem X49_at (b : Fin 12) (s : Fin 1536) (h : Fin 8) (g : Fin 4) (j : Fin 1536) : X49 m c (ix5 b s h g j) = scoreC (B0 m c) (B1 m c) (B6 m c) (B8 m c) b s h g j.val := by
  refine (tCut_at b s h g _ j).trans ?_
  rw [scoreC_eq, ofNat_val, tScoreC_at]
  exact if_congr Iff.rfl (congrArg (fun z => z * _ * _) (Finset.sum_congr rfl fun d _ => mul_comm _ _)) rfl
theorem lse13 (b : Fin 12) (s : Fin 1536) (h : Fin 8) (g : Fin 4) : tLseP (X13 m c) (ix4 b s h g) = lseP (B0 m c) (B1 m c) (B2 m c) (B4 m c) b s h g :=
  tLseP_at b s h g _ _ (X13_at m c b s h g)
theorem lse49 (b : Fin 12) (s : Fin 1536) (h : Fin 8) (g : Fin 4) : tLseC (X49 m c) (ix4 b s h g) = lseC (B0 m c) (B1 m c) (B6 m c) (B8 m c) b s h g :=
  tLseC_at b s h g _ _ (X49_at m c b s h g)

theorem R0_at (b : Fin 12) (s : Fin 1536) (h : Fin 8) (g : Fin 4) (e : Fin 96) : R0 m c (ix3 b s (co h g e))
    = attn (B0 m c) (B1 m c) (B2 m c) (B3 m c) (B4 m c) (B5 m c) (B6 m c) (B7 m c) (B8 m c) (B9 m c) b s h g e := by
  have hp : tLseP (X13 m c) (ix4 b s h g) ≠ ⊤ := by rw [lse13]; exact rlse_ne_top _ _
  have hq : tLseC (X49 m c) (ix4 b s h g) ≠ ⊤ := by rw [lse49]; exact rlse_ne_top _ _
  refine (tMerge_at b s h g _ _ _ _ hp hq e).trans ?_
  rw [lse13, lse49, tOutP_at b s h g _ _ _ _ (X13_at m c b s h g) e, tOutC_at b s h g _ _ _ _ (X49_at m c b s h g) e]
  rfl
theorem R1_at (b : Fin 12) (s : Fin 1536) (h : Fin 8) (g : Fin 4) : R1 m c (ix3 b s (hd h g)) = resP (B0 m c) (B1 m c) (B2 m c) (B4 m c) b s h g := by
  refine (tResP_at b s h g _).trans ?_
  rw [lse13]; rfl
theorem R2_at (b : Fin 12) (s : Fin 1536) (h : Fin 8) (g : Fin 4) : R2 m c (ix3 b s (hd h g)) = resC (B0 m c) (B1 m c) (B6 m c) (B8 m c) b s h g := by
  refine (tResC_at b s h g _).trans ?_
  rw [lse49]; rfl

/-- The reference's run: its results and its arguments at the end. -/
theorem run_value : θ_run defs (onTc (τ := τ) (main (F := Ideal))) ⟨m, fun _ => 0, ρ⟩ (fun r => ∀ c : Dev nD,
      r.2.mem ((c.tc : Thread nD τ).loc main_v97) = R0 m c
      ∧ r.2.mem ((c.tc : Thread nD τ).loc main_v98) = R1 m c
      ∧ r.2.mem ((c.tc : Thread nD τ).loc main_v99) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h => ?_) (θ_run_and (run_main m ρ) (frame m ρ))
  exact fun c => ⟨((h.1 c).2 main_v97 (Pipeline.mem_restRefs_of main_v97 (by decide) (by decide))).trans (tail97 m c),
    ((h.1 c).2 main_v98 (Pipeline.mem_restRefs_of main_v98 (by decide) (by decide))).trans (tail98 m c),
    ((h.1 c).2 main_v99 (Pipeline.mem_restRefs_of main_v99 (by decide) (by decide))).trans (tail99 m c), h.2.1 c⟩

end Cert.ReferenceIdeal.Gen
-- ==== Proof.Equal.lean ====
module

public import proofs.«01_k».proof.Defs
public import proofs.«01_k».proof.Proof.KRun
public import proofs.«01_k».proof.Proof.RRun

/-!
The two runs' results are equal when their arguments are: both are the same attention and the same log-sum-exps at
every coordinate.
-/

@[expose] public section

set_option maxRecDepth 16384

noncomputable section

namespace Cert.Attn

open Idealize.ShloMosaic Idealize.ShloMosaic.TcCoe
open Idealize.SL Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The three results, argument by argument. -/
theorem same0 (h0 : Cert.ReferenceIdeal.Gen.B0 m' c = Cert.KernelIdeal.Gen.A0 m c) (h1 : Cert.ReferenceIdeal.Gen.B1 m' c = Cert.KernelIdeal.Gen.A1 m c)
    (h2 : Cert.ReferenceIdeal.Gen.B2 m' c = Cert.KernelIdeal.Gen.A2 m c) (h3 : Cert.ReferenceIdeal.Gen.B3 m' c = Cert.KernelIdeal.Gen.A3 m c)
    (h4 : Cert.ReferenceIdeal.Gen.B4 m' c = Cert.KernelIdeal.Gen.A4 m c) (h5 : Cert.ReferenceIdeal.Gen.B5 m' c = Cert.KernelIdeal.Gen.A5 m c)
    (h6 : Cert.ReferenceIdeal.Gen.B6 m' c = Cert.KernelIdeal.Gen.A6 m c) (h7 : Cert.ReferenceIdeal.Gen.B7 m' c = Cert.KernelIdeal.Gen.A7 m c)
    (h8 : Cert.ReferenceIdeal.Gen.B8 m' c = Cert.KernelIdeal.Gen.A8 m c) (h9 : Cert.ReferenceIdeal.Gen.B9 m' c = Cert.KernelIdeal.Gen.A9 m c) :
    Cert.ReferenceIdeal.Gen.R0 m' c = Cert.KernelIdeal.Gen.K0 m c := by
  refine ext_out fun b s h g e => (Cert.ReferenceIdeal.Gen.R0_at m' c b s h g e).trans (Eq.trans ?_ (Cert.KernelIdeal.Gen.K0_at m c b s h g e).symm)
  rw [h0, h1, h2, h3, h4, h5, h6, h7, h8, h9]
theorem same1 (h0 : Cert.ReferenceIdeal.Gen.B0 m' c = Cert.KernelIdeal.Gen.A0 m c) (h1 : Cert.ReferenceIdeal.Gen.B1 m' c = Cert.KernelIdeal.Gen.A1 m c)
    (h2 : Cert.ReferenceIdeal.Gen.B2 m' c = Cert.KernelIdeal.Gen.A2 m c) (h4 : Cert.ReferenceIdeal.Gen.B4 m' c = Cert.KernelIdeal.Gen.A4 m c) :
    Cert.ReferenceIdeal.Gen.R1 m' c = Cert.KernelIdeal.Gen.K1 m c := by
  refine ext_lse fun b s h g => (Cert.ReferenceIdeal.Gen.R1_at m' c b s h g).trans (Eq.trans ?_ (Cert.KernelIdeal.Gen.K1_at m c b s h g).symm)
  rw [h0, h1, h2, h4]
theorem same2 (h0 : Cert.ReferenceIdeal.Gen.B0 m' c = Cert.KernelIdeal.Gen.A0 m c) (h1 : Cert.ReferenceIdeal.Gen.B1 m' c = Cert.KernelIdeal.Gen.A1 m c)
    (h6 : Cert.ReferenceIdeal.Gen.B6 m' c = Cert.KernelIdeal.Gen.A6 m c) (h8 : Cert.ReferenceIdeal.Gen.B8 m' c = Cert.KernelIdeal.Gen.A8 m c) :
    Cert.ReferenceIdeal.Gen.R2 m' c = Cert.KernelIdeal.Gen.K2 m c := by
  refine ext_lse fun b s h g => (Cert.ReferenceIdeal.Gen.R2_at m' c b s h g).trans (Eq.trans ?_ (Cert.KernelIdeal.Gen.K2_at m c b s h g).symm)
  rw [h0, h1, h6, h8]

/-- The value claim. -/
theorem equal [Cert.KernelIdeal.Facts] [Cert.ReferenceIdeal.Facts] : Cert.algebraic_KernelIdeal_ReferenceIdeal := by
  intro m g m' g' _ hagree
  refine ⟨fun c => Cert.KernelIdeal.Gen.K0 m c, fun c => Cert.KernelIdeal.Gen.K1 m c, fun c => Cert.KernelIdeal.Gen.K2 m c, Cert.KernelIdeal.Gen.run_value m g, ?_⟩
  refine (θ_run Cert.ReferenceIdeal.defs _ _).mono (fun r h c => ?_) (Cert.ReferenceIdeal.Gen.run_value m' g')
  obtain ⟨a0, a1, a2, a3, a4, a5, a6, a7, a8, a9⟩ := hagree c
  exact ⟨(h c).1.trans (same0 m m' c a0 a1 a2 a3 a4 a5 a6 a7 a8 a9), (h c).2.1.trans (same1 m m' c a0 a1 a2 a4), (h c).2.2.1.trans (same2 m m' c a0 a1 a6 a8), (h c).2.2.2⟩

end Cert.Attn
-- ==== Proof.KFrame.lean ====
module

public import proofs.«01_k».proof.Defs
public import proofs.«01_k».proof.Proof.Gen.Kernel
public import proofs.«01_k».proof.Proof.Data

/-! The frame of the kernel as it runs on bits.

`Cert.Kernel` and `Cert.KernelIdeal` are the same program but for two constants: the second names
them, the first prints their bits. The frame of the second is proved at every reading of the floats,
so it is read here at bits, with each named constant denoting the bits printed beside its name. At
that reading the two programs are equal by definition. -/

@[expose] public section
set_option maxRecDepth 65536
set_option maxHeartbeats 400000
noncomputable section
namespace Cert.Attn
open Idealize.ShloMosaic Idealize.ShloMosaic.TcCoe

/-- At bits a named constant is the bits printed beside its name. -/
@[reducible] def bitsNamed : Named Bits := ⟨fun _ _ {φ} b => FloatOps.ofBits φ b⟩
attribute [local instance] bitsNamed

variable [Cert.Kernel.Facts] [Cert.KernelIdeal.Facts]

/-- The bodies of the launch agree at bits. -/
theorem body_bits : @Cert.Kernel.cc0_shared_prompt_attention Bits _ _
    = @Cert.KernelIdeal.cc0_shared_prompt_attention Bits _ _ _ := rfl

/-- The host programs agree at bits. -/
theorem main_bits : Cert.Kernel.main (F := Bits) = Cert.KernelIdeal.main (F := Bits) := rfl

/-- The body tables agree at bits, label by label. -/
theorem defs0_bits : Cert.Kernel.defs₀ (F := Bits) = Cert.KernelIdeal.defs₀ (F := Bits) := by
  funext p l a
  cases p with
  | tc =>
    match l, a with
    | ⟨0, _⟩, (t, s) => rfl
    | ⟨_ + 1, h⟩, _ => exact absurd h (Nat.not_lt.2 (Nat.le_add_left _ _))
  | scScalar _ => rfl
  | scVector _ _ => rfl

/-- The whole tables agree at bits. -/
theorem defs_bits : Cert.Kernel.defs (F := Bits) = Cert.KernelIdeal.defs (F := Bits) :=
  congrArg (Pipeline.defs Cert.KernelIdeal.pcfgs) defs0_bits

/-- The kernel runs, its arguments end unchanged and every counter ends at zero. -/
theorem frame_bits : Cert.quiescent_Kernel := by
  intro m ρ _
  rw [defs_bits]
  exact Cert.KernelIdeal.Gen.frame (F := Bits) m ρ

end Cert.Attn
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import proofs.«01_k».proof.Proof.KFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  @Cert.Attn.frame_bits Cert.Kernel.Gen.facts Cert.KernelIdeal.Gen.facts, fun m ρ _ => Cert.KernelIdeal.Gen.frame m ρ, fun m ρ _ => Cert.ReferenceIdeal.Gen.frame m ρ,
  ⟨IdealRules.named_const.statement Cert.KernelIdeal.κ "scale_log2e" .f32 0x3E16C740#32 (((Real.sqrt 96)⁻¹ * (Real.log 2)⁻¹ : ℝ) : EReal) rfl,
    IdealRules.named_const.statement Cert.KernelIdeal.κ "ln2" .f32 0x3F317218#32 ((Real.log 2 : ℝ) : EReal) rfl⟩,
  Cert.Attn.equal⟩

end Cert.Proof

end
